-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E38AA3B#32 (((1 / 8) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v43) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v16)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v30) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v10) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite_inputs.lean ====
abbrev S8192x4096 : Shape := ⟨2, ![8192, 4096]⟩
abbrev S4x64 : Shape := ⟨2, ![4, 64]⟩
abbrev S128 : Shape := ⟨1, ![128]⟩
abbrev S32x8 : Shape := ⟨2, ![32, 8]⟩
abbrev S_ : Shape := ⟨0, ![]⟩

class Facts : Prop where
  bcast_S_S8192x4096 : S_.BroadcastsInDim S8192x4096 (![] : Fin 0 → Fin S8192x4096.rank)
  bcast_S_S4x64 : S_.BroadcastsInDim S4x64 (![] : Fin 0 → Fin S4x64.rank)
  bcast_S_S32x8 : S_.BroadcastsInDim S32x8 (![] : Fin 0 → Fin S32x8.rank)

variable [Facts]

def fn {F : FTy → Type} [FloatOps F] (main_arg0 : FVec F S8192x4096 .f32) (main_arg1 : FVec F S4x64 .f32) (main_arg2 : FVec F S128 .f32) (main_arg3 : FVec F S32x8 .f32) : IVec S8192x4096 1 × IVec S4x64 1 × IVec S32x8 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4x64 .f32 := Host.absf main_arg1
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  let main_v6 : FVec F S32x8 .f32 := Host.absf main_arg3
  let main_cst_1 : FVec F S_ .f32 := constant S_ .f32 0x7F800000#32
  let main_v7 : FVec F S32x8 .f32 := broadcastInDim S32x8 ![] bcast_S_S32x8 main_cst_1
  let main_v8 : IVec S32x8 1 := cmpf .olt main_v6 main_v7
  (main_v2, main_v5, main_v8)
-- ==== Kernel.lean ====
abbrev S8192x4096 : Shape := ⟨2, ![8192, 4096]⟩
abbrev S4x64 : Shape := ⟨2, ![4, 64]⟩
abbrev S128 : Shape := ⟨1, ![128]⟩
abbrev S32x8 : Shape := ⟨2, ![32, 8]⟩
abbrev S129 : Shape := ⟨1, ![129]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x256x1 : Shape := ⟨3, ![256, 256, 1]⟩
abbrev S1x256x256 : Shape := ⟨3, ![1, 256, 256]⟩
abbrev S2x256x256 : Shape := ⟨3, ![2, 256, 256]⟩
abbrev S512x256 : Shape := ⟨2, ![512, 256]⟩
abbrev S8x512x256 : Shape := ⟨3, ![8, 512, 256]⟩
abbrev S1x512x256 : Shape := ⟨3, ![1, 512, 256]⟩
abbrev S1x1 : Shape := ⟨2, ![1, 1]⟩
abbrev S8x2x256x256 : Shape := ⟨4, ![8, 2, 256, 256]⟩
abbrev S1x128 : Shape := ⟨2, ![1, 128]⟩
abbrev S8192x1024 : Shape := ⟨2, ![8192, 1024]⟩
abbrev S256x512 : Shape := ⟨2, ![256, 512]⟩
abbrev S2048x512 : Shape := ⟨2, ![2048, 512]⟩
abbrev S4x2x256x256 : Shape := ⟨4, ![4, 2, 256, 256]⟩
abbrev S4x512x128 : Shape := ⟨3, ![4, 512, 128]⟩
abbrev S256x128 : Shape := ⟨2, ![256, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S1x1x256x256 : Shape := ⟨4, ![1, 1, 256, 256]⟩
abbrev S1x64 : Shape := ⟨2, ![1, 64]⟩
abbrev S1 : Shape := ⟨1, ![1]⟩

abbrev nBuf : Space → Nat
  | .hbm => 67
  | .vmem => 18
  | .smem => 1
  | _ => 0

abbrev bufTy : (tb : Table) → Fin (tcTables nBuf tb) → BufTy
  | .hbm, ⟨0, _⟩ => ⟨S8192x4096, .f32⟩
  | .hbm, ⟨1, _⟩ => ⟨S4x64, .f32⟩
  | .hbm, ⟨2, _⟩ => ⟨S128, .f32⟩
  | .hbm, ⟨3, _⟩ => ⟨S32x8, .f32⟩
  | .hbm, ⟨4, _⟩ => ⟨S129, .i32⟩
  | .hbm, ⟨5, _⟩ => ⟨S256, .i32⟩
  | .hbm, ⟨6, _⟩ => ⟨S256x1, .i32⟩
  | .hbm, ⟨7, _⟩ => ⟨S256, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256x1, .i32⟩
  | .hbm, ⟨31, _⟩ => ⟨S256x256, .i32⟩
  | .hbm, ⟨32, _⟩ => ⟨S_, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S256x1, .i32⟩
  | .hbm, ⟨38, _⟩ => ⟨S256x1, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S_, .i32⟩
  | .hbm, ⟨51, _⟩ => ⟨S256x256, .i32⟩
  | .hbm, ⟨52, _⟩ => ⟨S256x256, .i1⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S256x256, .i32⟩
  | .hbm, ⟨57, _⟩ => ⟨S256x256x1, .i32⟩
  | .hbm, ⟨58, _⟩ => ⟨S256x256, .i32⟩
  | .hbm, ⟨59, _⟩ => ⟨S1x256x256, .i32⟩
  | .hbm, ⟨60, _⟩ => ⟨S1x256x256, .i32⟩
  | .hbm, ⟨61, _⟩ => ⟨S2x256x256, .i32⟩
  | .hbm, ⟨62, _⟩ => ⟨S512x256, .i32⟩
  | .hbm, ⟨63, _⟩ => ⟨S8x512x256, .f32⟩
  | .hbm, ⟨64, _⟩ => ⟨S8x2x256x256, .f32⟩
  | .hbm, ⟨65, _⟩ => ⟨S1x128, .f32⟩
  | .hbm, ⟨66, _⟩ => ⟨S8192x1024, .bf16⟩
  | .local _ .vmem, ⟨0, _⟩ => ⟨S512x256, .i32⟩
  | .local _ .vmem, ⟨1, _⟩ => ⟨S1x512x256, .f32⟩
  | .local _ .vmem, ⟨2, _⟩ => ⟨S1x512x256, .f32⟩
  | .local _ .vmem, ⟨3, _⟩ => ⟨S4x64, .f32⟩
  | .local _ .vmem, ⟨4, _⟩ => ⟨S256x512, .f32⟩
  | .local _ .vmem, ⟨5, _⟩ => ⟨S256x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S4x2x256x256, .f32⟩
  | .local _ .vmem, ⟨11, _⟩ => ⟨S4x2x256x256, .f32⟩
  | .local _ .vmem, ⟨12, _⟩ => ⟨S1x128, .f32⟩
  | .local _ .vmem, ⟨13, _⟩ => ⟨S256x512, .bf16⟩
  | .local _ .vmem, ⟨14, _⟩ => ⟨S256x512, .bf16⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .smem, ⟨0, _⟩ => ⟨S32x8, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_c_7 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c31 : Index := 31#32
  let arg0 : BitVec 32 := BitVec.ofNat 32 (i 0).val
  let v2 : Index := Scalar.indexCast arg0
  ![31, v2.toNat]
def k0_off2 (i : grid0.Coords) : Fin 2 → Nat :=
  let c0_1 : Index := 0#32
  let arg0 : BitVec 32 := BitVec.ofNat 32 (i 0).val
  let v7 : Index := Scalar.indexCast arg0
  ![0, v7.toNat]
def k0_off3 (i : grid0.Coords) : Fin 2 → Nat :=
  let c1 : Index := 1#32
  let arg0 : BitVec 32 := BitVec.ofNat 32 (i 0).val
  let v15 : Index := Scalar.indexCast arg0
  ![1, v15.toNat]
def k0_off4 (i : grid0.Coords) : Fin 2 → Nat :=
  let c2 : Index := 2#32
  let arg0 : BitVec 32 := BitVec.ofNat 32 (i 0).val
  let v23 : Index := Scalar.indexCast arg0
  ![2, v23.toNat]
def k0_off5 (i : grid0.Coords) : Fin 2 → Nat :=
  let c3 : Index := 3#32
  let arg0 : BitVec 32 := BitVec.ofNat 32 (i 0).val
  let v31 : Index := Scalar.indexCast arg0
  ![3, v31.toNat]
def k0_off6 (i : grid0.Coords) : Fin 2 → Nat :=
  let c4 : Index := 4#32
  let arg0 : BitVec 32 := BitVec.ofNat 32 (i 0).val
  let v39 : Index := Scalar.indexCast arg0
  ![4, v39.toNat]
def k0_off7 (i : grid0.Coords) : Fin 2 → Nat :=
  let c5 : Index := 5#32
  let arg0 : BitVec 32 := BitVec.ofNat 32 (i 0).val
  let v47 : Index := Scalar.indexCast arg0
  ![5, v47.toNat]
def k0_off8 (i : grid0.Coords) : Fin 2 → Nat :=
  let c6 : Index := 6#32
  let arg0 : BitVec 32 := BitVec.ofNat 32 (i 0).val
  let v55 : Index := Scalar.indexCast arg0
  ![6, v55.toNat]
def k0_off9 (i : grid0.Coords) : Fin 2 → Nat :=
  let c7 : Index := 7#32
  let arg0 : BitVec 32 := BitVec.ofNat 32 (i 0).val
  let v63 : Index := Scalar.indexCast arg0
  ![7, v63.toNat]
def k0_off10 (i : grid0.Coords) : Fin 2 → Nat :=
  let c8 : Index := 8#32
  let arg0 : BitVec 32 := BitVec.ofNat 32 (i 0).val
  let v71 : Index := Scalar.indexCast arg0
  ![8, v71.toNat]
def k0_off11 (i : grid0.Coords) : Fin 2 → Nat :=
  let c9 : Index := 9#32
  let arg0 : BitVec 32 := BitVec.ofNat 32 (i 0).val
  let v79 : Index := Scalar.indexCast arg0
  ![9, v79.toNat]
def k0_off12 (i : grid0.Coords) : Fin 2 → Nat :=
  let c10 : Index := 10#32
  let arg0 : BitVec 32 := BitVec.ofNat 32 (i 0).val
  let v87 : Index := Scalar.indexCast arg0
  ![10, v87.toNat]
def k0_off13 (i : grid0.Coords) : Fin 2 → Nat :=
  let c11 : Index := 11#32
  let arg0 : BitVec 32 := BitVec.ofNat 32 (i 0).val
  let v95 : Index := Scalar.indexCast arg0
  ![11, v95.toNat]
def k0_off14 (i : grid0.Coords) : Fin 2 → Nat :=
  let c12 : Index := 12#32
  let arg0 : BitVec 32 := BitVec.ofNat 32 (i 0).val
  let v103 : Index := Scalar.indexCast arg0
  ![12, v103.toNat]
def k0_off15 (i : grid0.Coords) : Fin 2 → Nat :=
  let c13 : Index := 13#32
  let arg0 : BitVec 32 := BitVec.ofNat 32 (i 0).val
  let v111 : Index := Scalar.indexCast arg0
  ![13, v111.toNat]
def k0_off16 (i : grid0.Coords) : Fin 2 → Nat :=
  let c14 : Index := 14#32
  let arg0 : BitVec 32 := BitVec.ofNat 32 (i 0).val
  let v119 : Index := Scalar.indexCast arg0
  ![14, v119.toNat]
def k0_off17 (i : grid0.Coords) : Fin 2 → Nat :=
  let c15 : Index := 15#32
  let arg0 : BitVec 32 := BitVec.ofNat 32 (i 0).val
  let v127 : Index := Scalar.indexCast arg0
  ![15, v127.toNat]
def k0_off18 (i : grid0.Coords) : Fin 2 → Nat :=
  let c16 : Index := 16#32
  let arg0 : BitVec 32 := BitVec.ofNat 32 (i 0).val
  let v135 : Index := Scalar.indexCast arg0
  ![16, v135.toNat]
def k0_off19 (i : grid0.Coords) : Fin 2 → Nat :=
  let c17 : Index := 17#32
  let arg0 : BitVec 32 := BitVec.ofNat 32 (i 0).val
  let v143 : Index := Scalar.indexCast arg0
  ![17, v143.toNat]
def k0_off20 (i : grid0.Coords) : Fin 2 → Nat :=
  let c18 : Index := 18#32
  let arg0 : BitVec 32 := BitVec.ofNat 32 (i 0).val
  let v151 : Index := Scalar.indexCast arg0
  ![18, v151.toNat]
def k0_off21 (i : grid0.Coords) : Fin 2 → Nat :=
  let c19 : Index := 19#32
  let arg0 : BitVec 32 := BitVec.ofNat 32 (i 0).val
  let v159 : Index := Scalar.indexCast arg0
  ![19, v159.toNat]
def k0_off22 (i : grid0.Coords) : Fin 2 → Nat :=
  let c20 : Index := 20#32
  let arg0 : BitVec 32 := BitVec.ofNat 32 (i 0).val
  let v167 : Index := Scalar.indexCast arg0
  ![20, v167.toNat]
def k0_off23 (i : grid0.Coords) : Fin 2 → Nat :=
  let c21 : Index := 21#32
  let arg0 : BitVec 32 := BitVec.ofNat 32 (i 0).val
  let v175 : Index := Scalar.indexCast arg0
  ![21, v175.toNat]
def k0_off24 (i : grid0.Coords) : Fin 2 → Nat :=
  let c22 : Index := 22#32
  let arg0 : BitVec 32 := BitVec.ofNat 32 (i 0).val
  let v183 : Index := Scalar.indexCast arg0
  ![22, v183.toNat]
def k0_off25 (i : grid0.Coords) : Fin 2 → Nat :=
  let c23 : Index := 23#32
  let arg0 : BitVec 32 := BitVec.ofNat 32 (i 0).val
  let v191 : Index := Scalar.indexCast arg0
  ![23, v191.toNat]
def k0_off26 (i : grid0.Coords) : Fin 2 → Nat :=
  let c24 : Index := 24#32
  let arg0 : BitVec 32 := BitVec.ofNat 32 (i 0).val
  let v199 : Index := Scalar.indexCast arg0
  ![24, v199.toNat]
def k0_off27 (i : grid0.Coords) : Fin 2 → Nat :=
  let c25 : Index := 25#32
  let arg0 : BitVec 32 := BitVec.ofNat 32 (i 0).val
  let v207 : Index := Scalar.indexCast arg0
  ![25, v207.toNat]
def k0_off28 (i : grid0.Coords) : Fin 2 → Nat :=
  let c26 : Index := 26#32
  let arg0 : BitVec 32 := BitVec.ofNat 32 (i 0).val
  let v215 : Index := Scalar.indexCast arg0
  ![26, v215.toNat]
def k0_off29 (i : grid0.Coords) : Fin 2 → Nat :=
  let c27 : Index := 27#32
  let arg0 : BitVec 32 := BitVec.ofNat 32 (i 0).val
  let v223 : Index := Scalar.indexCast arg0
  ![27, v223.toNat]
def k0_off30 (i : grid0.Coords) : Fin 2 → Nat :=
  let c28 : Index := 28#32
  let arg0 : BitVec 32 := BitVec.ofNat 32 (i 0).val
  let v231 : Index := Scalar.indexCast arg0
  ![28, v231.toNat]
def k0_off31 (i : grid0.Coords) : Fin 2 → Nat :=
  let c29 : Index := 29#32
  let arg0 : BitVec 32 := BitVec.ofNat 32 (i 0).val
  let v239 : Index := Scalar.indexCast arg0
  ![29, v239.toNat]
def k0_off32 (i : grid0.Coords) : Fin 2 → Nat :=
  let c30 : Index := 30#32
  let arg0 : BitVec 32 := BitVec.ofNat 32 (i 0).val
  let v247 : Index := Scalar.indexCast arg0
  ![30, v247.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 8], ![false, false, false]⟩

@[reducible] def k1_t1_loop (i : grid1.Coords) : Scf.Loop 32 :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_37 : BitVec 32 := 1#32
  ⟨c0_i32_35, v71, c1_i32_37⟩
def k1_mult1 (i : grid1.Coords) (k1_t1 : Fin (k1_t1_loop i).trips) : BitVec 32 :=
  let c0_i32_35 : BitVec 32 := 0#32
  let c1_i32_37 : BitVec 32 := 1#32
  let arg13 : BitVec 32 := Scf.iv c0_i32_35 c1_i32_37 k1_t1
  let c256_i32 : BitVec 32 := 256#32
  let v206 : BitVec 32 := Scalar.muli arg13 c256_i32
  v206
def k1_off1 (i : grid1.Coords) (k1_t1 : Fin (k1_t1_loop i).trips) : Fin 2 → Nat :=
  let c0_i32_35 : BitVec 32 := 0#32
  let c1_i32_37 : BitVec 32 := 1#32
  let arg13 : BitVec 32 := Scf.iv c0_i32_35 c1_i32_37 k1_t1
  let c256_i32 : BitVec 32 := 256#32
  let v206 : BitVec 32 := Scalar.muli arg13 c256_i32
  let v207 : BitVec 32 := v206
  let v208 : Index := Scalar.indexCast v207
  let c0_101 : Index := 0#32
  ![v208.toNat, 0]
def k1_off2 (i : grid1.Coords) (k1_t1 : Fin (k1_t1_loop i).trips) : Fin 2 → Nat :=
  let c0_i32_35 : BitVec 32 := 0#32
  let c1_i32_37 : BitVec 32 := 1#32
  let arg13 : BitVec 32 := Scf.iv c0_i32_35 c1_i32_37 k1_t1
  let c256_i32 : BitVec 32 := 256#32
  let v206 : BitVec 32 := Scalar.muli arg13 c256_i32
  let v207 : BitVec 32 := v206
  let v249 : Index := Scalar.indexCast v207
  let c128_125 : Index := 128#32
  ![v249.toNat, 128]
def k1_off3 (i : grid1.Coords) (k1_t1 : Fin (k1_t1_loop i).trips) : Fin 2 → Nat :=
  let c0_i32_35 : BitVec 32 := 0#32
  let c1_i32_37 : BitVec 32 := 1#32
  let arg13 : BitVec 32 := Scf.iv c0_i32_35 c1_i32_37 k1_t1
  let c256_i32 : BitVec 32 := 256#32
  let v206 : BitVec 32 := Scalar.muli arg13 c256_i32
  let v207 : BitVec 32 := v206
  let v290 : Index := Scalar.indexCast v207
  let c256_149 : Index := 256#32
  ![v290.toNat, 256]
def k1_off4 (i : grid1.Coords) (k1_t1 : Fin (k1_t1_loop i).trips) : Fin 2 → Nat :=
  let c0_i32_35 : BitVec 32 := 0#32
  let c1_i32_37 : BitVec 32 := 1#32
  let arg13 : BitVec 32 := Scf.iv c0_i32_35 c1_i32_37 k1_t1
  let c256_i32 : BitVec 32 := 256#32
  let v206 : BitVec 32 := Scalar.muli arg13 c256_i32
  let v207 : BitVec 32 := v206
  let v331 : Index := Scalar.indexCast v207
  let c384_173 : Index := 384#32
  ![v331.toNat, 384]
@[reducible] def k1_t2_loop (i : grid1.Coords) : Scf.Loop 32 :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let v68 : BitVec 32 := Scalar.addi c0_i32_35 v67
  let c1_i32_38 : BitVec 32 := 1#32
  ⟨v71, v68, c1_i32_38⟩
def k1_mult2 (i : grid1.Coords) (k1_t2 : Fin (k1_t2_loop i).trips) : BitVec 32 :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg13 : BitVec 32 := Scf.iv v71 c1_i32_38 k1_t2
  let c256_i32 : BitVec 32 := 256#32
  let v206 : BitVec 32 := Scalar.muli arg13 c256_i32
  v206
def k1_off5 (i : grid1.Coords) (k1_t2 : Fin (k1_t2_loop i).trips) : Fin 2 → Nat :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg13 : BitVec 32 := Scf.iv v71 c1_i32_38 k1_t2
  let c256_i32 : BitVec 32 := 256#32
  let v206 : BitVec 32 := Scalar.muli arg13 c256_i32
  let v207 : BitVec 32 := v206
  let v208 : Index := Scalar.indexCast v207
  let c0_101 : Index := 0#32
  ![v208.toNat, 0]
def k1_off6 (i : grid1.Coords) (k1_t2 : Fin (k1_t2_loop i).trips) : Fin 2 → Nat :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg13 : BitVec 32 := Scf.iv v71 c1_i32_38 k1_t2
  let c256_i32 : BitVec 32 := 256#32
  let v206 : BitVec 32 := Scalar.muli arg13 c256_i32
  let v207 : BitVec 32 := v206
  let v249 : Index := Scalar.indexCast v207
  let c128_125 : Index := 128#32
  ![v249.toNat, 128]
def k1_off7 (i : grid1.Coords) (k1_t2 : Fin (k1_t2_loop i).trips) : Fin 2 → Nat :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg13 : BitVec 32 := Scf.iv v71 c1_i32_38 k1_t2
  let c256_i32 : BitVec 32 := 256#32
  let v206 : BitVec 32 := Scalar.muli arg13 c256_i32
  let v207 : BitVec 32 := v206
  let v290 : Index := Scalar.indexCast v207
  let c256_149 : Index := 256#32
  ![v290.toNat, 256]
def k1_off8 (i : grid1.Coords) (k1_t2 : Fin (k1_t2_loop i).trips) : Fin 2 → Nat :=
  let c0_i32_35 : BitVec 32 := 0#32
  let arg2 : BitVec 32 := BitVec.ofNat 32 (i 2).val
  let c1_i32 : BitVec 32 := 1#32
  let v65 : BitVec 32 := Scalar.subi arg2 c1_i32
  let c0_i32 : BitVec 32 := 0#32
  let v66 : BitVec 32 := Scalar.maxsi v65 c0_i32
  let v67 : BitVec 32 := Scalar.subi v66 c0_i32_35
  let c1_i32_36 : BitVec 32 := 1#32
  let v69 : BitVec 32 := Scalar.divsi v67 c1_i32_36
  let v70 : BitVec 32 := Scalar.muli v69 c1_i32_36
  let v71 : BitVec 32 := Scalar.addi c0_i32_35 v70
  let c1_i32_38 : BitVec 32 := 1#32
  let arg13 : BitVec 32 := Scf.iv v71 c1_i32_38 k1_t2
  let c256_i32 : BitVec 32 := 256#32
  let v206 : BitVec 32 := Scalar.muli arg13 c256_i32
  let v207 : BitVec 32 := v206
  let v331 : Index := Scalar.indexCast v207
  let c384_173 : Index := 384#32
  ![v331.toNat, 384]
def k1_cond1 (i : grid1.Coords) : BitVec 1 :=
  let arg2 : BitVec 32 := BitVec.ofNat 32 (i 2).val
  let c0_i32_39 : BitVec 32 := 0#32
  let v72 : BitVec 1 := Scalar.cmpi .eq arg2 c0_i32_39
  let v73 : BitVec 32 := Scalar.extui v72
  let c0_i32_40 : BitVec 32 := 0#32
  let v74 : BitVec 1 := Scalar.cmpi .ne v73 c0_i32_40
  v74

def k1_mult3 (i : grid1.Coords) : BitVec 32 :=
  let arg2 : BitVec 32 := BitVec.ofNat 32 (i 2).val
  let c256_i32 : BitVec 32 := 256#32
  let v206 : BitVec 32 := Scalar.muli arg2 c256_i32
  v206
def k1_off9 (i : grid1.Coords) : Fin 2 → Nat :=
  let arg2 : BitVec 32 := BitVec.ofNat 32 (i 2).val
  let c256_i32 : BitVec 32 := 256#32
  let v206 : BitVec 32 := Scalar.muli arg2 c256_i32
  let v207 : BitVec 32 := v206
  let v208 : Index := Scalar.indexCast v207
  let c0_101 : Index := 0#32
  ![v208.toNat, 0]
def k1_off10 (i : grid1.Coords) : Fin 2 → Nat :=
  let arg2 : BitVec 32 := BitVec.ofNat 32 (i 2).val
  let c256_i32 : BitVec 32 := 256#32
  let v206 : BitVec 32 := Scalar.muli arg2 c256_i32
  let v207 : BitVec 32 := v206
  let v256 : Index := Scalar.indexCast v207
  let c128_129 : Index := 128#32
  ![v256.toNat, 128]
def k1_off11 (i : grid1.Coords) : Fin 2 → Nat :=
  let arg2 : BitVec 32 := BitVec.ofNat 32 (i 2).val
  let c256_i32 : BitVec 32 := 256#32
  let v206 : BitVec 32 := Scalar.muli arg2 c256_i32
  let v207 : BitVec 32 := v206
  let v304 : Index := Scalar.indexCast v207
  let c256_157 : Index := 256#32
  ![v304.toNat, 256]
def k1_off12 (i : grid1.Coords) : Fin 2 → Nat :=
  let arg2 : BitVec 32 := BitVec.ofNat 32 (i 2).val
  let c256_i32 : BitVec 32 := 256#32
  let v206 : BitVec 32 := Scalar.muli arg2 c256_i32
  let v207 : BitVec 32 := v206
  let v352 : Index := Scalar.indexCast v207
  let c384_185 : Index := 384#32
  ![v352.toNat, 384]
def k1_cond2 (i : grid1.Coords) : BitVec 1 :=
  let arg2 : BitVec 32 := BitVec.ofNat 32 (i 2).val
  let c1_i32_41 : BitVec 32 := 1#32
  let v75 : BitVec 1 := Scalar.cmpi .sge arg2 c1_i32_41
  let v76 : BitVec 32 := Scalar.extui v75
  let c0_i32_42 : BitVec 32 := 0#32
  let v77 : BitVec 1 := Scalar.cmpi .ne v76 c0_i32_42
  v77

def k1_mult4 (i : grid1.Coords) : BitVec 32 :=
  let arg2 : BitVec 32 := BitVec.ofNat 32 (i 2).val
  let c1_i32_101 : BitVec 32 := 1#32
  let v206 : BitVec 32 := Scalar.subi arg2 c1_i32_101
  let c256_i32 : BitVec 32 := 256#32
  let v207 : BitVec 32 := Scalar.muli v206 c256_i32
  v207
def k1_off13 (i : grid1.Coords) : Fin 2 → Nat :=
  let arg2 : BitVec 32 := BitVec.ofNat 32 (i 2).val
  let c1_i32_101 : BitVec 32 := 1#32
  let v206 : BitVec 32 := Scalar.subi arg2 c1_i32_101
  let c256_i32 : BitVec 32 := 256#32
  let v207 : BitVec 32 := Scalar.muli v206 c256_i32
  let v208 : BitVec 32 := v207
  let v209 : Index := Scalar.indexCast v208
  let c0_102 : Index := 0#32
  ![v209.toNat, 0]
def k1_off14 (i : grid1.Coords) : Fin 2 → Nat :=
  let arg2 : BitVec 32 := BitVec.ofNat 32 (i 2).val
  let c1_i32_101 : BitVec 32 := 1#32
  let v206 : BitVec 32 := Scalar.subi arg2 c1_i32_101
  let c256_i32 : BitVec 32 := 256#32
  let v207 : BitVec 32 := Scalar.muli v206 c256_i32
  let v208 : BitVec 32 := v207
  let v257 : Index := Scalar.indexCast v208
  let c128_130 : Index := 128#32
  ![v257.toNat, 128]
def k1_off15 (i : grid1.Coords) : Fin 2 → Nat :=
  let arg2 : BitVec 32 := BitVec.ofNat 32 (i 2).val
  let c1_i32_101 : BitVec 32 := 1#32
  let v206 : BitVec 32 := Scalar.subi arg2 c1_i32_101
  let c256_i32 : BitVec 32 := 256#32
  let v207 : BitVec 32 := Scalar.muli v206 c256_i32
  let v208 : BitVec 32 := v207
  let v305 : Index := Scalar.indexCast v208
  let c256_158 : Index := 256#32
  ![v305.toNat, 256]
def k1_off16 (i : grid1.Coords) : Fin 2 → Nat :=
  let arg2 : BitVec 32 := BitVec.ofNat 32 (i 2).val
  let c1_i32_101 : BitVec 32 := 1#32
  let v206 : BitVec 32 := Scalar.subi arg2 c1_i32_101
  let c256_i32 : BitVec 32 := 256#32
  let v207 : BitVec 32 := Scalar.muli v206 c256_i32
  let v208 : BitVec 32 := v207
  let v353 : Index := Scalar.indexCast v208
  let c384_186 : Index := 384#32
  ![v353.toNat, 384]
def k1_mult5 (i : grid1.Coords) : BitVec 32 :=
  let arg2 : BitVec 32 := BitVec.ofNat 32 (i 2).val
  let c256_i32_214 : BitVec 32 := 256#32
  let v401 : BitVec 32 := Scalar.muli arg2 c256_i32_214
  v401
def k1_off17 (i : grid1.Coords) : Fin 2 → Nat :=
  let arg2 : BitVec 32 := BitVec.ofNat 32 (i 2).val
  let c256_i32_214 : BitVec 32 := 256#32
  let v401 : BitVec 32 := Scalar.muli arg2 c256_i32_214
  let v402 : BitVec 32 := v401
  let v403 : Index := Scalar.indexCast v402
  let c0_215 : Index := 0#32
  ![v403.toNat, 0]
def k1_off18 (i : grid1.Coords) : Fin 2 → Nat :=
  let arg2 : BitVec 32 := BitVec.ofNat 32 (i 2).val
  let c256_i32_214 : BitVec 32 := 256#32
  let v401 : BitVec 32 := Scalar.muli arg2 c256_i32_214
  let v402 : BitVec 32 := v401
  let v451 : Index := Scalar.indexCast v402
  let c128_243 : Index := 128#32
  ![v451.toNat, 128]
def k1_off19 (i : grid1.Coords) : Fin 2 → Nat :=
  let arg2 : BitVec 32 := BitVec.ofNat 32 (i 2).val
  let c256_i32_214 : BitVec 32 := 256#32
  let v401 : BitVec 32 := Scalar.muli arg2 c256_i32_214
  let v402 : BitVec 32 := v401
  let v499 : Index := Scalar.indexCast v402
  let c256_271 : Index := 256#32
  ![v499.toNat, 256]
def k1_off20 (i : grid1.Coords) : Fin 2 → Nat :=
  let arg2 : BitVec 32 := BitVec.ofNat 32 (i 2).val
  let c256_i32_214 : BitVec 32 := 256#32
  let v401 : BitVec 32 := Scalar.muli arg2 c256_i32_214
  let v402 : BitVec 32 := v401
  let v547 : Index := Scalar.indexCast v402
  let c384_299 : Index := 384#32
  ![v547.toNat, 384]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 1 → Memref sig .tc .vmem S4x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S4x2x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S8192x4096 : Shape := ⟨2, ![8192, 4096]⟩
abbrev S4x64 : Shape := ⟨2, ![4, 64]⟩
abbrev S128 : Shape := ⟨1, ![128]⟩
abbrev S32x8 : Shape := ⟨2, ![32, 8]⟩
abbrev S4x2048x4096 : Shape := ⟨3, ![4, 2048, 4096]⟩
abbrev S4x2048x1024 : Shape := ⟨3, ![4, 2048, 1024]⟩
abbrev S4x2048x8x2x64 : Shape := ⟨5, ![4, 2048, 8, 2, 64]⟩
abbrev S4x2048x8x128 : Shape := ⟨4, ![4, 2048, 8, 128]⟩
abbrev S1x64 : Shape := ⟨2, ![1, 64]⟩
abbrev S64 : Shape := ⟨1, ![64]⟩
abbrev S_ : Shape := ⟨0, ![]⟩
abbrev S2048 : Shape := ⟨1, ![2048]⟩
abbrev S4x8x2x2048x2048 : Shape := ⟨5, ![4, 8, 2, 2048, 2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S1x8x1x2048x2048 : Shape := ⟨5, ![1, 8, 1, 2048, 2048]⟩
abbrev S4x8x2x2048 : Shape := ⟨4, ![4, 8, 2, 2048]⟩
abbrev S4x8x2x2048x1 : Shape := ⟨5, ![4, 8, 2, 2048, 1]⟩
abbrev S4x8x1x2048x2048 : Shape := ⟨5, ![4, 8, 1, 2048, 2048]⟩
abbrev S4x8x2048x2048 : Shape := ⟨4, ![4, 8, 2048, 2048]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩

abbrev nBuf : Space → Nat
  | .hbm => 133
  | .vmem => 0
  | .smem => 0
  | _ => 0

abbrev hbmTy0_0 (i : Nat) : BufTy := match i % 128 with
  | 0 => ⟨S8192x4096, .f32⟩
  | 1 => ⟨S4x64, .f32⟩
  | 2 => ⟨S128, .f32⟩
  | 3 => ⟨S32x8, .f32⟩
  | 4 => ⟨S4x2048x4096, .f32⟩
  | 5 => ⟨S4x2048x1024, .f32⟩
  | 6 => ⟨S4x2048x8x2x64, .f32⟩
  | 7 => ⟨S4x2048x1024, .f32⟩
  | 8 => ⟨S4x2048x8x2x64, .f32⟩
  | 9 => ⟨S4x2048x1024, .f32⟩
  | 10 => ⟨S4x2048x8x128, .f32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048, .i32⟩
  | 31 => ⟨S4x8x2x2048x2048, .f32⟩
  | 32 => ⟨S_, .f32⟩
  | 33 => ⟨S4x8x2x2048x2048, .f32⟩
  | 34 => ⟨S4x8x2x2048x2048, .f32⟩
  | 35 => ⟨S2048x1, .i32⟩
  | 36 => ⟨S1x2048, .i32⟩
  | 37 => ⟨S2048x2048, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S_, .i32⟩
  | 44 => ⟨S2048x2048, .i32⟩
  | 45 => ⟨S2048x2048, .i32⟩
  | 46 => ⟨S2048x2048, .f32⟩
  | 47 => ⟨S_, .f32⟩
  | 48 => ⟨S2048x2048, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i32⟩
  | 64 => ⟨S_, .i32⟩
  | 65 => ⟨S2048x2048, .i32⟩
  | 66 => ⟨S2048x2048, .i1⟩
  | 67 => ⟨S2048x2048, .i32⟩
  | 68 => ⟨S_, .i32⟩
  | 69 => ⟨S2048x2048, .i32⟩
  | 70 => ⟨S2048x2048, .i1⟩
  | 71 => ⟨S_, .i32⟩
  | 72 => ⟨S2048x2048, .i32⟩
  | 73 => ⟨S2048x2048, .i32⟩
  | 74 => ⟨S2048x2048, .i32⟩
  | 75 => ⟨S2048x2048x1, .i32⟩
  | 76 => ⟨S2048x2048x8, .f32⟩
  | 77 => ⟨S8x2048x2048, .f32⟩
  | 78 => ⟨S_, .i32⟩
  | 79 => ⟨S2048x2048, .i32⟩
  | 80 => ⟨S2048x2048, .i1⟩
  | 81 => ⟨S1x8x1x2048x2048, .f32⟩
  | 82 => ⟨S4x8x2x2048x2048, .f32⟩
  | 83 => ⟨S4x8x2x2048x2048, .f32⟩
  | 84 => ⟨S_, .f32⟩
  | 85 => ⟨S_, .f32⟩
  | 86 => ⟨S4x8x2x2048x2048, .i1⟩
  | 87 => ⟨S4x8x2x2048x2048, .f32⟩
  | 88 => ⟨S4x8x2x2048x2048, .f32⟩
  | 89 => ⟨S_, .f32⟩
  | 90 => ⟨S4x8x2x2048, .f32⟩
  | 91 => ⟨S_, .f32⟩
  | 92 => ⟨S4x8x2x2048, .f32⟩
  | 93 => ⟨S4x8x2x2048, .f32⟩
  | 94 => ⟨S4x8x2x2048x1, .f32⟩
  | 95 => ⟨S4x8x2x2048x2048, .f32⟩
  | 96 => ⟨S4x8x2x2048x2048, .f32⟩
  | 97 => ⟨S4x8x2x2048x2048, .f32⟩
  | 98 => ⟨S_, .f32⟩
  | 99 => ⟨S4x8x2x2048, .f32⟩
  | 100 => ⟨S4x8x2x2048x1, .f32⟩
  | 101 => ⟨S4x8x2x2048x2048, .f32⟩
  | 102 => ⟨S4x8x2x2048x2048, .f32⟩
  | 103 => ⟨S4x8x1x2048x2048, .f32⟩
  | 104 => ⟨S4x8x2048x2048, .f32⟩
  | 105 => ⟨S4x8x1x2048x2048, .f32⟩
  | 106 => ⟨S4x8x2048x2048, .f32⟩
  | 107 => ⟨S4x8x2048x2048, .f32⟩
  | 108 => ⟨S4x8x2048x2048, .f32⟩
  | 109 => ⟨S4x8x2048x2048, .f32⟩
  | 110 => ⟨S4x8x128x2048, .f32⟩
  | 111 => ⟨S4x2048x8x128, .f32⟩
  | 112 => ⟨S4x2048x8x128, .f32⟩
  | 113 => ⟨S_, .f32⟩
  | 114 => ⟨S4x2048x8, .f32⟩
  | 115 => ⟨S4x2048x8x1, .f32⟩
  | 116 => ⟨S_, .f32⟩
  | 117 => ⟨S4x2048x8x1, .f32⟩
  | 118 => ⟨S4x2048x8x1, .f32⟩
  | 119 => ⟨S_, .f32⟩
  | 120 => ⟨S4x2048x8x1, .f32⟩
  | 121 => ⟨S4x2048x8x1, .f32⟩
  | 122 => ⟨S4x2048x8x1, .f32⟩
  | 123 => ⟨S4x2048x8x128, .f32⟩
  | 124 => ⟨S4x2048x8x128, .f32⟩
  | 125 => ⟨S1x1x1x128, .f32⟩
  | 126 => ⟨S4x2048x8x128, .f32⟩
  | 127 => ⟨S4x2048x8x128, .f32⟩
  | _ => ⟨S8192x4096, .f32⟩

abbrev hbmTy0_1 (i : Nat) : BufTy := match i % 128 with
  | 0 => ⟨S_, .f32⟩
  | 1 => ⟨S4x2048x8x128, .f32⟩
  | 2 => ⟨S4x2048x8x128, .f32⟩
  | 3 => ⟨S8192x1024, .f32⟩
  | 4 => ⟨S8192x1024, .bf16⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_17 : Ref sig .tc := ⟨.hbm, 113, rfl⟩
abbrev main_v87 : Ref sig .tc := ⟨.hbm, 114, rfl⟩
abbrev main_v88 : Ref sig .tc := ⟨.hbm, 115, rfl⟩
abbrev main_cst_18 : Ref sig .tc := ⟨.hbm, 116, rfl⟩
abbrev main_v89 : Ref sig .tc := ⟨.hbm, 117, rfl⟩
abbrev main_v90 : Ref sig .tc := ⟨.hbm, 118, rfl⟩
abbrev main_cst_19 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_20 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩

abbrev nD : Nat := 1
abbrev τ : Topo := Topo.v7x

variable {F : FTy → Type} [FloatOps F]
-- ==== Kernel2.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S2048x8192 : Shape := ⟨2, ![2048, 8192]⟩
abbrev S8192x2048 : Shape := ⟨2, ![8192, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 13
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S2048x8192, .bf16⟩
  | .hbm, ⟨11, _⟩ => ⟨S8192x2048, .bf16⟩
  | .local _ .vmem, ⟨0, _⟩ => ⟨S64x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S64x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference2Ideal.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S64 : Shape := ⟨1, ![64]⟩
abbrev S64x1 : Shape := ⟨2, ![64, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S64x8192 : Shape := ⟨2, ![64, 8192]⟩

abbrev nBuf : Space → Nat
  | .hbm => 56
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x2048, .f32⟩
  | .hbm, ⟨19, _⟩ => ⟨S64x2048, .f32⟩
  | .hbm, ⟨20, _⟩ => ⟨S1x2048, .f32⟩
  | .hbm, ⟨21, _⟩ => ⟨S64x2048, .f32⟩
  | .hbm, ⟨22, _⟩ => ⟨S64x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S64x8192, .f32⟩
  | .hbm, ⟨28, _⟩ => ⟨S_, .f32⟩
  | .hbm, ⟨29, _⟩ => ⟨S64x8192, .f32⟩
  | .hbm, ⟨30, _⟩ => ⟨S64x8192, .f32⟩
  | .hbm, ⟨31, _⟩ => ⟨S64x8192, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S_, .f32⟩
  | .hbm, ⟨39, _⟩ => ⟨S64x1, .f32⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S64x1, .f32⟩
  | .hbm, ⟨45, _⟩ => ⟨S64x2048, .f32⟩
  | .hbm, ⟨46, _⟩ => ⟨S64x2048, .f32⟩
  | .hbm, ⟨47, _⟩ => ⟨S1x2048, .f32⟩
  | .hbm, ⟨48, _⟩ => ⟨S64x2048, .f32⟩
  | .hbm, ⟨49, _⟩ => ⟨S64x2048, .f32⟩
  | .hbm, ⟨50, _⟩ => ⟨S1x2048x8192, .f32⟩
  | .hbm, ⟨51, _⟩ => ⟨S2048x8192, .f32⟩
  | .hbm, ⟨52, _⟩ => ⟨S2048x8192, .bf16⟩
  | .hbm, ⟨53, _⟩ => ⟨S1x8192x2048, .f32⟩
  | .hbm, ⟨54, _⟩ => ⟨S8192x2048, .f32⟩
  | .hbm, ⟨55, _⟩ => ⟨S8192x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel3.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S2048x8192, .bf16⟩
  | .hbm, ⟨8, _⟩ => ⟨S1x8192x2048, .f32⟩
  | .hbm, ⟨9, _⟩ => ⟨S8192x2048, .f32⟩
  | .hbm, ⟨10, _⟩ => ⟨S8192x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel4.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S2048x8192 : Shape := ⟨2, ![2048, 8192]⟩
abbrev S8192x2048 : Shape := ⟨2, ![8192, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 13
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S2048x8192, .bf16⟩
  | .hbm, ⟨11, _⟩ => ⟨S8192x2048, .bf16⟩
  | .local _ .vmem, ⟨0, _⟩ => ⟨S64x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S64x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference4Ideal.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S64 : Shape := ⟨1, ![64]⟩
abbrev S64x1 : Shape := ⟨2, ![64, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S64x8192 : Shape := ⟨2, ![64, 8192]⟩

abbrev nBuf : Space → Nat
  | .hbm => 40
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x2048, .f32⟩
  | .hbm, ⟨19, _⟩ => ⟨S64x2048, .f32⟩
  | .hbm, ⟨20, _⟩ => ⟨S1x2048, .f32⟩
  | .hbm, ⟨21, _⟩ => ⟨S64x2048, .f32⟩
  | .hbm, ⟨22, _⟩ => ⟨S64x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S64x8192, .f32⟩
  | .hbm, ⟨28, _⟩ => ⟨S_, .f32⟩
  | .hbm, ⟨29, _⟩ => ⟨S64x8192, .f32⟩
  | .hbm, ⟨30, _⟩ => ⟨S64x8192, .f32⟩
  | .hbm, ⟨31, _⟩ => ⟨S64x8192, .f32⟩
  | .hbm, ⟨32, _⟩ => ⟨S64x2048, .f32⟩
  | .hbm, ⟨33, _⟩ => ⟨S64x2048, .f32⟩
  | .hbm, ⟨34, _⟩ => ⟨S1x2048x8192, .f32⟩
  | .hbm, ⟨35, _⟩ => ⟨S2048x8192, .f32⟩
  | .hbm, ⟨36, _⟩ => ⟨S2048x8192, .bf16⟩
  | .hbm, ⟨37, _⟩ => ⟨S1x8192x2048, .f32⟩
  | .hbm, ⟨38, _⟩ => ⟨S8192x2048, .f32⟩
  | .hbm, ⟨39, _⟩ => ⟨S8192x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S2048x8192, .bf16⟩
  | .hbm, ⟨8, _⟩ => ⟨S1x8192x2048, .f32⟩
  | .hbm, ⟨9, _⟩ => ⟨S8192x2048, .f32⟩
  | .hbm, ⟨10, _⟩ => ⟨S8192x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel6.lean ====
abbrev S8192x2048 : Shape := ⟨2, ![8192, 2048]⟩
abbrev S4x2048 : Shape := ⟨2, ![4, 2048]⟩
abbrev S2x2048x4096 : Shape := ⟨3, ![2, 2048, 4096]⟩
abbrev S1x2048 : Shape := ⟨2, ![1, 2048]⟩
abbrev S2048 : Shape := ⟨1, ![2048]⟩
abbrev S1x2048x4096 : Shape := ⟨3, ![1, 2048, 4096]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S1x2048x4096, .f32⟩
  | .hbm, ⟨6, _⟩ => ⟨S2048x4096, .f32⟩
  | .hbm, ⟨7, _⟩ => ⟨S2048x4096, .bf16⟩
  | .hbm, ⟨8, _⟩ => ⟨S1x2048, .f32⟩
  | .hbm, ⟨9, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x2048 : Shape := ⟨2, ![8192, 2048]⟩
abbrev S4x2048 : Shape := ⟨2, ![4, 2048]⟩
abbrev S2x2048x4096 : Shape := ⟨3, ![2, 2048, 4096]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x4096, .f32⟩
  | .hbm, ⟨22, _⟩ => ⟨S2048x4096, .f32⟩
  | .hbm, ⟨23, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S64x2048 : Shape := ⟨2, ![64, 2048]⟩
abbrev S4x2048 : Shape := ⟨2, ![4, 2048]⟩
abbrev S2x2048x4096 : Shape := ⟨3, ![2, 2048, 4096]⟩
abbrev S1x2048 : Shape := ⟨2, ![1, 2048]⟩
abbrev S2048 : Shape := ⟨1, ![2048]⟩
abbrev S64x4096 : Shape := ⟨2, ![64, 4096]⟩
abbrev S2048x4096 : Shape := ⟨2, ![2048, 4096]⟩
abbrev S1x2048x512 : Shape := ⟨3, ![1, 2048, 512]⟩
abbrev S64x512 : Shape := ⟨2, ![64, 512]⟩
abbrev S2048x512 : Shape := ⟨2, ![2048, 512]⟩
abbrev S64 : Shape := ⟨1, ![64]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S64x4096, .f32⟩
  | .hbm, ⟨7, _⟩ => ⟨S2048x4096, .bf16⟩
  | .local _ .vmem, ⟨0, _⟩ => ⟨S64x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S64x512, .f32⟩
  | .local _ .vmem, ⟨5, _⟩ => ⟨S64x512, .f32⟩
  | .local _ .vmem, ⟨6, _⟩ => ⟨S2048x512, .bf16⟩
  | .local _ .vmem, ⟨7, _⟩ => ⟨S2048x512, .bf16⟩
  | .local _ .vmem, ⟨8, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference7Ideal.lean ====
abbrev S64x2048 : Shape := ⟨2, ![64, 2048]⟩
abbrev S4x2048 : Shape := ⟨2, ![4, 2048]⟩
abbrev S2x2048x4096 : Shape := ⟨3, ![2, 2048, 4096]⟩
abbrev S1x2048 : Shape := ⟨2, ![1, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048x4096 : Shape := ⟨3, ![1, 2048, 4096]⟩
abbrev S2048x4096 : Shape := ⟨2, ![2048, 4096]⟩
abbrev S64x4096 : Shape := ⟨2, ![64, 4096]⟩

abbrev nBuf : Space → Nat
  | .hbm => 27
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S2x2048x4096, .f32⟩
  | .hbm, ⟨3, _⟩ => ⟨S1x2048, .f32⟩
  | .hbm, ⟨4, _⟩ => ⟨S2048, .f32⟩
  | .hbm, ⟨5, _⟩ => ⟨S64x2048, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S1x2048x4096, .f32⟩
  | .hbm, ⟨22, _⟩ => ⟨S2048x4096, .f32⟩
  | .hbm, ⟨23, _⟩ => ⟨S64x4096, .f32⟩
  | .hbm, ⟨24, _⟩ => ⟨S1x2048x4096, .f32⟩
  | .hbm, ⟨25, _⟩ => ⟨S2048x4096, .f32⟩
  | .hbm, ⟨26, _⟩ => ⟨S2048x4096, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel8.lean ====
abbrev S8192x2048 : Shape := ⟨2, ![8192, 2048]⟩
abbrev S4x2048 : Shape := ⟨2, ![4, 2048]⟩
abbrev S2x2048x5656 : Shape := ⟨3, ![2, 2048, 5656]⟩
abbrev S1x2048 : Shape := ⟨2, ![1, 2048]⟩
abbrev S2048 : Shape := ⟨1, ![2048]⟩
abbrev S1x2048x5656 : Shape := ⟨3, ![1, 2048, 5656]⟩
abbrev S2048x5656 : Shape := ⟨2, ![2048, 5656]⟩
abbrev S2048x1024 : Shape := ⟨2, ![2048, 1024]⟩
abbrev S2048x512 : Shape := ⟨2, ![2048, 512]⟩
abbrev S2048x24 : Shape := ⟨2, ![2048, 24]⟩
abbrev S_ : Shape := ⟨0, ![]⟩
abbrev S2048x104 : Shape := ⟨2, ![2048, 104]⟩
abbrev S2048x5760 : Shape := ⟨2, ![2048, 5760]⟩
abbrev S8192x5760 : Shape := ⟨2, ![8192, 5760]⟩
abbrev S512x2048 : Shape := ⟨2, ![512, 2048]⟩
abbrev S2048x1152 : Shape := ⟨2, ![2048, 1152]⟩
abbrev S512x1152 : Shape := ⟨2, ![512, 1152]⟩
abbrev S512 : Shape := ⟨1, ![512]⟩
abbrev S512x1 : Shape := ⟨2, ![512, 1]⟩

abbrev nBuf : Space → Nat
  | .hbm => 21
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5656, .f32⟩
  | .hbm, ⟨3, _⟩ => ⟨S1x2048, .f32⟩
  | .hbm, ⟨4, _⟩ => ⟨S2048, .f32⟩
  | .hbm, ⟨5, _⟩ => ⟨S1x2048x5656, .f32⟩
  | .hbm, ⟨6, _⟩ => ⟨S2048x5656, .f32⟩
  | .hbm, ⟨7, _⟩ => ⟨S2048x5656, .bf16⟩
  | .hbm, ⟨8, _⟩ => ⟨S2048x1024, .bf16⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S2048x24, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S_, .bf16⟩
  | .hbm, ⟨17, _⟩ => ⟨S2048x104, .bf16⟩
  | .hbm, ⟨18, _⟩ => ⟨S2048x5760, .bf16⟩
  | .hbm, ⟨19, _⟩ => ⟨S1x2048, .f32⟩
  | .hbm, ⟨20, _⟩ => ⟨S8192x5760, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S512x1152, .f32⟩
  | .local _ .vmem, ⟨6, _⟩ => ⟨S512x1152, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S4x2048 : Shape := ⟨2, ![4, 2048]⟩
abbrev S2x2048x5656 : Shape := ⟨3, ![2, 2048, 5656]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x5656 : Shape := ⟨3, ![1, 2048, 5656]⟩
abbrev S2048x5656 : Shape := ⟨2, ![2048, 5656]⟩
abbrev S8192x5656 : Shape := ⟨2, ![8192, 5656]⟩
abbrev S8192x1024 : Shape := ⟨2, ![8192, 1024]⟩
abbrev S8192x512 : Shape := ⟨2, ![8192, 512]⟩
abbrev S8192x24 : Shape := ⟨2, ![8192, 24]⟩
abbrev S8192x104 : Shape := ⟨2, ![8192, 104]⟩
abbrev S8192x5760 : Shape := ⟨2, ![8192, 5760]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x5656, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x5656, .f32⟩
  | .hbm, ⟨22, _⟩ => ⟨S2048x5656, .f32⟩
  | .hbm, ⟨23, _⟩ => ⟨S8192x5656, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x24, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x104, .f32⟩
  | .hbm, ⟨34, _⟩ => ⟨S8192x5760, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel9.lean ====
abbrev S64x2048 : Shape := ⟨2, ![64, 2048]⟩
abbrev S4x2048 : Shape := ⟨2, ![4, 2048]⟩
abbrev S2x2048x5656 : Shape := ⟨3, ![2, 2048, 5656]⟩
abbrev S1x2048 : Shape := ⟨2, ![1, 2048]⟩
abbrev S2048 : Shape := ⟨1, ![2048]⟩
abbrev S1x2048x5656 : Shape := ⟨3, ![1, 2048, 5656]⟩
abbrev S2048x5656 : Shape := ⟨2, ![2048, 5656]⟩
abbrev S2048x1024 : Shape := ⟨2, ![2048, 1024]⟩
abbrev S2048x512 : Shape := ⟨2, ![2048, 512]⟩
abbrev S2048x24 : Shape := ⟨2, ![2048, 24]⟩
abbrev S_ : Shape := ⟨0, ![]⟩
abbrev S2048x104 : Shape := ⟨2, ![2048, 104]⟩
abbrev S2048x5760 : Shape := ⟨2, ![2048, 5760]⟩
abbrev S64x5760 : Shape := ⟨2, ![64, 5760]⟩
abbrev S2048x1152 : Shape := ⟨2, ![2048, 1152]⟩
abbrev S64x1152 : Shape := ⟨2, ![64, 1152]⟩
abbrev S64 : Shape := ⟨1, ![64]⟩
abbrev S64x1 : Shape := ⟨2, ![64, 1]⟩

abbrev nBuf : Space → Nat
  | .hbm => 21
  | .vmem => 7
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S2x2048x5656, .f32⟩
  | .hbm, ⟨3, _⟩ => ⟨S1x2048, .f32⟩
  | .hbm, ⟨4, _⟩ => ⟨S2048, .f32⟩
  | .hbm, ⟨5, _⟩ => ⟨S1x2048x5656, .f32⟩
  | .hbm, ⟨6, _⟩ => ⟨S2048x5656, .f32⟩
  | .hbm, ⟨7, _⟩ => ⟨S2048x5656, .bf16⟩
  | .hbm, ⟨8, _⟩ => ⟨S2048x1024, .bf16⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S2048x24, .bf16⟩
  | .hbm, ⟨13, _⟩ => ⟨S2048x1024, .bf16⟩
  | .hbm, ⟨14, _⟩ => ⟨S2048x1024, .bf16⟩
  | .hbm, ⟨15, _⟩ => ⟨S2048x1024, .bf16⟩
  | .hbm, ⟨16, _⟩ => ⟨S_, .bf16⟩
  | .hbm, ⟨17, _⟩ => ⟨S2048x104, .bf16⟩
  | .hbm, ⟨18, _⟩ => ⟨S2048x5760, .bf16⟩
  | .hbm, ⟨19, _⟩ => ⟨S1x2048, .f32⟩
  | .hbm, ⟨20, _⟩ => ⟨S64x5760, .f32⟩
  | .local _ .vmem, ⟨0, _⟩ => ⟨S64x2048, .f32⟩
  | .local _ .vmem, ⟨1, _⟩ => ⟨S1x2048, .f32⟩
  | .local _ .vmem, ⟨2, _⟩ => ⟨S2048x1152, .bf16⟩
  | .local _ .vmem, ⟨3, _⟩ => ⟨S2048x1152, .bf16⟩
  | .local _ .vmem, ⟨4, _⟩ => ⟨S64x1152, .f32⟩
  | .local _ .vmem, ⟨5, _⟩ => ⟨S64x1152, .f32⟩
  | .local _ .vmem, ⟨6, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S64x2048 : Shape := ⟨2, ![64, 2048]⟩
abbrev S4x2048 : Shape := ⟨2, ![4, 2048]⟩
abbrev S2x2048x5656 : Shape := ⟨3, ![2, 2048, 5656]⟩
abbrev S1x2048 : Shape := ⟨2, ![1, 2048]⟩
abbrev S2048 : Shape := ⟨1, ![2048]⟩
abbrev S_ : Shape := ⟨0, ![]⟩
abbrev S64 : Shape := ⟨1, ![64]⟩
abbrev S64x1 : Shape := ⟨2, ![64, 1]⟩
abbrev S1x2048x5656 : Shape := ⟨3, ![1, 2048, 5656]⟩
abbrev S2048x5656 : Shape := ⟨2, ![2048, 5656]⟩
abbrev S64x5656 : Shape := ⟨2, ![64, 5656]⟩
abbrev S64x1024 : Shape := ⟨2, ![64, 1024]⟩
abbrev S64x512 : Shape := ⟨2, ![64, 512]⟩
abbrev S64x24 : Shape := ⟨2, ![64, 24]⟩
abbrev S64x104 : Shape := ⟨2, ![64, 104]⟩
abbrev S64x5760 : Shape := ⟨2, ![64, 5760]⟩

abbrev nBuf : Space → Nat
  | .hbm => 35
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S2x2048x5656, .f32⟩
  | .hbm, ⟨3, _⟩ => ⟨S1x2048, .f32⟩
  | .hbm, ⟨4, _⟩ => ⟨S2048, .f32⟩
  | .hbm, ⟨5, _⟩ => ⟨S64x2048, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1, .f32⟩
  | .hbm, ⟨16, _⟩ => ⟨S64x2048, .f32⟩
  | .hbm, ⟨17, _⟩ => ⟨S64x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S1x2048x5656, .f32⟩
  | .hbm, ⟨22, _⟩ => ⟨S2048x5656, .f32⟩
  | .hbm, ⟨23, _⟩ => ⟨S64x5656, .f32⟩
  | .hbm, ⟨24, _⟩ => ⟨S64x1024, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S64x24, .f32⟩
  | .hbm, ⟨29, _⟩ => ⟨S64x1024, .f32⟩
  | .hbm, ⟨30, _⟩ => ⟨S64x1024, .f32⟩
  | .hbm, ⟨31, _⟩ => ⟨S64x1024, .f32⟩
  | .hbm, ⟨32, _⟩ => ⟨S_, .f32⟩
  | .hbm, ⟨33, _⟩ => ⟨S64x104, .f32⟩
  | .hbm, ⟨34, _⟩ => ⟨S64x5760, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2x2048x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x2048 : Shape := ⟨2, ![8192, 2048]⟩
abbrev S8192x1024 : Shape := ⟨2, ![8192, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2x2048x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S1x2048x2048, .f32⟩
  | .hbm, ⟨8, _⟩ => ⟨S2048x2048, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S64x2048 : Shape := ⟨2, ![64, 2048]⟩
abbrev S64x1024 : Shape := ⟨2, ![64, 1024]⟩
abbrev S2x2048x2048 : Shape := ⟨3, ![2, 2048, 2048]⟩
abbrev S2048x2048 : Shape := ⟨2, ![2048, 2048]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S64x2048, .f32⟩
  | .hbm, ⟨1, _⟩ => ⟨S64x1024, .bf16⟩
  | .hbm, ⟨2, _⟩ => ⟨S64x1024, .bf16⟩
  | .hbm, ⟨3, _⟩ => ⟨S2x2048x2048, .f32⟩
  | .hbm, ⟨4, _⟩ => ⟨S64x2048, .f32⟩
  | .hbm, ⟨5, _⟩ => ⟨S2048x2048, .bf16⟩
  | .local _ .vmem, ⟨0, _⟩ => ⟨S64x1024, .f32⟩
  | .local _ .vmem, ⟨1, _⟩ => ⟨S64x1024, .f32⟩
  | .local _ .vmem, ⟨2, _⟩ => ⟨S64x1024, .bf16⟩
  | .local _ .vmem, ⟨3, _⟩ => ⟨S64x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S64x1024, .f32⟩
  | .local _ .vmem, ⟨9, _⟩ => ⟨S64x1024, .f32⟩
  | .local _ .vmem, ⟨10, _⟩ => ⟨S2048x1024, .bf16⟩
  | .local _ .vmem, ⟨11, _⟩ => ⟨S2048x1024, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference11Ideal.lean ====
abbrev S64x2048 : Shape := ⟨2, ![64, 2048]⟩
abbrev S64x1024 : Shape := ⟨2, ![64, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x1024, .bf16⟩
  | .hbm, ⟨2, _⟩ => ⟨S64x1024, .bf16⟩
  | .hbm, ⟨3, _⟩ => ⟨S2x2048x2048, .f32⟩
  | .hbm, ⟨4, _⟩ => ⟨S64x1024, .f32⟩
  | .hbm, ⟨5, _⟩ => ⟨S64x1024, .f32⟩
  | .hbm, ⟨6, _⟩ => ⟨S64x2048, .f32⟩
  | .hbm, ⟨7, _⟩ => ⟨S1x2048x2048, .f32⟩
  | .hbm, ⟨8, _⟩ => ⟨S2048x2048, .f32⟩
  | .hbm, ⟨9, _⟩ => ⟨S64x2048, .f32⟩
  | .hbm, ⟨10, _⟩ => ⟨S64x2048, .f32⟩
  | .hbm, ⟨11, _⟩ => ⟨S1x2048x2048, .f32⟩
  | .hbm, ⟨12, _⟩ => ⟨S2048x2048, .f32⟩
  | .hbm, ⟨13, _⟩ => ⟨S2048x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S2048x8192 : Shape := ⟨2, ![2048, 8192]⟩
abbrev S8192x2048 : Shape := ⟨2, ![8192, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 13
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S2048x8192, .bf16⟩
  | .hbm, ⟨11, _⟩ => ⟨S8192x2048, .bf16⟩
  | .local _ .vmem, ⟨0, _⟩ => ⟨S64x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S64x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference12Ideal.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S64 : Shape := ⟨1, ![64]⟩
abbrev S64x1 : Shape := ⟨2, ![64, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S64x8192 : Shape := ⟨2, ![64, 8192]⟩

abbrev nBuf : Space → Nat
  | .hbm => 40
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x2048, .f32⟩
  | .hbm, ⟨19, _⟩ => ⟨S64x2048, .f32⟩
  | .hbm, ⟨20, _⟩ => ⟨S1x2048, .f32⟩
  | .hbm, ⟨21, _⟩ => ⟨S64x2048, .f32⟩
  | .hbm, ⟨22, _⟩ => ⟨S64x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S64x8192, .f32⟩
  | .hbm, ⟨28, _⟩ => ⟨S_, .f32⟩
  | .hbm, ⟨29, _⟩ => ⟨S64x8192, .f32⟩
  | .hbm, ⟨30, _⟩ => ⟨S64x8192, .f32⟩
  | .hbm, ⟨31, _⟩ => ⟨S64x8192, .f32⟩
  | .hbm, ⟨32, _⟩ => ⟨S64x2048, .f32⟩
  | .hbm, ⟨33, _⟩ => ⟨S64x2048, .f32⟩
  | .hbm, ⟨34, _⟩ => ⟨S1x2048x8192, .f32⟩
  | .hbm, ⟨35, _⟩ => ⟨S2048x8192, .f32⟩
  | .hbm, ⟨36, _⟩ => ⟨S2048x8192, .bf16⟩
  | .hbm, ⟨37, _⟩ => ⟨S1x8192x2048, .f32⟩
  | .hbm, ⟨38, _⟩ => ⟨S8192x2048, .f32⟩
  | .hbm, ⟨39, _⟩ => ⟨S8192x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel13.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S2048x8192, .bf16⟩
  | .hbm, ⟨8, _⟩ => ⟨S1x8192x2048, .f32⟩
  | .hbm, ⟨9, _⟩ => ⟨S8192x2048, .f32⟩
  | .hbm, ⟨10, _⟩ => ⟨S8192x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference13Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel14.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S2048x8192 : Shape := ⟨2, ![2048, 8192]⟩
abbrev S8192x2048 : Shape := ⟨2, ![8192, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 13
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S64x2048, .f32⟩
  | .hbm, ⟨10, _⟩ => ⟨S2048x8192, .bf16⟩
  | .hbm, ⟨11, _⟩ => ⟨S8192x2048, .bf16⟩
  | .local _ .vmem, ⟨0, _⟩ => ⟨S64x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S64x2048, .f32⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference14Ideal.lean ====
abbrev S64x2048 : Shape := ⟨2, ![64, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S64 : Shape := ⟨1, ![64]⟩
abbrev S64x1 : Shape := ⟨2, ![64, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S64x8192 : Shape := ⟨2, ![64, 8192]⟩

abbrev nBuf : Space → Nat
  | .hbm => 40
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S_, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x2048, .f32⟩
  | .hbm, ⟨19, _⟩ => ⟨S64x2048, .f32⟩
  | .hbm, ⟨20, _⟩ => ⟨S1x2048, .f32⟩
  | .hbm, ⟨21, _⟩ => ⟨S64x2048, .f32⟩
  | .hbm, ⟨22, _⟩ => ⟨S64x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S64x8192, .f32⟩
  | .hbm, ⟨28, _⟩ => ⟨S_, .f32⟩
  | .hbm, ⟨29, _⟩ => ⟨S64x8192, .f32⟩
  | .hbm, ⟨30, _⟩ => ⟨S64x8192, .f32⟩
  | .hbm, ⟨31, _⟩ => ⟨S64x8192, .f32⟩
  | .hbm, ⟨32, _⟩ => ⟨S64x2048, .f32⟩
  | .hbm, ⟨33, _⟩ => ⟨S64x2048, .f32⟩
  | .hbm, ⟨34, _⟩ => ⟨S1x2048x8192, .f32⟩
  | .hbm, ⟨35, _⟩ => ⟨S2048x8192, .f32⟩
  | .hbm, ⟨36, _⟩ => ⟨S2048x8192, .bf16⟩
  | .hbm, ⟨37, _⟩ => ⟨S1x8192x2048, .f32⟩
  | .hbm, ⟨38, _⟩ => ⟨S8192x2048, .f32⟩
  | .hbm, ⟨39, _⟩ => ⟨S8192x2048, .bf16⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel15.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048x8192, .f32⟩
  | .hbm, ⟨6, _⟩ => ⟨S2048x8192, .f32⟩
  | .hbm, ⟨7, _⟩ => ⟨S2048x8192, .bf16⟩
  | .hbm, ⟨8, _⟩ => ⟨S1x8192x2048, .f32⟩
  | .hbm, ⟨9, _⟩ => ⟨S8192x2048, .f32⟩
  | .hbm, ⟨10, _⟩ => ⟨S8192x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference15Ideal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x8192 : Shape := ⟨2, ![8192, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Ref2.lean ====
/- The run of reference2: what each of its buffers holds. -/
module

public import proofs.«01_k».proof.Proof.Gen.Reference2Ideal.Run
public import proofs.«01_k».proof.Proof.Gen.Reference2Ideal.Read

@[expose] public section
-- ==== Proof.Ref3.lean ====
/- The run of reference3: what each of its buffers holds. -/
module

public import proofs.«01_k».proof.Proof.Gen.Reference3Ideal.Run
public import proofs.«01_k».proof.Proof.Gen.Reference3Ideal.Read

@[expose] public section
-- ==== Proof.Ref4.lean ====
/- The run of reference4: what each of its buffers holds. -/
module

public import proofs.«01_k».proof.Proof.Gen.Reference4Ideal.Run
public import proofs.«01_k».proof.Proof.Gen.Reference4Ideal.Read

@[expose] public section
-- ==== Proof.Ref5.lean ====
/- The run of reference5: what each of its buffers holds. -/
module

public import proofs.«01_k».proof.Proof.Gen.Reference5Ideal.Run
public import proofs.«01_k».proof.Proof.Gen.Reference5Ideal.Read

@[expose] public section
-- ==== Proof.Ref6.lean ====
/- The run of reference7: what each of its buffers holds. -/
module

public import proofs.«01_k».proof.Proof.Gen.Reference6Ideal.Run
public import proofs.«01_k».proof.Proof.Gen.Reference6Ideal.Read

@[expose] public section
-- ==== Proof.Ref7.lean ====
/- The run of reference7: what each of its buffers holds. -/
module

public import proofs.«01_k».proof.Proof.Gen.Reference7Ideal.Run
public import proofs.«01_k».proof.Proof.Gen.Reference7Ideal.Read

@[expose] public section
-- ==== Proof.Ref8.lean ====
/- The run of reference9: what each of its buffers holds. -/
module

public import proofs.«01_k».proof.Proof.Gen.Reference8Ideal.Run
public import proofs.«01_k».proof.Proof.Gen.Reference8Ideal.Read

@[expose] public section
-- ==== Proof.Ref9.lean ====
/- The run of reference9: what each of its buffers holds. -/
module

public import proofs.«01_k».proof.Proof.Gen.Reference9Ideal.Run
public import proofs.«01_k».proof.Proof.Gen.Reference9Ideal.Read

@[expose] public section
-- ==== Proof.Ref10.lean ====
/- The run of reference10: what each of its buffers holds. -/
module

public import proofs.«01_k».proof.Proof.Gen.Reference10Ideal.Run
public import proofs.«01_k».proof.Proof.Gen.Reference10Ideal.Read

@[expose] public section
-- ==== Proof.Ref11.lean ====
/- The run of reference11: what each of its buffers holds. -/
module

public import proofs.«01_k».proof.Proof.Gen.Reference11Ideal.Run
public import proofs.«01_k».proof.Proof.Gen.Reference11Ideal.Read

@[expose] public section
-- ==== Proof.Ref12.lean ====
/- The run of reference12: what each of its buffers holds. -/
module

public import proofs.«01_k».proof.Proof.Gen.Reference12Ideal.Run
public import proofs.«01_k».proof.Proof.Gen.Reference12Ideal.Read

@[expose] public section
-- ==== Proof.Ref13.lean ====
/- The run of reference13: what each of its buffers holds. -/
module

public import proofs.«01_k».proof.Proof.Gen.Reference13Ideal.Run
public import proofs.«01_k».proof.Proof.Gen.Reference13Ideal.Read

@[expose] public section
-- ==== Proof.Ref14.lean ====
/- The run of reference14: what each of its buffers holds. -/
module

public import proofs.«01_k».proof.Proof.Gen.Reference14Ideal.Run
public import proofs.«01_k».proof.Proof.Gen.Reference14Ideal.Read

@[expose] public section
-- ==== Proof.Ref15.lean ====
/- The run of reference15: what each of its buffers holds. -/
module

public import proofs.«01_k».proof.Proof.Gen.Reference15Ideal.Run
public import proofs.«01_k».proof.Proof.Gen.Reference15Ideal.Read

@[expose] public section
-- ==== Proof.Online.lean ====
/- The online softmax of one row, over the extended reals: the running maximum `m`, the running sum
`l` and the running weighted sum `a` hold, after any set of keys, the sums of `2 ^ y` and of
`2 ^ y · v`, both scaled by `2 ^ (-m)`. A masked key has score `⊥` and weight `0`. -/
module

public import Idealize.ShloMosaic.Lib.Pipeline.ValueKit

@[expose] public section

set_option maxRecDepth 16384

noncomputable section

open Idealize.ShloMosaic

namespace Cert.Online

/-- the weight `2 ^ y` of a score, a real number; `0` for the masked score `⊥` -/
def wt (y : EReal) : ℝ := (Ideal.exp2 y).toReal

theorem wt_bot : wt ⊥ = 0 := by simp [wt]

theorem wt_coe (r : ℝ) : wt (r : EReal) = (2 : ℝ) ^ r := by
  simp [wt, Ideal.exp2_coe, EReal.toReal_coe]

theorem wt_nonneg (y : EReal) : 0 ≤ wt y := by
  induction y with
  | bot => simp [wt_bot]
  | coe r => rw [wt_coe]; positivity
  | top => simp [wt]

/-- the weight of a score minus a real maximum -/
theorem exp2_sub (y : EReal) (hy : y ≠ ⊤) (μ : ℝ) :
    Ideal.exp2 (y - (μ : EReal)) = ((wt y * (2 : ℝ) ^ (-μ) : ℝ) : EReal) := by
  induction y with
  | bot => simp [wt_bot, EReal.bot_sub]
  | coe r =>
    rw [← EReal.coe_sub, Ideal.exp2_coe, wt_coe, ← Real.rpow_add (by norm_num)]
    rfl
  | top => exact absurd rfl hy

/-- what the three running values of a row say about the keys seen so far -/
def Inv (m l a : EReal) (S A : ℝ) : Prop :=
  (m = ⊥ ∧ l = 0 ∧ a = 0 ∧ S = 0 ∧ A = 0) ∨
    ∃ μ : ℝ, m = (μ : EReal) ∧ l = ((S * (2 : ℝ) ^ (-μ) : ℝ) : EReal) ∧ a = ((A * (2 : ℝ) ^ (-μ) : ℝ) : EReal)

theorem Inv.init : Inv ⊥ 0 0 0 0 := Or.inl ⟨rfl, rfl, rfl, rfl, rfl⟩

theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- one tile of keys with scores `s` and values `v` -/
theorem Inv.step {ι : Type*} [Fintype ι] {m l a : EReal} {S A : ℝ} (h : Inv m l a S A)
    (s : ι → EReal) (hs : ∀ j, s j ≠ ⊤) (v : ι → ℝ) (μ : ℝ)
    (m' : EReal) (hm' : m' = (μ : EReal)) :
    Inv m'
      (Ideal.exp2 (m - m') * l + ∑ j, Ideal.exp2 (s j - m') * 1)
      (Ideal.exp2 (m - m') * a + ∑ j, Ideal.exp2 (s j - m') * (v j : EReal))
      (S + ∑ j, wt (s j)) (A + ∑ j, wt (s j) * v j) := by
  subst hm'
  refine Or.inr ⟨μ, rfl, ?_, ?_⟩
  · have e : ∑ j, Ideal.exp2 (s j - (μ : EReal)) * 1 = (((∑ j, wt (s j)) * (2 : ℝ) ^ (-μ) : ℝ) : EReal) := by
      rw [Finset.sum_mul, coe_sum]
      exact Finset.sum_congr rfl fun j _ => by rw [exp2_sub _ (hs j), mul_one]
    rw [e]
    rcases h with ⟨rfl, rfl, rfl, rfl, rfl⟩ | ⟨μ₀, rfl, rfl, rfl⟩
    · simp
    · rw [exp2_sub _ (EReal.coe_ne_top _), wt_coe, ← EReal.coe_mul, ← EReal.coe_add]
      congr 1
      have : (2 : ℝ) ^ μ₀ * 2 ^ (-μ₀) = 1 := by rw [← Real.rpow_add (by norm_num)]; simp
      linear_combination (S * (2 : ℝ) ^ (-μ)) * this
  · have e : ∑ j, Ideal.exp2 (s j - (μ : EReal)) * (v j : EReal) = (((∑ j, wt (s j) * v j) * (2 : ℝ) ^ (-μ) : ℝ) : EReal) := by
      rw [Finset.sum_mul, coe_sum]
      exact Finset.sum_congr rfl fun j _ => by
        rw [exp2_sub _ (hs j), ← EReal.coe_mul]; congr 1; ring
    rw [e]
    rcases h with ⟨rfl, rfl, rfl, rfl, rfl⟩ | ⟨μ₀, rfl, rfl, rfl⟩
    · simp
    · rw [exp2_sub _ (EReal.coe_ne_top _), wt_coe, ← EReal.coe_mul, ← EReal.coe_add]
      congr 1
      have : (2 : ℝ) ^ μ₀ * 2 ^ (-μ₀) = 1 := by rw [← Real.rpow_add (by norm_num)]; simp
      linear_combination (A * (2 : ℝ) ^ (-μ)) * this

/-- the greatest of finitely many scores and a running maximum is real as soon as one score is -/
theorem max_real {ι : Type*} (t : Finset ι) (s : ι → EReal) (hs : ∀ j, s j ≠ ⊤) (m : EReal) (hm : m ≠ ⊤)
    (h : m ≠ ⊥ ∨ ∃ j ∈ t, s j ≠ ⊥) : ∃ μ : ℝ, max m (t.fold max ⊥ s) = (μ : EReal) := by
  classical
  have key : ∀ u : Finset ι, u.fold max ⊥ s ≠ ⊤ ∧ ∀ j ∈ u, s j ≤ u.fold max ⊥ s := by
    intro u
    induction u using Finset.induction_on with
    | empty => simp
    | insert a u ha ih =>
      rw [Finset.fold_insert ha]
      refine ⟨?_, ?_⟩
      · rcases max_choice (s a) (u.fold max ⊥ s) with e | e <;> rw [e]
        · exact hs a
        · exact ih.1
      · intro j hj
        rcases Finset.mem_insert.mp hj with rfl | hj
        · exact le_max_left _ _
        · exact (ih.2 j hj).trans (le_max_right _ _)
  have ht : max m (t.fold max ⊥ s) ≠ ⊤ := by
    rcases max_choice m (t.fold max ⊥ s) with e | e <;> rw [e]
    · exact hm
    · exact (key t).1
  have hb : max m (t.fold max ⊥ s) ≠ ⊥ := by
    intro e
    rcases h with h | ⟨j, hj, h⟩
    · exact h (le_bot_iff.mp (e ▸ le_max_left _ _))
    · exact h (le_bot_iff.mp (e ▸ ((key t).2 j hj).trans (le_max_right _ _)))
  exact ⟨_, (EReal.coe_toReal ht hb).symm⟩

/-- a row's quotient once at least one key was seen -/
theorem Inv.quot {m l a : EReal} {S A : ℝ} (h : Inv m l a S A) (hS : 0 < S) :
    Ideal.div a l = ((A / S : ℝ) : EReal) := by
  rcases h with ⟨_, _, _, rfl, _⟩ | ⟨μ, _, rfl, rfl⟩
  · exact absurd hS (lt_irrefl _)
  · have h2 : (0 : ℝ) < 2 ^ (-μ) := by positivity
    have hne : S * (2 : ℝ) ^ (-μ) ≠ 0 := (mul_pos hS h2).ne'
    rw [Ideal.div, if_neg (by exact_mod_cast hne), ← EReal.coe_inv, ← EReal.coe_mul]
    congr 1
    field_simp

/-- after the first tile the running maximum is real -/
theorem Inv.ne_top {m l a : EReal} {S A : ℝ} (h : Inv m l a S A) : m ≠ ⊤ := by
  rcases h with ⟨rfl, _⟩ | ⟨μ, rfl, _⟩ <;> simp

end Cert.Online
-- ==== Proof.Bucket.lean ====
/- The distance buckets: what the reference's logarithm computes, in natural numbers. -/
module

public import proofs.«01_k».proof.Proof.Online

@[expose] public section

set_option maxRecDepth 16384

noncomputable section

open Idealize.ShloMosaic

namespace Cert.Bucket

/-- how many of the fifteen logarithmic thresholds a distance has reached -/
def steps (n : ℕ) : ℕ := ((List.range 15).filter fun k => decide (16 ^ 16 * 8 ^ (k + 1) ≤ n ^ 16)).length

/-- the bucket of a distance -/
def bkt (n : ℕ) : ℕ := if n < 16 then n else 16 + steps n

theorem bkt_lt : ∀ n : Fin 2048, bkt n.val < 32 := by decide +kernel

theorem bkt_far : ∀ n : Fin 2048, 128 ≤ n.val → bkt n.val = 31 := by decide +kernel

/-- each threshold is met with room to spare, or not at all -/
theorem steps_spec : ∀ n : Fin 2048, 16 ≤ n.val → steps n.val ≤ 15 ∧
    (steps n.val = 0 ∨ 51 * (8 ^ steps n.val * 16 ^ 16) ≤ 50 * n.val ^ 16) ∧
    (steps n.val = 15 ∨ 51 * n.val ^ 16 < 50 * (8 ^ (steps n.val + 1) * 16 ^ 16)) := by decide +kernel

theorem log8 : Real.log 8 = 3 * Real.log 2 := by
  rw [show (8 : ℝ) = 2 ^ (3 : ℕ) by norm_num, Real.log_pow]; norm_num

theorem log2_lo : (0.6930 : ℝ) < Real.log 2 := by
  rw [Real.lt_log_iff_exp_lt (by norm_num)]
  refine (Real.exp_bound' (by norm_num) (by norm_num) (show 0 < 9 by norm_num)).trans_lt ?_
  norm_num [Finset.sum_range_succ, Nat.factorial]

theorem log2_hi : Real.log 2 < (0.6933 : ℝ) := by
  rw [Real.log_lt_iff_lt_exp (by norm_num)]
  refine lt_of_lt_of_le ?_ (Real.sum_le_exp_of_nonneg (by norm_num) 9)
  norm_num [Finset.sum_range_succ, Nat.factorial]

/-- the word the reference divides by, a hair above `log 8` -/
def c8 : ℝ := 8721810 / 4194304

theorem c8_lo : Real.log 8 - 0.00048 ≤ c8 := by
  rw [log8, c8]; have := log2_hi; norm_num at this ⊢; linarith

theorem c8_hi : c8 ≤ Real.log 8 + 0.00048 := by
  rw [log8, c8]; have := log2_lo; norm_num at this ⊢; linarith

theorem c8_pos : 0 < c8 := by rw [c8]; norm_num

theorem slack : (1 / 51 : ℝ) ≤ Real.log (51 / 50) := by
  have := Real.one_sub_inv_le_log_of_pos (show (0 : ℝ) < 51 / 50 by norm_num)
  norm_num at this ⊢; linarith

theorem log_lo (n k : ℕ) (hn : 0 < n) (hk : k ≤ 15) (h : 51 * (8 ^ k * 16 ^ 16) ≤ 50 * n ^ 16) :
    (k : ℝ) * c8 ≤ Real.log (n / 16) * 16 := by
  have hn' : (0 : ℝ) < n := by exact_mod_cast hn
  have h1 : (51 : ℝ) * (8 ^ k * 16 ^ 16) ≤ 50 * (n : ℝ) ^ 16 := by exact_mod_cast h
  have h2 : (51 / 50 : ℝ) * 8 ^ k ≤ ((n : ℝ) / 16) ^ 16 := by
    rw [div_pow, le_div_iff₀ (by positivity)]
    have : (51 / 50 : ℝ) * 8 ^ k * 16 ^ 16 = (51 * (8 ^ k * 16 ^ 16)) / 50 := by ring
    rw [this, div_le_iff₀ (by norm_num)]; linarith
  have h3 : Real.log ((51 / 50 : ℝ) * 8 ^ k) ≤ Real.log (((n : ℝ) / 16) ^ 16) :=
    Real.log_le_log (by positivity) h2
  rw [Real.log_mul (by norm_num) (by positivity), Real.log_pow, Real.log_pow] at h3
  have h5 := c8_hi
  have h6 : (k : ℝ) ≤ 15 := by exact_mod_cast hk
  have h8 : (0 : ℝ) ≤ k := by positivity
  have := mul_le_mul_of_nonneg_left h5 h8
  have := slack
  push_cast at h3
  linarith

theorem log_hi (n k : ℕ) (hn : 0 < n) (hk : k ≤ 40) (h : 51 * n ^ 16 < 50 * (8 ^ k * 16 ^ 16)) :
    Real.log (n / 16) * 16 < (k : ℝ) * c8 := by
  have hn' : (0 : ℝ) < n := by exact_mod_cast hn
  have h1 : (51 : ℝ) * (n : ℝ) ^ 16 < 50 * (8 ^ k * 16 ^ 16) := by exact_mod_cast h
  have h2 : (51 / 50 : ℝ) * ((n : ℝ) / 16) ^ 16 < 8 ^ k := by
    rw [div_pow, ← mul_div_assoc, div_lt_iff₀ (by positivity)]; linarith
  have h3 := Real.log_lt_log (by positivity) h2
  rw [Real.log_mul (by norm_num) (by positivity), Real.log_pow, Real.log_pow] at h3
  have h6 : (k : ℝ) ≤ 40 := by exact_mod_cast hk
  have h8 : (0 : ℝ) ≤ k := by positivity
  have := mul_le_mul_of_nonneg_left c8_lo h8
  have := slack
  push_cast at h3
  linarith

theorem pow_lt : ∀ n : Fin 2048, 51 * n.val ^ 16 < 50 * (8 ^ 40 * 16 ^ 16) := by decide +kernel

/-- the integer part of the reference's logarithm -/
theorem floor_spec (n : ℕ) (h16 : 16 ≤ n) (hn : n < 2048) :
    ∃ m : ℕ, m < 40 ∧ ⌊Real.log (n / 16) / c8 * 16⌋ = (m : ℤ) ∧ min 31 (16 + m) = bkt n ∧
      0 ≤ Real.log (n / 16) / c8 * 16 := by
  obtain ⟨h15, hlo, hhi⟩ := steps_spec ⟨n, hn⟩ h16
  simp only at h15 hlo hhi
  have hn0 : 0 < n := by omega
  have e : Real.log (n / 16) / c8 * 16 = Real.log (n / 16) * 16 / c8 := by ring
  have hnn : 0 ≤ Real.log (n / 16) / c8 * 16 := by
    have : 0 ≤ Real.log ((n : ℝ) / 16) := Real.log_nonneg (by
      rw [le_div_iff₀ (by norm_num)]; norm_num; exact_mod_cast h16)
    have := c8_pos
    positivity
  have h40 : Real.log (n / 16) / c8 * 16 < 40 := by
    rw [e, div_lt_iff₀ c8_pos]; exact_mod_cast log_hi n 40 hn0 le_rfl (pow_lt ⟨n, hn⟩)
  have hge : (steps n : ℝ) ≤ Real.log (n / 16) / c8 * 16 := by
    rcases hlo with h | h
    · rw [h]; simpa using hnn
    · rw [e, le_div_iff₀ c8_pos]; exact log_lo n _ hn0 h15 h
  refine ⟨⌊Real.log (n / 16) / c8 * 16⌋₊, ?_, (Int.natCast_floor_eq_floor hnn).symm, ?_, hnn⟩
  · exact (Nat.floor_lt hnn).mpr (by exact_mod_cast h40)
  · have hf : steps n ≤ ⌊Real.log (n / 16) / c8 * 16⌋₊ := Nat.le_floor hge
    rw [bkt, if_neg (by omega)]
    rcases hhi with h | h
    · omega
    · have : ⌊Real.log (n / 16) / c8 * 16⌋₊ < steps n + 1 := (Nat.floor_lt hnn).mpr (by
        rw [e, div_lt_iff₀ c8_pos]; exact_mod_cast log_hi n _ hn0 (by omega) h)
      omega

/-- the reference's bucket word for a distance of at least sixteen -/
theorem word (n : ℕ) (h16 : 16 ≤ n) (hn : n < 2048) :
    IntOp.minsi (IntOp.addi 16#32 (Ideal.fptosi 32
      (Ideal.div (Ideal.log (Ideal.div ((n : ℝ) : EReal) ((16 : ℝ) : EReal))) ((c8 : ℝ) : EReal) * ((16 : ℝ) : EReal)))) 31#32
      = BitVec.ofNat 32 (bkt n) := by
  obtain ⟨m, hm, hf, hb, hnn⟩ := floor_spec n h16 hn
  have hn0 : (0 : ℝ) < n := by have : 0 < n := by omega
                               exact_mod_cast this
  have hx : Ideal.div (Ideal.log (Ideal.div ((n : ℝ) : EReal) ((16 : ℝ) : EReal))) ((c8 : ℝ) : EReal) * ((16 : ℝ) : EReal)
      = ((Real.log (n / 16) / c8 * 16 : ℝ) : EReal) := by
    have h1 : Ideal.div ((n : ℝ) : EReal) ((16 : ℝ) : EReal) = (((n : ℝ) / 16 : ℝ) : EReal) := by
      rw [Ideal.div, if_neg (by norm_num), ← EReal.coe_inv, ← EReal.coe_mul]; rfl
    have h2 : Ideal.log ((((n : ℝ) / 16 : ℝ)) : EReal) = ((Real.log (n / 16) : ℝ) : EReal) := by
      show (if ((n : ℝ) / 16) ≤ 0 then (⊥ : EReal) else _) = _
      rw [if_neg (by rw [not_le]; positivity)]
    rw [h1, h2, Ideal.div, if_neg (by exact_mod_cast c8_pos.ne'), ← EReal.coe_inv, ← EReal.coe_mul, ← EReal.coe_mul]
    rfl
  rw [hx, Ideal.fptosi, Ideal.toIntClamped_coe, if_pos hnn, hf, ← hb]
  have : max (-((2 ^ (32 - 1) : ℕ) : ℤ)) (min (((2 ^ (32 - 1) : ℕ) : ℤ) - 1) (m : ℤ)) = (m : ℤ) := by
    norm_num; omega
  rw [this]
  have key : ∀ m : Fin 40, IntOp.minsi (IntOp.addi 16#32 (BitVec.ofInt 32 (m.val : ℤ))) 31#32 = BitVec.ofNat 32 (min 31 (16 + m.val)) := by
    decide +kernel
  exact key ⟨m, hm⟩

end Cert.Bucket
-- ==== Proof.Spec.lean ====
/- The differential attention in plain mathematics: two softmax maps per head under one distance bias and a causal
mask, their weighted difference applied to the values, and a root-mean-square norm over the head. -/
module

public import proofs.«01_k».proof.Proof.Bucket
public import Idealize.ShloMosaic.Lib.ValueIdx
public import Idealize.ShloMosaic.PureOps.Ideal.Laws

@[expose] public section

set_option maxRecDepth 16384

noncomputable section

open Idealize.ShloMosaic
open Cert.Bucket

namespace Cert.Spec

/-- a real matrix of a two-axis array of finite numbers -/
def mat {R C : ℕ} (x : (⟨2, ![R, C]⟩ : Shape).Idx → EReal) (r c : ℕ) : ℝ :=
  if h : r < R ∧ c < C then (x (ix2 ⟨r, h.1⟩ ⟨c, h.2⟩)).toReal else 0

theorem mat_eq {R C : ℕ} (x : (⟨2, ![R, C]⟩ : Shape).Idx → EReal) (hx : ∀ i, ∃ r : ℝ, x i = (r : EReal))
    (j : (⟨2, ![R, C]⟩ : Shape).Idx) : x j = ((mat x (j 0).val (j 1).val : ℝ) : EReal) := by
  obtain ⟨r, hr⟩ := hx j
  have h : (j 0).val < R ∧ (j 1).val < C := ⟨ValueIdx.idx2_lt0 j, ValueIdx.idx2_lt1 j⟩
  rw [mat, dif_pos h]
  have e : j = ix2 ⟨(j 0).val, h.1⟩ ⟨(j 1).val, h.2⟩ := eq_ix2 j
  rw [← e, hr, EReal.toReal_coe]

section
variable (Z RB : ℕ → ℕ → ℝ) (lam : EReal) (g : ℕ → EReal)

/-- the product of query `t` and key `k`, map `mm` of head `h` -/
def qk (b h mm t k : ℕ) : ℝ :=
  ∑ c : Fin 64, Z (b * 2048 + t) (h * 128 + mm * 64 + c.val) * Z (b * 2048 + k) (1024 + h * 128 + mm * 64 + c.val)

/-- the biased score -/
def sc (b h mm t k : ℕ) : ℝ := qk Z b h mm t k * (1 / 8) + RB (bkt (t - k)) h

/-- the unnormalised weight, `0` on a future key -/
def ew (b h mm t k : ℕ) : ℝ := if k ≤ t then Real.exp (sc Z RB b h mm t k) else 0

/-- the softmax's denominator -/
def den (b h mm t : ℕ) : ℝ := ∑ k : Fin 2048, ew Z RB b h mm t k.val

/-- the weighted sum of the values -/
def num (b h mm t d : ℕ) : ℝ := ∑ k : Fin 2048, ew Z RB b h mm t k.val * Z (b * 2048 + k.val) (2048 + h * 128 + d)

/-- the difference of the two maps' outputs -/
def out (b h t d : ℕ) : EReal :=
  ((num Z RB b h 0 t d / den Z RB b h 0 t : ℝ) : EReal)
    - lam * ((num Z RB b h 1 t d / den Z RB b h 1 t : ℝ) : EReal)

/-- the norm, the gain and the fixed factor -/
def res (b h t d : ℕ) : EReal :=
  out Z RB lam b h t d
    * Ideal.rsqrt (Ideal.div (∑ d' : Fin 128, out Z RB lam b h t d'.val * out Z RB lam b h t d'.val)
        (Ideal.ofBits .f32 0x43000000#32) + Ideal.ofBits .f32 0x358637BD#32)
    * g d * Ideal.ofBits .f32 0x3F4CCCCD#32

end

theorem den_pos (Z RB : ℕ → ℕ → ℝ) (b h mm t : ℕ) (ht : t < 2048) : 0 < den Z RB b h mm t := by
  refine Finset.sum_pos' (fun k _ => ?_) ⟨⟨t, ht⟩, Finset.mem_univ _, ?_⟩
  · rw [ew]; split <;> positivity
  · rw [ew, if_pos le_rfl]; positivity

/-- the learned factor, from its four vectors -/
def lamOf (x : (⟨2, ![4, 64]⟩ : Shape).Idx → EReal) : EReal :=
  Ideal.exp (∑ c : Fin 64, x (ix2 ⟨0, by decide⟩ c) * x (ix2 ⟨1, by decide⟩ c))
    - Ideal.exp (∑ c : Fin 64, x (ix2 ⟨2, by decide⟩ c) * x (ix2 ⟨3, by decide⟩ c)) + Ideal.ofBits .f32 0x3E4CCCCD#32

theorem eighth : Ideal.ofBits .f32 0x3E000000#32 = ((1 / 8 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem c8_word : Ideal.ofBits .f32 0x40051592#32 = ((c8 : ℝ) : EReal) := by
  simp [Ideal.ofBits, Ideal.ieee, -EReal.coe_mul, c8]; norm_num

theorem neg_inf : Ideal.ofBits .f32 0xFF800000#32 = ⊥ := by
  simp [Ideal.ofBits, Ideal.ieee]

theorem fifth : ∃ r : ℝ, Ideal.ofBits .f32 0x3E4CCCCD#32 = (r : EReal) := by
  refine ⟨13421773 / 67108864, ?_⟩
  simp [Ideal.ofBits, Ideal.ieee, -EReal.coe_mul]; norm_num

theorem lamOf_real (x : (⟨2, ![4, 64]⟩ : Shape).Idx → EReal) (hx : ∀ i, ∃ r : ℝ, x i = (r : EReal)) :
    ∃ r : ℝ, lamOf x = (r : EReal) := by
  obtain ⟨f, hf⟩ := fifth
  choose y hy using hx
  refine ⟨Real.exp (∑ c : Fin 64, y (ix2 ⟨0, by decide⟩ c) * y (ix2 ⟨1, by decide⟩ c))
    - Real.exp (∑ c : Fin 64, y (ix2 ⟨2, by decide⟩ c) * y (ix2 ⟨3, by decide⟩ c)) + f, ?_⟩
  rw [lamOf, hf]
  simp only [hy]
  simp only [← EReal.coe_mul, ← Cert.Online.coe_sum, Ideal.exp_coe, ← EReal.coe_sub, ← EReal.coe_add]

/-- one row of a masked softmax, as the plain formula computes it -/
theorem softmax_row (s e : Fin 2048 → ℝ) (x : Fin 2048 → EReal) (t : Fin 2048)
    (hx : ∀ k, x k = if k.val ≤ t.val then (s k : EReal) else ⊥)
    (he : ∀ k, e k = if k.val ≤ t.val then Real.exp (s k) else 0)
    (M : EReal) (hM : M = max ⊥ (Finset.univ.fold max ⊥ x)) (k : Fin 2048) :
    Ideal.div (Ideal.exp (x k - M)) (0 + ∑ j, Ideal.exp (x j - M)) = ((e k / ∑ j, e j : ℝ) : EReal) := by
  obtain ⟨μ, hμ⟩ := Cert.Online.max_real Finset.univ x
    (fun j => by rw [hx]; split <;> simp) ⊥ (by simp) (Or.inr ⟨t, Finset.mem_univ _, by rw [hx, if_pos le_rfl]; simp⟩)
  rw [hM, hμ]
  have h1 : ∀ j, Ideal.exp (x j - (μ : EReal)) = ((e j * Real.exp (-μ) : ℝ) : EReal) := by
    intro j
    rw [hx, he]
    split
    · rw [← EReal.coe_sub, Ideal.exp_coe, ← Real.exp_add, sub_eq_add_neg]
    · rw [EReal.bot_sub, zero_mul]; simp
  simp only [h1, zero_add]
  rw [← Cert.Online.coe_sum, ← Finset.sum_mul]
  have hpos : 0 < ∑ j, e j := by
    refine Finset.sum_pos' (fun j _ => ?_) ⟨t, Finset.mem_univ _, ?_⟩
    · rw [he]; split <;> positivity
    · rw [he, if_pos le_rfl]; positivity
  have hne : (∑ j, e j) * Real.exp (-μ) ≠ 0 := (mul_pos hpos (Real.exp_pos _)).ne'
  rw [Ideal.div, if_neg (by exact_mod_cast hne), ← EReal.coe_inv, ← EReal.coe_mul]
  congr 1
  have := Real.exp_pos (-μ)
  field_simp

/-- the difference of the two maps may be taken before or after the values -/
theorem diff_sum (p q v : Fin 2048 → ℝ) (lam : ℝ) :
    ∑ k, (v k : EReal) * ((p k : EReal) - (lam : EReal) * (q k : EReal))
      = ((∑ k, p k * v k : ℝ) : EReal) - (lam : EReal) * ((∑ k, q k * v k : ℝ) : EReal) := by
  simp only [← EReal.coe_mul, ← EReal.coe_sub, ← Cert.Online.coe_sum]
  congr 1
  rw [Finset.mul_sum, ← Finset.sum_sub_distrib]
  exact Finset.sum_congr rfl fun k _ => by ring

end Cert.Spec
-- ==== Proof.Bias.lean ====
/- What a grid step of the bias kernel leaves in its output block: each word's bias, less the last
   bucket's and in base two, or the mask. -/
module

public import proofs.«01_k».proof.Proof.Spec
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Bias

open Idealize.ShloMosaic
open Cert.KernelIdeal
open Cert.KernelIdeal.Facts₀
open Cert.KernelIdeal.Gen (kernelRun0_A out0_A_2 k0_pay1 k0_pay2 k0_pay3 k0_pay4 k0_pay5 k0_pay6 k0_pay7 k0_pay8 k0_pay9 k0_pay10 k0_pay11 k0_pay12 k0_pay13)

/-- One bucket's bias, less the last bucket's, in base two. -/
def dif (f t : EReal) : EReal := (t - f) * (((Real.log 2)⁻¹ : ℝ) : EReal)

/-- One step of the selection by buckets. -/
def stp (w b : BitVec 32) (x acc : EReal) : EReal := Scalar.select (IntOp.cmpi .eq w b) x acc

/-- The whole selection of one word. -/
def sel (w : BitVec 32) (f : EReal) (t : ℕ → EReal) : EReal :=
  Scalar.select (IntOp.cmpi .slt w 0#32) ⊥ (stp w 30#32 (dif f (t 30)) (stp w 29#32 (dif f (t 29)) (stp w 28#32 (dif f (t 28)) (stp w 27#32 (dif f (t 27)) (stp w 26#32 (dif f (t 26)) (stp w 25#32 (dif f (t 25)) (stp w 24#32 (dif f (t 24)) (stp w 23#32 (dif f (t 23)) (stp w 22#32 (dif f (t 22)) (stp w 21#32 (dif f (t 21)) (stp w 20#32 (dif f (t 20)) (stp w 19#32 (dif f (t 19)) (stp w 18#32 (dif f (t 18)) (stp w 17#32 (dif f (t 17)) (stp w 16#32 (dif f (t 16)) (stp w 15#32 (dif f (t 15)) (stp w 14#32 (dif f (t 14)) (stp w 13#32 (dif f (t 13)) (stp w 12#32 (dif f (t 12)) (stp w 11#32 (dif f (t 11)) (stp w 10#32 (dif f (t 10)) (stp w 9#32 (dif f (t 9)) (stp w 8#32 (dif f (t 8)) (stp w 7#32 (dif f (t 7)) (stp w 6#32 (dif f (t 6)) (stp w 5#32 (dif f (t 5)) (stp w 4#32 (dif f (t 4)) (stp w 3#32 (dif f (t 3)) (stp w 2#32 (dif f (t 2)) (stp w 1#32 (dif f (t 1)) (stp w 0#32 (dif f (t 0)) (0))))))))))))))))))))))))))))))))

/-- A bucket's word selects its bias. -/
theorem sel_near (n : ℕ) (h : n < 31) (f : EReal) (t : ℕ → EReal) : sel (BitVec.ofNat 32 n) f t = dif f (t n) := by
  interval_cases n <;> rfl

theorem sel_last (f : EReal) (t : ℕ → EReal) : sel (BitVec.ofNat 32 31) f t = 0 := rfl

theorem sel_mask (f : EReal) (t : ℕ → EReal) : sel 4294967295#32 f t = ⊥ := rfl

/-- The bias kernel's payload, from the words, the last bucket's bias and the other buckets'. -/
def chain (v0 : Vec Ideal S512x256 .i32) (f : EReal) (t : ℕ → EReal) : FVec Ideal S512x256 .f32 :=
  k0_pay13 (F := Ideal) (k0_pay2 v0) f
    (k0_pay11 (k0_pay2 v0) f
      (k0_pay8 (k0_pay2 v0) f
        (k0_pay6 (k0_pay2 v0) f
          (k0_pay5 (k0_pay2 v0) f (k0_pay3 v0 f (t 0) (t 1) (t 2) (t 3)) (k0_pay4 v0) (t 4) (t 5) (t 6) (t 7) (t 8) (t 9))
          (t 10) (t 11) (t 12) (t 13) (t 14))
        (k0_pay7 (k0_pay2 v0)) (t 15) (t 16) (t 17) (t 18) (t 19))
      (k0_pay9 (k0_pay2 v0)) (k0_pay10 f (t 20)) (t 21) (t 22) (t 23) (t 24) (t 25))
    (k0_pay12 (k0_pay2 v0)) (t 26) (t 27) (t 28) (t 29) (t 30)

theorem chain_apply (v0 : Vec Ideal S512x256 .i32) (f : EReal) (t : ℕ → EReal) (r : Fin 512) (k : Fin 256) :
    chain v0 f t (ix2 r k) = sel (v0 (ix2 r k)) f t := by
  unfold chain sel
  pointwise [k0_pay2, k0_pay3, k0_pay4, k0_pay5, k0_pay6, k0_pay7, k0_pay8, k0_pay9, k0_pay10, k0_pay11, k0_pay12, k0_pay13]
  rfl

section
variable (c : Dev nD) (i : grid0.Coords) (arg1 : Memref sig .tc .smem S32x8 .f32) (harg1 : arg1.IsWhole)
  (arg2 : Memref sig .tc .vmem S512x256 .i32) (harg2 : arg2.IsWhole) (arg3 : Memref sig .tc .vmem S1x512x256 .f32)
  (harg3 : arg3.IsWhole) (x0 : Vec Ideal S32x8 .f32) (x1 : Vec Ideal S512x256 .i32)

/-- One scalar read of the table. -/
def rd {off : Fin 2 → ℕ} (h : ∀ a, off a + S1x1.size a ≤ S32x8.size a) : EReal :=
  View.readAt (Elt Ideal) arg1.view (Rect.unit (s := S32x8) off S1x1.size h).toLoadRect (harg1.unread x0) (Shape.Idx.first numel1_S1x1.ge)

theorem rd_apply {off : Fin 2 → ℕ} (h : ∀ a, off a + S1x1.size a ≤ S32x8.size a) (b : Fin 32) (hd : Fin 8)
    (h0 : off 0 = b.val) (h1 : off 1 = hd.val) : rd arg1 harg1 x0 h = x0 (ix2 b hd) := by
  unfold rd
  rw [View.readAt_eq_ld, harg1.read_unread]
  refine View.ld_unit_apply_of _ _ _ _ _ _ (fun a => ?_)
  match a with
  | 0 => exact (by rw [h0]; rfl : b.val = off 0 + 0)
  | 1 => exact (by rw [h1]; rfl : hd.val = off 1 + 0)

/-- The table's reads by bucket. -/
def tab : ℕ → EReal := fun n => match n with
  | 0 => rd arg1 harg1 x0 (k0_off2_inb i)
  | 1 => rd arg1 harg1 x0 (k0_off3_inb i)
  | 2 => rd arg1 harg1 x0 (k0_off4_inb i)
  | 3 => rd arg1 harg1 x0 (k0_off5_inb i)
  | 4 => rd arg1 harg1 x0 (k0_off6_inb i)
  | 5 => rd arg1 harg1 x0 (k0_off7_inb i)
  | 6 => rd arg1 harg1 x0 (k0_off8_inb i)
  | 7 => rd arg1 harg1 x0 (k0_off9_inb i)
  | 8 => rd arg1 harg1 x0 (k0_off10_inb i)
  | 9 => rd arg1 harg1 x0 (k0_off11_inb i)
  | 10 => rd arg1 harg1 x0 (k0_off12_inb i)
  | 11 => rd arg1 harg1 x0 (k0_off13_inb i)
  | 12 => rd arg1 harg1 x0 (k0_off14_inb i)
  | 13 => rd arg1 harg1 x0 (k0_off15_inb i)
  | 14 => rd arg1 harg1 x0 (k0_off16_inb i)
  | 15 => rd arg1 harg1 x0 (k0_off17_inb i)
  | 16 => rd arg1 harg1 x0 (k0_off18_inb i)
  | 17 => rd arg1 harg1 x0 (k0_off19_inb i)
  | 18 => rd arg1 harg1 x0 (k0_off20_inb i)
  | 19 => rd arg1 harg1 x0 (k0_off21_inb i)
  | 20 => rd arg1 harg1 x0 (k0_off22_inb i)
  | 21 => rd arg1 harg1 x0 (k0_off23_inb i)
  | 22 => rd arg1 harg1 x0 (k0_off24_inb i)
  | 23 => rd arg1 harg1 x0 (k0_off25_inb i)
  | 24 => rd arg1 harg1 x0 (k0_off26_inb i)
  | 25 => rd arg1 harg1 x0 (k0_off27_inb i)
  | 26 => rd arg1 harg1 x0 (k0_off28_inb i)
  | 27 => rd arg1 harg1 x0 (k0_off29_inb i)
  | 28 => rd arg1 harg1 x0 (k0_off30_inb i)
  | 29 => rd arg1 harg1 x0 (k0_off31_inb i)
  | 30 => rd arg1 harg1 x0 (k0_off32_inb i)
  | _ => 0

/-- The words' load. -/
def wd : Vec Ideal S512x256 .i32 :=
  View.readAt (Elt Ideal) arg2.view (Rect.unit (s := S512x256) ![0, 0] S512x256.size inb_S512x256_S512x256_0_0).toLoadRect (harg2.unread x1)

theorem wd_eq : wd arg2 harg2 x1 = x1 := by
  funext j
  unfold wd
  rw [View.readAt_eq_ld, harg2.read_unread]
  exact congrFun (View.ld_unit_lit _ x1 (by decide)) j

theorem pieces : (kernelRun0_A (F := Ideal) c i arg1 harg1 arg2 harg2 arg3 harg3 x0 x1).1 =
    [⟨Rect.unit (s := S1x512x256) ![0, 0, 0] S1x512x256.size inb_S1x512x256_S1x512x256_0_0_0,
      k0_pay1 (chain (wd arg2 harg2 x1) (rd arg1 harg1 x0 (k0_off1_inb i)) (tab i arg1 harg1 x0))⟩] := rfl

theorem at_i : (Scalar.indexCast (BitVec.ofNat 32 (i 0).val)).toNat = (i 0).val := by
  have h : (i 0).val < 8 := (i 0).isLt
  show ((BitVec.ofNat 32 (i 0).val)).toNat = _
  rw [BitVec.toNat_ofNat]; omega

theorem far_apply (hd : Fin 8) (hh : (i 0).val = hd.val) : rd arg1 harg1 x0 (k0_off1_inb i) = x0 (ix2 31 hd) :=
  rd_apply _ _ _ _ _ _ rfl ((at_i i).trans hh)

theorem tab_apply (hd : Fin 8) (hh : (i 0).val = hd.val) (n : ℕ) (h : n < 31) :
    tab i arg1 harg1 x0 n = x0 (ix2 ⟨n, by omega⟩ hd) := by
  interval_cases n <;> exact rd_apply _ _ _ _ _ _ rfl ((at_i i).trans hh)

theorem pay_apply (v : FVec Ideal S512x256 .f32) (r : Fin 512) (k : Fin 256) :
    k0_pay1 (F := Ideal) v (ix3 0 r k) = v (ix2 r k) := by
  pointwise [k0_pay1]

/-- What a grid step leaves in the output's staging buffer. -/
theorem out_apply (hd : Fin 8) (hh : (i 0).val = hd.val) (r : Fin 512) (k : Fin 256) :
    out0_A_2 c i arg1 harg1 arg2 harg2 arg3 harg3 x0 x1 (ix3 0 r k) =
      sel (x1 (ix2 r k)) (x0 (ix2 31 hd)) (tab i arg1 harg1 x0) := by
  refine (View.read_writes_junk_apply_eq_canon _ _ _).trans ?_
  rw [pieces]
  refine (congrFun (View.canon_unit_zero (by decide) _ _) _).trans ?_
  refine (pay_apply _ r k).trans ?_
  rw [chain_apply, wd_eq, far_apply i arg1 harg1 x0 hd hh]

variable (RB : ℕ → ℕ → ℝ)

/-- A word holding a bucket becomes that bucket's bias. -/
theorem out_word (hd : Fin 8) (hh : (i 0).val = hd.val) (hx : ∀ b : Fin 32, x0 (ix2 b hd) = ((RB b.val hd.val : ℝ) : EReal))
    (r : Fin 512) (k : Fin 256) (n : ℕ) (hn : n < 32) (hw : x1 (ix2 r k) = BitVec.ofNat 32 n) :
    out0_A_2 c i arg1 harg1 arg2 harg2 arg3 harg3 x0 x1 (ix3 0 r k) =
      (((RB n hd.val - RB 31 hd.val) * (Real.log 2)⁻¹ : ℝ) : EReal) := by
  rw [out_apply c i arg1 harg1 arg2 harg2 arg3 harg3 x0 x1 hd hh, hw]
  by_cases h : n < 31
  · rw [sel_near n h, tab_apply i arg1 harg1 x0 hd hh n h, hx, hx]
    unfold dif
    rw [← EReal.coe_sub, ← EReal.coe_mul]
    rfl
  · obtain rfl : n = 31 := by omega
    rw [sel_last, sub_self, zero_mul, EReal.coe_zero]

/-- A word holding −1 becomes the mask. -/
theorem out_mask (hd : Fin 8) (hh : (i 0).val = hd.val) (r : Fin 512) (k : Fin 256) (hw : x1 (ix2 r k) = 4294967295#32) :
    out0_A_2 c i arg1 harg1 arg2 harg2 arg3 harg3 x0 x1 (ix3 0 r k) = ⊥ := by
  rw [out_apply c i arg1 harg1 arg2 harg2 arg3 harg3 x0 x1 hd hh, hw, sel_mask]

end

end Cert.Bias
-- ==== Proof.Words.lean ====
/- The bucket words the host prepares for the bias kernel: each distance's bucket, or −1 above the diagonal. -/
module

public import proofs.«01_k».proof.Proof.Bias
public import proofs.«01_k».proof.Proof.Bucket

@[expose] public section

set_option maxRecDepth 16384

noncomputable section

namespace Cert.Words

open Idealize.ShloMosaic
open Cert.KernelIdeal
open Cert.KernelIdeal.Gen (V7)
open Cert.KernelIdeal.Facts₀
open Cert.Bucket

/-- The rows' and the columns' numbers, and their differences on and below the diagonal tile. -/
def rows : IVec S256x1 32 := broadcastInDim S256x1 ![0] bcast_S256_S256x1_0 (iotaInDim S256 32 0)
def cols : IVec S256x256 32 :=
  broadcastInDim S256x256 ![0, 1] bcast_S1x256_S256x256_0_1 (broadcastInDim S1x256 ![1] bcast_S256_S1x256_1 (iotaInDim S256 32 0))
def onr : IVec S256x256 32 := broadcastInDim S256x256 ![0, 1] bcast_S256x1_S256x256_0_1 rows
def don : IVec S256x256 32 := subi onr cols
def dbe : IVec S256x256 32 :=
  subi (broadcastInDim S256x256 ![0, 1] bcast_S256x1_S256x256_0_1 (addi (broadcastInDim S256x1 ![] bcast_S_S256x1 (constantI S_ 32 256#32)) rows)) cols

/-- A word everywhere. -/
def cst (w : BitVec 32) : IVec S256x256 32 := broadcastInDim S256x256 ![] bcast_S_S256x256 (constantI S_ 32 w)

/-- A distance held between 0 and 128. -/
def clip (d : IVec S256x256 32) : IVec S256x256 32 := minsi (cst 128#32) (maxsi (cst 0#32) d)

/-- The start index of a clipped word, wrapped if negative. -/
def st (x : BitVec 32) : BitVec 32 := Scalar.select (IntOp.cmpi .slt x 0#32) (x + 129#32) x

/-- The table of buckets at a start index. -/
def entry (x : BitVec 32) : BitVec 32 := lit0 ⟨min x.toInt.toNat 128, by omega⟩

/-- The look-up's start indices. -/
def start (d : IVec S256x256 32) : IVec S256x256 32 :=
  select (cmpi .slt (clip d) (cst 0#32)) (addi (clip d) (cst 129#32)) (clip d)

/-- The look-up of a distance's bucket. -/
def look (d : IVec S256x256 32) : IVec S256x256 32 :=
  Host.gather gather_S129_S256x256x1_S256x256_n_0_n_n_0_2_1 (fun i => lit0 (S129.rowMajor i))
    (broadcastInDim S256x256x1 ![0, 1] bcast_S256x256_S256x256x1_0_1 (start d))

/-- The diagonal tile's words. -/
def diag : IVec S256x256 32 := select (cmpi .sge onr cols) (look don) (cst 4294967295#32)

/-- Both tiles' words, one above the other. -/
def words : IVec S512x256 32 :=
  shapeCast S512x256 (concatenate S2x256x256 0
    [⟨S1x256x256, broadcastInDim S1x256x256 ![1, 2] bcast_S256x256_S1x256x256_1_2 diag⟩,
     ⟨S1x256x256, broadcastInDim S1x256x256 ![1, 2] bcast_S256x256_S1x256x256_1_2 (look dbe)⟩]
    concatenates_S1x256x256_S1x256x256_S2x256x256_d0) shapeCasts_S2x256x256_S512x256

theorem arr (m : (ℓ : Loc nD τ sig) → Buf (Elt Ideal) ℓ) (ρ : Dev nD → PrngReg) (c : Dev nD) :
    V7 (F := Ideal) m ρ c main_v35 = words := by
  show StableHlo.after Gen.hostOps0_6 (Gen.W6 m ρ c) (Proc.devRef .tc main_v35) = _
  entry_read
  set_option backward.isDefEq.respectTransparency false in
  simp only [StableHlo.TRef.ofBuf, StableHlo.TRef.toBuf, cast_eq, id_eq]
  unfold words diag look start clip cst dbe don onr cols rows
  rfl

theorem start_apply (d : IVec S256x256 32) (r k : Fin 256) :
    start d (ix2 r k) = st (IntOp.minsi 128#32 (IntOp.maxsi 0#32 (d (ix2 r k)))) := by
  pointwise [start, clip, cst]
  rfl

theorem onr_apply (r k : Fin 256) : onr (ix2 r k) = BitVec.ofNat 32 r.val := by
  pointwise [onr, rows]

theorem cols_apply (r k : Fin 256) : cols (ix2 r k) = BitVec.ofNat 32 k.val := by
  pointwise [cols]

theorem dbe_apply (r k : Fin 256) : dbe (ix2 r k) = 256#32 + BitVec.ofNat 32 r.val - BitVec.ofNat 32 k.val := by
  pointwise [dbe, rows, cols]
  rfl

theorem lut_at (a : Fin 129) : lit0 (S129.rowMajor (ValueIdx.ix1 a)) = lit0 a :=
  congrArg lit0 (Fin.ext (Shape.rowMajor_val_one _))

theorem look_apply (d : IVec S256x256 32) (r k : Fin 256) (x : BitVec 32) (hx : start d (ix2 r k) = x) :
    look d (ix2 r k) = entry x := by
  unfold look
  refine (ValueIdx.gather_take_apply (by decide) gather_S129_S256x256x1_S256x256_n_0_n_n_0_2_1.wf _ _ _).trans ?_
  have e : broadcastInDim S256x256x1 ![0, 1] bcast_S256x256_S256x256x1_0_1 (start d) (ValueIdx.takeIdx (ix2 r k)) = x := by
    rw [← hx]
    refine broadcastInDim_apply _ _ _ _ (ix2 r k) (fun b => ?_)
    match b with
    | 0 => rfl
    | 1 => rfl
  refine (lut_at _).trans (congrArg lit0 (Fin.ext ?_))
  show min (broadcastInDim S256x256x1 ![0, 1] bcast_S256x256_S256x256x1_0_1 (start d) (ValueIdx.takeIdx (ix2 r k))).toInt.toNat (129 - 1) = _
  rw [e]

theorem lut : ∀ n : Fin 512, entry (st (IntOp.minsi 128#32 (IntOp.maxsi 0#32 (BitVec.ofNat 32 n.val)))) = BitVec.ofNat 32 (bkt n.val) := by
  decide +kernel

/-- A distance's bucket, looked up. -/
theorem look_bkt (d : IVec S256x256 32) (r k : Fin 256) (n : Fin 512) (hd : d (ix2 r k) = BitVec.ofNat 32 n.val) :
    look d (ix2 r k) = BitVec.ofNat 32 (bkt n.val) :=
  by
  have h1 := start_apply d r k
  rw [hd] at h1
  exact (look_apply d r k _ h1).trans (lut n)

theorem words_on (r k : Fin 256) : words (ix2 ⟨r.val, by omega⟩ k) = diag (ix2 r k) := by
  have hr := r.isLt
  pointwise [words]
  have e : (⟨r.val % 256, Nat.mod_lt _ (by decide)⟩ : Fin 256) = r := Fin.ext (Nat.mod_eq_of_lt hr)
  exact (dif_pos (show r.val / 256 < 1 by omega)).trans (congrArg (fun z : Fin 256 => diag (ix2 z k)) e)

theorem words_be (r k : Fin 256) : words (ix2 ⟨256 + r.val, by omega⟩ k) = look dbe (ix2 r k) := by
  have hr := r.isLt
  pointwise [words]
  exact dif_neg (show ¬(256 + r.val) / 256 < 1 by omega)

theorem sge_word (a b : ℕ) (ha : a < 256) (hb : b < 256) :
    IntOp.cmpi .sge (BitVec.ofNat 32 a) (BitVec.ofNat 32 b) = if b ≤ a then 1#1 else 0#1 := by
  have e (n : ℕ) (h : n < 256) : (BitVec.ofNat 32 n).toInt = n := by
    rw [BitVec.toInt_eq_toNat_of_lt (by rw [BitVec.toNat_ofNat]; omega), BitVec.toNat_ofNat]
    omega
  show BitVec.ofBool ((BitVec.ofNat 32 b).sle (BitVec.ofNat 32 a)) = _
  unfold BitVec.sle
  rw [e a ha, e b hb]
  by_cases h : b ≤ a
  · rw [if_pos h, decide_eq_true (by omega)]; rfl
  · rw [if_neg h, decide_eq_false (by omega)]; rfl

theorem sub_word (a b : ℕ) (h : b ≤ a) (ha : a < 512) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-- The tile on the diagonal, at and below it. -/
theorem on_word (r k : Fin 256) (h : k.val ≤ r.val) : words (ix2 ⟨r.val, by omega⟩ k) = BitVec.ofNat 32 (bkt (r.val - k.val)) := by
  have hr := r.isLt
  have hk := k.isLt
  rw [words_on]
  pointwise [diag]
  rw [onr_apply, cols_apply]
  have hc : IntOp.cmpi .sge (BitVec.ofNat 32 r.val) (BitVec.ofNat 32 k.val) = 1#1 :=
    (sge_word _ _ hr hk).trans (if_pos h)
  rw [hc]
  refine (if_pos rfl).trans (look_bkt don r k ⟨r.val - k.val, by omega⟩ ?_)
  pointwise [don]
  rw [onr_apply, cols_apply]
  exact sub_word _ _ h (by omega)

/-- The tile on the diagonal, above it. -/
theorem on_mask (r k : Fin 256) (h : ¬k.val ≤ r.val) : words (ix2 ⟨r.val, by omega⟩ k) = 4294967295#32 := by
  have hr := r.isLt
  have hk := k.isLt
  rw [words_on]
  pointwise [diag, cst]
  rw [onr_apply, cols_apply]
  have hc : IntOp.cmpi .sge (BitVec.ofNat 32 r.val) (BitVec.ofNat 32 k.val) = 0#1 :=
    (sge_word _ _ hr hk).trans (if_neg h)
  rw [hc]
  rfl

/-- The tile below the diagonal. -/
theorem be_word (r k : Fin 256) : words (ix2 ⟨256 + r.val, by omega⟩ k) = BitVec.ofNat 32 (bkt (256 + r.val - k.val)) := by
  have hr := r.isLt
  have hk := k.isLt
  rw [words_be]
  refine look_bkt dbe r k ⟨256 + r.val - k.val, by omega⟩ ((dbe_apply r k).trans ?_)
  rw [← sub_word (256 + r.val) k.val (by omega) (by omega)]
  congr 1
  apply BitVec.eq_of_toNat_eq
  rw [BitVec.toNat_add, BitVec.toNat_ofNat, BitVec.toNat_ofNat, BitVec.toNat_ofNat]
  omega

/-- Both tiles at once: a row's distance to a column. -/
theorem word_ge (r : Fin 512) (k : Fin 256) (h : k.val ≤ r.val) : words (ix2 r k) = BitVec.ofNat 32 (bkt (r.val - k.val)) := by
  by_cases h0 : r.val < 256
  · exact on_word ⟨r.val, h0⟩ k h
  · have e : r = ⟨256 + (r.val - 256), by omega⟩ := Fin.ext (show r.val = 256 + (r.val - 256) by omega)
    rw [e]
    exact be_word ⟨r.val - 256, by omega⟩ k

theorem word_lt (r : Fin 512) (k : Fin 256) (h : ¬k.val ≤ r.val) : words (ix2 r k) = 4294967295#32 :=
  on_mask ⟨r.val, by omega⟩ k h

end Cert.Words
-- ==== Proof.Region.lean ====
/- The bias array the first kernel leaves: all eight heads, both tiles. -/
module

public import proofs.«01_k».proof.Proof.Words

@[expose] public section

set_option maxRecDepth 16384

noncomputable section

namespace Cert.Region

open Idealize.ShloMosaic
open Cert.KernelIdeal
open Cert.KernelIdeal.Gen (V7)
open Cert.Bucket Cert.Words

variable (m : (ℓ : Loc nD τ sig) → Buf (Elt Ideal) ℓ) (ρ : Dev nD → PrngReg)

/-- The bias of a row and a column, less the farthest bucket's and in base two; the mask above the diagonal. -/
def bias (RB : ℕ → ℕ → ℝ) : S8x512x256.Idx → EReal := fun j =>
  if (j 2).val ≤ (j 1).val then
    (((RB (bkt ((j 1).val - (j 2).val)) (j 0).val - RB 31 (j 0).val) * (Real.log 2)⁻¹ : ℝ) : EReal)
  else ⊥

theorem idx : ∀ t : Fin cfg0.N, win0_0.index t = ![0, 0] ∧ win0_1.index t = ![0, 0] ∧
    win0_2.index t = ![t.val, 0, 0] ∧ (grid0.coords t 0).val = t.val ∧ t.val < 8 :=
  (by decide +kernel : ∀ t : Fin grid0.N, _)

theorem words_blk (c : Dev nD) (t : Fin cfg0.N) (r : Fin 512) (k : Fin 256) :
    (show IVec S512x256 32 from Gen.iblk0 (F := Ideal) (V7 m ρ) c 1 t) (ix2 r k) = words (ix2 r k) := by
  rw [← arr m ρ c]
  blk_ext [Gen.iblk0, idx t]

theorem table_blk (c : Dev nD) (t : Fin cfg0.N) (r : Fin 32) (k : Fin 8) :
    (show FVec Ideal S32x8 .f32 from Gen.iblk0 (F := Ideal) (V7 m ρ) c 0 t) (ix2 r k) = m ((c.tc : Thread nD τ).loc main_arg3) (ix2 r k) := by
  rw [← Gen.W7_args m ρ c main_arg3 (by decide)]
  blk_ext [Gen.iblk0, idx t]

/-- What the step of one head leaves. -/
theorem point0 (c : Dev nD) (RB : ℕ → ℕ → ℝ)
    (hRB : ∀ j : S32x8.Idx, m ((c.tc : Thread nD τ).loc main_arg3) j = ((RB (j 0).val (j 1).val : ℝ) : EReal))
    (t : Fin cfg0.N) (ht : t.val < 8) (r : Fin 512) (k : Fin 256) :
    Gen.outsAt0 (F := Ideal) (V7 m ρ) c t (ix3 0 r k) = bias RB (ix3 ⟨t.val, ht⟩ r k) := by
  have hi : (grid0.coords t 0).val = (⟨t.val, ht⟩ : Fin 8).val := (idx t).2.2.2.1
  by_cases h : k.val ≤ r.val
  · have hb : r.val - k.val < 2048 := by omega
    exact (Cert.Bias.out_word c (grid0.coords t) _ _ _ _ _ _ _ _ RB ⟨t.val, ht⟩ hi
      (fun b => (table_blk m ρ c t b ⟨t.val, ht⟩).trans (hRB _)) r k (bkt (r.val - k.val)) (bkt_lt ⟨_, hb⟩)
      ((words_blk m ρ c t r k).trans (word_ge r k h))).trans (if_pos h).symm
  · exact (Cert.Bias.out_mask c (grid0.coords t) _ _ _ _ _ _ _ _ ⟨t.val, ht⟩ hi r k
      ((words_blk m ρ c t r k).trans (word_lt r k h))).trans (if_neg h).symm

/-- The first kernel's array. -/
theorem arr0 (c : Dev nD) (RB : ℕ → ℕ → ℝ)
    (hRB : ∀ j : S32x8.Idx, m ((c.tc : Thread nD τ).loc main_arg3) j = ((RB (j 0).val (j 1).val : ℝ) : EReal)) :
    (Gen.dat0 (F := Ideal) (V7 m ρ) c).arrAt 2 cfg0.N = bias RB := by
  refine (Gen.dat0 (F := Ideal) (V7 m ρ) c).arrAt_eq_of_covers 2 (bias RB) (by decide +kernel) fun t hf y => ?_
  blk_simp
  rw [Gen.after0_2]
  have ht : t.val < 8 := (idx t).2.2.2.2
  have hy : (show S1x512x256.Idx from y) = ix3 0 (y 1) (y 2) := by
    refine (eq_ix3 (show S1x512x256.Idx from y)).trans ?_
    exact congrArg (fun z : Fin 1 => (ix3 z (y 1) (y 2) : S1x512x256.Idx)) (Subsingleton.elim _ _)
  refine (congrArg (Gen.outsAt0 (F := Ideal) (V7 m ρ) c t) hy).trans
    ((point0 m ρ c RB hRB t ht (y 1) (y 2)).trans (congrArg (bias RB) ?_))
  blk_ext [idx t]

end Cert.Region
-- ==== Proof.Tile.lean ====
/- One tile of keys against one block of queries: what a tile of the attention kernel does to the
   running maximum, the running normaliser and the running weighted sum. -/
module

public import proofs.«01_k».proof.Proof.Gen.KernelIdeal.Skeleton
public import proofs.«01_k».proof.Proof.Spec
public import Idealize.ShloMosaic.Lib.Pipeline.ValueKit

@[expose] public section

set_option maxRecDepth 16384

noncomputable section

namespace Cert.Tile

open Idealize.ShloMosaic Idealize.SL.Sem
open Cert.KernelIdeal Cert.KernelIdeal.Facts₀ Cert.Online

/-- One head's slab of a running value: both maps' 256 query rows, over 128 lanes. -/
abbrev Slab := FVec Ideal S1x512x128 .f32

/-- The scores of a tile without a bias. -/
def scF (q : FVec Ideal S512x128 .bf16) (kt : Vec Ideal S256x128 .f32) : FVec Ideal S512x256 .f32 :=
  matmul dot_S512x128_S256x128_S512x256_1_1_0_0_n_n none q (truncf .bf16 kt bitsLt_bf16_f32)
    (constant S512x256 .f32 0x00000000#32)

/-- The scores of a tile with its bias, the same for both maps. -/
def scB (q : FVec Ideal S512x128 .bf16) (kt : Vec Ideal S256x128 .f32) (b : Vec Ideal S1x1x256x256 .f32) :
    FVec Ideal S512x256 .f32 :=
  shapeCast S512x256
    (addf (shapeCast S2x256x256 (scF q kt) shapeCasts_S512x256_S2x256x256)
      (broadcastTo S2x256x256
        (shapeCast S1x256x256 (shapeCast S256x256 b shapeCasts_S1x1x256x256_S256x256)
          shapeCasts_S256x256_S1x256x256) broadcasts_S1x256x256_S2x256x256))
    shapeCasts_S2x256x256_S512x256

/-- The new running maximum. -/
def nxt (s : FVec Ideal S512x256 .f32) (m : Slab) : FVec Ideal S512x128 .f32 :=
  maximumf (shapeCast S512x128 m shapeCasts_S1x512x128_S512x128)
    (broadcastTo S512x128
      (shapeCast S512x1
        (multiReduction .maximumf [1] S512 s 0xFF800000#32 reduces_S512x256_S512 (.inl rfl) rfl)
        shapeCasts_S512_S512x1) broadcasts_S512x1_S512x128)

/-- The factor that carries the old sums over to the new maximum. -/
def fac (s : FVec Ideal S512x256 .f32) (m : Slab) : FVec Ideal S512x128 .f32 :=
  exp2 (subf (shapeCast S512x128 m shapeCasts_S1x512x128_S512x128) (nxt s m))

/-- The weights times [values | ones]: the tile's share of the weighted sum and of the normaliser. -/
def both (s : FVec Ideal S512x256 .f32) (vt : Vec Ideal S256x128 .f32) (m : Slab) : FVec Ideal S512x256 .f32 :=
  matmul dot_S512x256_S256x256_S512x256_1_0_0_1_n_n none
    (truncf .bf16
      (exp2 (subf s
        (concatenate S512x256 1 [⟨S512x128, nxt s m⟩, ⟨S512x128, nxt s m⟩]
          concatenates_S512x128_S512x128_S512x256_d1))) bitsLt_bf16_f32)
    (concatenate S256x256 1
      [⟨S256x128, truncf .bf16 vt bitsLt_bf16_f32⟩,
       ⟨S256x128, broadcast S256x128 (Scalar.ofBits (F := Ideal) .bf16 0x3F80#16)⟩]
      concatenates_S256x128_S256x128_S256x256_d1)
    (constant S512x256 .f32 0x00000000#32)

/-- The stored running maximum. -/
def stM (s : FVec Ideal S512x256 .f32) (m : Slab) : Slab :=
  shapeCast S1x512x128 (nxt s m) shapeCasts_S512x128_S1x512x128

/-- The stored running normaliser. -/
def stL (s : FVec Ideal S512x256 .f32) (vt : Vec Ideal S256x128 .f32) (m l : Slab) : Slab :=
  shapeCast S1x512x128
    (addf (mulf (fac s m) (shapeCast S512x128 l shapeCasts_S1x512x128_S512x128))
      (extractStridedSlice S512x128 ![0, 128] (both s vt m) slices_S512x256_o0_128_S512x128))
    shapeCasts_S512x128_S1x512x128

/-- The stored running weighted sum. -/
def stA (s : FVec Ideal S512x256 .f32) (vt : Vec Ideal S256x128 .f32) (m a : Slab) : Slab :=
  shapeCast S1x512x128
    (addf (mulf (fac s m) (shapeCast S512x128 a shapeCasts_S1x512x128_S512x128))
      (extractStridedSlice S512x128 ![0, 0] (both s vt m) slices_S512x256_o0_0_S512x128))
    shapeCasts_S512x128_S1x512x128

theorem scF_apply (q : FVec Ideal S512x128 .bf16) (kt : Vec Ideal S256x128 .f32) (r : Fin 512) (k : Fin 256) :
    scF q kt (ix2 r k) = ∑ c : Fin 128, (q (ix2 r c) : EReal) * kt (ix2 k c) := by
  pointwise [scF]

theorem scB_apply (q : FVec Ideal S512x128 .bf16) (kt : Vec Ideal S256x128 .f32) (b : Vec Ideal S1x1x256x256 .f32)
    (r : Fin 512) (k : Fin 256) :
    scB q kt b (ix2 r k) = scF q kt (ix2 r k) + b (ix4 0 0 ⟨r.val % 256, by omega⟩ k) := by
  pointwise [scB]

theorem nxt_apply (s : FVec Ideal S512x256 .f32) (m : Slab) (r : Fin 512) (c : Fin 128) :
    nxt s m (ix2 r c) = max (m (ix3 0 r c)) ((Finset.univ : Finset (Fin 256)).fold max ⊥ fun k => s (ix2 r k)) := by
  pointwise [nxt]
  rw [Cert.Spec.neg_inf]

theorem fac_apply (s : FVec Ideal S512x256 .f32) (m : Slab) (r : Fin 512) (c : Fin 128) :
    fac s m (ix2 r c) = Ideal.exp2 (m (ix3 0 r c) - nxt s m (ix2 r c)) := by
  pointwise [fac]
  rfl

theorem stM_apply (s : FVec Ideal S512x256 .f32) (m : Slab) (r : Fin 512) (c : Fin 128) :
    stM s m (ix3 0 r c) = nxt s m (ix2 r c) := by
  pointwise [stM]

/-- The running normaliser at a row whose new maximum is the same in every lane. -/
theorem stL_apply (s : FVec Ideal S512x256 .f32) (vt : Vec Ideal S256x128 .f32) (m l : Slab) (r : Fin 512) (d : Fin 128)
    (μ : EReal) (hμ : ∀ c, nxt s m (ix2 r c) = μ) :
    stL s vt m l (ix3 0 r d) = Ideal.exp2 (m (ix3 0 r d) - μ) * l (ix3 0 r d)
      + ∑ k : Fin 256, Ideal.exp2 (s (ix2 r k) - μ) * 1 := by
  pointwise [stL, both, fac_apply, hμ]
  refine Ideal.add_congr rfl ?_
  rw [Fin.sum_univ_two_halves 128 128 rfl (fun k : Fin 256 => Ideal.exp2 (s (ix2 r k) - μ))]
  rfl

/-- The running weighted sum at a row whose new maximum is the same in every lane. -/
theorem stA_apply (s : FVec Ideal S512x256 .f32) (vt : Vec Ideal S256x128 .f32) (m a : Slab) (r : Fin 512) (d : Fin 128)
    (μ : EReal) (hμ : ∀ c, nxt s m (ix2 r c) = μ) :
    stA s vt m a (ix3 0 r d) = Ideal.exp2 (m (ix3 0 r d) - μ) * a (ix3 0 r d)
      + ∑ k : Fin 256, Ideal.exp2 (s (ix2 r k) - μ) * vt (ix2 k d) := by
  pointwise [stA, both, fac_apply, hμ]
  refine Ideal.add_congr rfl ?_
  rw [Fin.sum_univ_two_halves 128 128 rfl (fun k : Fin 256 => Ideal.exp2 (s (ix2 r k) - μ) * vt (ix2 k d))]
  rfl

/-- The running values stand for the sums `S` and `N`, row by row: the maximum is the same in every
    lane, and the normaliser and the weighted sum are the sums carried to that maximum. -/
def RowInv (M L A : Slab) (S : Fin 512 → ℝ) (N : Fin 512 → Fin 128 → ℝ) : Prop :=
  ∀ r, ∃ m : EReal, (∀ c, M (ix3 0 r c) = m) ∧ ∀ d, Inv m (L (ix3 0 r d)) (A (ix3 0 r d)) (S r) (N r d)

/-- One tile: its weights and weighted values are added to the sums. -/
theorem RowInv.step {M L A : Slab} {S : Fin 512 → ℝ} {N : Fin 512 → Fin 128 → ℝ} (h : RowInv M L A S N)
    (s : FVec Ideal S512x256 .f32) (vt : Vec Ideal S256x128 .f32) (v : Fin 256 → Fin 128 → ℝ)
    (hs : ∀ r k, s (ix2 r k) ≠ ⊤) (hb : ∀ r : Fin 512, ∃ k, s (ix2 r k) ≠ ⊥)
    (hv : ∀ k d, vt (ix2 k d) = ((v k d : ℝ) : EReal)) :
    RowInv (stM s M) (stL s vt M L) (stA s vt M A)
      (fun r => S r + ∑ k, wt (s (ix2 r k))) (fun r d => N r d + ∑ k, wt (s (ix2 r k)) * v k d) := by
  intro r
  obtain ⟨m, hm, hI⟩ := h r
  obtain ⟨μ, hμ⟩ := max_real Finset.univ (fun k : Fin 256 => s (ix2 r k)) (hs r) m (hI 0).ne_top
    (Or.inr (by obtain ⟨k, hk⟩ := hb r; exact ⟨k, Finset.mem_univ _, hk⟩))
  have hn : ∀ c, nxt s M (ix2 r c) = (μ : EReal) := fun c => by rw [nxt_apply, hm, hμ]
  refine ⟨(μ : EReal), fun c => by rw [stM_apply, hn], fun d => ?_⟩
  rw [stL_apply s vt M L r d _ hn, stA_apply s vt M A r d _ hn, hm]
  simp only [hv]
  exact (hI d).step (fun k : Fin 256 => s (ix2 r k)) (hs r) (fun k => v k d) μ _ rfl

end Cert.Tile
-- ==== Proof.Held.lean ====
/- The running values of the four heads of one grid step, held as the pieces written so far into the
   three scratch buffers, and what one tile of keys adds to them. -/
module

public import proofs.«01_k».proof.Proof.Tile
public import proofs.«01_k».proof.Proof.Gen.KernelIdeal.Loops
public import Idealize.ShloMosaic.Lib.Pipeline.ReadBack

@[expose] public section

set_option maxRecDepth 16384

noncomputable section

namespace Cert.Held

open Idealize.ShloMosaic Idealize.SL.Sem
open Cert.KernelIdeal Cert.KernelIdeal.Facts₀ Cert.Online Cert.Tile

/-- The pieces written so far into a scratch buffer. -/
abbrev Pieces := List (View.Piece (Elt Ideal) S4x512x128 .f32)
/-- A scratch buffer. -/
abbrev Scr := Memref sig .tc .vmem S4x512x128 .f32

/-- The slab of head 0 … -/
abbrev R0 : Rect S4x512x128 := Rect.unit ![0, 0, 0] S1x512x128.size inb_S4x512x128_S1x512x128_0_0_0
/-- … of head 1 … -/
abbrev R1 : Rect S4x512x128 := Rect.unit ![1, 0, 0] S1x512x128.size inb_S4x512x128_S1x512x128_1_0_0
/-- … of head 2 … -/
abbrev R2 : Rect S4x512x128 := Rect.unit ![2, 0, 0] S1x512x128.size inb_S4x512x128_S1x512x128_2_0_0
/-- … of head 3. -/
abbrev R3 : Rect S4x512x128 := Rect.unit ![3, 0, 0] S1x512x128.size inb_S4x512x128_S1x512x128_3_0_0

/-- A 256-row block of one head's keys or values, loaded from the staged block. -/
abbrev kt (a : Memref sig .tc .vmem S2048x512 .f32) (X : BufTy.Contents (Elt Ideal) a.view.ty) {off : Fin 2 → ℕ}
    (h : ∀ x, off x + S256x128.size x ≤ S2048x512.size x) : Vec Ideal S256x128 .f32 :=
  View.readAt (Elt Ideal) a.view (Rect.unit (s := S2048x512) off S256x128.size h).toLoadRect X

/-- What a load of a head's slab reads: head 0. -/
def rd0 (a : Scr) (L : Pieces) : Slab := a.view.readCov L R0.toLoadRect
/-- Head 1. -/
def rd1 (a : Scr) (L : Pieces) : Slab := a.view.readCov L R1.toLoadRect
/-- Head 2. -/
def rd2 (a : Scr) (L : Pieces) : Slab := a.view.readCov L R2.toLoadRect
/-- Head 3. -/
def rd3 (a : Scr) (L : Pieces) : Slab := a.view.readCov L R3.toLoadRect

section
variable (a : Scr) (L : Pieces) (p0 p1 p2 p3 : Slab)

/-- four stores, one per head, in front of a list -/
abbrev four : Pieces := ⟨R3, p3⟩ :: ⟨R2, p2⟩ :: ⟨R1, p1⟩ :: ⟨R0, p0⟩ :: L

theorem rd1_skip : rd1 a (⟨R0, p0⟩ :: L) = rd1 a L := View.readCov_skip _ _ _ _ _ (by decide)
theorem rd2_skip : rd2 a (⟨R1, p1⟩ :: ⟨R0, p0⟩ :: L) = rd2 a L :=
  (View.readCov_skip _ _ _ _ _ (by decide)).trans (View.readCov_skip _ _ _ _ _ (by decide))
theorem rd3_skip : rd3 a (⟨R2, p2⟩ :: ⟨R1, p1⟩ :: ⟨R0, p0⟩ :: L) = rd3 a L :=
  (View.readCov_skip _ _ _ _ _ (by decide)).trans
    ((View.readCov_skip _ _ _ _ _ (by decide)).trans (View.readCov_skip _ _ _ _ _ (by decide)))
theorem rd0_four : rd0 a (four L p0 p1 p2 p3) = p0 :=
  (View.readCov_skip _ _ _ _ _ (by decide)).trans
    ((View.readCov_skip _ _ _ _ _ (by decide)).trans
      ((View.readCov_skip _ _ _ _ _ (by decide)).trans (View.readCov_cons_toLoadRect _ _ _ _)))
theorem rd1_four : rd1 a (four L p0 p1 p2 p3) = p1 :=
  (View.readCov_skip _ _ _ _ _ (by decide)).trans
    ((View.readCov_skip _ _ _ _ _ (by decide)).trans (View.readCov_cons_toLoadRect _ _ _ _))
theorem rd2_four : rd2 a (four L p0 p1 p2 p3) = p2 :=
  (View.readCov_skip _ _ _ _ _ (by decide)).trans (View.readCov_cons_toLoadRect _ _ _ _)
theorem rd3_four : rd3 a (four L p0 p1 p2 p3) = p3 := View.readCov_cons_toLoadRect _ _ _ _
end

/-- After `n` tiles of keys: every head's running values stand for the sums over the first `256 n` keys
    of the weights, and of the weights times the values. -/
def At (y : Fin 4 → Fin 512 → ℕ → EReal) (v : Fin 4 → ℕ → Fin 128 → ℝ) (a10 a11 a12 : Scr) (L10 L11 L12 : Pieces)
    (n : ℕ) : Prop :=
  (RowInv (rd0 a10 L10) (rd0 a11 L11) (rd0 a12 L12) (fun r => ∑ k ∈ Finset.range (256 * n), wt (y 0 r k))
      (fun r d => ∑ k ∈ Finset.range (256 * n), wt (y 0 r k) * v 0 k d)) ∧
  (RowInv (rd1 a10 L10) (rd1 a11 L11) (rd1 a12 L12) (fun r => ∑ k ∈ Finset.range (256 * n), wt (y 1 r k))
      (fun r d => ∑ k ∈ Finset.range (256 * n), wt (y 1 r k) * v 1 k d)) ∧
  (RowInv (rd2 a10 L10) (rd2 a11 L11) (rd2 a12 L12) (fun r => ∑ k ∈ Finset.range (256 * n), wt (y 2 r k))
      (fun r d => ∑ k ∈ Finset.range (256 * n), wt (y 2 r k) * v 2 k d)) ∧
  (RowInv (rd3 a10 L10) (rd3 a11 L11) (rd3 a12 L12) (fun r => ∑ k ∈ Finset.range (256 * n), wt (y 3 r k))
      (fun r d => ∑ k ∈ Finset.range (256 * n), wt (y 3 r k) * v 3 k d))

/-- One head's tile is the next 256 keys of its scores and values, and each query sees one of them. -/
structure IsTile (y : Fin 512 → ℕ → EReal) (v : ℕ → Fin 128 → ℝ) (n : ℕ) (s : FVec Ideal S512x256 .f32)
    (vt : Vec Ideal S256x128 .f32) : Prop where
  score : ∀ r (k : Fin 256), s (ix2 r k) = y r (256 * n + k.val)
  value : ∀ (k : Fin 256) d, vt (ix2 k d) = ((v (256 * n + k.val) d : ℝ) : EReal)
  top : ∀ r k, y r k ≠ ⊤
  seen : ∀ r, y r (256 * n) ≠ ⊥

theorem sum_next (f : ℕ → ℝ) (n : ℕ) :
    ∑ k ∈ Finset.range (256 * (n + 1)), f k = ∑ k ∈ Finset.range (256 * n), f k + ∑ k : Fin 256, f (256 * n + k.val) := by
  rw [Nat.mul_succ, Finset.sum_range_add, ← Fin.sum_univ_eq_sum_range (fun k => f (256 * n + k))]

/-- one head -/
theorem one {y : Fin 512 → ℕ → EReal} {v : ℕ → Fin 128 → ℝ} {n : ℕ} {s : FVec Ideal S512x256 .f32}
    {vt : Vec Ideal S256x128 .f32} (T : IsTile y v n s vt) {M L A : Slab}
    (h : RowInv M L A (fun r => ∑ k ∈ Finset.range (256 * n), wt (y r k))
      (fun r d => ∑ k ∈ Finset.range (256 * n), wt (y r k) * v k d)) :
    RowInv (stM s M) (stL s vt M L) (stA s vt M A) (fun r => ∑ k ∈ Finset.range (256 * (n + 1)), wt (y r k))
      (fun r d => ∑ k ∈ Finset.range (256 * (n + 1)), wt (y r k) * v k d) := by
  have := h.step s vt (fun k d => v (256 * n + k.val) d) (fun r k => by rw [T.score]; exact T.top _ _)
    (fun r => ⟨0, by rw [T.score]; exact T.seen r⟩) T.value
  simp only [T.score] at this
  simp only [sum_next]
  exact this

variable {y : Fin 4 → Fin 512 → ℕ → EReal} {v : Fin 4 → ℕ → Fin 128 → ℝ} {a10 a11 a12 : Scr}
  {L10 L11 L12 : Pieces} {n : ℕ}

/-- A tile of all four heads. -/
theorem At.tile (h : At y v a10 a11 a12 L10 L11 L12 n)
    {s0 s1 s2 s3 : FVec Ideal S512x256 .f32} {w0 w1 w2 w3 : Vec Ideal S256x128 .f32}
    (T0 : IsTile (y 0) (v 0) n s0 w0) (T1 : IsTile (y 1) (v 1) n s1 w1) (T2 : IsTile (y 2) (v 2) n s2 w2)
    (T3 : IsTile (y 3) (v 3) n s3 w3) :
    At y v a10 a11 a12
      (four L10 (stM s0 (rd0 a10 L10)) (stM s1 (rd1 a10 L10)) (stM s2 (rd2 a10 L10)) (stM s3 (rd3 a10 L10)))
      (four L11 (stL s0 w0 (rd0 a10 L10) (rd0 a11 L11)) (stL s1 w1 (rd1 a10 L10) (rd1 a11 L11))
        (stL s2 w2 (rd2 a10 L10) (rd2 a11 L11)) (stL s3 w3 (rd3 a10 L10) (rd3 a11 L11)))
      (four L12 (stA s0 w0 (rd0 a10 L10) (rd0 a12 L12)) (stA s1 w1 (rd1 a10 L10) (rd1 a12 L12))
        (stA s2 w2 (rd2 a10 L10) (rd2 a12 L12)) (stA s3 w3 (rd3 a10 L10) (rd3 a12 L12))) (n + 1) := by
  obtain ⟨h0, h1, h2, h3⟩ := h
  refine ⟨?_, ?_, ?_, ?_⟩
  · rw [rd0_four, rd0_four, rd0_four]; exact one T0 h0
  · rw [rd1_four, rd1_four, rd1_four]; exact one T1 h1
  · rw [rd2_four, rd2_four, rd2_four]; exact one T2 h2
  · rw [rd3_four, rd3_four, rd3_four]; exact one T3 h3

/-- A tile of all four heads, each load stated over what was written before it. -/
theorem At.tile' (h : At y v a10 a11 a12 L10 L11 L12 n)
    {s0 s1 s2 s3 : FVec Ideal S512x256 .f32} {w0 w1 w2 w3 : Vec Ideal S256x128 .f32}
    (T0 : IsTile (y 0) (v 0) n s0 w0) (T1 : IsTile (y 1) (v 1) n s1 w1) (T2 : IsTile (y 2) (v 2) n s2 w2)
    (T3 : IsTile (y 3) (v 3) n s3 w3)
    {m0 m1 m2 m3 l0 l1 l2 l3 a0 a1 a2 a3 : Slab}
    (em0 : m0 = stM s0 (rd0 a10 (L10 : Pieces)))
    (el0 : l0 = stL s0 w0 (rd0 a10 (L10 : Pieces)) (rd0 a11 (L11 : Pieces)))
    (ea0 : a0 = stA s0 w0 (rd0 a10 (L10 : Pieces)) (rd0 a12 (L12 : Pieces)))
    (em1 : m1 = stM s1 (rd1 a10 (⟨R0, m0⟩ :: L10 : Pieces)))
    (el1 : l1 = stL s1 w1 (rd1 a10 (⟨R0, m0⟩ :: L10 : Pieces)) (rd1 a11 (⟨R0, l0⟩ :: L11 : Pieces)))
    (ea1 : a1 = stA s1 w1 (rd1 a10 (⟨R0, m0⟩ :: L10 : Pieces)) (rd1 a12 (⟨R0, a0⟩ :: L12 : Pieces)))
    (em2 : m2 = stM s2 (rd2 a10 (⟨R1, m1⟩ :: ⟨R0, m0⟩ :: L10 : Pieces)))
    (el2 : l2 = stL s2 w2 (rd2 a10 (⟨R1, m1⟩ :: ⟨R0, m0⟩ :: L10 : Pieces)) (rd2 a11 (⟨R1, l1⟩ :: ⟨R0, l0⟩ :: L11 : Pieces)))
    (ea2 : a2 = stA s2 w2 (rd2 a10 (⟨R1, m1⟩ :: ⟨R0, m0⟩ :: L10 : Pieces)) (rd2 a12 (⟨R1, a1⟩ :: ⟨R0, a0⟩ :: L12 : Pieces)))
    (em3 : m3 = stM s3 (rd3 a10 (⟨R2, m2⟩ :: ⟨R1, m1⟩ :: ⟨R0, m0⟩ :: L10 : Pieces)))
    (el3 : l3 = stL s3 w3 (rd3 a10 (⟨R2, m2⟩ :: ⟨R1, m1⟩ :: ⟨R0, m0⟩ :: L10 : Pieces)) (rd3 a11 (⟨R2, l2⟩ :: ⟨R1, l1⟩ :: ⟨R0, l0⟩ :: L11 : Pieces)))
    (ea3 : a3 = stA s3 w3 (rd3 a10 (⟨R2, m2⟩ :: ⟨R1, m1⟩ :: ⟨R0, m0⟩ :: L10 : Pieces)) (rd3 a12 (⟨R2, a2⟩ :: ⟨R1, a1⟩ :: ⟨R0, a0⟩ :: L12 : Pieces))) :
    At y v a10 a11 a12 (four L10 m0 m1 m2 m3) (four L11 l0 l1 l2 l3) (four L12 a0 a1 a2 a3) (n + 1) := by
  rw [rd1_skip] at em1 el1 ea1
  rw [rd2_skip] at em2 el2 ea2
  rw [rd3_skip] at em3 el3 ea3
  rw [rd1_skip] at el1 ea1
  rw [rd2_skip] at el2 ea2
  rw [rd3_skip] at el3 ea3
  subst em0 em1 em2 em3 el0 el1 el2 el3 ea0 ea1 ea2 ea3
  exact h.tile T0 T1 T2 T3

end Cert.Held
-- ==== Proof.Trip.lean ====
/- The loop over the far tiles: each trip is one tile of keys without a bias, for all four heads. -/
module

public import proofs.«01_k».proof.Proof.Held

@[expose] public section

set_option maxRecDepth 16384

noncomputable section

namespace Cert.Trip

open Idealize.ShloMosaic Idealize.SL.Sem
open Cert.KernelIdeal
open Cert.KernelIdeal.Gen (tripL_k1_t1 trip_k1_t1 pb_k1_t1 pb_k1_t1_succ pb_k1_t2)
open Cert.KernelIdeal.Facts₀  Cert.Online Cert.Tile Cert.Held

variable (c : Dev nD) (i : grid1.Coords)
  (arg3 : Memref sig .tc .vmem S4x64 .f32) (harg3 : arg3.IsWhole) (arg4 : Memref sig .tc .vmem S256x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S4x2x256x256 .f32) (harg7 : arg7.IsWhole) (arg8 : Memref sig .tc .vmem S1x128 .f32) (harg8 : arg8.IsWhole)
  (arg9 : Memref sig .tc .vmem S256x512 .bf16) (harg9 : arg9.IsWhole) (arg10 : Scr) (harg10 : arg10.IsWhole)
  (arg11 : Scr) (harg11 : arg11.IsWhole) (arg12 : Scr) (harg12 : arg12.IsWhole)
  (arg2 : BitVec 32) (q0 q1 q2 q3 : FVec Ideal S512x128 .bf16) (u w z : BitVec 32)
  (X5 : BufTy.Contents (Elt Ideal) arg5.view.ty) (X6 : BufTy.Contents (Elt Ideal) arg6.view.ty)

/-- What one trip stores: a tile of each head. -/
theorem trip_eq (k : Fin (k1_t1_loop i).trips) (f10 : BufTy.Contents (Elt Ideal) arg10.view.ty)
    (f11 : BufTy.Contents (Elt Ideal) arg11.view.ty) (f12 : BufTy.Contents (Elt Ideal) arg12.view.ty) :
    tripL_k1_t1 (F := Ideal) Variants.none c none i arg3 harg3 arg4 harg4 arg5 harg5 arg6 harg6 arg7 harg7 arg8 harg8 arg9 harg9 arg10 harg10 arg11 harg11 arg12 harg12 arg2 q0 q1 q2 q3 u w z X5 X6 k f10 f11 f12
    = ([⟨R3, stM (scF q3 (kt arg5 X5 (k1_off4_inb i k))) (View.readAt (Elt Ideal) arg10.view R3.toLoadRect f10)⟩,
      ⟨R2, stM (scF q2 (kt arg5 X5 (k1_off3_inb i k))) (View.readAt (Elt Ideal) arg10.view R2.toLoadRect f10)⟩,
      ⟨R1, stM (scF q1 (kt arg5 X5 (k1_off2_inb i k))) (View.readAt (Elt Ideal) arg10.view R1.toLoadRect f10)⟩,
      ⟨R0, stM (scF q0 (kt arg5 X5 (k1_off1_inb i k))) (View.readAt (Elt Ideal) arg10.view R0.toLoadRect f10)⟩],
     [⟨R3, stL (scF q3 (kt arg5 X5 (k1_off4_inb i k))) (kt arg6 X6 (k1_off4_inb i k)) (View.readAt (Elt Ideal) arg10.view R3.toLoadRect f10) (View.readAt (Elt Ideal) arg11.view R3.toLoadRect f11)⟩,
      ⟨R2, stL (scF q2 (kt arg5 X5 (k1_off3_inb i k))) (kt arg6 X6 (k1_off3_inb i k)) (View.readAt (Elt Ideal) arg10.view R2.toLoadRect f10) (View.readAt (Elt Ideal) arg11.view R2.toLoadRect f11)⟩,
      ⟨R1, stL (scF q1 (kt arg5 X5 (k1_off2_inb i k))) (kt arg6 X6 (k1_off2_inb i k)) (View.readAt (Elt Ideal) arg10.view R1.toLoadRect f10) (View.readAt (Elt Ideal) arg11.view R1.toLoadRect f11)⟩,
      ⟨R0, stL (scF q0 (kt arg5 X5 (k1_off1_inb i k))) (kt arg6 X6 (k1_off1_inb i k)) (View.readAt (Elt Ideal) arg10.view R0.toLoadRect f10) (View.readAt (Elt Ideal) arg11.view R0.toLoadRect f11)⟩],
     [⟨R3, stA (scF q3 (kt arg5 X5 (k1_off4_inb i k))) (kt arg6 X6 (k1_off4_inb i k)) (View.readAt (Elt Ideal) arg10.view R3.toLoadRect f10) (View.readAt (Elt Ideal) arg12.view R3.toLoadRect f12)⟩,
      ⟨R2, stA (scF q2 (kt arg5 X5 (k1_off3_inb i k))) (kt arg6 X6 (k1_off3_inb i k)) (View.readAt (Elt Ideal) arg10.view R2.toLoadRect f10) (View.readAt (Elt Ideal) arg12.view R2.toLoadRect f12)⟩,
      ⟨R1, stA (scF q1 (kt arg5 X5 (k1_off2_inb i k))) (kt arg6 X6 (k1_off2_inb i k)) (View.readAt (Elt Ideal) arg10.view R1.toLoadRect f10) (View.readAt (Elt Ideal) arg12.view R1.toLoadRect f12)⟩,
      ⟨R0, stA (scF q0 (kt arg5 X5 (k1_off1_inb i k))) (kt arg6 X6 (k1_off1_inb i k)) (View.readAt (Elt Ideal) arg10.view R0.toLoadRect f10) (View.readAt (Elt Ideal) arg12.view R0.toLoadRect f12)⟩]) := by
  unfold tripL_k1_t1 trip_k1_t1
  rfl

/-- The loop: before trip `n` the running values stand for the first `n` tiles. -/
theorem loop_at {y : Fin 4 → Fin 512 → ℕ → EReal} {v : Fin 4 → ℕ → Fin 128 → ℝ} {B10 B11 B12 : Pieces}
    (h0 : At y v arg10 arg11 arg12 B10 B11 B12 0)
    (T : ∀ k : Fin (k1_t1_loop i).trips,
      IsTile (y 0) (v 0) k.val (scF q0 (kt arg5 X5 (k1_off1_inb i k))) (kt arg6 X6 (k1_off1_inb i k)) ∧
      IsTile (y 1) (v 1) k.val (scF q1 (kt arg5 X5 (k1_off2_inb i k))) (kt arg6 X6 (k1_off2_inb i k)) ∧
      IsTile (y 2) (v 2) k.val (scF q2 (kt arg5 X5 (k1_off3_inb i k))) (kt arg6 X6 (k1_off3_inb i k)) ∧
      IsTile (y 3) (v 3) k.val (scF q3 (kt arg5 X5 (k1_off4_inb i k))) (kt arg6 X6 (k1_off4_inb i k)))
    (n : ℕ) (hn : n ≤ (k1_t1_loop i).trips) :
    At y v arg10 arg11 arg12
      ((pb_k1_t1 (F := Ideal) Variants.none c none i arg3 harg3 arg4 harg4 arg5 harg5 arg6 harg6 arg7 harg7 arg8 harg8 arg9 harg9 arg10 harg10 arg11 harg11 arg12 harg12 arg2 q0 q1 q2 q3 u w z X5 X6
      (arg10.view.writes (Elt Ideal) arg10.view.junk B10) (arg11.view.writes (Elt Ideal) arg11.view.junk B11) (arg12.view.writes (Elt Ideal) arg12.view.junk B12) n).1 ++ B10)
      ((pb_k1_t1 (F := Ideal) Variants.none c none i arg3 harg3 arg4 harg4 arg5 harg5 arg6 harg6 arg7 harg7 arg8 harg8 arg9 harg9 arg10 harg10 arg11 harg11 arg12 harg12 arg2 q0 q1 q2 q3 u w z X5 X6
      (arg10.view.writes (Elt Ideal) arg10.view.junk B10) (arg11.view.writes (Elt Ideal) arg11.view.junk B11) (arg12.view.writes (Elt Ideal) arg12.view.junk B12) n).2.1 ++ B11)
      ((pb_k1_t1 (F := Ideal) Variants.none c none i arg3 harg3 arg4 harg4 arg5 harg5 arg6 harg6 arg7 harg7 arg8 harg8 arg9 harg9 arg10 harg10 arg11 harg11 arg12 harg12 arg2 q0 q1 q2 q3 u w z X5 X6
      (arg10.view.writes (Elt Ideal) arg10.view.junk B10) (arg11.view.writes (Elt Ideal) arg11.view.junk B11) (arg12.view.writes (Elt Ideal) arg12.view.junk B12) n).2.2 ++ B12) n := by
  induction n with
  | zero => exact h0
  | succ n ih =>
    have h := ih (by omega)
    have hk : n < (k1_t1_loop i).trips := hn
    obtain ⟨T0, T1, T2, T3⟩ := T ⟨n, hk⟩
    have e := pb_k1_t1_succ (F := Ideal) Variants.none c none i arg3 harg3 arg4 harg4 arg5 harg5 arg6 harg6 arg7 harg7 arg8 harg8 arg9 harg9 arg10 harg10 arg11 harg11 arg12 harg12 arg2 q0 q1 q2 q3 u w z X5 X6
      (arg10.view.writes (Elt Ideal) arg10.view.junk B10) (arg11.view.writes (Elt Ideal) arg11.view.junk B11) (arg12.view.writes (Elt Ideal) arg12.view.junk B12) ⟨n, hk⟩
    rw [trip_eq] at e
    dsimp only at e
    rw [e]
    simp only [← View.writes_append]
    exact h.tile T0 T1 T2 T3

theorem trips_lit : ∀ n : Fin 8, Scf.trips (0#32) (Scalar.addi 0#32 (Scalar.muli (Scalar.divsi (Scalar.subi (Scalar.maxsi
    (Scalar.subi (BitVec.ofNat 32 n.val) 1#32) 0#32) 0#32) 1#32) 1#32)) 1#32 = n.val - 1 := by
  decide +kernel

/-- The loop over the far tiles runs `query tile − 1` times. -/
theorem trips1 : (k1_t1_loop i).trips = (i 2).val - 1 := trips_lit (i 2)

theorem trips2_lit : ∀ n : Fin 8, Scf.trips
    (Scalar.addi 0#32 (Scalar.muli (Scalar.divsi (Scalar.subi (Scalar.maxsi
      (Scalar.subi (BitVec.ofNat 32 n.val) 1#32) 0#32) 0#32) 1#32) 1#32))
    (Scalar.addi 0#32 (Scalar.subi (Scalar.maxsi (Scalar.subi (BitVec.ofNat 32 n.val) 1#32) 0#32) 0#32)) 1#32 = 0 := by
  decide +kernel

/-- The remainder loop does not run. -/
theorem trips2 : (k1_t2_loop i).trips = 0 := trips2_lit (i 2)

end Cert.Trip
-- ==== Proof.State.lean ====
/- What the accumulators hold at the end of a grid step. -/
module

public import proofs.«01_k».proof.Proof.Trip
public import proofs.«01_k».proof.Proof.Gen.KernelIdeal.Frame

@[expose] public section

set_option maxRecDepth 16384

noncomputable section

namespace Cert.State

open Idealize.ShloMosaic Idealize.SL.Sem
open Cert.KernelIdeal
open Cert.KernelIdeal.Gen (cond1_0 cond1_1 kernelRun1_A kernelRun1_B pb_k1_t1 pb_k1_t2)
open Cert.KernelIdeal.Facts₀ Cert.Online Cert.Tile Cert.Held Cert.Trip

/-- One head's bias tile, loaded from the staged block. -/
abbrev bt (a : Memref sig .tc .vmem S4x2x256x256 .f32) (X : BufTy.Contents (Elt Ideal) a.view.ty) {off : Fin 4 → ℕ}
    (h : ∀ x, off x + S1x1x256x256.size x ≤ S4x2x256x256.size x) : Vec Ideal S1x1x256x256 .f32 :=
  View.readAt (Elt Ideal) a.view (Rect.unit (s := S4x2x256x256) off S1x1x256x256.size h).toLoadRect X

variable (c : Dev nD) (i : grid1.Coords)
  (arg3 : Memref sig .tc .vmem S4x64 .f32) (harg3 : arg3.IsWhole) (arg4 : Memref sig .tc .vmem S256x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S4x2x256x256 .f32) (harg7 : arg7.IsWhole) (arg8 : Memref sig .tc .vmem S1x128 .f32) (harg8 : arg8.IsWhole)
  (arg9 : Memref sig .tc .vmem S256x512 .bf16) (harg9 : arg9.IsWhole) (arg10 : Scr) (harg10 : arg10.IsWhole)
  (arg11 : Scr) (harg11 : arg11.IsWhole) (arg12 : Scr) (harg12 : arg12.IsWhole)
  (x0 : Vec Ideal S4x64 .f32) (x1 : Vec Ideal S256x512 .f32) (x2 : Vec Ideal S2048x512 .f32)
  (x3 : Vec Ideal S2048x512 .f32) (x4 : Vec Ideal S4x2x256x256 .f32)

/-- A buffer filled with one value. -/
abbrev fill (Z : FVec Ideal S4x512x128 .f32) : Pieces :=
  [⟨Rect.unit (s := S4x512x128) ![0, 0, 0] S4x512x128.size inb_S4x512x128_S4x512x128_0_0_0, Z⟩]

theorem fill0 (a : Scr) (Z : FVec Ideal S4x512x128 .f32) (x : EReal) (h : ∀ j, Z j = x) (j) : rd0 a (fill Z) j = x := by
  unfold rd0; rw [View.readCov_fill _ _ _ _ _ (by decide)]; exact h _
theorem fill1 (a : Scr) (Z : FVec Ideal S4x512x128 .f32) (x : EReal) (h : ∀ j, Z j = x) (j) : rd1 a (fill Z) j = x := by
  unfold rd1; rw [View.readCov_fill _ _ _ _ _ (by decide)]; exact h _
theorem fill2 (a : Scr) (Z : FVec Ideal S4x512x128 .f32) (x : EReal) (h : ∀ j, Z j = x) (j) : rd2 a (fill Z) j = x := by
  unfold rd2; rw [View.readCov_fill _ _ _ _ _ (by decide)]; exact h _
theorem fill3 (a : Scr) (Z : FVec Ideal S4x512x128 .f32) (x : EReal) (h : ∀ j, Z j = x) (j) : rd3 a (fill Z) j = x := by
  unfold rd3; rw [View.readCov_fill _ _ _ _ _ (by decide)]; exact h _

/-- The three scratch buffers' first contents stand for no keys. -/
theorem init_at (y : Fin 4 → Fin 512 → ℕ → EReal) (v : Fin 4 → ℕ → Fin 128 → ℝ) :
    At y v arg10 arg11 arg12 (fill (Gen.k1_pay180 (F := Ideal))) (fill (Gen.k1_pay181 (F := Ideal)))
      (fill (Gen.k1_pay182 (F := Ideal))) 0 := by
  have e10 : ∀ j, Gen.k1_pay180 (F := Ideal) j = (⊥ : EReal) := fun j => by
    pointwise [Gen.k1_pay180]; exact Cert.Spec.neg_inf
  have e11 : ∀ j, Gen.k1_pay181 (F := Ideal) j = (0 : EReal) := fun j => by pointwise [Gen.k1_pay181]
  have e12 : ∀ j, Gen.k1_pay182 (F := Ideal) j = (0 : EReal) := fun j => by pointwise [Gen.k1_pay182]
  refine ⟨?_, ?_, ?_, ?_⟩ <;> intro r <;> refine ⟨⊥, fun c => ?_, fun d => ?_⟩
  · exact fill0 _ _ _ e10 _
  · rw [fill0 _ _ _ e11, fill0 _ _ _ e12]; simpa using Inv.init
  · exact fill1 _ _ _ e10 _
  · rw [fill1 _ _ _ e11, fill1 _ _ _ e12]; simpa using Inv.init
  · exact fill2 _ _ _ e10 _
  · rw [fill2 _ _ _ e11, fill2 _ _ _ e12]; simpa using Inv.init
  · exact fill3 _ _ _ e10 _
  · rw [fill3 _ _ _ e11, fill3 _ _ _ e12]; simpa using Inv.init

theorem b_loop (hc1 : cond1_1 i) {y : Fin 4 → Fin 512 → ℕ → EReal} {v : Fin 4 → ℕ → Fin 128 → ℝ}
    (T : ∀ k : Fin (k1_t1_loop i).trips,
      IsTile (y 0) (v 0) k.val (scF (kernelRun1_B.sl.r c arg4 harg4 x1) (kt arg5 (harg5.unread x2) (Facts₀.k1_off1_inb i k))) (kt arg6 (harg6.unread x3) (Facts₀.k1_off1_inb i k)) ∧
      IsTile (y 1) (v 1) k.val (scF (kernelRun1_B.sl.r_1 c arg4 harg4 x1) (kt arg5 (harg5.unread x2) (Facts₀.k1_off2_inb i k))) (kt arg6 (harg6.unread x3) (Facts₀.k1_off2_inb i k)) ∧
      IsTile (y 2) (v 2) k.val (scF (kernelRun1_B.sl.r_4 c arg4 harg4 x1) (kt arg5 (harg5.unread x2) (Facts₀.k1_off3_inb i k))) (kt arg6 (harg6.unread x3) (Facts₀.k1_off3_inb i k)) ∧
      IsTile (y 3) (v 3) k.val (scF (kernelRun1_B.sl.r_5 c arg4 harg4 x1) (kt arg5 (harg5.unread x2) (Facts₀.k1_off4_inb i k))) (kt arg6 (harg6.unread x3) (Facts₀.k1_off4_inb i k))) :
    At y v arg10 arg11 arg12 ((kernelRun1_B.sl.HS0_1_1 c i arg3 harg3 arg4 harg4 arg5 harg5 arg6 harg6 arg7 harg7 arg8 harg8 arg9 harg9 arg10 harg10 arg11 harg11 arg12 harg12 hc1 x1 x2 x3 x4).tail) ((kernelRun1_B.sl.HS1_1_1 c i arg3 harg3 arg4 harg4 arg5 harg5 arg6 harg6 arg7 harg7 arg8 harg8 arg9 harg9 arg10 harg10 arg11 harg11 arg12 harg12 hc1 x1 x2 x3 x4).tail) ((kernelRun1_B.sl.HS2_1_1 c i arg3 harg3 arg4 harg4 arg5 harg5 arg6 harg6 arg7 harg7 arg8 harg8 arg9 harg9 arg10 harg10 arg11 harg11 arg12 harg12 hc1 x1 x2 x3 x4).tail) (k1_t1_loop i).trips := by
  have h0 := loop_at c i arg3 harg3 arg4 harg4 arg5 harg5 arg6 harg6 arg7 harg7 arg8 harg8 arg9 harg9 arg10 harg10 arg11 harg11 arg12 harg12 (BitVec.ofNat 32 (i 2).val) (kernelRun1_B.sl.r c arg4 harg4 x1) (kernelRun1_B.sl.r_1 c arg4 harg4 x1) (kernelRun1_B.sl.r_4 c arg4 harg4 x1) (kernelRun1_B.sl.r_5 c arg4 harg4 x1) 0#32 (kernelRun1_B.sl.v67 i) 1#32
    (harg5.unread x2) (harg6.unread x3) (init_at arg10 arg11 arg12 y v) T _ (le_refl _)
  have e : Scf.trips (k1_t2_loop i).lb (k1_t2_loop i).ub (k1_t2_loop i).st = 0 := trips2 i
  unfold kernelRun1_B.sl.HS0_1_1 kernelRun1_B.sl.HS1_1_1 kernelRun1_B.sl.HS2_1_1
  simp only [List.tail_cons, e, pb_k1_t2, List.nil_append]
  exact h0

theorem bs_m0 (hc1 : cond1_1 i) : (kernelRun1_B.sl.v256 c i arg3 harg3 arg4 harg4 arg5 harg5 arg6 harg6 arg7 harg7 arg8 harg8 arg9 harg9 arg10 harg10 arg11 harg11 arg12 harg12 hc1 x1 x2 x3 x4) = stM (scB (kernelRun1_B.sl.r c arg4 harg4 x1) (kt arg5 (harg5.unread x2) (Facts₀.k1_off13_inb i hc1))
      (bt arg7 (harg7.unread x4) inb_S4x2x256x256_S1x1x256x256_0_1_0_0)) (rd0 arg10 (((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_l0 (hc1 : cond1_1 i) : (kernelRun1_B.sl.v245 c i arg3 harg3 arg4 harg4 arg5 harg5 arg6 harg6 arg7 harg7 arg8 harg8 arg9 harg9 arg10 harg10 arg11 harg11 arg12 harg12 hc1 x1 x2 x3 x4) = stL (scB (kernelRun1_B.sl.r c arg4 harg4 x1) (kt arg5 (harg5.unread x2) (Facts₀.k1_off13_inb i hc1))
      (bt arg7 (harg7.unread x4) inb_S4x2x256x256_S1x1x256x256_0_1_0_0)) (kt arg6 (harg6.unread x3) (Facts₀.k1_off13_inb i hc1)) (rd0 arg10 (((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd0 arg11 (((kernelRun1_B.sl.HS1_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_a0 (hc1 : cond1_1 i) : (kernelRun1_B.sl.v253 c i arg3 harg3 arg4 harg4 arg5 harg5 arg6 harg6 arg7 harg7 arg8 harg8 arg9 harg9 arg10 harg10 arg11 harg11 arg12 harg12 hc1 x1 x2 x3 x4) = stA (scB (kernelRun1_B.sl.r c arg4 harg4 x1) (kt arg5 (harg5.unread x2) (Facts₀.k1_off13_inb i hc1))
      (bt arg7 (harg7.unread x4) inb_S4x2x256x256_S1x1x256x256_0_1_0_0)) (kt arg6 (harg6.unread x3) (Facts₀.k1_off13_inb i hc1)) (rd0 arg10 (((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd0 arg12 (((kernelRun1_B.sl.HS2_1_1 c i arg3 harg3 arg4 harg4 arg5 harg5 arg6 harg6 arg7 harg7 arg8 harg8 arg9 harg9 arg10 harg10 arg11 harg11 arg12 harg12 hc1 x1 x2 x3 x4).tail) : Pieces)) := by rfl

theorem bs_m1 (hc1 : cond1_1 i) : (kernelRun1_B.sl.v304 c i arg3 harg3 arg4 harg4 arg5 harg5 arg6 harg6 arg7 harg7 arg8 harg8 arg9 harg9 arg10 harg10 arg11 harg11 arg12 harg12 hc1 x1 x2 x3 x4) = stM (scB (kernelRun1_B.sl.r_1 c arg4 harg4 x1) (kt arg5 (harg5.unread x2) (Facts₀.k1_off14_inb i hc1))
      (bt arg7 (harg7.unread x4) inb_S4x2x256x256_S1x1x256x256_1_1_0_0)) (rd1 arg10 (⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_l1 (hc1 : cond1_1 i) : (kernelRun1_B.sl.v293 c i arg3 harg3 arg4 harg4 arg5 harg5 arg6 harg6 arg7 harg7 arg8 harg8 arg9 harg9 arg10 harg10 arg11 harg11 arg12 harg12 hc1 x1 x2 x3 x4) = stL (scB (kernelRun1_B.sl.r_1 c arg4 harg4 x1) (kt arg5 (harg5.unread x2) (Facts₀.k1_off14_inb i hc1))
      (bt arg7 (harg7.unread x4) inb_S4x2x256x256_S1x1x256x256_1_1_0_0)) (kt arg6 (harg6.unread x3) (Facts₀.k1_off14_inb i hc1)) (rd1 arg10 (⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd1 arg11 (⟨R0, (kernelRun1_B.sl.v245 c i arg3 harg3 arg4 harg4 arg5 harg5 arg6 harg6 arg7 harg7 arg8 harg8 arg9 harg9 arg10 harg10 arg11 harg11 arg12 harg12 hc1 x1 x2 x3 x4)⟩ :: ((kernelRun1_B.sl.HS1_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_a1 (hc1 : cond1_1 i) : (kernelRun1_B.sl.v301 c i arg3 harg3 arg4 harg4 arg5 harg5 arg6 harg6 arg7 harg7 arg8 harg8 arg9 harg9 arg10 harg10 arg11 harg11 arg12 harg12 hc1 x1 x2 x3 x4) = stA (scB (kernelRun1_B.sl.r_1 c arg4 harg4 x1) (kt arg5 (harg5.unread x2) (Facts₀.k1_off14_inb i hc1))
      (bt arg7 (harg7.unread x4) inb_S4x2x256x256_S1x1x256x256_1_1_0_0)) (kt arg6 (harg6.unread x3) (Facts₀.k1_off14_inb i hc1)) (rd1 arg10 (⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd1 arg12 (⟨R0, (kernelRun1_B.sl.v253 c i arg3 harg3 arg4 harg4 arg5 harg5 arg6 harg6 arg7 harg7 arg8 harg8 arg9 harg9 arg10 harg10 arg11 harg11 arg12 harg12 hc1 x1 x2 x3 x4)⟩ :: ((kernelRun1_B.sl.HS2_1_1 c i arg3 harg3 arg4 harg4 arg5 harg5 arg6 harg6 arg7 harg7 arg8 harg8 arg9 harg9 arg10 harg10 arg11 harg11 arg12 harg12 hc1 x1 x2 x3 x4).tail) : Pieces)) := by rfl

theorem bs_m2 (hc1 : cond1_1 i) : (kernelRun1_B.sl.v352 c i arg3 harg3 arg4 harg4 arg5 harg5 arg6 harg6 arg7 harg7 arg8 harg8 arg9 harg9 arg10 harg10 arg11 harg11 arg12 harg12 hc1 x1 x2 x3 x4) = stM (scB (kernelRun1_B.sl.r_4 c arg4 harg4 x1) (kt arg5 (harg5.unread x2) (Facts₀.k1_off15_inb i hc1))
      (bt arg7 (harg7.unread x4) inb_S4x2x256x256_S1x1x256x256_2_1_0_0)) (rd2 arg10 (⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_l2 (hc1 : cond1_1 i) : (kernelRun1_B.sl.v341 c i arg3 harg3 arg4 harg4 arg5 harg5 arg6 harg6 arg7 harg7 arg8 harg8 arg9 harg9 arg10 harg10 arg11 harg11 arg12 harg12 hc1 x1 x2 x3 x4) = stL (scB (kernelRun1_B.sl.r_4 c arg4 harg4 x1) (kt arg5 (harg5.unread x2) (Facts₀.k1_off15_inb i hc1))
      (bt arg7 (harg7.unread x4) inb_S4x2x256x256_S1x1x256x256_2_1_0_0)) (kt arg6 (harg6.unread x3) (Facts₀.k1_off15_inb i hc1)) (rd2 arg10 (⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd2 arg11 (⟨R1, (kernelRun1_B.sl.v293 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v245 c i arg3 harg3 arg4 harg4 arg5 harg5 arg6 harg6 arg7 harg7 arg8 harg8 arg9 harg9 arg10 harg10 arg11 harg11 arg12 harg12 hc1 x1 x2 x3 x4)⟩ :: ((kernelRun1_B.sl.HS1_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_a2 (hc1 : cond1_1 i) : (kernelRun1_B.sl.v349 c i arg3 harg3 arg4 harg4 arg5 harg5 arg6 harg6 arg7 harg7 arg8 harg8 arg9 harg9 arg10 harg10 arg11 harg11 arg12 harg12 hc1 x1 x2 x3 x4) = stA (scB (kernelRun1_B.sl.r_4 c arg4 harg4 x1) (kt arg5 (harg5.unread x2) (Facts₀.k1_off15_inb i hc1))
      (bt arg7 (harg7.unread x4) inb_S4x2x256x256_S1x1x256x256_2_1_0_0)) (kt arg6 (harg6.unread x3) (Facts₀.k1_off15_inb i hc1)) (rd2 arg10 (⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd2 arg12 (⟨R1, (kernelRun1_B.sl.v301 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v253 c i arg3 harg3 arg4 harg4 arg5 harg5 arg6 harg6 arg7 harg7 arg8 harg8 arg9 harg9 arg10 harg10 arg11 harg11 arg12 harg12 hc1 x1 x2 x3 x4)⟩ :: ((kernelRun1_B.sl.HS2_1_1 c i arg3 harg3 arg4 harg4 arg5 harg5 arg6 harg6 arg7 harg7 arg8 harg8 arg9 harg9 arg10 harg10 arg11 harg11 arg12 harg12 hc1 x1 x2 x3 x4).tail) : Pieces)) := by rfl

theorem bs_m3 (hc1 : cond1_1 i) : (kernelRun1_B.sl.v400 c i arg3 harg3 arg4 harg4 arg5 harg5 arg6 harg6 arg7 harg7 arg8 harg8 arg9 harg9 arg10 harg10 arg11 harg11 arg12 harg12 hc1 x1 x2 x3 x4) = stM (scB (kernelRun1_B.sl.r_5 c arg4 harg4 x1) (kt arg5 (harg5.unread x2) (Facts₀.k1_off16_inb i hc1))
      (bt arg7 (harg7.unread x4) inb_S4x2x256x256_S1x1x256x256_3_1_0_0)) (rd3 arg10 (⟨R2, (kernelRun1_B.sl.v352 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_l3 (hc1 : cond1_1 i) : (kernelRun1_B.sl.v389 c i arg3 harg3 arg4 harg4 arg5 harg5 arg6 harg6 arg7 harg7 arg8 harg8 arg9 harg9 arg10 harg10 arg11 harg11 arg12 harg12 hc1 x1 x2 x3 x4) = stL (scB (kernelRun1_B.sl.r_5 c arg4 harg4 x1) (kt arg5 (harg5.unread x2) (Facts₀.k1_off16_inb i hc1))
      (bt arg7 (harg7.unread x4) inb_S4x2x256x256_S1x1x256x256_3_1_0_0)) (kt arg6 (harg6.unread x3) (Facts₀.k1_off16_inb i hc1)) (rd3 arg10 (⟨R2, (kernelRun1_B.sl.v352 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd3 arg11 (⟨R2, (kernelRun1_B.sl.v341 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v293 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v245 c i arg3 harg3 arg4 harg4 arg5 harg5 arg6 harg6 arg7 harg7 arg8 harg8 arg9 harg9 arg10 harg10 arg11 harg11 arg12 harg12 hc1 x1 x2 x3 x4)⟩ :: ((kernelRun1_B.sl.HS1_1_1 c i arg3 harg3 arg4 harg4 arg5 harg5 arg6 harg6 arg7 harg7 arg8 harg8 arg9 harg9 arg10 harg10 arg11 harg11 arg12 harg12 hc1 x1 x2 x3 x4).tail) : Pieces)) := by rfl
theorem bs_a3 (hc1 : cond1_1 i) : (kernelRun1_B.sl.v397 c i arg3 harg3 arg4 harg4 arg5 harg5 arg6 harg6 arg7 harg7 arg8 harg8 arg9 harg9 arg10 harg10 arg11 harg11 arg12 harg12 hc1 x1 x2 x3 x4) = stA (scB (kernelRun1_B.sl.r_5 c arg4 harg4 x1) (kt arg5 (harg5.unread x2) (Facts₀.k1_off16_inb i hc1))
      (bt arg7 (harg7.unread x4) inb_S4x2x256x256_S1x1x256x256_3_1_0_0)) (kt arg6 (harg6.unread x3) (Facts₀.k1_off16_inb i hc1)) (rd3 arg10 (⟨R2, (kernelRun1_B.sl.v352 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v304 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v256 c i arg3 harg3 arg4 harg4 arg5 harg5 arg6 harg6 arg7 harg7 arg8 harg8 arg9 harg9 arg10 harg10 arg11 harg11 arg12 harg12 hc1 x1 x2 x3 x4)⟩ :: ((kernelRun1_B.sl.HS0_1_1 c i arg3 harg3 arg4 harg4 arg5 harg5 arg6 harg6 arg7 harg7 arg8 harg8 arg9 harg9 arg10 harg10 arg11 harg11 arg12 harg12 hc1 x1 x2 x3 x4).tail) : Pieces)) (rd3 arg12 (⟨R2, (kernelRun1_B.sl.v349 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v301 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v253 c i arg3 harg3 arg4 harg4 arg5 harg5 arg6 harg6 arg7 harg7 arg8 harg8 arg9 harg9 arg10 harg10 arg11 harg11 arg12 harg12 hc1 x1 x2 x3 x4)⟩ :: ((kernelRun1_B.sl.HS2_1_1 c i arg3 harg3 arg4 harg4 arg5 harg5 arg6 harg6 arg7 harg7 arg8 harg8 arg9 harg9 arg10 harg10 arg11 harg11 arg12 harg12 hc1 x1 x2 x3 x4).tail) : Pieces)) := by rfl

theorem b_sub (hc1 : cond1_1 i) {y : Fin 4 → Fin 512 → ℕ → EReal} {v : Fin 4 → ℕ → Fin 128 → ℝ} (h : At y v arg10 arg11 arg12 ((kernelRun1_B.sl.HS0_1_1 c i arg3 harg3 arg4 harg4 arg5 harg5 arg6 harg6 arg7 harg7 arg8 harg8 arg9 harg9 arg10 harg10 arg11 harg11 arg12 harg12 hc1 x1 x2 x3 x4).tail) ((kernelRun1_B.sl.HS1_1_1 c i arg3 harg3 arg4 harg4 arg5 harg5 arg6 harg6 arg7 harg7 arg8 harg8 arg9 harg9 arg10 harg10 arg11 harg11 arg12 harg12 hc1 x1 x2 x3 x4).tail) ((kernelRun1_B.sl.HS2_1_1 c i arg3 harg3 arg4 harg4 arg5 harg5 arg6 harg6 arg7 harg7 arg8 harg8 arg9 harg9 arg10 harg10 arg11 harg11 arg12 harg12 hc1 x1 x2 x3 x4).tail) (k1_t1_loop i).trips)
    (S0 : IsTile (y 0) (v 0) (k1_t1_loop i).trips (scB (kernelRun1_B.sl.r c arg4 harg4 x1) (kt arg5 (harg5.unread x2) (Facts₀.k1_off13_inb i hc1))
      (bt arg7 (harg7.unread x4) inb_S4x2x256x256_S1x1x256x256_0_1_0_0)) (kt arg6 (harg6.unread x3) (Facts₀.k1_off13_inb i hc1)))
    (S1 : IsTile (y 1) (v 1) (k1_t1_loop i).trips (scB (kernelRun1_B.sl.r_1 c arg4 harg4 x1) (kt arg5 (harg5.unread x2) (Facts₀.k1_off14_inb i hc1))
      (bt arg7 (harg7.unread x4) inb_S4x2x256x256_S1x1x256x256_1_1_0_0)) (kt arg6 (harg6.unread x3) (Facts₀.k1_off14_inb i hc1)))
    (S2 : IsTile (y 2) (v 2) (k1_t1_loop i).trips (scB (kernelRun1_B.sl.r_4 c arg4 harg4 x1) (kt arg5 (harg5.unread x2) (Facts₀.k1_off15_inb i hc1))
      (bt arg7 (harg7.unread x4) inb_S4x2x256x256_S1x1x256x256_2_1_0_0)) (kt arg6 (harg6.unread x3) (Facts₀.k1_off15_inb i hc1)))
    (S3 : IsTile (y 3) (v 3) (k1_t1_loop i).trips (scB (kernelRun1_B.sl.r_5 c arg4 harg4 x1) (kt arg5 (harg5.unread x2) (Facts₀.k1_off16_inb i hc1))
      (bt arg7 (harg7.unread x4) inb_S4x2x256x256_S1x1x256x256_3_1_0_0)) (kt arg6 (harg6.unread x3) (Facts₀.k1_off16_inb i hc1))) :
    At y v arg10 arg11 arg12 (four ((kernelRun1_B.sl.HS0_1_1 c i arg3 harg3 arg4 harg4 arg5 harg5 arg6 harg6 arg7 harg7 arg8 harg8 arg9 harg9 arg10 harg10 arg11 harg11 arg12 harg12 hc1 x1 x2 x3 x4).tail) (kernelRun1_B.sl.v256 c i arg3 harg3 arg4 harg4 arg5 harg5 arg6 harg6 arg7 harg7 arg8 harg8 arg9 harg9 arg10 harg10 arg11 harg11 arg12 harg12 hc1 x1 x2 x3 x4) (kernelRun1_B.sl.v304 c i arg3 harg3 arg4 harg4 arg5 harg5 arg6 harg6 arg7 harg7 arg8 harg8 arg9 harg9 arg10 harg10 arg11 harg11 arg12 harg12 hc1 x1 x2 x3 x4) (kernelRun1_B.sl.v352 c i arg3 harg3 arg4 harg4 arg5 harg5 arg6 harg6 arg7 harg7 arg8 harg8 arg9 harg9 arg10 harg10 arg11 harg11 arg12 harg12 hc1 x1 x2 x3 x4) (kernelRun1_B.sl.v400 c i arg3 harg3 arg4 harg4 arg5 harg5 arg6 harg6 arg7 harg7 arg8 harg8 arg9 harg9 arg10 harg10 arg11 harg11 arg12 harg12 hc1 x1 x2 x3 x4))
      (four ((kernelRun1_B.sl.HS1_1_1 c i arg3 harg3 arg4 harg4 arg5 harg5 arg6 harg6 arg7 harg7 arg8 harg8 arg9 harg9 arg10 harg10 arg11 harg11 arg12 harg12 hc1 x1 x2 x3 x4).tail) (kernelRun1_B.sl.v245 c i arg3 harg3 arg4 harg4 arg5 harg5 arg6 harg6 arg7 harg7 arg8 harg8 arg9 harg9 arg10 harg10 arg11 harg11 arg12 harg12 hc1 x1 x2 x3 x4) (kernelRun1_B.sl.v293 c i arg3 harg3 arg4 harg4 arg5 harg5 arg6 harg6 arg7 harg7 arg8 harg8 arg9 harg9 arg10 harg10 arg11 harg11 arg12 harg12 hc1 x1 x2 x3 x4) (kernelRun1_B.sl.v341 c i arg3 harg3 arg4 harg4 arg5 harg5 arg6 harg6 arg7 harg7 arg8 harg8 arg9 harg9 arg10 harg10 arg11 harg11 arg12 harg12 hc1 x1 x2 x3 x4) (kernelRun1_B.sl.v389 c i arg3 harg3 arg4 harg4 arg5 harg5 arg6 harg6 arg7 harg7 arg8 harg8 arg9 harg9 arg10 harg10 arg11 harg11 arg12 harg12 hc1 x1 x2 x3 x4))
      (four ((kernelRun1_B.sl.HS2_1_1 c i arg3 harg3 arg4 harg4 arg5 harg5 arg6 harg6 arg7 harg7 arg8 harg8 arg9 harg9 arg10 harg10 arg11 harg11 arg12 harg12 hc1 x1 x2 x3 x4).tail) (kernelRun1_B.sl.v253 c i arg3 harg3 arg4 harg4 arg5 harg5 arg6 harg6 arg7 harg7 arg8 harg8 arg9 harg9 arg10 harg10 arg11 harg11 arg12 harg12 hc1 x1 x2 x3 x4) (kernelRun1_B.sl.v301 c i arg3 harg3 arg4 harg4 arg5 harg5 arg6 harg6 arg7 harg7 arg8 harg8 arg9 harg9 arg10 harg10 arg11 harg11 arg12 harg12 hc1 x1 x2 x3 x4) (kernelRun1_B.sl.v349 c i arg3 harg3 arg4 harg4 arg5 harg5 arg6 harg6 arg7 harg7 arg8 harg8 arg9 harg9 arg10 harg10 arg11 harg11 arg12 harg12 hc1 x1 x2 x3 x4) (kernelRun1_B.sl.v397 c i arg3 harg3 arg4 harg4 arg5 harg5 arg6 harg6 arg7 harg7 arg8 harg8 arg9 harg9 arg10 harg10 arg11 harg11 arg12 harg12 hc1 x1 x2 x3 x4)) ((k1_t1_loop i).trips + 1) :=
  At.tile' h S0 S1 S2 S3
    (bs_m0 c i arg3 harg3 arg4 harg4 arg5 harg5 arg6 harg6 arg7 harg7 arg8 harg8 arg9 harg9 arg10 harg10 arg11 harg11 arg12 harg12 x1 x2 x3 x4 hc1) (bs_l0 c i arg3 harg3 arg4 harg4 arg5 harg5 arg6 harg6 arg7 harg7 arg8 harg8 arg9 harg9 arg10 harg10 arg11 harg11 arg12 harg12 x1 x2 x3 x4 hc1) (bs_a0 c i arg3 harg3 arg4 harg4 arg5 harg5 arg6 harg6 arg7 harg7 arg8 harg8 arg9 harg9 arg10 harg10 arg11 harg11 arg12 harg12 x1 x2 x3 x4 hc1) (bs_m1 c i arg3 harg3 arg4 harg4 arg5 harg5 arg6 harg6 arg7 harg7 arg8 harg8 arg9 harg9 arg10 harg10 arg11 harg11 arg12 harg12 x1 x2 x3 x4 hc1) (bs_l1 c i arg3 harg3 arg4 harg4 arg5 harg5 arg6 harg6 arg7 harg7 arg8 harg8 arg9 harg9 arg10 harg10 arg11 harg11 arg12 harg12 x1 x2 x3 x4 hc1) (bs_a1 c i arg3 harg3 arg4 harg4 arg5 harg5 arg6 harg6 arg7 harg7 arg8 harg8 arg9 harg9 arg10 harg10 arg11 harg11 arg12 harg12 x1 x2 x3 x4 hc1) (bs_m2 c i arg3 harg3 arg4 harg4 arg5 harg5 arg6 harg6 arg7 harg7 arg8 harg8 arg9 harg9 arg10 harg10 arg11 harg11 arg12 harg12 x1 x2 x3 x4 hc1) (bs_l2 c i arg3 harg3 arg4 harg4 arg5 harg5 arg6 harg6 arg7 harg7 arg8 harg8 arg9 harg9 arg10 harg10 arg11 harg11 arg12 harg12 x1 x2 x3 x4 hc1) (bs_a2 c i arg3 harg3 arg4 harg4 arg5 harg5 arg6 harg6 arg7 harg7 arg8 harg8 arg9 harg9 arg10 harg10 arg11 harg11 arg12 harg12 x1 x2 x3 x4 hc1) (bs_m3 c i arg3 harg3 arg4 harg4 arg5 harg5 arg6 harg6 arg7 harg7 arg8 harg8 arg9 harg9 arg10 harg10 arg11 harg11 arg12 harg12 x1 x2 x3 x4 hc1) (bs_l3 c i arg3 harg3 arg4 harg4 arg5 harg5 arg6 harg6 arg7 harg7 arg8 harg8 arg9 harg9 arg10 harg10 arg11 harg11 arg12 harg12 x1 x2 x3 x4 hc1) (bs_a3 c i arg3 harg3 arg4 harg4 arg5 harg5 arg6 harg6 arg7 harg7 arg8 harg8 arg9 harg9 arg10 harg10 arg11 harg11 arg12 harg12 x1 x2 x3 x4 hc1)

theorem bd_m0 (hc1 : cond1_1 i) : (kernelRun1_B.sl.v450 c i arg3 harg3 arg4 harg4 arg5 harg5 arg6 harg6 arg7 harg7 arg8 harg8 arg9 harg9 arg10 harg10 arg11 harg11 arg12 harg12 hc1 x1 x2 x3 x4) = stM (scB (kernelRun1_B.sl.r c arg4 harg4 x1) (kt arg5 (harg5.unread x2) (Facts₀.k1_off17_inb i hc1))
      (bt arg7 (harg7.unread x4) inb_S4x2x256x256_S1x1x256x256_0_0_0_0)) (rd0 arg10 ((kernelRun1_B.sl.HS0_4 c i arg3 harg3 arg4 harg4 arg5 harg5 arg6 harg6 arg7 harg7 arg8 harg8 arg9 harg9 arg10 harg10 arg11 harg11 arg12 harg12 hc1 x1 x2 x3 x4) : Pieces)) := by rfl
theorem bd_l0 (hc1 : cond1_1 i) : (kernelRun1_B.sl.v439 c i arg3 harg3 arg4 harg4 arg5 harg5 arg6 harg6 arg7 harg7 arg8 harg8 arg9 harg9 arg10 harg10 arg11 harg11 arg12 harg12 hc1 x1 x2 x3 x4) = stL (scB (kernelRun1_B.sl.r c arg4 harg4 x1) (kt arg5 (harg5.unread x2) (Facts₀.k1_off17_inb i hc1))
      (bt arg7 (harg7.unread x4) inb_S4x2x256x256_S1x1x256x256_0_0_0_0)) (kt arg6 (harg6.unread x3) (Facts₀.k1_off17_inb i hc1)) (rd0 arg10 ((kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd0 arg11 ((kernelRun1_B.sl.HS1_4 c i arg3 harg3 arg4 harg4 arg5 harg5 arg6 harg6 arg7 harg7 arg8 harg8 arg9 harg9 arg10 harg10 arg11 harg11 arg12 harg12 hc1 x1 x2 x3 x4) : Pieces)) := by rfl
theorem bd_a0 (hc1 : cond1_1 i) : (kernelRun1_B.sl.v447 c i arg3 harg3 arg4 harg4 arg5 harg5 arg6 harg6 arg7 harg7 arg8 harg8 arg9 harg9 arg10 harg10 arg11 harg11 arg12 harg12 hc1 x1 x2 x3 x4) = stA (scB (kernelRun1_B.sl.r c arg4 harg4 x1) (kt arg5 (harg5.unread x2) (Facts₀.k1_off17_inb i hc1))
      (bt arg7 (harg7.unread x4) inb_S4x2x256x256_S1x1x256x256_0_0_0_0)) (kt arg6 (harg6.unread x3) (Facts₀.k1_off17_inb i hc1)) (rd0 arg10 ((kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd0 arg12 ((kernelRun1_B.sl.HS2_4 c i arg3 harg3 arg4 harg4 arg5 harg5 arg6 harg6 arg7 harg7 arg8 harg8 arg9 harg9 arg10 harg10 arg11 harg11 arg12 harg12 hc1 x1 x2 x3 x4) : Pieces)) := by rfl

theorem bd_m1 (hc1 : cond1_1 i) : (kernelRun1_B.sl.v498 c i arg3 harg3 arg4 harg4 arg5 harg5 arg6 harg6 arg7 harg7 arg8 harg8 arg9 harg9 arg10 harg10 arg11 harg11 arg12 harg12 hc1 x1 x2 x3 x4) = stM (scB (kernelRun1_B.sl.r_1 c arg4 harg4 x1) (kt arg5 (harg5.unread x2) (Facts₀.k1_off18_inb i hc1))
      (bt arg7 (harg7.unread x4) inb_S4x2x256x256_S1x1x256x256_1_0_0_0)) (rd1 arg10 (⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) := by rfl
theorem bd_l1 (hc1 : cond1_1 i) : (kernelRun1_B.sl.v487 c i arg3 harg3 arg4 harg4 arg5 harg5 arg6 harg6 arg7 harg7 arg8 harg8 arg9 harg9 arg10 harg10 arg11 harg11 arg12 harg12 hc1 x1 x2 x3 x4) = stL (scB (kernelRun1_B.sl.r_1 c arg4 harg4 x1) (kt arg5 (harg5.unread x2) (Facts₀.k1_off18_inb i hc1))
      (bt arg7 (harg7.unread x4) inb_S4x2x256x256_S1x1x256x256_1_0_0_0)) (kt arg6 (harg6.unread x3) (Facts₀.k1_off18_inb i hc1)) (rd1 arg10 (⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd1 arg11 (⟨R0, (kernelRun1_B.sl.v439 c i arg3 harg3 arg4 harg4 arg5 harg5 arg6 harg6 arg7 harg7 arg8 harg8 arg9 harg9 arg10 harg10 arg11 harg11 arg12 harg12 hc1 x1 x2 x3 x4)⟩ :: (kernelRun1_B.sl.HS1_4 c i arg3 harg3 arg4 harg4 arg5 harg5 arg6 harg6 arg7 harg7 arg8 harg8 arg9 harg9 arg10 harg10 arg11 harg11 arg12 harg12 hc1 x1 x2 x3 x4) : Pieces)) := by rfl
theorem bd_a1 (hc1 : cond1_1 i) : (kernelRun1_B.sl.v495 c i arg3 harg3 arg4 harg4 arg5 harg5 arg6 harg6 arg7 harg7 arg8 harg8 arg9 harg9 arg10 harg10 arg11 harg11 arg12 harg12 hc1 x1 x2 x3 x4) = stA (scB (kernelRun1_B.sl.r_1 c arg4 harg4 x1) (kt arg5 (harg5.unread x2) (Facts₀.k1_off18_inb i hc1))
      (bt arg7 (harg7.unread x4) inb_S4x2x256x256_S1x1x256x256_1_0_0_0)) (kt arg6 (harg6.unread x3) (Facts₀.k1_off18_inb i hc1)) (rd1 arg10 (⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd1 arg12 (⟨R0, (kernelRun1_B.sl.v447 c i arg3 harg3 arg4 harg4 arg5 harg5 arg6 harg6 arg7 harg7 arg8 harg8 arg9 harg9 arg10 harg10 arg11 harg11 arg12 harg12 hc1 x1 x2 x3 x4)⟩ :: (kernelRun1_B.sl.HS2_4 c i arg3 harg3 arg4 harg4 arg5 harg5 arg6 harg6 arg7 harg7 arg8 harg8 arg9 harg9 arg10 harg10 arg11 harg11 arg12 harg12 hc1 x1 x2 x3 x4) : Pieces)) := by rfl

theorem bd_m2 (hc1 : cond1_1 i) : (kernelRun1_B.sl.v546 c i arg3 harg3 arg4 harg4 arg5 harg5 arg6 harg6 arg7 harg7 arg8 harg8 arg9 harg9 arg10 harg10 arg11 harg11 arg12 harg12 hc1 x1 x2 x3 x4) = stM (scB (kernelRun1_B.sl.r_4 c arg4 harg4 x1) (kt arg5 (harg5.unread x2) (Facts₀.k1_off19_inb i hc1))
      (bt arg7 (harg7.unread x4) inb_S4x2x256x256_S1x1x256x256_2_0_0_0)) (rd2 arg10 (⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) := by rfl
theorem bd_l2 (hc1 : cond1_1 i) : (kernelRun1_B.sl.v535 c i arg3 harg3 arg4 harg4 arg5 harg5 arg6 harg6 arg7 harg7 arg8 harg8 arg9 harg9 arg10 harg10 arg11 harg11 arg12 harg12 hc1 x1 x2 x3 x4) = stL (scB (kernelRun1_B.sl.r_4 c arg4 harg4 x1) (kt arg5 (harg5.unread x2) (Facts₀.k1_off19_inb i hc1))
      (bt arg7 (harg7.unread x4) inb_S4x2x256x256_S1x1x256x256_2_0_0_0)) (kt arg6 (harg6.unread x3) (Facts₀.k1_off19_inb i hc1)) (rd2 arg10 (⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd2 arg11 (⟨R1, (kernelRun1_B.sl.v487 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v439 c i arg3 harg3 arg4 harg4 arg5 harg5 arg6 harg6 arg7 harg7 arg8 harg8 arg9 harg9 arg10 harg10 arg11 harg11 arg12 harg12 hc1 x1 x2 x3 x4)⟩ :: (kernelRun1_B.sl.HS1_4 c i arg3 harg3 arg4 harg4 arg5 harg5 arg6 harg6 arg7 harg7 arg8 harg8 arg9 harg9 arg10 harg10 arg11 harg11 arg12 harg12 hc1 x1 x2 x3 x4) : Pieces)) := by rfl
theorem bd_a2 (hc1 : cond1_1 i) : (kernelRun1_B.sl.v543 c i arg3 harg3 arg4 harg4 arg5 harg5 arg6 harg6 arg7 harg7 arg8 harg8 arg9 harg9 arg10 harg10 arg11 harg11 arg12 harg12 hc1 x1 x2 x3 x4) = stA (scB (kernelRun1_B.sl.r_4 c arg4 harg4 x1) (kt arg5 (harg5.unread x2) (Facts₀.k1_off19_inb i hc1))
      (bt arg7 (harg7.unread x4) inb_S4x2x256x256_S1x1x256x256_2_0_0_0)) (kt arg6 (harg6.unread x3) (Facts₀.k1_off19_inb i hc1)) (rd2 arg10 (⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd2 arg12 (⟨R1, (kernelRun1_B.sl.v495 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v447 c i arg3 harg3 arg4 harg4 arg5 harg5 arg6 harg6 arg7 harg7 arg8 harg8 arg9 harg9 arg10 harg10 arg11 harg11 arg12 harg12 hc1 x1 x2 x3 x4)⟩ :: (kernelRun1_B.sl.HS2_4 c i arg3 harg3 arg4 harg4 arg5 harg5 arg6 harg6 arg7 harg7 arg8 harg8 arg9 harg9 arg10 harg10 arg11 harg11 arg12 harg12 hc1 x1 x2 x3 x4) : Pieces)) := by rfl

theorem bd_l3 (hc1 : cond1_1 i) : (Gen.k1_pay192 (kernelRun1_B.sl.v569 c i arg3 harg3 arg4 harg4 arg5 harg5 arg6 harg6 arg7 harg7 arg8 harg8 arg9 harg9 arg10 harg10 arg11 harg11 arg12 harg12 hc1 x1 x2 x3 x4) (kernelRun1_B.sl.v571 c i arg3 harg3 arg4 harg4 arg5 harg5 arg6 harg6 arg7 harg7 arg8 harg8 arg9 harg9 arg10 harg10 arg11 harg11 arg12 harg12 hc1 x1 x2 x3 x4) (kernelRun1_B.sl.v573 i arg6 harg6 hc1 x3) (kernelRun1_B.sl.v576 c i arg3 harg3 arg4 harg4 arg5 harg5 arg6 harg6 arg7 harg7 arg8 harg8 arg9 harg9 arg10 harg10 arg11 harg11 arg12 harg12 hc1 x1 x2 x3 x4)) = stL (scB (kernelRun1_B.sl.r_5 c arg4 harg4 x1) (kt arg5 (harg5.unread x2) (Facts₀.k1_off20_inb i hc1))
      (bt arg7 (harg7.unread x4) inb_S4x2x256x256_S1x1x256x256_3_0_0_0)) (kt arg6 (harg6.unread x3) (Facts₀.k1_off20_inb i hc1)) (rd3 arg10 (⟨R2, (kernelRun1_B.sl.v546 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd3 arg11 (⟨R2, (kernelRun1_B.sl.v535 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v487 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v439 c i arg3 harg3 arg4 harg4 arg5 harg5 arg6 harg6 arg7 harg7 arg8 harg8 arg9 harg9 arg10 harg10 arg11 harg11 arg12 harg12 hc1 x1 x2 x3 x4)⟩ :: (kernelRun1_B.sl.HS1_4 c i arg3 harg3 arg4 harg4 arg5 harg5 arg6 harg6 arg7 harg7 arg8 harg8 arg9 harg9 arg10 harg10 arg11 harg11 arg12 harg12 hc1 x1 x2 x3 x4) : Pieces)) := by rfl
theorem bd_a3 (hc1 : cond1_1 i) : (Gen.k1_pay193 (kernelRun1_B.sl.v569 c i arg3 harg3 arg4 harg4 arg5 harg5 arg6 harg6 arg7 harg7 arg8 harg8 arg9 harg9 arg10 harg10 arg11 harg11 arg12 harg12 hc1 x1 x2 x3 x4) (kernelRun1_B.sl.v571 c i arg3 harg3 arg4 harg4 arg5 harg5 arg6 harg6 arg7 harg7 arg8 harg8 arg9 harg9 arg10 harg10 arg11 harg11 arg12 harg12 hc1 x1 x2 x3 x4) (kernelRun1_B.sl.v573 i arg6 harg6 hc1 x3) (kernelRun1_B.sl.v584 c i arg3 harg3 arg4 harg4 arg5 harg5 arg6 harg6 arg7 harg7 arg8 harg8 arg9 harg9 arg10 harg10 arg11 harg11 arg12 harg12 hc1 x1 x2 x3 x4)) = stA (scB (kernelRun1_B.sl.r_5 c arg4 harg4 x1) (kt arg5 (harg5.unread x2) (Facts₀.k1_off20_inb i hc1))
      (bt arg7 (harg7.unread x4) inb_S4x2x256x256_S1x1x256x256_3_0_0_0)) (kt arg6 (harg6.unread x3) (Facts₀.k1_off20_inb i hc1)) (rd3 arg10 (⟨R2, (kernelRun1_B.sl.v546 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces)) (rd3 arg12 (⟨R2, (kernelRun1_B.sl.v543 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v495 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v447 c i arg3 harg3 arg4 harg4 arg5 harg5 arg6 harg6 arg7 harg7 arg8 harg8 arg9 harg9 arg10 harg10 arg11 harg11 arg12 harg12 hc1 x1 x2 x3 x4)⟩ :: (kernelRun1_B.sl.HS2_4 c i arg3 harg3 arg4 harg4 arg5 harg5 arg6 harg6 arg7 harg7 arg8 harg8 arg9 harg9 arg10 harg10 arg11 harg11 arg12 harg12 hc1 x1 x2 x3 x4) : Pieces)) := by rfl

theorem b_diag (hc1 : cond1_1 i) {y : Fin 4 → Fin 512 → ℕ → EReal} {v : Fin 4 → ℕ → Fin 128 → ℝ} {n : ℕ} (h : At y v arg10 arg11 arg12 (kernelRun1_B.sl.HS0_4 c i arg3 harg3 arg4 harg4 arg5 harg5 arg6 harg6 arg7 harg7 arg8 harg8 arg9 harg9 arg10 harg10 arg11 harg11 arg12 harg12 hc1 x1 x2 x3 x4) (kernelRun1_B.sl.HS1_4 c i arg3 harg3 arg4 harg4 arg5 harg5 arg6 harg6 arg7 harg7 arg8 harg8 arg9 harg9 arg10 harg10 arg11 harg11 arg12 harg12 hc1 x1 x2 x3 x4) (kernelRun1_B.sl.HS2_4 c i arg3 harg3 arg4 harg4 arg5 harg5 arg6 harg6 arg7 harg7 arg8 harg8 arg9 harg9 arg10 harg10 arg11 harg11 arg12 harg12 hc1 x1 x2 x3 x4) n)
    (S0 : IsTile (y 0) (v 0) n (scB (kernelRun1_B.sl.r c arg4 harg4 x1) (kt arg5 (harg5.unread x2) (Facts₀.k1_off17_inb i hc1))
      (bt arg7 (harg7.unread x4) inb_S4x2x256x256_S1x1x256x256_0_0_0_0)) (kt arg6 (harg6.unread x3) (Facts₀.k1_off17_inb i hc1)))
    (S1 : IsTile (y 1) (v 1) n (scB (kernelRun1_B.sl.r_1 c arg4 harg4 x1) (kt arg5 (harg5.unread x2) (Facts₀.k1_off18_inb i hc1))
      (bt arg7 (harg7.unread x4) inb_S4x2x256x256_S1x1x256x256_1_0_0_0)) (kt arg6 (harg6.unread x3) (Facts₀.k1_off18_inb i hc1)))
    (S2 : IsTile (y 2) (v 2) n (scB (kernelRun1_B.sl.r_4 c arg4 harg4 x1) (kt arg5 (harg5.unread x2) (Facts₀.k1_off19_inb i hc1))
      (bt arg7 (harg7.unread x4) inb_S4x2x256x256_S1x1x256x256_2_0_0_0)) (kt arg6 (harg6.unread x3) (Facts₀.k1_off19_inb i hc1)))
    (S3 : IsTile (y 3) (v 3) n (scB (kernelRun1_B.sl.r_5 c arg4 harg4 x1) (kt arg5 (harg5.unread x2) (Facts₀.k1_off20_inb i hc1))
      (bt arg7 (harg7.unread x4) inb_S4x2x256x256_S1x1x256x256_3_0_0_0)) (kt arg6 (harg6.unread x3) (Facts₀.k1_off20_inb i hc1))) :
    At y v arg10 arg11 arg12 (four (kernelRun1_B.sl.HS0_4 c i arg3 harg3 arg4 harg4 arg5 harg5 arg6 harg6 arg7 harg7 arg8 harg8 arg9 harg9 arg10 harg10 arg11 harg11 arg12 harg12 hc1 x1 x2 x3 x4) (kernelRun1_B.sl.v450 c i arg3 harg3 arg4 harg4 arg5 harg5 arg6 harg6 arg7 harg7 arg8 harg8 arg9 harg9 arg10 harg10 arg11 harg11 arg12 harg12 hc1 x1 x2 x3 x4) (kernelRun1_B.sl.v498 c i arg3 harg3 arg4 harg4 arg5 harg5 arg6 harg6 arg7 harg7 arg8 harg8 arg9 harg9 arg10 harg10 arg11 harg11 arg12 harg12 hc1 x1 x2 x3 x4) (kernelRun1_B.sl.v546 c i arg3 harg3 arg4 harg4 arg5 harg5 arg6 harg6 arg7 harg7 arg8 harg8 arg9 harg9 arg10 harg10 arg11 harg11 arg12 harg12 hc1 x1 x2 x3 x4) (stM (scB (kernelRun1_B.sl.r_5 c arg4 harg4 x1) (kt arg5 (harg5.unread x2) (Facts₀.k1_off20_inb i hc1))
      (bt arg7 (harg7.unread x4) inb_S4x2x256x256_S1x1x256x256_3_0_0_0)) (rd3 arg10 (⟨R2, (kernelRun1_B.sl.v546 c i arg3 harg3 arg4 harg4 arg5 harg5 arg6 harg6 arg7 harg7 arg8 harg8 arg9 harg9 arg10 harg10 arg11 harg11 arg12 harg12 hc1 x1 x2 x3 x4)⟩ :: ⟨R1, (kernelRun1_B.sl.v498 c i arg3 harg3 arg4 harg4 arg5 harg5 arg6 harg6 arg7 harg7 arg8 harg8 arg9 harg9 arg10 harg10 arg11 harg11 arg12 harg12 hc1 x1 x2 x3 x4)⟩ :: ⟨R0, (kernelRun1_B.sl.v450 c i arg3 harg3 arg4 harg4 arg5 harg5 arg6 harg6 arg7 harg7 arg8 harg8 arg9 harg9 arg10 harg10 arg11 harg11 arg12 harg12 hc1 x1 x2 x3 x4)⟩ :: (kernelRun1_B.sl.HS0_4 c i arg3 harg3 arg4 harg4 arg5 harg5 arg6 harg6 arg7 harg7 arg8 harg8 arg9 harg9 arg10 harg10 arg11 harg11 arg12 harg12 hc1 x1 x2 x3 x4) : Pieces))))
      (four (kernelRun1_B.sl.HS1_4 c i arg3 harg3 arg4 harg4 arg5 harg5 arg6 harg6 arg7 harg7 arg8 harg8 arg9 harg9 arg10 harg10 arg11 harg11 arg12 harg12 hc1 x1 x2 x3 x4) (kernelRun1_B.sl.v439 c i arg3 harg3 arg4 harg4 arg5 harg5 arg6 harg6 arg7 harg7 arg8 harg8 arg9 harg9 arg10 harg10 arg11 harg11 arg12 harg12 hc1 x1 x2 x3 x4) (kernelRun1_B.sl.v487 c i arg3 harg3 arg4 harg4 arg5 harg5 arg6 harg6 arg7 harg7 arg8 harg8 arg9 harg9 arg10 harg10 arg11 harg11 arg12 harg12 hc1 x1 x2 x3 x4) (kernelRun1_B.sl.v535 c i arg3 harg3 arg4 harg4 arg5 harg5 arg6 harg6 arg7 harg7 arg8 harg8 arg9 harg9 arg10 harg10 arg11 harg11 arg12 harg12 hc1 x1 x2 x3 x4) (Gen.k1_pay192 (kernelRun1_B.sl.v569 c i arg3 harg3 arg4 harg4 arg5 harg5 arg6 harg6 arg7 harg7 arg8 harg8 arg9 harg9 arg10 harg10 arg11 harg11 arg12 harg12 hc1 x1 x2 x3 x4) (kernelRun1_B.sl.v571 c i arg3 harg3 arg4 harg4 arg5 harg5 arg6 harg6 arg7 harg7 arg8 harg8 arg9 harg9 arg10 harg10 arg11 harg11 arg12 harg12 hc1 x1 x2 x3 x4) (kernelRun1_B.sl.v573 i arg6 harg6 hc1 x3) (kernelRun1_B.sl.v576 c i arg3 harg3 arg4 harg4 arg5 harg5 arg6 harg6 arg7 harg7 arg8 harg8 arg9 harg9 arg10 harg10 arg11 harg11 arg12 harg12 hc1 x1 x2 x3 x4)))
      (four (kernelRun1_B.sl.HS2_4 c i arg3 harg3 arg4 harg4 arg5 harg5 arg6 harg6 arg7 harg7 arg8 harg8 arg9 harg9 arg10 harg10 arg11 harg11 arg12 harg12 hc1 x1 x2 x3 x4) (kernelRun1_B.sl.v447 c i arg3 harg3 arg4 harg4 arg5 harg5 arg6 harg6 arg7 harg7 arg8 harg8 arg9 harg9 arg10 harg10 arg11 harg11 arg12 harg12 hc1 x1 x2 x3 x4) (kernelRun1_B.sl.v495 c i arg3 harg3 arg4 harg4 arg5 harg5 arg6 harg6 arg7 harg7 arg8 harg8 arg9 harg9 arg10 harg10 arg11 harg11 arg12 harg12 hc1 x1 x2 x3 x4) (kernelRun1_B.sl.v543 c i arg3 harg3 arg4 harg4 arg5 harg5 arg6 harg6 arg7 harg7 arg8 harg8 arg9 harg9 arg10 harg10 arg11 harg11 arg12 harg12 hc1 x1 x2 x3 x4) (Gen.k1_pay193 (kernelRun1_B.sl.v569 c i arg3 harg3 arg4 harg4 arg5 harg5 arg6 harg6 arg7 harg7 arg8 harg8 arg9 harg9 arg10 harg10 arg11 harg11 arg12 harg12 hc1 x1 x2 x3 x4) (kernelRun1_B.sl.v571 c i arg3 harg3 arg4 harg4 arg5 harg5 arg6 harg6 arg7 harg7 arg8 harg8 arg9 harg9 arg10 harg10 arg11 harg11 arg12 harg12 hc1 x1 x2 x3 x4) (kernelRun1_B.sl.v573 i arg6 harg6 hc1 x3) (kernelRun1_B.sl.v584 c i arg3 harg3 arg4 harg4 arg5 harg5 arg6 harg6 arg7 harg7 arg8 harg8 arg9 harg9 arg10 harg10 arg11 harg11 arg12 harg12 hc1 x1 x2 x3 x4))) (n + 1) :=
  At.tile' h S0 S1 S2 S3
    (bd_m0 c i arg3 harg3 arg4 harg4 arg5 harg5 arg6 harg6 arg7 harg7 arg8 harg8 arg9 harg9 arg10 harg10 arg11 harg11 arg12 harg12 x1 x2 x3 x4 hc1) (bd_l0 c i arg3 harg3 arg4 harg4 arg5 harg5 arg6 harg6 arg7 harg7 arg8 harg8 arg9 harg9 arg10 harg10 arg11 harg11 arg12 harg12 x1 x2 x3 x4 hc1) (bd_a0 c i arg3 harg3 arg4 harg4 arg5 harg5 arg6 harg6 arg7 harg7 arg8 harg8 arg9 harg9 arg10 harg10 arg11 harg11 arg12 harg12 x1 x2 x3 x4 hc1) (bd_m1 c i arg3 harg3 arg4 harg4 arg5 harg5 arg6 harg6 arg7 harg7 arg8 harg8 arg9 harg9 arg10 harg10 arg11 harg11 arg12 harg12 x1 x2 x3 x4 hc1) (bd_l1 c i arg3 harg3 arg4 harg4 arg5 harg5 arg6 harg6 arg7 harg7 arg8 harg8 arg9 harg9 arg10 harg10 arg11 harg11 arg12 harg12 x1 x2 x3 x4 hc1) (bd_a1 c i arg3 harg3 arg4 harg4 arg5 harg5 arg6 harg6 arg7 harg7 arg8 harg8 arg9 harg9 arg10 harg10 arg11 harg11 arg12 harg12 x1 x2 x3 x4 hc1) (bd_m2 c i arg3 harg3 arg4 harg4 arg5 harg5 arg6 harg6 arg7 harg7 arg8 harg8 arg9 harg9 arg10 harg10 arg11 harg11 arg12 harg12 x1 x2 x3 x4 hc1) (bd_l2 c i arg3 harg3 arg4 harg4 arg5 harg5 arg6 harg6 arg7 harg7 arg8 harg8 arg9 harg9 arg10 harg10 arg11 harg11 arg12 harg12 x1 x2 x3 x4 hc1) (bd_a2 c i arg3 harg3 arg4 harg4 arg5 harg5 arg6 harg6 arg7 harg7 arg8 harg8 arg9 harg9 arg10 harg10 arg11 harg11 arg12 harg12 x1 x2 x3 x4 hc1) rfl (bd_l3 c i arg3 harg3 arg4 harg4 arg5 harg5 arg6 harg6 arg7 harg7 arg8 harg8 arg9 harg9 arg10 harg10 arg11 harg11 arg12 harg12 x1 x2 x3 x4 hc1) (bd_a3 c i arg3 harg3 arg4 harg4 arg5 harg5 arg6 harg6 arg7 harg7 arg8 harg8 arg9 harg9 arg10 harg10 arg11 harg11 arg12 harg12 x1 x2 x3 x4 hc1)

theorem a_loop (hc0 : cond1_0 i) {y : Fin 4 → Fin 512 → ℕ → EReal} {v : Fin 4 → ℕ → Fin 128 → ℝ}
    (T : ∀ k : Fin (k1_t1_loop i).trips,
      IsTile (y 0) (v 0) k.val (scF (kernelRun1_A.sl.r c arg4 harg4 x1) (kt arg5 (harg5.unread x2) (Facts₀.k1_off1_inb i k))) (kt arg6 (harg6.unread x3) (Facts₀.k1_off1_inb i k)) ∧
      IsTile (y 1) (v 1) k.val (scF (kernelRun1_A.sl.r_1 c arg4 harg4 x1) (kt arg5 (harg5.unread x2) (Facts₀.k1_off2_inb i k))) (kt arg6 (harg6.unread x3) (Facts₀.k1_off2_inb i k)) ∧
      IsTile (y 2) (v 2) k.val (scF (kernelRun1_A.sl.r_4 c arg4 harg4 x1) (kt arg5 (harg5.unread x2) (Facts₀.k1_off3_inb i k))) (kt arg6 (harg6.unread x3) (Facts₀.k1_off3_inb i k)) ∧
      IsTile (y 3) (v 3) k.val (scF (kernelRun1_A.sl.r_5 c arg4 harg4 x1) (kt arg5 (harg5.unread x2) (Facts₀.k1_off4_inb i k))) (kt arg6 (harg6.unread x3) (Facts₀.k1_off4_inb i k))) :
    At y v arg10 arg11 arg12 ((kernelRun1_A.sl.HS0_1_1 c i arg3 harg3 arg4 harg4 arg5 harg5 arg6 harg6 arg7 harg7 arg8 harg8 arg9 harg9 arg10 harg10 arg11 harg11 arg12 harg12 hc0 x1 x2 x3 x4).tail) ((kernelRun1_A.sl.HS1_1_1 c i arg3 harg3 arg4 harg4 arg5 harg5 arg6 harg6 arg7 harg7 arg8 harg8 arg9 harg9 arg10 harg10 arg11 harg11 arg12 harg12 hc0 x1 x2 x3 x4).tail) ((kernelRun1_A.sl.HS2_1_1 c i arg3 harg3 arg4 harg4 arg5 harg5 arg6 harg6 arg7 harg7 arg8 harg8 arg9 harg9 arg10 harg10 arg11 harg11 arg12 harg12 hc0 x1 x2 x3 x4).tail) (k1_t1_loop i).trips := by
  have h0 := loop_at c i arg3 harg3 arg4 harg4 arg5 harg5 arg6 harg6 arg7 harg7 arg8 harg8 arg9 harg9 arg10 harg10 arg11 harg11 arg12 harg12 (BitVec.ofNat 32 (i 2).val) (kernelRun1_A.sl.r c arg4 harg4 x1) (kernelRun1_A.sl.r_1 c arg4 harg4 x1) (kernelRun1_A.sl.r_4 c arg4 harg4 x1) (kernelRun1_A.sl.r_5 c arg4 harg4 x1) 0#32 (kernelRun1_A.sl.v67 i) 1#32
    (harg5.unread x2) (harg6.unread x3) (init_at arg10 arg11 arg12 y v) T _ (le_refl _)
  have e : Scf.trips (k1_t2_loop i).lb (k1_t2_loop i).ub (k1_t2_loop i).st = 0 := trips2 i
  unfold kernelRun1_A.sl.HS0_1_1 kernelRun1_A.sl.HS1_1_1 kernelRun1_A.sl.HS2_1_1
  simp only [List.tail_cons, e, pb_k1_t2, List.nil_append]
  exact h0

theorem ad_m0 (hc0 : cond1_0 i) : (kernelRun1_A.sl.v255 c i arg3 harg3 arg4 harg4 arg5 harg5 arg6 harg6 arg7 harg7 arg8 harg8 arg9 harg9 arg10 harg10 arg11 harg11 arg12 harg12 hc0 x1 x2 x3 x4) = stM (scB (kernelRun1_A.sl.r c arg4 harg4 x1) (kt arg5 (harg5.unread x2) (Facts₀.k1_off9_inb i hc0))
      (bt arg7 (harg7.unread x4) inb_S4x2x256x256_S1x1x256x256_0_0_0_0)) (rd0 arg10 (((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_l0 (hc0 : cond1_0 i) : (kernelRun1_A.sl.v244 c i arg3 harg3 arg4 harg4 arg5 harg5 arg6 harg6 arg7 harg7 arg8 harg8 arg9 harg9 arg10 harg10 arg11 harg11 arg12 harg12 hc0 x1 x2 x3 x4) = stL (scB (kernelRun1_A.sl.r c arg4 harg4 x1) (kt arg5 (harg5.unread x2) (Facts₀.k1_off9_inb i hc0))
      (bt arg7 (harg7.unread x4) inb_S4x2x256x256_S1x1x256x256_0_0_0_0)) (kt arg6 (harg6.unread x3) (Facts₀.k1_off9_inb i hc0)) (rd0 arg10 (((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd0 arg11 (((kernelRun1_A.sl.HS1_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_a0 (hc0 : cond1_0 i) : (kernelRun1_A.sl.v252 c i arg3 harg3 arg4 harg4 arg5 harg5 arg6 harg6 arg7 harg7 arg8 harg8 arg9 harg9 arg10 harg10 arg11 harg11 arg12 harg12 hc0 x1 x2 x3 x4) = stA (scB (kernelRun1_A.sl.r c arg4 harg4 x1) (kt arg5 (harg5.unread x2) (Facts₀.k1_off9_inb i hc0))
      (bt arg7 (harg7.unread x4) inb_S4x2x256x256_S1x1x256x256_0_0_0_0)) (kt arg6 (harg6.unread x3) (Facts₀.k1_off9_inb i hc0)) (rd0 arg10 (((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd0 arg12 (((kernelRun1_A.sl.HS2_1_1 c i arg3 harg3 arg4 harg4 arg5 harg5 arg6 harg6 arg7 harg7 arg8 harg8 arg9 harg9 arg10 harg10 arg11 harg11 arg12 harg12 hc0 x1 x2 x3 x4).tail) : Pieces)) := by rfl

theorem ad_m1 (hc0 : cond1_0 i) : (kernelRun1_A.sl.v303 c i arg3 harg3 arg4 harg4 arg5 harg5 arg6 harg6 arg7 harg7 arg8 harg8 arg9 harg9 arg10 harg10 arg11 harg11 arg12 harg12 hc0 x1 x2 x3 x4) = stM (scB (kernelRun1_A.sl.r_1 c arg4 harg4 x1) (kt arg5 (harg5.unread x2) (Facts₀.k1_off10_inb i hc0))
      (bt arg7 (harg7.unread x4) inb_S4x2x256x256_S1x1x256x256_1_0_0_0)) (rd1 arg10 (⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_l1 (hc0 : cond1_0 i) : (kernelRun1_A.sl.v292 c i arg3 harg3 arg4 harg4 arg5 harg5 arg6 harg6 arg7 harg7 arg8 harg8 arg9 harg9 arg10 harg10 arg11 harg11 arg12 harg12 hc0 x1 x2 x3 x4) = stL (scB (kernelRun1_A.sl.r_1 c arg4 harg4 x1) (kt arg5 (harg5.unread x2) (Facts₀.k1_off10_inb i hc0))
      (bt arg7 (harg7.unread x4) inb_S4x2x256x256_S1x1x256x256_1_0_0_0)) (kt arg6 (harg6.unread x3) (Facts₀.k1_off10_inb i hc0)) (rd1 arg10 (⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd1 arg11 (⟨R0, (kernelRun1_A.sl.v244 c i arg3 harg3 arg4 harg4 arg5 harg5 arg6 harg6 arg7 harg7 arg8 harg8 arg9 harg9 arg10 harg10 arg11 harg11 arg12 harg12 hc0 x1 x2 x3 x4)⟩ :: ((kernelRun1_A.sl.HS1_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_a1 (hc0 : cond1_0 i) : (kernelRun1_A.sl.v300 c i arg3 harg3 arg4 harg4 arg5 harg5 arg6 harg6 arg7 harg7 arg8 harg8 arg9 harg9 arg10 harg10 arg11 harg11 arg12 harg12 hc0 x1 x2 x3 x4) = stA (scB (kernelRun1_A.sl.r_1 c arg4 harg4 x1) (kt arg5 (harg5.unread x2) (Facts₀.k1_off10_inb i hc0))
      (bt arg7 (harg7.unread x4) inb_S4x2x256x256_S1x1x256x256_1_0_0_0)) (kt arg6 (harg6.unread x3) (Facts₀.k1_off10_inb i hc0)) (rd1 arg10 (⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd1 arg12 (⟨R0, (kernelRun1_A.sl.v252 c i arg3 harg3 arg4 harg4 arg5 harg5 arg6 harg6 arg7 harg7 arg8 harg8 arg9 harg9 arg10 harg10 arg11 harg11 arg12 harg12 hc0 x1 x2 x3 x4)⟩ :: ((kernelRun1_A.sl.HS2_1_1 c i arg3 harg3 arg4 harg4 arg5 harg5 arg6 harg6 arg7 harg7 arg8 harg8 arg9 harg9 arg10 harg10 arg11 harg11 arg12 harg12 hc0 x1 x2 x3 x4).tail) : Pieces)) := by rfl

theorem ad_m2 (hc0 : cond1_0 i) : (kernelRun1_A.sl.v351 c i arg3 harg3 arg4 harg4 arg5 harg5 arg6 harg6 arg7 harg7 arg8 harg8 arg9 harg9 arg10 harg10 arg11 harg11 arg12 harg12 hc0 x1 x2 x3 x4) = stM (scB (kernelRun1_A.sl.r_4 c arg4 harg4 x1) (kt arg5 (harg5.unread x2) (Facts₀.k1_off11_inb i hc0))
      (bt arg7 (harg7.unread x4) inb_S4x2x256x256_S1x1x256x256_2_0_0_0)) (rd2 arg10 (⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_l2 (hc0 : cond1_0 i) : (kernelRun1_A.sl.v340 c i arg3 harg3 arg4 harg4 arg5 harg5 arg6 harg6 arg7 harg7 arg8 harg8 arg9 harg9 arg10 harg10 arg11 harg11 arg12 harg12 hc0 x1 x2 x3 x4) = stL (scB (kernelRun1_A.sl.r_4 c arg4 harg4 x1) (kt arg5 (harg5.unread x2) (Facts₀.k1_off11_inb i hc0))
      (bt arg7 (harg7.unread x4) inb_S4x2x256x256_S1x1x256x256_2_0_0_0)) (kt arg6 (harg6.unread x3) (Facts₀.k1_off11_inb i hc0)) (rd2 arg10 (⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd2 arg11 (⟨R1, (kernelRun1_A.sl.v292 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v244 c i arg3 harg3 arg4 harg4 arg5 harg5 arg6 harg6 arg7 harg7 arg8 harg8 arg9 harg9 arg10 harg10 arg11 harg11 arg12 harg12 hc0 x1 x2 x3 x4)⟩ :: ((kernelRun1_A.sl.HS1_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_a2 (hc0 : cond1_0 i) : (kernelRun1_A.sl.v348 c i arg3 harg3 arg4 harg4 arg5 harg5 arg6 harg6 arg7 harg7 arg8 harg8 arg9 harg9 arg10 harg10 arg11 harg11 arg12 harg12 hc0 x1 x2 x3 x4) = stA (scB (kernelRun1_A.sl.r_4 c arg4 harg4 x1) (kt arg5 (harg5.unread x2) (Facts₀.k1_off11_inb i hc0))
      (bt arg7 (harg7.unread x4) inb_S4x2x256x256_S1x1x256x256_2_0_0_0)) (kt arg6 (harg6.unread x3) (Facts₀.k1_off11_inb i hc0)) (rd2 arg10 (⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd2 arg12 (⟨R1, (kernelRun1_A.sl.v300 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v252 c i arg3 harg3 arg4 harg4 arg5 harg5 arg6 harg6 arg7 harg7 arg8 harg8 arg9 harg9 arg10 harg10 arg11 harg11 arg12 harg12 hc0 x1 x2 x3 x4)⟩ :: ((kernelRun1_A.sl.HS2_1_1 c i arg3 harg3 arg4 harg4 arg5 harg5 arg6 harg6 arg7 harg7 arg8 harg8 arg9 harg9 arg10 harg10 arg11 harg11 arg12 harg12 hc0 x1 x2 x3 x4).tail) : Pieces)) := by rfl

theorem ad_l3 (hc0 : cond1_0 i) : (kernelRun1_A.sl.v388 c i arg3 harg3 arg4 harg4 arg5 harg5 arg6 harg6 arg7 harg7 arg8 harg8 arg9 harg9 arg10 harg10 arg11 harg11 arg12 harg12 hc0 x1 x2 x3 x4) = stL (scB (kernelRun1_A.sl.r_5 c arg4 harg4 x1) (kt arg5 (harg5.unread x2) (Facts₀.k1_off12_inb i hc0))
      (bt arg7 (harg7.unread x4) inb_S4x2x256x256_S1x1x256x256_3_0_0_0)) (kt arg6 (harg6.unread x3) (Facts₀.k1_off12_inb i hc0)) (rd3 arg10 (⟨R2, (kernelRun1_A.sl.v351 c i arg3 harg3 arg4 harg4 arg5 harg5 arg6 harg6 arg7 harg7 arg8 harg8 arg9 harg9 arg10 harg10 arg11 harg11 arg12 harg12 hc0 x1 x2 x3 x4)⟩ :: ⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd3 arg11 (⟨R2, (kernelRun1_A.sl.v340 c i arg3 harg3 arg4 harg4 arg5 harg5 arg6 harg6 arg7 harg7 arg8 harg8 arg9 harg9 arg10 harg10 arg11 harg11 arg12 harg12 hc0 x1 x2 x3 x4)⟩ :: ⟨R1, (kernelRun1_A.sl.v292 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v244 c i arg3 harg3 arg4 harg4 arg5 harg5 arg6 harg6 arg7 harg7 arg8 harg8 arg9 harg9 arg10 harg10 arg11 harg11 arg12 harg12 hc0 x1 x2 x3 x4)⟩ :: ((kernelRun1_A.sl.HS1_1_1 c i arg3 harg3 arg4 harg4 arg5 harg5 arg6 harg6 arg7 harg7 arg8 harg8 arg9 harg9 arg10 harg10 arg11 harg11 arg12 harg12 hc0 x1 x2 x3 x4).tail) : Pieces)) := by rfl
theorem ad_a3 (hc0 : cond1_0 i) : (Gen.k1_pay189 (kernelRun1_A.sl.v376 c i arg3 harg3 arg4 harg4 arg5 harg5 arg6 harg6 arg7 harg7 arg8 harg8 arg9 harg9 arg10 harg10 arg11 harg11 arg12 harg12 hc0 x1 x2 x3 x4) (kernelRun1_A.sl.v380 c i arg3 harg3 arg4 harg4 arg5 harg5 arg6 harg6 arg7 harg7 arg8 harg8 arg9 harg9 arg10 harg10 arg11 harg11 arg12 harg12 hc0 x1 x2 x3 x4) (kernelRun1_A.sl.v389 c i arg3 harg3 arg4 harg4 arg5 harg5 arg6 harg6 arg7 harg7 arg8 harg8 arg9 harg9 arg10 harg10 arg11 harg11 arg12 harg12 hc0 x1 x2 x3 x4)) = stA (scB (kernelRun1_A.sl.r_5 c arg4 harg4 x1) (kt arg5 (harg5.unread x2) (Facts₀.k1_off12_inb i hc0))
      (bt arg7 (harg7.unread x4) inb_S4x2x256x256_S1x1x256x256_3_0_0_0)) (kt arg6 (harg6.unread x3) (Facts₀.k1_off12_inb i hc0)) (rd3 arg10 (⟨R2, (kernelRun1_A.sl.v351 c i arg3 harg3 arg4 harg4 arg5 harg5 arg6 harg6 arg7 harg7 arg8 harg8 arg9 harg9 arg10 harg10 arg11 harg11 arg12 harg12 hc0 x1 x2 x3 x4)⟩ :: ⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces)) (rd3 arg12 (⟨R2, (kernelRun1_A.sl.v348 c i arg3 harg3 arg4 harg4 arg5 harg5 arg6 harg6 arg7 harg7 arg8 harg8 arg9 harg9 arg10 harg10 arg11 harg11 arg12 harg12 hc0 x1 x2 x3 x4)⟩ :: ⟨R1, (kernelRun1_A.sl.v300 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v252 c i arg3 harg3 arg4 harg4 arg5 harg5 arg6 harg6 arg7 harg7 arg8 harg8 arg9 harg9 arg10 harg10 arg11 harg11 arg12 harg12 hc0 x1 x2 x3 x4)⟩ :: ((kernelRun1_A.sl.HS2_1_1 c i arg3 harg3 arg4 harg4 arg5 harg5 arg6 harg6 arg7 harg7 arg8 harg8 arg9 harg9 arg10 harg10 arg11 harg11 arg12 harg12 hc0 x1 x2 x3 x4).tail) : Pieces)) := by rfl

theorem a_diag (hc0 : cond1_0 i) {y : Fin 4 → Fin 512 → ℕ → EReal} {v : Fin 4 → ℕ → Fin 128 → ℝ} (h : At y v arg10 arg11 arg12 ((kernelRun1_A.sl.HS0_1_1 c i arg3 harg3 arg4 harg4 arg5 harg5 arg6 harg6 arg7 harg7 arg8 harg8 arg9 harg9 arg10 harg10 arg11 harg11 arg12 harg12 hc0 x1 x2 x3 x4).tail) ((kernelRun1_A.sl.HS1_1_1 c i arg3 harg3 arg4 harg4 arg5 harg5 arg6 harg6 arg7 harg7 arg8 harg8 arg9 harg9 arg10 harg10 arg11 harg11 arg12 harg12 hc0 x1 x2 x3 x4).tail) ((kernelRun1_A.sl.HS2_1_1 c i arg3 harg3 arg4 harg4 arg5 harg5 arg6 harg6 arg7 harg7 arg8 harg8 arg9 harg9 arg10 harg10 arg11 harg11 arg12 harg12 hc0 x1 x2 x3 x4).tail) (k1_t1_loop i).trips)
    (S0 : IsTile (y 0) (v 0) (k1_t1_loop i).trips (scB (kernelRun1_A.sl.r c arg4 harg4 x1) (kt arg5 (harg5.unread x2) (Facts₀.k1_off9_inb i hc0))
      (bt arg7 (harg7.unread x4) inb_S4x2x256x256_S1x1x256x256_0_0_0_0)) (kt arg6 (harg6.unread x3) (Facts₀.k1_off9_inb i hc0)))
    (S1 : IsTile (y 1) (v 1) (k1_t1_loop i).trips (scB (kernelRun1_A.sl.r_1 c arg4 harg4 x1) (kt arg5 (harg5.unread x2) (Facts₀.k1_off10_inb i hc0))
      (bt arg7 (harg7.unread x4) inb_S4x2x256x256_S1x1x256x256_1_0_0_0)) (kt arg6 (harg6.unread x3) (Facts₀.k1_off10_inb i hc0)))
    (S2 : IsTile (y 2) (v 2) (k1_t1_loop i).trips (scB (kernelRun1_A.sl.r_4 c arg4 harg4 x1) (kt arg5 (harg5.unread x2) (Facts₀.k1_off11_inb i hc0))
      (bt arg7 (harg7.unread x4) inb_S4x2x256x256_S1x1x256x256_2_0_0_0)) (kt arg6 (harg6.unread x3) (Facts₀.k1_off11_inb i hc0)))
    (S3 : IsTile (y 3) (v 3) (k1_t1_loop i).trips (scB (kernelRun1_A.sl.r_5 c arg4 harg4 x1) (kt arg5 (harg5.unread x2) (Facts₀.k1_off12_inb i hc0))
      (bt arg7 (harg7.unread x4) inb_S4x2x256x256_S1x1x256x256_3_0_0_0)) (kt arg6 (harg6.unread x3) (Facts₀.k1_off12_inb i hc0))) :
    At y v arg10 arg11 arg12 (four ((kernelRun1_A.sl.HS0_1_1 c i arg3 harg3 arg4 harg4 arg5 harg5 arg6 harg6 arg7 harg7 arg8 harg8 arg9 harg9 arg10 harg10 arg11 harg11 arg12 harg12 hc0 x1 x2 x3 x4).tail) (kernelRun1_A.sl.v255 c i arg3 harg3 arg4 harg4 arg5 harg5 arg6 harg6 arg7 harg7 arg8 harg8 arg9 harg9 arg10 harg10 arg11 harg11 arg12 harg12 hc0 x1 x2 x3 x4) (kernelRun1_A.sl.v303 c i arg3 harg3 arg4 harg4 arg5 harg5 arg6 harg6 arg7 harg7 arg8 harg8 arg9 harg9 arg10 harg10 arg11 harg11 arg12 harg12 hc0 x1 x2 x3 x4) (kernelRun1_A.sl.v351 c i arg3 harg3 arg4 harg4 arg5 harg5 arg6 harg6 arg7 harg7 arg8 harg8 arg9 harg9 arg10 harg10 arg11 harg11 arg12 harg12 hc0 x1 x2 x3 x4) (stM (scB (kernelRun1_A.sl.r_5 c arg4 harg4 x1) (kt arg5 (harg5.unread x2) (Facts₀.k1_off12_inb i hc0))
      (bt arg7 (harg7.unread x4) inb_S4x2x256x256_S1x1x256x256_3_0_0_0)) (rd3 arg10 (⟨R2, (kernelRun1_A.sl.v351 c i arg3 harg3 arg4 harg4 arg5 harg5 arg6 harg6 arg7 harg7 arg8 harg8 arg9 harg9 arg10 harg10 arg11 harg11 arg12 harg12 hc0 x1 x2 x3 x4)⟩ :: ⟨R1, (kernelRun1_A.sl.v303 c i arg3 harg3 arg4 harg4 arg5 harg5 arg6 harg6 arg7 harg7 arg8 harg8 arg9 harg9 arg10 harg10 arg11 harg11 arg12 harg12 hc0 x1 x2 x3 x4)⟩ :: ⟨R0, (kernelRun1_A.sl.v255 c i arg3 harg3 arg4 harg4 arg5 harg5 arg6 harg6 arg7 harg7 arg8 harg8 arg9 harg9 arg10 harg10 arg11 harg11 arg12 harg12 hc0 x1 x2 x3 x4)⟩ :: ((kernelRun1_A.sl.HS0_1_1 c i arg3 harg3 arg4 harg4 arg5 harg5 arg6 harg6 arg7 harg7 arg8 harg8 arg9 harg9 arg10 harg10 arg11 harg11 arg12 harg12 hc0 x1 x2 x3 x4).tail) : Pieces))))
      (four ((kernelRun1_A.sl.HS1_1_1 c i arg3 harg3 arg4 harg4 arg5 harg5 arg6 harg6 arg7 harg7 arg8 harg8 arg9 harg9 arg10 harg10 arg11 harg11 arg12 harg12 hc0 x1 x2 x3 x4).tail) (kernelRun1_A.sl.v244 c i arg3 harg3 arg4 harg4 arg5 harg5 arg6 harg6 arg7 harg7 arg8 harg8 arg9 harg9 arg10 harg10 arg11 harg11 arg12 harg12 hc0 x1 x2 x3 x4) (kernelRun1_A.sl.v292 c i arg3 harg3 arg4 harg4 arg5 harg5 arg6 harg6 arg7 harg7 arg8 harg8 arg9 harg9 arg10 harg10 arg11 harg11 arg12 harg12 hc0 x1 x2 x3 x4) (kernelRun1_A.sl.v340 c i arg3 harg3 arg4 harg4 arg5 harg5 arg6 harg6 arg7 harg7 arg8 harg8 arg9 harg9 arg10 harg10 arg11 harg11 arg12 harg12 hc0 x1 x2 x3 x4) (kernelRun1_A.sl.v388 c i arg3 harg3 arg4 harg4 arg5 harg5 arg6 harg6 arg7 harg7 arg8 harg8 arg9 harg9 arg10 harg10 arg11 harg11 arg12 harg12 hc0 x1 x2 x3 x4))
      (four ((kernelRun1_A.sl.HS2_1_1 c i arg3 harg3 arg4 harg4 arg5 harg5 arg6 harg6 arg7 harg7 arg8 harg8 arg9 harg9 arg10 harg10 arg11 harg11 arg12 harg12 hc0 x1 x2 x3 x4).tail) (kernelRun1_A.sl.v252 c i arg3 harg3 arg4 harg4 arg5 harg5 arg6 harg6 arg7 harg7 arg8 harg8 arg9 harg9 arg10 harg10 arg11 harg11 arg12 harg12 hc0 x1 x2 x3 x4) (kernelRun1_A.sl.v300 c i arg3 harg3 arg4 harg4 arg5 harg5 arg6 harg6 arg7 harg7 arg8 harg8 arg9 harg9 arg10 harg10 arg11 harg11 arg12 harg12 hc0 x1 x2 x3 x4) (kernelRun1_A.sl.v348 c i arg3 harg3 arg4 harg4 arg5 harg5 arg6 harg6 arg7 harg7 arg8 harg8 arg9 harg9 arg10 harg10 arg11 harg11 arg12 harg12 hc0 x1 x2 x3 x4) (Gen.k1_pay189 (kernelRun1_A.sl.v376 c i arg3 harg3 arg4 harg4 arg5 harg5 arg6 harg6 arg7 harg7 arg8 harg8 arg9 harg9 arg10 harg10 arg11 harg11 arg12 harg12 hc0 x1 x2 x3 x4) (kernelRun1_A.sl.v380 c i arg3 harg3 arg4 harg4 arg5 harg5 arg6 harg6 arg7 harg7 arg8 harg8 arg9 harg9 arg10 harg10 arg11 harg11 arg12 harg12 hc0 x1 x2 x3 x4) (kernelRun1_A.sl.v389 c i arg3 harg3 arg4 harg4 arg5 harg5 arg6 harg6 arg7 harg7 arg8 harg8 arg9 harg9 arg10 harg10 arg11 harg11 arg12 harg12 hc0 x1 x2 x3 x4))) ((k1_t1_loop i).trips + 1) :=
  At.tile' h S0 S1 S2 S3
    (ad_m0 c i arg3 harg3 arg4 harg4 arg5 harg5 arg6 harg6 arg7 harg7 arg8 harg8 arg9 harg9 arg10 harg10 arg11 harg11 arg12 harg12 x1 x2 x3 x4 hc0) (ad_l0 c i arg3 harg3 arg4 harg4 arg5 harg5 arg6 harg6 arg7 harg7 arg8 harg8 arg9 harg9 arg10 harg10 arg11 harg11 arg12 harg12 x1 x2 x3 x4 hc0) (ad_a0 c i arg3 harg3 arg4 harg4 arg5 harg5 arg6 harg6 arg7 harg7 arg8 harg8 arg9 harg9 arg10 harg10 arg11 harg11 arg12 harg12 x1 x2 x3 x4 hc0) (ad_m1 c i arg3 harg3 arg4 harg4 arg5 harg5 arg6 harg6 arg7 harg7 arg8 harg8 arg9 harg9 arg10 harg10 arg11 harg11 arg12 harg12 x1 x2 x3 x4 hc0) (ad_l1 c i arg3 harg3 arg4 harg4 arg5 harg5 arg6 harg6 arg7 harg7 arg8 harg8 arg9 harg9 arg10 harg10 arg11 harg11 arg12 harg12 x1 x2 x3 x4 hc0) (ad_a1 c i arg3 harg3 arg4 harg4 arg5 harg5 arg6 harg6 arg7 harg7 arg8 harg8 arg9 harg9 arg10 harg10 arg11 harg11 arg12 harg12 x1 x2 x3 x4 hc0) (ad_m2 c i arg3 harg3 arg4 harg4 arg5 harg5 arg6 harg6 arg7 harg7 arg8 harg8 arg9 harg9 arg10 harg10 arg11 harg11 arg12 harg12 x1 x2 x3 x4 hc0) (ad_l2 c i arg3 harg3 arg4 harg4 arg5 harg5 arg6 harg6 arg7 harg7 arg8 harg8 arg9 harg9 arg10 harg10 arg11 harg11 arg12 harg12 x1 x2 x3 x4 hc0) (ad_a2 c i arg3 harg3 arg4 harg4 arg5 harg5 arg6 harg6 arg7 harg7 arg8 harg8 arg9 harg9 arg10 harg10 arg11 harg11 arg12 harg12 x1 x2 x3 x4 hc0) rfl (ad_l3 c i arg3 harg3 arg4 harg4 arg5 harg5 arg6 harg6 arg7 harg7 arg8 harg8 arg9 harg9 arg10 harg10 arg11 harg11 arg12 harg12 x1 x2 x3 x4 hc0) (ad_a3 c i arg3 harg3 arg4 harg4 arg5 harg5 arg6 harg6 arg7 harg7 arg8 harg8 arg9 harg9 arg10 harg10 arg11 harg11 arg12 harg12 x1 x2 x3 x4 hc0)

end Cert.State
-- ==== Proof.Out.lean ====
/- The kernel's other per-head computations read at a position: the query rows of the two maps, the
   map weight, and the row that a head writes out. -/
module

public import proofs.«01_k».proof.Proof.Tile

@[expose] public section

set_option maxRecDepth 16384

noncomputable section

namespace Cert.Out

open Idealize.ShloMosaic Idealize.SL.Sem
open Cert.KernelIdeal Cert.KernelIdeal.Facts₀ Cert.Tile
open Cert.KernelIdeal.Gen (k1_pay1 k1_pay173 k1_pay174 k1_pay175 k1_pay176 k1_pay177 k1_pay178 k1_pay179 k1_pay195 k1_pay196
  k1_pay197 k1_pay198 k1_pay199 k1_pay200 k1_pay201 k1_pay202 k1_pay203)

/-- Row `r` of a head's result before the norm: the first map's row minus the weighted second one. -/
def diff (lam : EReal) (A L : Slab) (r : Fin 256) (d : Fin 128) : EReal :=
  Ideal.div (A (ix3 0 ⟨r.val, by omega⟩ d)) (L (ix3 0 ⟨r.val, by omega⟩ d)) -
    lam * Ideal.div (A (ix3 0 ⟨256 + r.val, by omega⟩ d)) (L (ix3 0 ⟨256 + r.val, by omega⟩ d))

/-- What a head writes at row `r`, lane `d`. -/
def fin (lam : EReal) (A L : Slab) (g : FVec Ideal S1x128 .f32) (r : Fin 256) (d : Fin 128) : EReal :=
  diff lam A L r d *
    Ideal.rsqrt (Ideal.div (∑ d' : Fin 128, diff lam A L r d' * diff lam A L r d') (Ideal.ofBits .f32 0x43000000#32) +
      Ideal.ofBits .f32 0x358637BD#32) * g (ix2 0 d) * Ideal.ofBits .f32 0x3F4CCCCD#32

theorem fin_apply (s : FVec Ideal S1x1 .f32) (A L : Slab) (g : FVec Ideal S1x128 .f32) (r : Fin 256) (d : Fin 128) :
    k1_pay202 (F := Ideal) s A L g (ix2 r d) = fin (s (ix2 0 0)) A L g r d := by
  pointwise [k1_pay202, fin, diff]

theorem lam_apply (x : FVec Ideal S4x64 .f32) : k1_pay195 (F := Ideal) x (ix2 0 0) = Cert.Spec.lamOf x := by
  pointwise [k1_pay195, Cert.Spec.lamOf]

theorem same0 (x : FVec Ideal S4x64 .f32) (A L : Slab) (g : FVec Ideal S1x128 .f32) :
    k1_pay198 (k1_pay196 (F := Ideal) x A L) (k1_pay197 g) = k1_pay202 (k1_pay195 x) A L g := rfl
theorem same1 (s : FVec Ideal S1x1 .f32) (A L : Slab) (g : FVec Ideal S1x128 .f32) :
    k1_pay201 (k1_pay199 (F := Ideal) s A L g) k1_pay200 = k1_pay202 s A L g := rfl
theorem same3 (s : FVec Ideal S1x1 .f32) (A L : Slab) (g : FVec Ideal S1x128 .f32) :
    k1_pay1 (F := Ideal) s (k1_pay203 A L) g = k1_pay202 s A L g := rfl

/-- A query row, as the kernel scales it. -/
def scl (x : FVec Ideal S256x128 .f32) (r : Fin 256) (c : Fin 128) : EReal :=
  x (ix2 r c) * (((1 / 8) * (Real.log 2)⁻¹ : ℝ) : EReal)

theorem slt64 : ∀ c : Fin 128, IntOp.cmpi .slt (BitVec.ofNat 32 c.val) 64#32 = if c.val < 64 then 1#1 else 0#1 := by
  decide +kernel
theorem sge64 : ∀ c : Fin 128, IntOp.cmpi .sge (BitVec.ofNat 32 c.val) 64#32 = if c.val < 64 then 0#1 else 1#1 := by
  decide +kernel
theorem scale_val : (Named.named (F := Ideal) κ "scale_log2e" 0x3E38AA3B#32 : Ideal .f32) =
    (((1 / 8) * (Real.log 2)⁻¹ : ℝ) : EReal) := rfl

theorem q_apply (x : FVec Ideal S256x128 .f32) (r : Fin 512) (c : Fin 128) :
    k1_pay173 (F := Ideal) x (ix2 r c) =
      if r.val / 256 = c.val / 64 then scl x ⟨r.val % 256, Nat.mod_lt _ (by decide)⟩ c else 0 := by
  pointwise [k1_pay173]
  rw [slt64, sge64, scale_val]
  have hc := c.isLt
  have hr := r.isLt
  by_cases h1 : r.val < 256
  · have e : (⟨r.val % 256, Nat.mod_lt _ (by decide)⟩ : Fin 256) = ⟨r.val, h1⟩ := Fin.ext (Nat.mod_eq_of_lt h1)
    have hq : r.val / 256 = 0 := Nat.div_eq_of_lt h1
    rw [dif_pos h1, e, hq]
    by_cases h2 : c.val < 64
    · rw [if_pos h2]; exact (if_pos (show 0 = c.val / 64 by omega)).symm
    · rw [if_neg h2]; exact (if_neg (show ¬ 0 = c.val / 64 by omega)).symm
  · have e : (⟨r.val % 256, Nat.mod_lt _ (by decide)⟩ : Fin 256) = ⟨r.val - 256, by omega⟩ := Fin.ext (by simp only []; omega)
    have hq : r.val / 256 = 1 := by omega
    rw [dif_neg h1, e, hq]
    by_cases h2 : c.val < 64
    · rw [if_pos h2]; exact (if_neg (show ¬ 1 = c.val / 64 by omega)).symm
    · rw [if_neg h2]; exact (if_pos (show 1 = c.val / 64 by omega)).symm

theorem qsame1 (x : FVec Ideal S256x128 .f32) : k1_pay174 (F := Ideal) x = k1_pay173 x := rfl
theorem qsame2 (x : FVec Ideal S256x128 .f32) :
    k1_pay178 (k1_pay175 (F := Ideal) x) (k1_pay176 x) k1_pay177 (FloatOps.ofBits .f32 0x00000000#32) = k1_pay173 x := rfl
theorem qsame3 (x : FVec Ideal S256x128 .f32) :
    k1_pay179 (F := Ideal) (iota .tc S256x128 32 [1] iota_S256x128_d1_w32) x = k1_pay173 x := rfl

end Cert.Out
-- ==== Proof.Score.lean ====
/- One grid step's scores and values, from its blocks: every tile of keys is a tile of the scores in
   base two, and the softmax's sums are the sums over the tiles up to a factor. -/
module

public import proofs.«01_k».proof.Proof.Held
public import proofs.«01_k».proof.Proof.State
public import proofs.«01_k».proof.Proof.Out

@[expose] public section

set_option maxRecDepth 16384

noncomputable section

namespace Cert.Score

open Idealize.ShloMosaic Idealize.SL.Sem
open Cert.KernelIdeal Cert.KernelIdeal.Facts₀ Cert.Online Cert.Tile Cert.Held Cert.Out Cert.Spec Cert.Bucket
open Cert.State (bt)

theorem kt_apply (a : Memref sig .tc .vmem S2048x512 .f32) (ha : a.IsWhole) (x : Vec Ideal S2048x512 .f32)
    {off : Fin 2 → ℕ} (h : ∀ x, off x + S256x128.size x ≤ S2048x512.size x) (k : Fin 256) (c : Fin 128)
    (h0 : off 0 + k.val < 2048) (h1 : off 1 + c.val < 512) :
    kt a (ha.unread x) h (ix2 k c) = x (ix2 ⟨off 0 + k.val, h0⟩ ⟨off 1 + c.val, h1⟩) := by
  unfold kt
  rw [View.readAt_eq_ld, ha.read_unread]
  exact View.ld_unit_apply_of _ _ _ _ _ _ (fun a => by fin_cases a <;> rfl)

/-- One head's query rows, loaded from the staged block. -/
def qt (a : Memref sig .tc .vmem S256x512 .f32) (X : BufTy.Contents (Elt Ideal) a.view.ty) {off : Fin 2 → ℕ}
    (h : ∀ x, off x + S256x128.size x ≤ S256x512.size x) : Vec Ideal S256x128 .f32 :=
  View.readAt (Elt Ideal) a.view (Rect.unit (s := S256x512) off S256x128.size h).toLoadRect X

theorem qt_apply (a : Memref sig .tc .vmem S256x512 .f32) (ha : a.IsWhole) (x : Vec Ideal S256x512 .f32)
    {off : Fin 2 → ℕ} (h : ∀ x, off x + S256x128.size x ≤ S256x512.size x) (k : Fin 256) (c : Fin 128)
    (h0 : off 0 + k.val < 256) (h1 : off 1 + c.val < 512) :
    qt a (ha.unread x) h (ix2 k c) = x (ix2 ⟨off 0 + k.val, h0⟩ ⟨off 1 + c.val, h1⟩) := by
  unfold qt
  rw [View.readAt_eq_ld, ha.read_unread]
  exact View.ld_unit_apply_of _ _ _ _ _ _ (fun a => by fin_cases a <;> rfl)

theorem bt_apply (a : Memref sig .tc .vmem S4x2x256x256 .f32) (ha : a.IsWhole) (x : Vec Ideal S4x2x256x256 .f32)
    {off : Fin 4 → ℕ} (h : ∀ x, off x + S1x1x256x256.size x ≤ S4x2x256x256.size x) (hd : Fin 4) (j : Fin 2) (r k : Fin 256)
    (h0 : off 0 = hd.val) (h1 : off 1 = j.val) (h2 : off 2 = 0) (h3 : off 3 = 0) :
    bt a (ha.unread x) h (ix4 0 0 r k) = x (ix4 hd j r k) := by
  unfold bt
  rw [View.readAt_eq_ld, ha.read_unread]
  refine View.ld_unit_apply_of _ _ _ _ _ _ (fun a => ?_)
  match a with
  | 0 => exact (by rw [h0]; rfl : hd.val = off 0 + 0)
  | 1 => exact (by rw [h1]; rfl : j.val = off 1 + 0)
  | 2 => exact (by rw [h2, Nat.zero_add] : r.val = off 2 + r.val)
  | 3 => exact (by rw [h3, Nat.zero_add] : k.val = off 3 + k.val)

/-- The score's product over a map's half of the lanes. -/
theorem half_sum (A B : ℕ → ℝ) (s : ℝ) (m : ℕ) (hm : m < 2) :
    ∑ c : Fin 128, (if m = c.val / 64 then A c.val * s else 0) * B c.val =
      (∑ c : Fin 64, A (m * 64 + c.val) * B (m * 64 + c.val)) * s := by
  rw [Fin.sum_univ_two_halves 64 64 rfl (fun c : Fin 128 => (if m = c.val / 64 then A c.val * s else 0) * B c.val), Finset.sum_mul,
    ← Finset.sum_add_distrib]
  refine Finset.sum_congr rfl fun c _ => ?_
  have hc := c.isLt
  have e0 : c.val / 64 = 0 := by omega
  have e1 : (64 + c.val) / 64 = 1 := by omega
  simp only [e0, e1]
  obtain rfl | rfl : m = 0 ∨ m = 1 := by omega
  · simp; ring
  · simp; ring

variable (Z RB : ℕ → ℕ → ℝ) (b hg qi : ℕ)

/-- The score of a row of a head's block against a key, in base two and less the far bias; `-∞` on a future key. -/
def y (h : Fin 4) (r : Fin 512) (k : ℕ) : EReal :=
  if k ≤ qi * 256 + r.val % 256 then
    (((sc Z RB b (hg * 4 + h.val) (r.val / 256) (qi * 256 + r.val % 256) k - RB 31 (hg * 4 + h.val)) * (Real.log 2)⁻¹ : ℝ) : EReal)
  else ⊥

/-- A head's values. -/
def v (h : Fin 4) (k : ℕ) (d : Fin 128) : ℝ := Z (b * 2048 + k) (2048 + (hg * 4 + h.val) * 128 + d.val)

/-- What the blocks of a grid step hold. -/
structure Blocks (x1 : Vec Ideal S256x512 .f32) (x2 x3 : Vec Ideal S2048x512 .f32) (x4 : Vec Ideal S4x2x256x256 .f32) : Prop where
  q : ∀ (r : Fin 256) (c : Fin 512), x1 (ix2 r c) = ((Z (b * 2048 + (qi * 256 + r.val)) (hg * 512 + c.val) : ℝ) : EReal)
  k : ∀ (r : Fin 2048) (c : Fin 512), x2 (ix2 r c) = ((Z (b * 2048 + r.val) (1024 + hg * 512 + c.val) : ℝ) : EReal)
  v : ∀ (r : Fin 2048) (c : Fin 512), x3 (ix2 r c) = ((Z (b * 2048 + r.val) (2048 + hg * 512 + c.val) : ℝ) : EReal)
  diag : ∀ (h : Fin 4) (r k : Fin 256), x4 (ix4 h 0 r k) = if k.val ≤ r.val then
    (((RB (bkt (r.val - k.val)) (hg * 4 + h.val) - RB 31 (hg * 4 + h.val)) * (Real.log 2)⁻¹ : ℝ) : EReal) else ⊥
  sub : ∀ (h : Fin 4) (r k : Fin 256), x4 (ix4 h 1 r k) =
    (((RB (bkt (256 + r.val - k.val)) (hg * 4 + h.val) - RB 31 (hg * 4 + h.val)) * (Real.log 2)⁻¹ : ℝ) : EReal)

variable {Z RB b hg qi} {x1 : Vec Ideal S256x512 .f32} {x2 x3 : Vec Ideal S2048x512 .f32} {x4 : Vec Ideal S4x2x256x256 .f32}
  (arg4 : Memref sig .tc .vmem S256x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S4x2x256x256 .f32) (harg7 : arg7.IsWhole)

/-- The unbiased score of a tile. -/
theorem raw (H : Blocks Z RB b hg qi x1 x2 x3 x4) (h : Fin 4) (n : ℕ) (hn : n < 8) {oq : Fin 2 → ℕ} (iq : ∀ x, oq x + S256x128.size x ≤ S256x512.size x)
    (q0 : oq 0 = 0) (q1 : oq 1 = 128 * h.val)
    {ok : Fin 2 → ℕ} (ik : ∀ x, ok x + S256x128.size x ≤ S2048x512.size x) (k0 : ok 0 = n * 256) (k1 : ok 1 = 128 * h.val)
    (r : Fin 512) (k : Fin 256) :
    scF (Gen.k1_pay173 (F := Ideal) (qt arg4 (harg4.unread x1) iq)) (kt arg5 (harg5.unread x2) ik) (ix2 r k) =
      ((qk Z b (hg * 4 + h.val) (r.val / 256) (qi * 256 + r.val % 256) (256 * n + k.val) * ((1 / 8) * (Real.log 2)⁻¹) : ℝ) : EReal) := by
  have hh := h.isLt
  have hr := r.isLt
  have hk := k.isLt
  rw [scF_apply]
  have e : ∀ c : Fin 128, (Gen.k1_pay173 (F := Ideal) (qt arg4 (harg4.unread x1) iq) (ix2 r c) : EReal) *
      kt arg5 (harg5.unread x2) ik (ix2 k c) =
      (((if r.val / 256 = c.val / 64 then (fun c => Z (b * 2048 + (qi * 256 + r.val % 256)) ((hg * 4 + h.val) * 128 + c)) c.val
          * ((1 / 8) * (Real.log 2)⁻¹) else 0) *
        (fun c => Z (b * 2048 + (256 * n + k.val)) (1024 + (hg * 4 + h.val) * 128 + c)) c.val : ℝ) : EReal) := fun c => by
    have hc := c.isLt
    rw [kt_apply arg5 harg5 x2 ik k c (by omega) (by omega), H.k, q_apply, EReal.coe_mul]
    refine Ideal.mul_congr ?_ ?_
    · split
      · rw [scl, qt_apply arg4 harg4 x1 iq _ c (by simp only [q0]; omega) (by omega), H.q, ← EReal.coe_mul]
        simp only [q0, q1, Nat.zero_add]
        rw [show hg * 512 + (128 * h.val + c.val) = (hg * 4 + h.val) * 128 + c.val by ring]
      · rfl
    · simp only [k0, k1]
      rw [show n * 256 + k.val = 256 * n + k.val by ring,
        show 1024 + hg * 512 + (128 * h.val + c.val) = 1024 + (hg * 4 + h.val) * 128 + c.val by ring]
  rw [Finset.sum_congr rfl fun c _ => e c, ← coe_sum]
  refine congrArg _ ((half_sum (fun c => Z (b * 2048 + (qi * 256 + r.val % 256)) ((hg * 4 + h.val) * 128 + c))
    (fun c => Z (b * 2048 + (256 * n + k.val)) (1024 + (hg * 4 + h.val) * 128 + c)) _ (r.val / 256) (by omega)).trans ?_)
  rw [qk]
  simp only [Nat.add_assoc]

/-- The value block of a tile. -/
theorem val (H : Blocks Z RB b hg qi x1 x2 x3 x4) (h : Fin 4) (n : ℕ) (hn : n < 8)
    {ok : Fin 2 → ℕ} (ik : ∀ x, ok x + S256x128.size x ≤ S2048x512.size x) (k0 : ok 0 = n * 256) (k1 : ok 1 = 128 * h.val)
    (k : Fin 256) (d : Fin 128) : kt arg6 (harg6.unread x3) ik (ix2 k d) = ((v Z b hg h (256 * n + k.val) d : ℝ) : EReal) := by
  have hh := h.isLt
  have hk := k.isLt
  have hc := d.isLt
  rw [kt_apply arg6 harg6 x3 ik k d (by omega) (by omega), H.v, v]
  simp only [k0, k1]
  rw [show n * 256 + k.val = 256 * n + k.val by ring,
    show 2048 + hg * 512 + (128 * h.val + d.val) = 2048 + (hg * 4 + h.val) * 128 + d.val by ring]

theorem y_top (h : Fin 4) (r : Fin 512) (k : ℕ) : y Z RB b hg qi h r k ≠ ⊤ := by
  rw [y]; split
  · exact EReal.coe_ne_top _
  · exact bot_ne_top

theorem y_seen (h : Fin 4) (r : Fin 512) (n : ℕ) (hn : n ≤ qi) : y Z RB b hg qi h r (256 * n) ≠ ⊥ := by
  rw [y, if_pos (by omega)]; exact EReal.coe_ne_bot _

/-- A far tile. -/
theorem tile_far (H : Blocks Z RB b hg qi x1 x2 x3 x4) (hqi : qi < 8) (h : Fin 4) (n : ℕ) (hn : n + 1 < qi) {oq : Fin 2 → ℕ} (iq : ∀ x, oq x + S256x128.size x ≤ S256x512.size x)
    (q0 : oq 0 = 0) (q1 : oq 1 = 128 * h.val)
    {ok : Fin 2 → ℕ} (ik : ∀ x, ok x + S256x128.size x ≤ S2048x512.size x) (k0 : ok 0 = n * 256) (k1 : ok 1 = 128 * h.val) :
    IsTile (y Z RB b hg qi h) (v Z b hg h) n
      (scF (Gen.k1_pay173 (F := Ideal) (qt arg4 (harg4.unread x1) iq)) (kt arg5 (harg5.unread x2) ik))
      (kt arg6 (harg6.unread x3) ik) where
  score := fun r k => by
    have hr := r.isLt
    have hk := k.isLt
    rw [raw arg4 harg4 arg5 harg5 H h n (by omega) iq q0 q1 ik k0 k1, y, if_pos (by omega), sc,
      bkt_far ⟨qi * 256 + r.val % 256 - (256 * n + k.val), by omega⟩ (by simp only []; omega)]
    congr 1; ring
  value := fun k d => val arg6 harg6 H h n (by omega) ik k0 k1 k d
  top := fun r k => y_top h r k
  seen := fun r => y_seen h r n (by omega)

/-- The tile before the diagonal. -/
theorem tile_sub (H : Blocks Z RB b hg qi x1 x2 x3 x4) (hqi : qi < 8) (h : Fin 4) (n : ℕ) (hn : n + 1 = qi) {oq : Fin 2 → ℕ} (iq : ∀ x, oq x + S256x128.size x ≤ S256x512.size x)
    (q0 : oq 0 = 0) (q1 : oq 1 = 128 * h.val)
    {ok : Fin 2 → ℕ} (ik : ∀ x, ok x + S256x128.size x ≤ S2048x512.size x) (k0 : ok 0 = n * 256) (k1 : ok 1 = 128 * h.val)
    {ob : Fin 4 → ℕ} (ib : ∀ x, ob x + S1x1x256x256.size x ≤ S4x2x256x256.size x)
    (b0 : ob 0 = h.val) (b1 : ob 1 = 1) (b2 : ob 2 = 0) (b3 : ob 3 = 0) :
    IsTile (y Z RB b hg qi h) (v Z b hg h) n
      (scB (Gen.k1_pay173 (F := Ideal) (qt arg4 (harg4.unread x1) iq)) (kt arg5 (harg5.unread x2) ik) (bt arg7 (harg7.unread x4) ib))
      (kt arg6 (harg6.unread x3) ik) where
  score := fun r k => by
    have hr := r.isLt
    have hk := k.isLt
    rw [scB_apply, raw arg4 harg4 arg5 harg5 H h n (by omega) iq q0 q1 ik k0 k1,
      bt_apply arg7 harg7 x4 ib h 1 _ k b0 b1 b2 b3, H.sub, y, if_pos (by omega), sc, ← EReal.coe_add]
    simp only []
    rw [show qi * 256 + r.val % 256 - (256 * n + k.val) = 256 + r.val % 256 - k.val by omega]
    congr 1; ring
  value := fun k d => val arg6 harg6 H h n (by omega) ik k0 k1 k d
  top := fun r k => y_top h r k
  seen := fun r => y_seen h r n (by omega)

/-- The diagonal tile. -/
theorem tile_diag (H : Blocks Z RB b hg qi x1 x2 x3 x4) (hqi : qi < 8) (h : Fin 4) (n : ℕ) (hn : n = qi) {oq : Fin 2 → ℕ} (iq : ∀ x, oq x + S256x128.size x ≤ S256x512.size x)
    (q0 : oq 0 = 0) (q1 : oq 1 = 128 * h.val)
    {ok : Fin 2 → ℕ} (ik : ∀ x, ok x + S256x128.size x ≤ S2048x512.size x) (k0 : ok 0 = n * 256) (k1 : ok 1 = 128 * h.val)
    {ob : Fin 4 → ℕ} (ib : ∀ x, ob x + S1x1x256x256.size x ≤ S4x2x256x256.size x)
    (b0 : ob 0 = h.val) (b1 : ob 1 = 0) (b2 : ob 2 = 0) (b3 : ob 3 = 0) :
    IsTile (y Z RB b hg qi h) (v Z b hg h) n
      (scB (Gen.k1_pay173 (F := Ideal) (qt arg4 (harg4.unread x1) iq)) (kt arg5 (harg5.unread x2) ik) (bt arg7 (harg7.unread x4) ib))
      (kt arg6 (harg6.unread x3) ik) where
  score := fun r k => by
    have hr := r.isLt
    have hk := k.isLt
    rw [scB_apply, raw arg4 harg4 arg5 harg5 H h n (by omega) iq q0 q1 ik k0 k1,
      bt_apply arg7 harg7 x4 ib h 0 _ k b0 b1 b2 b3, H.diag, y]
    simp only []
    by_cases hc : k.val ≤ r.val % 256
    · rw [if_pos hc, if_pos (by omega), sc, ← EReal.coe_add,
        show qi * 256 + r.val % 256 - (256 * n + k.val) = r.val % 256 - k.val by omega]
      congr 1; ring
    · rw [if_neg hc, if_neg (by omega), EReal.add_bot]
  value := fun k d => val arg6 harg6 H h n (by omega) ik k0 k1 k d
  top := fun r k => y_top h r k
  seen := fun r => y_seen h r n (by omega)

/-- The weight of a key, up to the far bias's factor. -/
theorem wt_y (h : Fin 4) (r : Fin 512) (k : ℕ) : wt (y Z RB b hg qi h r k) =
    ew Z RB b (hg * 4 + h.val) (r.val / 256) (qi * 256 + r.val % 256) k * Real.exp (-RB 31 (hg * 4 + h.val)) := by
  rw [y, ew]
  split
  · have l2 : Real.log 2 ≠ 0 := (Real.log_pos one_lt_two).ne'
    rw [wt_coe, Real.rpow_def_of_pos two_pos, ← Real.exp_add, mul_comm (Real.log 2), mul_assoc, inv_mul_cancel₀ l2, mul_one, sub_eq_add_neg]
  · rw [wt_bot, zero_mul]

theorem sum_ext (f : ℕ → ℝ) (hqi : qi < 8) (h0 : ∀ k, qi * 256 + 256 ≤ k → f k = 0) :
    ∑ k ∈ Finset.range (256 * (qi + 1)), f k = ∑ k : Fin 2048, f k.val := by
  rw [Fin.sum_univ_eq_sum_range f 2048]
  refine Finset.sum_subset (fun k hk => ?_) fun k _ hk => ?_
  · rw [Finset.mem_range] at hk ⊢; omega
  · exact h0 k (by rw [Finset.mem_range] at hk; omega)

/-- The quotient of a row's sums is the softmax's weighted mean. -/
theorem row_quot (hqi : qi < 8) (h : Fin 4) (r : Fin 512) (d : Fin 128) {M L A : Slab}
    (I : RowInv M L A (fun r => ∑ k ∈ Finset.range (256 * (qi + 1)), wt (y Z RB b hg qi h r k))
      (fun r d => ∑ k ∈ Finset.range (256 * (qi + 1)), wt (y Z RB b hg qi h r k) * v Z b hg h k d)) :
    Ideal.div (A (ix3 0 r d)) (L (ix3 0 r d)) =
      ((num Z RB b (hg * 4 + h.val) (r.val / 256) (qi * 256 + r.val % 256) d.val /
        den Z RB b (hg * 4 + h.val) (r.val / 256) (qi * 256 + r.val % 256) : ℝ) : EReal) := by
  obtain ⟨m, -, hI⟩ := I r
  have hI := hI d
  have he : ∀ k, qi * 256 + 256 ≤ k → ew Z RB b (hg * 4 + h.val) (r.val / 256) (qi * 256 + r.val % 256) k = 0 := fun k hk => by
    rw [ew, if_neg (by omega)]
  have hE := Real.exp_pos (-RB 31 (hg * 4 + h.val))
  have hD := den_pos Z RB b (hg * 4 + h.val) (r.val / 256) (qi * 256 + r.val % 256) (by omega)
  have eS : ∑ k ∈ Finset.range (256 * (qi + 1)), wt (y Z RB b hg qi h r k) =
      den Z RB b (hg * 4 + h.val) (r.val / 256) (qi * 256 + r.val % 256) * Real.exp (-RB 31 (hg * 4 + h.val)) := by
    rw [den, ← sum_ext _ hqi he, Finset.sum_mul]
    exact Finset.sum_congr rfl fun k _ => wt_y h r k
  have eN : ∑ k ∈ Finset.range (256 * (qi + 1)), wt (y Z RB b hg qi h r k) * v Z b hg h k d =
      num Z RB b (hg * 4 + h.val) (r.val / 256) (qi * 256 + r.val % 256) d.val * Real.exp (-RB 31 (hg * 4 + h.val)) := by
    rw [num, ← sum_ext (fun k => ew Z RB b (hg * 4 + h.val) (r.val / 256) (qi * 256 + r.val % 256) k
      * Z (b * 2048 + k) (2048 + (hg * 4 + h.val) * 128 + d.val)) hqi (fun k hk => by simp only [he k hk, zero_mul]), Finset.sum_mul]
    exact Finset.sum_congr rfl fun k _ => by rw [wt_y, v]; ring
  dsimp only at hI
  rw [Inv.quot hI (by rw [eS]; positivity)]
  congr 1
  rw [eS, eN, mul_div_mul_right _ _ hE.ne']

/-- What a head writes. -/
theorem fin_eq (hqi : qi < 8) (h : Fin 4) (lam : EReal) (g : ℕ → EReal) (x5 : FVec Ideal S1x128 .f32)
    (hg5 : ∀ d : Fin 128, x5 (ix2 0 d) = g d.val) {M L A : Slab} (r : Fin 256) (d : Fin 128)
    (I : RowInv M L A (fun r => ∑ k ∈ Finset.range (256 * (qi + 1)), wt (y Z RB b hg qi h r k))
      (fun r d => ∑ k ∈ Finset.range (256 * (qi + 1)), wt (y Z RB b hg qi h r k) * v Z b hg h k d)) :
    fin lam A L x5 r d = res Z RB lam g b (hg * 4 + h.val) (qi * 256 + r.val) d.val := by
  have hr := r.isLt
  have e : ∀ d : Fin 128, diff lam A L r d = out Z RB lam b (hg * 4 + h.val) (qi * 256 + r.val) d.val := fun d => by
    rw [diff, row_quot hqi h _ d I, row_quot hqi h _ d I, out]
    simp only []
    rw [show r.val / 256 = 0 by omega, show (256 + r.val) / 256 = 1 by omega, show r.val % 256 = r.val by omega,
      show (256 + r.val) % 256 = r.val by omega]
  rw [fin, res, hg5, e d]
  simp only [e]

theorem fin_eq' (hqi : qi < 8) (h : Fin 4) {n : ℕ} (hn : n = qi + 1) (lam : EReal) (g : ℕ → EReal) (x5 : FVec Ideal S1x128 .f32)
    (hg5 : ∀ d : Fin 128, x5 (ix2 0 d) = g d.val) {M L A : Slab} (r : Fin 256) (d : Fin 128)
    (I : RowInv M L A (fun r => ∑ k ∈ Finset.range (256 * n), wt (y Z RB b hg qi h r k))
      (fun r d => ∑ k ∈ Finset.range (256 * n), wt (y Z RB b hg qi h r k) * v Z b hg h k d)) :
    fin lam A L x5 r d = res Z RB lam g b (hg * 4 + h.val) (qi * 256 + r.val) d.val := by
  subst hn
  exact fin_eq hqi h lam g x5 hg5 r d I

end Cert.Score
-- ==== Proof.Left.lean ====
/- What a grid step leaves in the output's staging buffer. -/
module

public import proofs.«01_k».proof.Proof.State
public import proofs.«01_k».proof.Proof.Out

@[expose] public section

set_option maxRecDepth 16384

noncomputable section

namespace Cert.Left

open Idealize.ShloMosaic Idealize.SL.Sem
open Cert.KernelIdeal
open Cert.KernelIdeal.Gen (cond1_0 cond1_1 kernelRun1_A kernelRun1_B out1_A_6 out1_B_6)
open Cert.KernelIdeal.Facts₀ Cert.Online Cert.Tile Cert.Held Cert.Trip Cert.Out

/-- One of the four heads' slabs. -/
def rd (h : Fin 4) (a : Scr) (L : Pieces) : Slab :=
  match h with
  | 0 => rd0 a L
  | 1 => rd1 a L
  | 2 => rd2 a L
  | 3 => rd3 a L

theorem head_lt (k : Fin 512) : k.val / 128 < 4 := by have := k.isLt; omega

/-- One of four. -/
def pick (h : Fin 4) (A0 A1 A2 A3 : Slab) : Slab :=
  match h with
  | 0 => A0
  | 1 => A1
  | 2 => A2
  | 3 => A3

theorem fin_at (s : FVec Ideal S1x1 .f32) (g : FVec Ideal S1x128 .f32) (A L : Slab) (x : S256x128.Idx) (r : Fin 256)
    (d : Fin 128) (h0 : r.val = (x 0).val) (h1 : d.val = (x 1).val) :
    Gen.k1_pay202 (F := Ideal) s A L g x = fin (s (ix2 0 0)) A L g r d := by
  have e0 : r = x 0 := Fin.ext h0
  have e1 : d = x 1 := Fin.ext h1
  subst e0 e1
  exact (congrArg (Gen.k1_pay202 (F := Ideal) s A L g) (eq_ix2 x)).trans (fin_apply s A L g (x 0) (x 1))

theorem pick_at (A0 A1 A2 A3 : Slab) (h k : Fin 4) (e : h = k) : pick h A0 A1 A2 A3 = pick k A0 A1 A2 A3 := by rw [e]

/-- The four heads' stores, read back. -/
theorem four_out (s : FVec Ideal S1x1 .f32) (g : FVec Ideal S1x128 .f32) (A0 A1 A2 A3 L0 L1 L2 L3 : Slab) (y : S256x512.Idx) :
    View.canon (Val := Elt Ideal) (s := S256x512) (e := .bf16)
      [⟨Rect.unit (s := S256x512) ![0, 384] S256x128.size inb_S256x512_S256x128_0_384, Gen.k1_pay202 (F := Ideal) s A3 L3 g⟩,
       ⟨Rect.unit (s := S256x512) ![0, 256] S256x128.size inb_S256x512_S256x128_0_256, Gen.k1_pay202 (F := Ideal) s A2 L2 g⟩,
       ⟨Rect.unit (s := S256x512) ![0, 128] S256x128.size inb_S256x512_S256x128_0_128, Gen.k1_pay202 (F := Ideal) s A1 L1 g⟩,
       ⟨Rect.unit (s := S256x512) ![0, 0] S256x128.size inb_S256x512_S256x128_0_0, Gen.k1_pay202 (F := Ideal) s A0 L0 g⟩] y =
      fin (s (ix2 0 0)) (pick ⟨(y 1).val / 128, head_lt (y 1)⟩ A0 A1 A2 A3) (pick ⟨(y 1).val / 128, head_lt (y 1)⟩ L0 L1 L2 L3)
        g (y 0) ⟨(y 1).val % 128, Nat.mod_lt _ (by decide)⟩ := by
  canon_tiles x h
  · rw [pick_at A0 A1 A2 A3 ⟨(y 1).val / 128, _⟩ 3 (Fin.ext (by simp only [h1]; show _ = 3; omega)),
      pick_at L0 L1 L2 L3 ⟨(y 1).val / 128, _⟩ 3 (Fin.ext (by simp only [h1]; show _ = 3; omega))]
    exact fin_at s g A3 L3 x _ _ h0 (by simp only [h1]; omega)
  · rw [pick_at A0 A1 A2 A3 ⟨(y 1).val / 128, _⟩ 2 (Fin.ext (by simp only [h1]; show _ = 2; omega)),
      pick_at L0 L1 L2 L3 ⟨(y 1).val / 128, _⟩ 2 (Fin.ext (by simp only [h1]; show _ = 2; omega))]
    exact fin_at s g A2 L2 x _ _ h0 (by simp only [h1]; omega)
  · rw [pick_at A0 A1 A2 A3 ⟨(y 1).val / 128, _⟩ 1 (Fin.ext (by simp only [h1]; show _ = 1; omega)),
      pick_at L0 L1 L2 L3 ⟨(y 1).val / 128, _⟩ 1 (Fin.ext (by simp only [h1]; show _ = 1; omega))]
    exact fin_at s g A1 L1 x _ _ h0 (by simp only [h1]; omega)
  · rw [pick_at A0 A1 A2 A3 ⟨(y 1).val / 128, _⟩ 0 (Fin.ext (by simp only [h1]; show _ = 0; omega)),
      pick_at L0 L1 L2 L3 ⟨(y 1).val / 128, _⟩ 0 (Fin.ext (by simp only [h1]; show _ = 0; omega))]
    exact fin_at s g A0 L0 x _ _ h0 (by simp only [h1]; omega)

variable (c : Dev nD) (i : grid1.Coords)
  (arg3 : Memref sig .tc .vmem S4x64 .f32) (harg3 : arg3.IsWhole) (arg4 : Memref sig .tc .vmem S256x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S4x2x256x256 .f32) (harg7 : arg7.IsWhole) (arg8 : Memref sig .tc .vmem S1x128 .f32) (harg8 : arg8.IsWhole)
  (arg9 : Memref sig .tc .vmem S256x512 .bf16) (harg9 : arg9.IsWhole) (arg10 : Scr) (harg10 : arg10.IsWhole)
  (arg11 : Scr) (harg11 : arg11.IsWhole) (arg12 : Scr) (harg12 : arg12.IsWhole)
  (x0 : Vec Ideal S4x64 .f32) (x1 : Vec Ideal S256x512 .f32) (x2 : Vec Ideal S2048x512 .f32)
  (x3 : Vec Ideal S2048x512 .f32) (x4 : Vec Ideal S4x2x256x256 .f32) (x5 : Vec Ideal S1x128 .f32)

/-- The load of the weights' vectors. -/
def ld3 : FVec Ideal S4x64 .f32 :=
  View.readAt (Elt Ideal) arg3.view (Rect.unit (s := S4x64) ![0, 0] S4x64.size inb_S4x64_S4x64_0_0).toLoadRect (harg3.unread x0)
/-- The load of the norm's gains. -/
def ld8 : FVec Ideal S1x128 .f32 :=
  View.readAt (Elt Ideal) arg8.view (Rect.unit (s := S1x128) ![0, 0] S1x128.size inb_S1x128_S1x128_0_0).toLoadRect (harg8.unread x5)
theorem ld3_eq : ld3 arg3 harg3 x0 = x0 := by
  funext j
  unfold ld3
  rw [View.readAt_eq_ld, harg3.read_unread]
  exact congrFun (View.ld_unit_lit _ x0 (by decide)) j
theorem ld8_eq : ld8 arg8 harg8 x5 = x5 := by
  funext j
  unfold ld8
  rw [View.readAt_eq_ld, harg8.read_unread]
  exact congrFun (View.ld_unit_lit _ x5 (by decide)) j

/-- The stores of a grid step of case B into the output's staging buffer. -/
theorem pieces_B (hc0 : ¬cond1_0 i) (hc1 : cond1_1 i) :
    (kernelRun1_B c i arg3 harg3 arg4 harg4 arg5 harg5 arg6 harg6 arg7 harg7 arg8 harg8 arg9 harg9 arg10 harg10 arg11 harg11 arg12 harg12 hc0 hc1 x0 x1 x2 x3 x4 x5).1 =
      [⟨Rect.unit (s := S256x512) ![0, 384] S256x128.size inb_S256x512_S256x128_0_384, Gen.k1_pay202 (F := Ideal) (Gen.k1_pay195 (F := Ideal) (ld3 arg3 harg3 x0)) (rd3 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd3 arg11 (kernelRun1_B.sl.HS1_8 c i arg3 harg3 arg4 harg4 arg5 harg5 arg6 harg6 arg7 harg7 arg8 harg8 arg9 harg9 arg10 harg10 arg11 harg11 arg12 harg12 hc1 x1 x2 x3 x4)) (ld8 arg8 harg8 x5)⟩,
       ⟨Rect.unit (s := S256x512) ![0, 256] S256x128.size inb_S256x512_S256x128_0_256, Gen.k1_pay202 (F := Ideal) (Gen.k1_pay195 (F := Ideal) (ld3 arg3 harg3 x0)) (rd2 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd2 arg11 (kernelRun1_B.sl.HS1_8 c i arg3 harg3 arg4 harg4 arg5 harg5 arg6 harg6 arg7 harg7 arg8 harg8 arg9 harg9 arg10 harg10 arg11 harg11 arg12 harg12 hc1 x1 x2 x3 x4)) (ld8 arg8 harg8 x5)⟩,
       ⟨Rect.unit (s := S256x512) ![0, 128] S256x128.size inb_S256x512_S256x128_0_128, Gen.k1_pay202 (F := Ideal) (Gen.k1_pay195 (F := Ideal) (ld3 arg3 harg3 x0)) (rd1 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd1 arg11 (kernelRun1_B.sl.HS1_8 c i arg3 harg3 arg4 harg4 arg5 harg5 arg6 harg6 arg7 harg7 arg8 harg8 arg9 harg9 arg10 harg10 arg11 harg11 arg12 harg12 hc1 x1 x2 x3 x4)) (ld8 arg8 harg8 x5)⟩,
       ⟨Rect.unit (s := S256x512) ![0, 0] S256x128.size inb_S256x512_S256x128_0_0, Gen.k1_pay202 (F := Ideal) (Gen.k1_pay195 (F := Ideal) (ld3 arg3 harg3 x0)) (rd0 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd0 arg11 (kernelRun1_B.sl.HS1_8 c i arg3 harg3 arg4 harg4 arg5 harg5 arg6 harg6 arg7 harg7 arg8 harg8 arg9 harg9 arg10 harg10 arg11 harg11 arg12 harg12 hc1 x1 x2 x3 x4)) (ld8 arg8 harg8 x5)⟩] := rfl

theorem canon_B (hc0 : ¬cond1_0 i) (hc1 : cond1_1 i) (y : S256x512.Idx) :
    out1_B_6 c i arg3 harg3 arg4 harg4 arg5 harg5 arg6 harg6 arg7 harg7 arg8 harg8 arg9 harg9 arg10 harg10 arg11 harg11 arg12 harg12 hc0 hc1 x0 x1 x2 x3 x4 x5 y =
      View.canon (kernelRun1_B c i arg3 harg3 arg4 harg4 arg5 harg5 arg6 harg6 arg7 harg7 arg8 harg8 arg9 harg9 arg10 harg10 arg11 harg11 arg12 harg12 hc0 hc1 x0 x1 x2 x3 x4 x5).1 y :=
  View.read_writes_junk_apply_eq_canon _ _ _

/-- What a grid step of case B leaves in the output's staging buffer. -/
theorem out_B (hc0 : ¬cond1_0 i) (hc1 : cond1_1 i) (y : S256x512.Idx) :
    out1_B_6 c i arg3 harg3 arg4 harg4 arg5 harg5 arg6 harg6 arg7 harg7 arg8 harg8 arg9 harg9 arg10 harg10 arg11 harg11 arg12 harg12 hc0 hc1 x0 x1 x2 x3 x4 x5 y =
      fin (Cert.Spec.lamOf x0) (pick ⟨(y 1).val / 128, head_lt (y 1)⟩ (rd0 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd1 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd2 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd3 arg12 (kernelRun1_B.sl.HS2_8 c i arg3 harg3 arg4 harg4 arg5 harg5 arg6 harg6 arg7 harg7 arg8 harg8 arg9 harg9 arg10 harg10 arg11 harg11 arg12 harg12 hc1 x1 x2 x3 x4)))
        (pick ⟨(y 1).val / 128, head_lt (y 1)⟩ (rd0 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd1 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd2 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd3 arg11 (kernelRun1_B.sl.HS1_8 c i arg3 harg3 arg4 harg4 arg5 harg5 arg6 harg6 arg7 harg7 arg8 harg8 arg9 harg9 arg10 harg10 arg11 harg11 arg12 harg12 hc1 x1 x2 x3 x4))) x5 (y 0)
        ⟨(y 1).val % 128, Nat.mod_lt _ (by decide)⟩ := by
  rw [canon_B, pieces_B, four_out, Cert.Out.lam_apply, ld3_eq, ld8_eq]

/-- The stores of a grid step of case A into the output's staging buffer. -/
theorem pieces_A (hc0 : cond1_0 i) (hc1 : ¬cond1_1 i) :
    (kernelRun1_A c i arg3 harg3 arg4 harg4 arg5 harg5 arg6 harg6 arg7 harg7 arg8 harg8 arg9 harg9 arg10 harg10 arg11 harg11 arg12 harg12 hc0 hc1 x0 x1 x2 x3 x4 x5).1 =
      [⟨Rect.unit (s := S256x512) ![0, 384] S256x128.size inb_S256x512_S256x128_0_384, Gen.k1_pay202 (F := Ideal) (Gen.k1_pay195 (F := Ideal) (ld3 arg3 harg3 x0)) (rd3 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd3 arg11 (kernelRun1_A.sl.HS1_4 c i arg3 harg3 arg4 harg4 arg5 harg5 arg6 harg6 arg7 harg7 arg8 harg8 arg9 harg9 arg10 harg10 arg11 harg11 arg12 harg12 hc0 x1 x2 x3 x4)) (ld8 arg8 harg8 x5)⟩,
       ⟨Rect.unit (s := S256x512) ![0, 256] S256x128.size inb_S256x512_S256x128_0_256, Gen.k1_pay202 (F := Ideal) (Gen.k1_pay195 (F := Ideal) (ld3 arg3 harg3 x0)) (rd2 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd2 arg11 (kernelRun1_A.sl.HS1_4 c i arg3 harg3 arg4 harg4 arg5 harg5 arg6 harg6 arg7 harg7 arg8 harg8 arg9 harg9 arg10 harg10 arg11 harg11 arg12 harg12 hc0 x1 x2 x3 x4)) (ld8 arg8 harg8 x5)⟩,
       ⟨Rect.unit (s := S256x512) ![0, 128] S256x128.size inb_S256x512_S256x128_0_128, Gen.k1_pay202 (F := Ideal) (Gen.k1_pay195 (F := Ideal) (ld3 arg3 harg3 x0)) (rd1 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd1 arg11 (kernelRun1_A.sl.HS1_4 c i arg3 harg3 arg4 harg4 arg5 harg5 arg6 harg6 arg7 harg7 arg8 harg8 arg9 harg9 arg10 harg10 arg11 harg11 arg12 harg12 hc0 x1 x2 x3 x4)) (ld8 arg8 harg8 x5)⟩,
       ⟨Rect.unit (s := S256x512) ![0, 0] S256x128.size inb_S256x512_S256x128_0_0, Gen.k1_pay202 (F := Ideal) (Gen.k1_pay195 (F := Ideal) (ld3 arg3 harg3 x0)) (rd0 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd0 arg11 (kernelRun1_A.sl.HS1_4 c i arg3 harg3 arg4 harg4 arg5 harg5 arg6 harg6 arg7 harg7 arg8 harg8 arg9 harg9 arg10 harg10 arg11 harg11 arg12 harg12 hc0 x1 x2 x3 x4)) (ld8 arg8 harg8 x5)⟩] := rfl

theorem canon_A (hc0 : cond1_0 i) (hc1 : ¬cond1_1 i) (y : S256x512.Idx) :
    out1_A_6 c i arg3 harg3 arg4 harg4 arg5 harg5 arg6 harg6 arg7 harg7 arg8 harg8 arg9 harg9 arg10 harg10 arg11 harg11 arg12 harg12 hc0 hc1 x0 x1 x2 x3 x4 x5 y =
      View.canon (kernelRun1_A c i arg3 harg3 arg4 harg4 arg5 harg5 arg6 harg6 arg7 harg7 arg8 harg8 arg9 harg9 arg10 harg10 arg11 harg11 arg12 harg12 hc0 hc1 x0 x1 x2 x3 x4 x5).1 y :=
  View.read_writes_junk_apply_eq_canon _ _ _

/-- What a grid step of case A leaves in the output's staging buffer. -/
theorem out_A (hc0 : cond1_0 i) (hc1 : ¬cond1_1 i) (y : S256x512.Idx) :
    out1_A_6 c i arg3 harg3 arg4 harg4 arg5 harg5 arg6 harg6 arg7 harg7 arg8 harg8 arg9 harg9 arg10 harg10 arg11 harg11 arg12 harg12 hc0 hc1 x0 x1 x2 x3 x4 x5 y =
      fin (Cert.Spec.lamOf x0) (pick ⟨(y 1).val / 128, head_lt (y 1)⟩ (rd0 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd1 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd2 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd3 arg12 (kernelRun1_A.sl.HS2_4 c i arg3 harg3 arg4 harg4 arg5 harg5 arg6 harg6 arg7 harg7 arg8 harg8 arg9 harg9 arg10 harg10 arg11 harg11 arg12 harg12 hc0 x1 x2 x3 x4)))
        (pick ⟨(y 1).val / 128, head_lt (y 1)⟩ (rd0 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd1 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd2 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd3 arg11 (kernelRun1_A.sl.HS1_4 c i arg3 harg3 arg4 harg4 arg5 harg5 arg6 harg6 arg7 harg7 arg8 harg8 arg9 harg9 arg10 harg10 arg11 harg11 arg12 harg12 hc0 x1 x2 x3 x4))) x5 (y 0)
        ⟨(y 1).val % 128, Nat.mod_lt _ (by decide)⟩ := by
  rw [canon_A, pieces_A, four_out, Cert.Out.lam_apply, ld3_eq, ld8_eq]

end Cert.Left
-- ==== Proof.Point.lean ====
/- What a grid step leaves in the output's staging buffer, from what its blocks hold. -/
module

public import proofs.«01_k».proof.Proof.Score
public import proofs.«01_k».proof.Proof.Left

@[expose] public section

set_option maxRecDepth 16384

noncomputable section

namespace Cert.Point

open Idealize.ShloMosaic Idealize.SL.Sem
open Cert.KernelIdeal
open Cert.KernelIdeal.Gen (cond1_0 cond1_1 kernelRun1_A kernelRun1_B out1_A_6 out1_B_6)
open Cert.KernelIdeal.Facts₀ Cert.Online Cert.Tile Cert.Held Cert.Trip Cert.Out Cert.Left Cert.Score Cert.State

theorem far_lit : ∀ n : Fin 8, (Scalar.indexCast (Scalar.muli (Scf.iv 0#32 1#32 n.val) 256#32)).toNat = n.val * 256 := by
  decide +kernel
theorem sub_lit : ∀ n : Fin 8, 1 ≤ n.val →
    (Scalar.indexCast (Scalar.muli (Scalar.subi (BitVec.ofNat 32 n.val) 1#32) 256#32)).toNat = (n.val - 1) * 256 := by
  decide +kernel
theorem diag_lit : ∀ n : Fin 8, (Scalar.indexCast (Scalar.muli (BitVec.ofNat 32 n.val) 256#32)).toNat = n.val * 256 := by
  decide +kernel

section
variable (i : grid1.Coords)

theorem qi_lt : (i 2).val < 8 := (i 2).isLt
theorem far_lt (k : Fin (k1_t1_loop i).trips) : k.val + 1 < (i 2).val := by
  have h := k.isLt; have e := trips1 i; omega
theorem far0 (k : Fin (k1_t1_loop i).trips) : k1_off1 i k 0 = k.val * 256 :=
  far_lit ⟨k.val, by have := far_lt i k; have := qi_lt i; omega⟩
theorem sub0 (h : 1 ≤ (i 2).val) : k1_off13 i 0 = ((i 2).val - 1) * 256 := sub_lit (i 2) h
theorem dga0 : k1_off9 i 0 = (i 2).val * 256 := diag_lit (i 2)
theorem dgb0 : k1_off17 i 0 = (i 2).val * 256 := diag_lit (i 2)
theorem far1 (k : Fin (k1_t1_loop i).trips) : k1_off2 i k 0 = k.val * 256 :=
  far_lit ⟨k.val, by have := far_lt i k; have := qi_lt i; omega⟩
theorem sub1 (h : 1 ≤ (i 2).val) : k1_off14 i 0 = ((i 2).val - 1) * 256 := sub_lit (i 2) h
theorem dga1 : k1_off10 i 0 = (i 2).val * 256 := diag_lit (i 2)
theorem dgb1 : k1_off18 i 0 = (i 2).val * 256 := diag_lit (i 2)
theorem far2 (k : Fin (k1_t1_loop i).trips) : k1_off3 i k 0 = k.val * 256 :=
  far_lit ⟨k.val, by have := far_lt i k; have := qi_lt i; omega⟩
theorem sub2 (h : 1 ≤ (i 2).val) : k1_off15 i 0 = ((i 2).val - 1) * 256 := sub_lit (i 2) h
theorem dga2 : k1_off11 i 0 = (i 2).val * 256 := diag_lit (i 2)
theorem dgb2 : k1_off19 i 0 = (i 2).val * 256 := diag_lit (i 2)
theorem far3 (k : Fin (k1_t1_loop i).trips) : k1_off4 i k 0 = k.val * 256 :=
  far_lit ⟨k.val, by have := far_lt i k; have := qi_lt i; omega⟩
theorem sub3 (h : 1 ≤ (i 2).val) : k1_off16 i 0 = ((i 2).val - 1) * 256 := sub_lit (i 2) h
theorem dga3 : k1_off12 i 0 = (i 2).val * 256 := diag_lit (i 2)
theorem dgb3 : k1_off20 i 0 = (i 2).val * 256 := diag_lit (i 2)
end

variable (c : Dev nD) (i : grid1.Coords)
  (arg3 : Memref sig .tc .vmem S4x64 .f32) (harg3 : arg3.IsWhole) (arg4 : Memref sig .tc .vmem S256x512 .f32) (harg4 : arg4.IsWhole)
  (arg5 : Memref sig .tc .vmem S2048x512 .f32) (harg5 : arg5.IsWhole) (arg6 : Memref sig .tc .vmem S2048x512 .f32) (harg6 : arg6.IsWhole)
  (arg7 : Memref sig .tc .vmem S4x2x256x256 .f32) (harg7 : arg7.IsWhole) (arg8 : Memref sig .tc .vmem S1x128 .f32) (harg8 : arg8.IsWhole)
  (arg9 : Memref sig .tc .vmem S256x512 .bf16) (harg9 : arg9.IsWhole) (arg10 : Scr) (harg10 : arg10.IsWhole)
  (arg11 : Scr) (harg11 : arg11.IsWhole) (arg12 : Scr) (harg12 : arg12.IsWhole)
  (x0 : Vec Ideal S4x64 .f32) (x1 : Vec Ideal S256x512 .f32) (x2 : Vec Ideal S2048x512 .f32)
  (x3 : Vec Ideal S2048x512 .f32) (x4 : Vec Ideal S4x2x256x256 .f32) (x5 : Vec Ideal S1x128 .f32)

variable {Z RB : ℕ → ℕ → ℝ} {b hg : ℕ} (H : Blocks Z RB b hg (i 2).val x1 x2 x3 x4)

theorem qA0 : kernelRun1_A.sl.r c arg4 harg4 x1 = Gen.k1_pay173 (F := Ideal) (qt arg4 (harg4.unread x1) inb_S256x512_S256x128_0_0) := rfl
theorem qA1 : kernelRun1_A.sl.r_1 c arg4 harg4 x1 = Gen.k1_pay173 (F := Ideal) (qt arg4 (harg4.unread x1) inb_S256x512_S256x128_0_128) := rfl
theorem qA2 : kernelRun1_A.sl.r_4 c arg4 harg4 x1 = Gen.k1_pay173 (F := Ideal) (qt arg4 (harg4.unread x1) inb_S256x512_S256x128_0_256) := rfl
theorem qA3 : kernelRun1_A.sl.r_5 c arg4 harg4 x1 = Gen.k1_pay173 (F := Ideal) (qt arg4 (harg4.unread x1) inb_S256x512_S256x128_0_384) := rfl
theorem qB0 : kernelRun1_B.sl.r c arg4 harg4 x1 = Gen.k1_pay173 (F := Ideal) (qt arg4 (harg4.unread x1) inb_S256x512_S256x128_0_0) := rfl
theorem qB1 : kernelRun1_B.sl.r_1 c arg4 harg4 x1 = Gen.k1_pay173 (F := Ideal) (qt arg4 (harg4.unread x1) inb_S256x512_S256x128_0_128) := rfl
theorem qB2 : kernelRun1_B.sl.r_4 c arg4 harg4 x1 = Gen.k1_pay173 (F := Ideal) (qt arg4 (harg4.unread x1) inb_S256x512_S256x128_0_256) := rfl
theorem qB3 : kernelRun1_B.sl.r_5 c arg4 harg4 x1 = Gen.k1_pay173 (F := Ideal) (qt arg4 (harg4.unread x1) inb_S256x512_S256x128_0_384) := rfl

include H in
/-- Every head's row in a grid step of case B. -/
theorem row_B (hc1 : cond1_1 i) (g : ℕ → EReal) (hg5 : ∀ d : Fin 128, x5 (ix2 0 d) = g d.val) (lam : EReal) (h : Fin 4) (r : Fin 256) (d : Fin 128)
    (h2 : 1 ≤ (i 2).val) :
    fin lam (pick h (rd0 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd1 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd2 arg12 (kernelRun1_B.sl.HS2_8 c i arg3 harg3 arg4 harg4 arg5 harg5 arg6 harg6 arg7 harg7 arg8 harg8 arg9 harg9 arg10 harg10 arg11 harg11 arg12 harg12 hc1 x1 x2 x3 x4)) (rd3 arg12 (kernelRun1_B.sl.HS2_8 c i arg3 harg3 arg4 harg4 arg5 harg5 arg6 harg6 arg7 harg7 arg8 harg8 arg9 harg9 arg10 harg10 arg11 harg11 arg12 harg12 hc1 x1 x2 x3 x4))) (pick h (rd0 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd1 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd2 arg11 (kernelRun1_B.sl.HS1_8 c i arg3 harg3 arg4 harg4 arg5 harg5 arg6 harg6 arg7 harg7 arg8 harg8 arg9 harg9 arg10 harg10 arg11 harg11 arg12 harg12 hc1 x1 x2 x3 x4)) (rd3 arg11 (kernelRun1_B.sl.HS1_8 c i arg3 harg3 arg4 harg4 arg5 harg5 arg6 harg6 arg7 harg7 arg8 harg8 arg9 harg9 arg10 harg10 arg11 harg11 arg12 harg12 hc1 x1 x2 x3 x4))) x5 r d =
      Cert.Spec.res Z RB lam g b (hg * 4 + h.val) ((i 2).val * 256 + r.val) d.val := by
  have et : (k1_t1_loop i).trips = (i 2).val - 1 := trips1 i
  have hl := b_loop c i arg3 harg3 arg4 harg4 arg5 harg5 arg6 harg6 arg7 harg7 arg8 harg8 arg9 harg9 arg10 harg10 arg11 harg11 arg12 harg12 x1 x2 x3 x4 hc1 (y := Score.y Z RB b hg (i 2).val) (v := Score.v Z b hg) (fun k =>
    ⟨(by rw [qB0]; exact tile_far arg4 harg4 arg5 harg5 arg6 harg6 H (qi_lt i) 0 k.val (far_lt i k) _ rfl rfl _ (far0 i k) rfl),
     (by rw [qB1]; exact tile_far arg4 harg4 arg5 harg5 arg6 harg6 H (qi_lt i) 1 k.val (far_lt i k) _ rfl rfl _ (far1 i k) rfl),
     (by rw [qB2]; exact tile_far arg4 harg4 arg5 harg5 arg6 harg6 H (qi_lt i) 2 k.val (far_lt i k) _ rfl rfl _ (far2 i k) rfl),
     (by rw [qB3]; exact tile_far arg4 harg4 arg5 harg5 arg6 harg6 H (qi_lt i) 3 k.val (far_lt i k) _ rfl rfl _ (far3 i k) rfl)⟩)
  have ht : (k1_t1_loop i).trips + 1 = (i 2).val := by omega
  have hs := b_sub c i arg3 harg3 arg4 harg4 arg5 harg5 arg6 harg6 arg7 harg7 arg8 harg8 arg9 harg9 arg10 harg10 arg11 harg11 arg12 harg12 x1 x2 x3 x4 hc1 hl
    (by rw [qB0]; exact tile_sub arg4 harg4 arg5 harg5 arg6 harg6 arg7 harg7 H (qi_lt i) 0 _ ht _ rfl rfl _ ((sub0 i h2).trans (by rw [et])) rfl _ rfl rfl rfl rfl)
    (by rw [qB1]; exact tile_sub arg4 harg4 arg5 harg5 arg6 harg6 arg7 harg7 H (qi_lt i) 1 _ ht _ rfl rfl _ ((sub1 i h2).trans (by rw [et])) rfl _ rfl rfl rfl rfl)
    (by rw [qB2]; exact tile_sub arg4 harg4 arg5 harg5 arg6 harg6 arg7 harg7 H (qi_lt i) 2 _ ht _ rfl rfl _ ((sub2 i h2).trans (by rw [et])) rfl _ rfl rfl rfl rfl)
    (by rw [qB3]; exact tile_sub arg4 harg4 arg5 harg5 arg6 harg6 arg7 harg7 H (qi_lt i) 3 _ ht _ rfl rfl _ ((sub3 i h2).trans (by rw [et])) rfl _ rfl rfl rfl rfl)
  rw [ht] at hs
  have hd := b_diag c i arg3 harg3 arg4 harg4 arg5 harg5 arg6 harg6 arg7 harg7 arg8 harg8 arg9 harg9 arg10 harg10 arg11 harg11 arg12 harg12 x1 x2 x3 x4 hc1 hs
    (by rw [qB0]; exact tile_diag arg4 harg4 arg5 harg5 arg6 harg6 arg7 harg7 H (qi_lt i) 0 _ rfl _ rfl rfl _ (dgb0 i) rfl _ rfl rfl rfl rfl)
    (by rw [qB1]; exact tile_diag arg4 harg4 arg5 harg5 arg6 harg6 arg7 harg7 H (qi_lt i) 1 _ rfl _ rfl rfl _ (dgb1 i) rfl _ rfl rfl rfl rfl)
    (by rw [qB2]; exact tile_diag arg4 harg4 arg5 harg5 arg6 harg6 arg7 harg7 H (qi_lt i) 2 _ rfl _ rfl rfl _ (dgb2 i) rfl _ rfl rfl rfl rfl)
    (by rw [qB3]; exact tile_diag arg4 harg4 arg5 harg5 arg6 harg6 arg7 harg7 H (qi_lt i) 3 _ rfl _ rfl rfl _ (dgb3 i) rfl _ rfl rfl rfl rfl)
  match h with
    | 0 => exact fin_eq' (qi_lt i) 0 (rfl) lam g x5 hg5 (M := _) (L := rd0 arg11 (kernelRun1_B.sl.HS1_8 c i arg3 harg3 arg4 harg4 arg5 harg5 arg6 harg6 arg7 harg7 arg8 harg8 arg9 harg9 arg10 harg10 arg11 harg11 arg12 harg12 hc1 x1 x2 x3 x4)) (A := rd0 arg12 (kernelRun1_B.sl.HS2_8 c i arg3 harg3 arg4 harg4 arg5 harg5 arg6 harg6 arg7 harg7 arg8 harg8 arg9 harg9 arg10 harg10 arg11 harg11 arg12 harg12 hc1 x1 x2 x3 x4)) r d (hd.1)
    | 1 => exact fin_eq' (qi_lt i) 1 (rfl) lam g x5 hg5 (M := _) (L := rd1 arg11 (kernelRun1_B.sl.HS1_8 c i arg3 harg3 arg4 harg4 arg5 harg5 arg6 harg6 arg7 harg7 arg8 harg8 arg9 harg9 arg10 harg10 arg11 harg11 arg12 harg12 hc1 x1 x2 x3 x4)) (A := rd1 arg12 (kernelRun1_B.sl.HS2_8 c i arg3 harg3 arg4 harg4 arg5 harg5 arg6 harg6 arg7 harg7 arg8 harg8 arg9 harg9 arg10 harg10 arg11 harg11 arg12 harg12 hc1 x1 x2 x3 x4)) r d (hd.2.1)
    | 2 => exact fin_eq' (qi_lt i) 2 (rfl) lam g x5 hg5 (M := _) (L := rd2 arg11 (kernelRun1_B.sl.HS1_8 c i arg3 harg3 arg4 harg4 arg5 harg5 arg6 harg6 arg7 harg7 arg8 harg8 arg9 harg9 arg10 harg10 arg11 harg11 arg12 harg12 hc1 x1 x2 x3 x4)) (A := rd2 arg12 (kernelRun1_B.sl.HS2_8 c i arg3 harg3 arg4 harg4 arg5 harg5 arg6 harg6 arg7 harg7 arg8 harg8 arg9 harg9 arg10 harg10 arg11 harg11 arg12 harg12 hc1 x1 x2 x3 x4)) r d (hd.2.2.1)
    | 3 => exact fin_eq' (qi_lt i) 3 (rfl) lam g x5 hg5 (M := _) (L := rd3 arg11 (kernelRun1_B.sl.HS1_8 c i arg3 harg3 arg4 harg4 arg5 harg5 arg6 harg6 arg7 harg7 arg8 harg8 arg9 harg9 arg10 harg10 arg11 harg11 arg12 harg12 hc1 x1 x2 x3 x4)) (A := rd3 arg12 (kernelRun1_B.sl.HS2_8 c i arg3 harg3 arg4 harg4 arg5 harg5 arg6 harg6 arg7 harg7 arg8 harg8 arg9 harg9 arg10 harg10 arg11 harg11 arg12 harg12 hc1 x1 x2 x3 x4)) r d (hd.2.2.2)

include H in
theorem point_B (hc0 : ¬cond1_0 i) (hc1 : cond1_1 i) (g : ℕ → EReal) (hg5 : ∀ d : Fin 128, x5 (ix2 0 d) = g d.val)
    (h2 : 1 ≤ (i 2).val) (y : S256x512.Idx) :
    out1_B_6 c i arg3 harg3 arg4 harg4 arg5 harg5 arg6 harg6 arg7 harg7 arg8 harg8 arg9 harg9 arg10 harg10 arg11 harg11 arg12 harg12 hc0 hc1 x0 x1 x2 x3 x4 x5 y =
      Cert.Spec.res Z RB (Cert.Spec.lamOf x0) g b (hg * 4 + (y 1).val / 128) ((i 2).val * 256 + (y 0).val) ((y 1).val % 128) := by
  rw [out_B]
  exact row_B c i arg3 harg3 arg4 harg4 arg5 harg5 arg6 harg6 arg7 harg7 arg8 harg8 arg9 harg9 arg10 harg10 arg11 harg11 arg12 harg12 x1 x2 x3 x4 x5 H hc1 g hg5 _ ⟨(y 1).val / 128, head_lt (y 1)⟩ (y 0) ⟨(y 1).val % 128, Nat.mod_lt _ (by decide)⟩ h2

include H in
/-- Every head's row in a grid step of case A. -/
theorem row_A (hc0 : cond1_0 i) (g : ℕ → EReal) (hg5 : ∀ d : Fin 128, x5 (ix2 0 d) = g d.val) (lam : EReal) (h : Fin 4) (r : Fin 256) (d : Fin 128)
    (h2 : (i 2).val = 0) :
    fin lam (pick h (rd0 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd1 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd2 arg12 (kernelRun1_A.sl.HS2_4 c i arg3 harg3 arg4 harg4 arg5 harg5 arg6 harg6 arg7 harg7 arg8 harg8 arg9 harg9 arg10 harg10 arg11 harg11 arg12 harg12 hc0 x1 x2 x3 x4)) (rd3 arg12 (kernelRun1_A.sl.HS2_4 c i arg3 harg3 arg4 harg4 arg5 harg5 arg6 harg6 arg7 harg7 arg8 harg8 arg9 harg9 arg10 harg10 arg11 harg11 arg12 harg12 hc0 x1 x2 x3 x4))) (pick h (rd0 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd1 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd2 arg11 (kernelRun1_A.sl.HS1_4 c i arg3 harg3 arg4 harg4 arg5 harg5 arg6 harg6 arg7 harg7 arg8 harg8 arg9 harg9 arg10 harg10 arg11 harg11 arg12 harg12 hc0 x1 x2 x3 x4)) (rd3 arg11 (kernelRun1_A.sl.HS1_4 c i arg3 harg3 arg4 harg4 arg5 harg5 arg6 harg6 arg7 harg7 arg8 harg8 arg9 harg9 arg10 harg10 arg11 harg11 arg12 harg12 hc0 x1 x2 x3 x4))) x5 r d =
      Cert.Spec.res Z RB lam g b (hg * 4 + h.val) ((i 2).val * 256 + r.val) d.val := by
  have et : (k1_t1_loop i).trips = (i 2).val - 1 := trips1 i
  have hl := a_loop c i arg3 harg3 arg4 harg4 arg5 harg5 arg6 harg6 arg7 harg7 arg8 harg8 arg9 harg9 arg10 harg10 arg11 harg11 arg12 harg12 x1 x2 x3 x4 hc0 (y := Score.y Z RB b hg (i 2).val) (v := Score.v Z b hg) (fun k =>
    ⟨(by rw [qA0]; exact tile_far arg4 harg4 arg5 harg5 arg6 harg6 H (qi_lt i) 0 k.val (far_lt i k) _ rfl rfl _ (far0 i k) rfl),
     (by rw [qA1]; exact tile_far arg4 harg4 arg5 harg5 arg6 harg6 H (qi_lt i) 1 k.val (far_lt i k) _ rfl rfl _ (far1 i k) rfl),
     (by rw [qA2]; exact tile_far arg4 harg4 arg5 harg5 arg6 harg6 H (qi_lt i) 2 k.val (far_lt i k) _ rfl rfl _ (far2 i k) rfl),
     (by rw [qA3]; exact tile_far arg4 harg4 arg5 harg5 arg6 harg6 H (qi_lt i) 3 k.val (far_lt i k) _ rfl rfl _ (far3 i k) rfl)⟩)
  have ht : (k1_t1_loop i).trips = (i 2).val := by omega
  have hd := a_diag c i arg3 harg3 arg4 harg4 arg5 harg5 arg6 harg6 arg7 harg7 arg8 harg8 arg9 harg9 arg10 harg10 arg11 harg11 arg12 harg12 x1 x2 x3 x4 hc0 hl
    (by rw [qA0]; exact tile_diag arg4 harg4 arg5 harg5 arg6 harg6 arg7 harg7 H (qi_lt i) 0 _ ht _ rfl rfl _ ((dga0 i).trans (by rw [ht])) rfl _ rfl rfl rfl rfl)
    (by rw [qA1]; exact tile_diag arg4 harg4 arg5 harg5 arg6 harg6 arg7 harg7 H (qi_lt i) 1 _ ht _ rfl rfl _ ((dga1 i).trans (by rw [ht])) rfl _ rfl rfl rfl rfl)
    (by rw [qA2]; exact tile_diag arg4 harg4 arg5 harg5 arg6 harg6 arg7 harg7 H (qi_lt i) 2 _ ht _ rfl rfl _ ((dga2 i).trans (by rw [ht])) rfl _ rfl rfl rfl rfl)
    (by rw [qA3]; exact tile_diag arg4 harg4 arg5 harg5 arg6 harg6 arg7 harg7 H (qi_lt i) 3 _ ht _ rfl rfl _ ((dga3 i).trans (by rw [ht])) rfl _ rfl rfl rfl rfl)
  match h with
    | 0 => exact fin_eq' (qi_lt i) 0 (congrArg (· + 1) ht) lam g x5 hg5 (M := _) (L := rd0 arg11 (kernelRun1_A.sl.HS1_4 c i arg3 harg3 arg4 harg4 arg5 harg5 arg6 harg6 arg7 harg7 arg8 harg8 arg9 harg9 arg10 harg10 arg11 harg11 arg12 harg12 hc0 x1 x2 x3 x4)) (A := rd0 arg12 (kernelRun1_A.sl.HS2_4 c i arg3 harg3 arg4 harg4 arg5 harg5 arg6 harg6 arg7 harg7 arg8 harg8 arg9 harg9 arg10 harg10 arg11 harg11 arg12 harg12 hc0 x1 x2 x3 x4)) r d (hd.1)
    | 1 => exact fin_eq' (qi_lt i) 1 (congrArg (· + 1) ht) lam g x5 hg5 (M := _) (L := rd1 arg11 (kernelRun1_A.sl.HS1_4 c i arg3 harg3 arg4 harg4 arg5 harg5 arg6 harg6 arg7 harg7 arg8 harg8 arg9 harg9 arg10 harg10 arg11 harg11 arg12 harg12 hc0 x1 x2 x3 x4)) (A := rd1 arg12 (kernelRun1_A.sl.HS2_4 c i arg3 harg3 arg4 harg4 arg5 harg5 arg6 harg6 arg7 harg7 arg8 harg8 arg9 harg9 arg10 harg10 arg11 harg11 arg12 harg12 hc0 x1 x2 x3 x4)) r d (hd.2.1)
    | 2 => exact fin_eq' (qi_lt i) 2 (congrArg (· + 1) ht) lam g x5 hg5 (M := _) (L := rd2 arg11 (kernelRun1_A.sl.HS1_4 c i arg3 harg3 arg4 harg4 arg5 harg5 arg6 harg6 arg7 harg7 arg8 harg8 arg9 harg9 arg10 harg10 arg11 harg11 arg12 harg12 hc0 x1 x2 x3 x4)) (A := rd2 arg12 (kernelRun1_A.sl.HS2_4 c i arg3 harg3 arg4 harg4 arg5 harg5 arg6 harg6 arg7 harg7 arg8 harg8 arg9 harg9 arg10 harg10 arg11 harg11 arg12 harg12 hc0 x1 x2 x3 x4)) r d (hd.2.2.1)
    | 3 => exact fin_eq' (qi_lt i) 3 (congrArg (· + 1) ht) lam g x5 hg5 (M := _) (L := rd3 arg11 (kernelRun1_A.sl.HS1_4 c i arg3 harg3 arg4 harg4 arg5 harg5 arg6 harg6 arg7 harg7 arg8 harg8 arg9 harg9 arg10 harg10 arg11 harg11 arg12 harg12 hc0 x1 x2 x3 x4)) (A := rd3 arg12 (kernelRun1_A.sl.HS2_4 c i arg3 harg3 arg4 harg4 arg5 harg5 arg6 harg6 arg7 harg7 arg8 harg8 arg9 harg9 arg10 harg10 arg11 harg11 arg12 harg12 hc0 x1 x2 x3 x4)) r d (hd.2.2.2)

include H in
theorem point_A (hc0 : cond1_0 i) (hc1 : ¬cond1_1 i) (g : ℕ → EReal) (hg5 : ∀ d : Fin 128, x5 (ix2 0 d) = g d.val)
    (h2 : (i 2).val = 0) (y : S256x512.Idx) :
    out1_A_6 c i arg3 harg3 arg4 harg4 arg5 harg5 arg6 harg6 arg7 harg7 arg8 harg8 arg9 harg9 arg10 harg10 arg11 harg11 arg12 harg12 hc0 hc1 x0 x1 x2 x3 x4 x5 y =
      Cert.Spec.res Z RB (Cert.Spec.lamOf x0) g b (hg * 4 + (y 1).val / 128) ((i 2).val * 256 + (y 0).val) ((y 1).val % 128) := by
  rw [out_A]
  exact row_A c i arg3 harg3 arg4 harg4 arg5 harg5 arg6 harg6 arg7 harg7 arg8 harg8 arg9 harg9 arg10 harg10 arg11 harg11 arg12 harg12 x1 x2 x3 x4 x5 H hc0 g hg5 _ ⟨(y 1).val / 128, head_lt (y 1)⟩ (y 0) ⟨(y 1).val % 128, Nat.mod_lt _ (by decide)⟩ h2

end Cert.Point
-- ==== Proof.Value.lean ====
/- The attention kernel's array: every element of the result, from the arguments. -/
module

public import proofs.«01_k».proof.Proof.Region
public import proofs.«01_k».proof.Proof.Point

@[expose] public section

set_option maxRecDepth 16384

noncomputable section

namespace Cert.Value

open Idealize.ShloMosaic
open Cert.KernelIdeal
open Cert.KernelIdeal.Gen (V9)
open Cert.Bucket Cert.Region Cert.Score Cert.Spec

variable (m : (ℓ : Loc nD τ sig) → Buf (Elt Ideal) ℓ) (ρ : Dev nD → PrngReg) (c : Dev nD)

theorem idx1 : ∀ t : Fin cfg1.N, win1_0.index t = ![0, 0] ∧
    win1_1.index t = ![(t.val / 16) * 8 + t.val % 8, t.val / 8 % 2] ∧ win1_2.index t = ![t.val / 16, 2 + t.val / 8 % 2] ∧
    win1_3.index t = ![t.val / 16, 4 + t.val / 8 % 2] ∧ win1_4.index t = ![t.val / 8 % 2, 0, 0, 0] ∧
    win1_5.index t = ![0, 0] ∧ win1_6.index t = ![(t.val / 16) * 8 + t.val % 8, t.val / 8 % 2] ∧
    (grid1.coords t 2).val = t.val % 8 ∧ t.val < 64 :=
  (by decide +kernel : ∀ t : Fin grid1.N, _)

theorem lam_blk (t : Fin cfg1.N) :
    (show FVec Ideal S4x64 .f32 from Gen.iblk1 (F := Ideal) (V9 m ρ) c 0 t) = m ((c.tc : Thread nD τ).loc main_arg1) := by
  rw [← Gen.W9_args m ρ c main_arg1 (by decide)]
  blk_ext! [Gen.iblk1, idx1 t]

theorem q_blk (t : Fin cfg1.N) (ht : t.val < 64) (r : Fin 256) (k : Fin 512) :
    (show FVec Ideal S256x512 .f32 from Gen.iblk1 (F := Ideal) (V9 m ρ) c 1 t) (ix2 r k) =
      (show FVec Ideal S8192x4096 .f32 from m ((c.tc : Thread nD τ).loc main_arg0))
        (ix2 ⟨t.val / 16 * 2048 + (t.val % 8 * 256 + r.val), by omega⟩ ⟨t.val / 8 % 2 * 512 + k.val, by omega⟩) := by
  rw [← Gen.W9_args m ρ c main_arg0 (by decide)]
  blk_ext [Gen.iblk1, idx1 t]

theorem k_blk (t : Fin cfg1.N) (ht : t.val < 64) (r : Fin 2048) (k : Fin 512) :
    (show FVec Ideal S2048x512 .f32 from Gen.iblk1 (F := Ideal) (V9 m ρ) c 2 t) (ix2 r k) =
      (show FVec Ideal S8192x4096 .f32 from m ((c.tc : Thread nD τ).loc main_arg0))
        (ix2 ⟨t.val / 16 * 2048 + r.val, by omega⟩ ⟨1024 + t.val / 8 % 2 * 512 + k.val, by omega⟩) := by
  rw [← Gen.W9_args m ρ c main_arg0 (by decide)]
  blk_ext [Gen.iblk1, idx1 t]

theorem v_blk (t : Fin cfg1.N) (ht : t.val < 64) (r : Fin 2048) (k : Fin 512) :
    (show FVec Ideal S2048x512 .f32 from Gen.iblk1 (F := Ideal) (V9 m ρ) c 3 t) (ix2 r k) =
      (show FVec Ideal S8192x4096 .f32 from m ((c.tc : Thread nD τ).loc main_arg0))
        (ix2 ⟨t.val / 16 * 2048 + r.val, by omega⟩ ⟨2048 + t.val / 8 % 2 * 512 + k.val, by omega⟩) := by
  rw [← Gen.W9_args m ρ c main_arg0 (by decide)]
  blk_ext [Gen.iblk1, idx1 t]

variable {RB : ℕ → ℕ → ℝ}

/-- The bias array, split into tiles. -/
theorem v37 (hRB : ∀ j : S32x8.Idx, m ((c.tc : Thread nD τ).loc main_arg3) j = ((RB (j 0).val (j 1).val : ℝ) : EReal)) :
    V9 (F := Ideal) m ρ c main_v37 = shapeCast S8x2x256x256 (bias RB) Gen.shapeCasts_S8x512x256_S8x2x256x256 := by
  have h : Gen.W8 (F := Ideal) m ρ c (Proc.devRef .tc main_v36) = bias RB := (Gen.W8_arr m ρ c 2).trans (arr0 m ρ c RB hRB)
  rw [← h]
  show StableHlo.after Gen.hostOps1 (Gen.W8 m ρ c) (Proc.devRef .tc main_v37) = _
  entry_read
  rfl

theorem v38 : V9 (F := Ideal) m ρ c main_v38 = shapeCast S1x128 (show FVec Ideal S128 .f32 from m ((c.tc : Thread nD τ).loc main_arg2)) Gen.shapeCasts_S128_S1x128 := by
  rw [← Gen.W8_args m ρ c main_arg2 (by decide)]
  show StableHlo.after Gen.hostOps1 (Gen.W8 m ρ c) (Proc.devRef .tc main_v38) = _
  entry_read
  rfl

theorem g_blk (t : Fin cfg1.N) (d : Fin 128) :
    (show FVec Ideal S1x128 .f32 from Gen.iblk1 (F := Ideal) (V9 m ρ) c 5 t) (ix2 0 d) =
      (show FVec Ideal S128 .f32 from m ((c.tc : Thread nD τ).loc main_arg2)) (ix1 d) := by
  have e : (show FVec Ideal S1x128 .f32 from Gen.iblk1 (F := Ideal) (V9 m ρ) c 5 t) (ix2 0 d) =
      (show FVec Ideal S1x128 .f32 from V9 (F := Ideal) m ρ c main_v38) (ix2 0 d) := by
    blk_ext [Gen.iblk1, idx1 t]
  rw [e, v38]
  pointwise

theorem b_blk (hRB : ∀ j : S32x8.Idx, m ((c.tc : Thread nD τ).loc main_arg3) j = ((RB (j 0).val (j 1).val : ℝ) : EReal))
    (t : Fin cfg1.N) (h : Fin 4) (j : Fin 2) (r k : Fin 256) :
    (show FVec Ideal S4x2x256x256 .f32 from Gen.iblk1 (F := Ideal) (V9 m ρ) c 4 t) (ix4 h j r k) =
      bias RB (ix3 ⟨t.val / 8 % 2 * 4 + h.val, by omega⟩ ⟨j.val * 256 + r.val, by omega⟩ k) := by
  have e : (show FVec Ideal S4x2x256x256 .f32 from Gen.iblk1 (F := Ideal) (V9 m ρ) c 4 t) (ix4 h j r k) =
      (show FVec Ideal S8x2x256x256 .f32 from V9 (F := Ideal) m ρ c main_v37) (ix4 ⟨t.val / 8 % 2 * 4 + h.val, by omega⟩ j r k) := by
    blk_ext [Gen.iblk1, idx1 t]
  rw [e, v37 m ρ c hRB]
  pointwise

variable {Z : ℕ → ℕ → ℝ}

/-- The blocks of a grid step are the queries, keys, values and biases of its heads. -/
theorem blocks (hRB : ∀ j : S32x8.Idx, m ((c.tc : Thread nD τ).loc main_arg3) j = ((RB (j 0).val (j 1).val : ℝ) : EReal))
    (hZ : ∀ j : S8192x4096.Idx, m ((c.tc : Thread nD τ).loc main_arg0) j = ((Z (j 0).val (j 1).val : ℝ) : EReal))
    (t : Fin cfg1.N) (ht : t.val < 64) (qi : ℕ) (hq : qi = t.val % 8) :
    Blocks Z RB (t.val / 16) (t.val / 8 % 2) qi (Gen.iblk1 (F := Ideal) (V9 m ρ) c 1 t) (Gen.iblk1 (F := Ideal) (V9 m ρ) c 2 t)
      (Gen.iblk1 (F := Ideal) (V9 m ρ) c 3 t) (Gen.iblk1 (F := Ideal) (V9 m ρ) c 4 t) := by
  subst hq
  refine ⟨fun r k => (q_blk m ρ c t ht r k).trans (hZ _), fun r k => (k_blk m ρ c t ht r k).trans (hZ _),
    fun r k => (v_blk m ρ c t ht r k).trans (hZ _), fun h r k => (b_blk m ρ c hRB t h 0 r k).trans ?_,
    fun h r k => (b_blk m ρ c hRB t h 1 r k).trans ?_⟩
  · unfold bias
    show (if k.val ≤ 0 * 256 + r.val then (((RB (bkt (0 * 256 + r.val - k.val)) _ - _) * _ : ℝ) : EReal) else ⊥) = _
    rw [Nat.zero_mul, Nat.zero_add]
    rfl
  · unfold bias
    show (if k.val ≤ 1 * 256 + r.val then (((RB (bkt (1 * 256 + r.val - k.val)) _ - _) * _ : ℝ) : EReal) else ⊥) = _
    rw [Nat.one_mul, if_pos (by have := k.isLt; omega)]
    rfl

/-- The norm's gains by lane. -/
def gains (x2 : FVec Ideal S128 .f32) : ℕ → EReal := fun d => if h : d < 128 then x2 (ix1 ⟨d, h⟩) else 0

theorem gains_at (x2 : FVec Ideal S128 .f32) (d : Fin 128) : gains x2 d.val = x2 (ix1 d) := dif_pos d.isLt

/-- The result's element, from the arguments. -/
def target (Z RB : ℕ → ℕ → ℝ) (x1 : FVec Ideal S4x64 .f32) (x2 : FVec Ideal S128 .f32) : S8192x1024.Idx → EReal := fun i =>
  res Z RB (lamOf x1) (gains x2)
    ((i 0).val / 2048) ((i 1).val / 128) ((i 0).val % 2048) ((i 1).val % 128)

theorem point1 (hRB : ∀ j : S32x8.Idx, m ((c.tc : Thread nD τ).loc main_arg3) j = ((RB (j 0).val (j 1).val : ℝ) : EReal))
    (hZ : ∀ j : S8192x4096.Idx, m ((c.tc : Thread nD τ).loc main_arg0) j = ((Z (j 0).val (j 1).val : ℝ) : EReal))
    (t : Fin cfg1.N) (ht : t.val < 64) (y : S256x512.Idx) :
    Gen.outsAt1 (F := Ideal) (V9 m ρ) c t.val t.isLt y =
      res Z RB (lamOf (m ((c.tc : Thread nD τ).loc main_arg1)))
        (gains (m ((c.tc : Thread nD τ).loc main_arg2)))
        (t.val / 16) (t.val / 8 % 2 * 4 + (y 1).val / 128) (t.val % 8 * 256 + (y 0).val) ((y 1).val % 128) := by
  have hq : (grid1.coords t 2).val = t.val % 8 := (idx1 t).2.2.2.2.2.2.2.1
  have H := blocks m ρ c hRB hZ t ht (grid1.coords t 2).val hq
  have hg : ∀ d : Fin 128, (show FVec Ideal S1x128 .f32 from Gen.iblk1 (F := Ideal) (V9 m ρ) c 5 t) (ix2 0 d) =
      gains (m ((c.tc : Thread nD τ).loc main_arg2)) d.val :=
    fun d => (g_blk m ρ c t d).trans (gains_at _ d).symm
  have hl := lam_blk m ρ c t
  by_cases h : t.val % 8 = 0
  · have h1 : ¬1 ≤ t.val % 8 := by omega
    refine (congrFun (Gen.outsAt1_A (F := Ideal) (V9 m ρ) c t h h1) y).trans ?_
    refine (Cert.Point.point_A c (grid1.coords t) _ _ _ _ _ _ _ _ _ _ _ _ _ _ _ _ _ _ _ _ _ _ _ _ _ _ H _ _ _ hg (hq.trans h) y).trans ?_
    rw [hq]
    exact congrArg (fun x => res Z RB (lamOf x) _ _ _ _ _) hl
  · have h1 : 1 ≤ t.val % 8 := by omega
    refine (congrFun (Gen.outsAt1_B (F := Ideal) (V9 m ρ) c t h h1) y).trans ?_
    refine (Cert.Point.point_B c (grid1.coords t) _ _ _ _ _ _ _ _ _ _ _ _ _ _ _ _ _ _ _ _ _ _ _ _ _ _ H _ _ _ hg (by rw [hq]; exact h1) y).trans ?_
    rw [hq]
    exact congrArg (fun x => res Z RB (lamOf x) _ _ _ _ _) hl

/-- The attention kernel's array. -/
theorem arr1 (hRB : ∀ j : S32x8.Idx, m ((c.tc : Thread nD τ).loc main_arg3) j = ((RB (j 0).val (j 1).val : ℝ) : EReal))
    (hZ : ∀ j : S8192x4096.Idx, m ((c.tc : Thread nD τ).loc main_arg0) j = ((Z (j 0).val (j 1).val : ℝ) : EReal)) :
    (Gen.dat1 (F := Ideal) (V9 m ρ) c).arrAt 6 cfg1.N =
      target Z RB (m ((c.tc : Thread nD τ).loc main_arg1)) (m ((c.tc : Thread nD τ).loc main_arg2)) := by
  refine (Gen.dat1 (F := Ideal) (V9 m ρ) c).arrAt_eq_of_covers 6
    (target Z RB (m ((c.tc : Thread nD τ).loc main_arg1)) (m ((c.tc : Thread nD τ).loc main_arg2))) (by decide +kernel) fun t hf y => ?_
  blk_simp
  rw [Gen.after1_6]
  have ht : t.val < 64 := (idx1 t).2.2.2.2.2.2.2.2
  refine (point1 m ρ c hRB hZ t ht y).trans ?_
  have h0 : (y 0).val < 256 := (y 0).isLt
  have h1 : (y 1).val < 512 := (y 1).isLt
  have e : (win1_6.blk t).view.emb y = (ix2 ⟨t.val / 16 * 2048 + (t.val % 8 * 256 + (y 0).val), by omega⟩
      ⟨t.val / 8 % 2 * 512 + (y 1).val, by omega⟩ : S8192x1024.Idx) := by
    blk_ext [idx1 t]
  refine Eq.trans ?_ (congrArg (target Z RB (m ((c.tc : Thread nD τ).loc main_arg1)) (m ((c.tc : Thread nD τ).loc main_arg2))) e.symm)
  unfold target
  show _ = res Z RB _ _ ((t.val / 16 * 2048 + (t.val % 8 * 256 + (y 0).val)) / 2048) ((t.val / 8 % 2 * 512 + (y 1).val) / 128)
    ((t.val / 16 * 2048 + (t.val % 8 * 256 + (y 0).val)) % 2048) ((t.val / 8 % 2 * 512 + (y 1).val) % 128)
  have e1 : (t.val / 16 * 2048 + (t.val % 8 * 256 + (y 0).val)) / 2048 = t.val / 16 := by omega
  have e2 : (t.val / 8 % 2 * 512 + (y 1).val) / 128 = t.val / 8 % 2 * 4 + (y 1).val / 128 := by omega
  have e3 : (t.val / 16 * 2048 + (t.val % 8 * 256 + (y 0).val)) % 2048 = t.val % 8 * 256 + (y 0).val := by omega
  have e4 : (t.val / 8 % 2 * 512 + (y 1).val) % 128 = (y 1).val % 128 := by omega
  rw [e1, e2, e3, e4]

/-- The program's result. -/
theorem result (hRB : ∀ j : S32x8.Idx, m ((c.tc : Thread nD τ).loc main_arg3) j = ((RB (j 0).val (j 1).val : ℝ) : EReal))
    (hZ : ∀ j : S8192x4096.Idx, m ((c.tc : Thread nD τ).loc main_arg0) j = ((Z (j 0).val (j 1).val : ℝ) : EReal)) :
    Gen.V10 (F := Ideal) m ρ c main_v39 =
      target Z RB (m ((c.tc : Thread nD τ).loc main_arg1)) (m ((c.tc : Thread nD τ).loc main_arg2)) :=
  (Gen.hF1 m ρ c 6).symm.trans (arr1 m ρ c hRB hZ)

end Cert.Value
-- ==== Proof.KernelRun.lean ====
/- The idealized kernel's run: the result buffer ends with the contents computed for it, the arguments unchanged. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, every buffer read at the end. -/
theorem run : θ_run defs (onTc (τ := τ) (main (F := F))) ⟨m, fun _ => 0, ρ⟩ (fun r => ∀ c : Dev nD,
      r.2.mem ((c.tc : Thread nD τ).loc main_v39) = V10 m ρ c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v39 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelRun

end
-- ==== Proof.Finite.lean ====
/- What the precondition says over the extended reals: the elements it speaks of are real numbers. -/
module

public import proofs.«01_k».proof.Defs
public import proofs.«01_k».proof.Proof.Gen.Pre_finite_inputs

@[expose] public section

set_option maxRecDepth 16384

noncomputable section

namespace Cert.Finite

open Idealize.ShloMosaic
open Cert.KernelIdeal

/-- An element whose absolute value is below +∞ is a real number. -/
theorem real_of_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

attribute [local instance] Cert.Pre_finite_inputs.Gen.facts

variable (m : (ℓ : Loc nD τ sig) → Buf (Elt Ideal) ℓ)

theorem queries (h : Cert.Pre_KernelIdeal_finite_inputs m) (c : Dev nD) :
    ∀ i : S8192x4096.Idx, ∃ r : ℝ, m ((c.tc : Thread nD τ).loc main_arg0) i = (r : EReal) :=
  fun i => real_of_lt _ (congrFun (h c).1 i)

theorem gates (h : Cert.Pre_KernelIdeal_finite_inputs m) (c : Dev nD) :
    ∀ i : S4x64.Idx, ∃ r : ℝ, m ((c.tc : Thread nD τ).loc main_arg1) i = (r : EReal) :=
  fun i => real_of_lt _ (congrFun (h c).2.1 i)

theorem biases (h : Cert.Pre_KernelIdeal_finite_inputs m) (c : Dev nD) :
    ∀ i : S32x8.Idx, ∃ r : ℝ, m ((c.tc : Thread nD τ).loc main_arg3) i = (r : EReal) :=
  fun i => real_of_lt _ (congrFun (h c).2.2 i)

end Cert.Finite

end
-- ==== Proof.Ref.lean ====
/- The reference's run: what each of its buffers holds. -/
module

public import proofs.«01_k».proof.Proof.Gen.ReferenceIdeal.Run
public import proofs.«01_k».proof.Proof.Gen.ReferenceIdeal.Read

@[expose] public section
-- ==== Proof.RefSide.lean ====
/- The reference's result at an index: the plain formula. -/
module

public import proofs.«01_k».proof.Proof.Ref
public import proofs.«01_k».proof.Proof.Spec

@[expose] public section

set_option maxRecDepth 16384

noncomputable section

open Idealize.ShloMosaic
open Cert.ReferenceIdeal Cert.ReferenceIdeal.Facts₀ Cert.ReferenceIdeal.Read
open Cert.Bucket Cert.Spec

namespace Cert.RefSide

theorem nat_toInt : ∀ n : Fin 2048, (BitVec.ofNat 32 n.val).toInt = (n.val : ℤ) := by decide +kernel

theorem reduces4 : S4x8x2x2048x2048.Reduces [4] S4x8x2x2048 := by decide

/-- the distance word of a query and a key -/
theorem dist_toInt (i : S2048x2048.Idx) :
    (val_main_v31 (F := Ideal) i).toInt = ((i 0).val : ℤ) - ((i 1).val : ℤ) := by
  have h0 : (i 0).val < 2048 := (i 0).isLt
  have h1 : (i 1).val < 2048 := (i 1).isLt
  rw [val_main_v31_apply, val_main_v29_apply, val_main_v30_apply, val_main_v27_apply, val_main_v28_apply,
    val_main_v23_apply, val_main_v23_apply]
  show (BitVec.ofNat 32 (i 0).val - BitVec.ofNat 32 (i 1).val).toInt = _
  rw [BitVec.toInt_sub, show (BitVec.ofNat 32 (i 0).val).toInt = _ from nat_toInt ⟨_, h0⟩,
    show (BitVec.ofNat 32 (i 1).val).toInt = _ from nat_toInt ⟨_, h1⟩]
  simp only [Int.bmod_def]
  omega

/-- the mask holds exactly on the keys not after the query -/
theorem mask_eq (i : S2048x2048.Idx) :
    val_main_v61 (F := Ideal) i = if (i 1).val ≤ (i 0).val then 1#1 else 0#1 := by
  rw [val_main_v61_apply, val_main_v60_apply, val_main_c_12_apply]
  show BitVec.ofBool ((0#32).sle (val_main_v31 (F := Ideal) i)) = _
  rw [BitVec.sle_eq_decide, dist_toInt]
  by_cases h : (i 1).val ≤ (i 0).val
  · rw [if_pos h, decide_eq_true]; rfl
    simp; omega
  · rw [if_neg h, decide_eq_false]; rfl
    simp; omega

theorem dist_word (i : S2048x2048.Idx) (h : (i 1).val ≤ (i 0).val) :
    val_main_v33 (F := Ideal) i = BitVec.ofNat 32 ((i 0).val - (i 1).val) := by
  have h0 : (i 0).val < 2048 := (i 0).isLt
  rw [val_main_v33_apply, val_main_v32_apply, val_main_c_apply]
  have e : val_main_v31 (F := Ideal) i = BitVec.ofNat 32 ((i 0).val - (i 1).val) := by
    apply BitVec.eq_of_toInt_eq
    rw [dist_toInt, show (BitVec.ofNat 32 ((i 0).val - (i 1).val)).toInt = _ from nat_toInt ⟨_, by omega⟩]
    show _ = (((i 0).val - (i 1).val : ℕ) : ℤ)
    omega
  rw [e]
  have key : ∀ n : Fin 2048, IntOp.maxsi (BitVec.ofNat 32 n.val) 0#32 = BitVec.ofNat 32 n.val := by decide +kernel
  exact key ⟨(i 0).val - (i 1).val, by omega⟩

/-- the reference's bucket -/
theorem bucket_word (i : S2048x2048.Idx) (h : (i 1).val ≤ (i 0).val) :
    val_main_v56 (F := Ideal) i = BitVec.ofNat 32 (bkt ((i 0).val - (i 1).val)) := by
  have h0 : (i 0).val < 2048 := (i 0).isLt
  have hn : (i 0).val - (i 1).val < 2048 := by omega
  have e51 : val_main_v51 (F := Ideal) i = BitVec.ofNat 32 (bkt ((i 0).val - (i 1).val)) := by
    rw [val_main_v51_apply, val_main_v50_apply, val_main_v49_apply, val_main_c_9_apply, val_main_v48_apply, val_main_v46_apply,
      val_main_v45_apply, val_main_c_7_apply, val_main_v47_apply, val_main_c_8_apply, val_main_v44_apply, val_main_v43_apply,
      val_main_v42_apply, val_main_cst_6_apply, val_main_v41_apply, val_main_v40_apply, val_main_cst_5_apply, val_main_v39_apply,
      val_main_v38_apply, val_main_v37_apply, val_main_cst_4_apply, val_main_v36_apply, val_main_v35_apply, val_main_v34_apply,
      val_main_c_3_apply, dist_word i h]
    generalize (i 0).val - (i 1).val = n at hn
    have key : ∀ n : Fin 2048, IntOp.cmpi .slt (BitVec.ofNat 32 n.val) 16#32 = (if n.val < 16 then 1#1 else 0#1) ∧
        IntOp.maxsi (BitVec.ofNat 32 n.val) 1#32 = BitVec.ofNat 32 (max n.val 1) ∧ (BitVec.ofNat 32 n.val).toInt = (n.val : ℤ) := by
      decide +kernel
    obtain ⟨k1, k2, k3⟩ := key ⟨n, hn⟩
    simp only at k1 k2 k3
    rw [k1, k2]
    by_cases h16 : n < 16
    · rw [if_pos h16, bkt, if_pos h16]; rfl
    · rw [if_neg h16, max_eq_left (by omega)]
      show IntOp.minsi (IntOp.addi 16#32 (Ideal.fptosi 32 (Ideal.div (Ideal.log (Ideal.div ((((BitVec.ofNat 32 n).toInt : ℤ) : ℝ) : EReal)
        (Ideal.ofBits .f32 0x41800000#32))) (Ideal.ofBits .f32 0x40051592#32) * Ideal.ofBits .f32 0x41800000#32))) 31#32 = _
      rw [k3, sixteen, c8_word]
      exact word n (by omega) hn
  rw [val_main_v56_apply, val_main_v53_apply, val_main_v55_apply, val_main_v52_apply, val_main_c_10_apply, e51]
  have hb := bkt_lt ⟨_, hn⟩
  generalize bkt _ = b at hb
  have key : ∀ b : Fin 32, IntOp.cmpi .slt (BitVec.ofNat 32 b.val) 0#32 = 0#1 := by decide +kernel
  rw [key ⟨b, hb⟩]; rfl

/-- the reference's row gather read at an index -/
theorem gather_row (x : S32x8.Idx → EReal) (idx : IVec S2048x2048x1 32) (y : S2048x2048x8.Idx) :
    Host.gather gather_S32x8_S2048x2048x1_S2048x2048x8_2_0_n_n_0_2_18 x idx y
      = x (ix2 ⟨min (idx (ix3 (y 0) (y 1) ⟨0, Nat.one_pos⟩)).toInt.toNat 31, by omega⟩ (y 2)) := by
  unfold Host.gather
  congr 1
  funext a
  refine Fin.ext ?_
  show (gather_S32x8_S2048x2048x1_S2048x2048x8_2_0_n_n_0_2_18).start y idx a
    + (gather_S32x8_S2048x2048x1_S2048x2048x8_2_0_n_n_0_2_18).batchCoord y a
    + (gather_S32x8_S2048x2048x1_S2048x2048x8_2_0_n_n_0_2_18).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S2048x2048x1_S2048x2048x8_2_0_n_n_0_2_18).startIndexMap from List.mem_singleton.mpr rfl)]
    have hsi : (gather_S32x8_S2048x2048x1_S2048x2048x8_2_0_n_n_0_2_18).siIdx y
        ⟨List.idxOf (0 : Fin 2) (gather_S32x8_S2048x2048x1_S2048x2048x8_2_0_n_n_0_2_18).startIndexMap,
          List.idxOf_lt_length_iff.2 (List.mem_singleton.mpr rfl)⟩ = ix3 (y 0) (y 1) ⟨0, Nat.one_pos⟩ := by
      funext b; refine Fin.ext ?_
      match b with
      | ⟨0, _⟩ => rfl
      | ⟨1, _⟩ => rfl
      | ⟨2, _⟩ => rfl
    rw [hsi]
    rfl
  · have hs : (gather_S32x8_S2048x2048x1_S2048x2048x8_2_0_n_n_0_2_18).start y idx 1 = 0 := by
      unfold GatherDims.start
      rw [dif_neg (by show ¬ (1 : Fin 2) ∈ [(0 : Fin 2)]; decide)]
    rw [hs]
    simp only [Nat.zero_add, Nat.add_zero]
    rfl

variable (x0 : (⟨S8192x4096, .f32⟩ : BufTy).Contents (Elt Ideal)) (x1 : (⟨S4x64, .f32⟩ : BufTy).Contents (Elt Ideal))
  (x2 : (⟨S128, .f32⟩ : BufTy).Contents (Elt Ideal)) (x3 : (⟨S32x8, .f32⟩ : BufTy).Contents (Elt Ideal))

theorem nat_row : ∀ b : Fin 32, min (BitVec.ofNat 32 b.val).toInt.toNat 31 = b.val := by decide +kernel

/-- the gathered bias row -/
theorem row_eq (RB : ℕ → ℕ → ℝ) (hRB : ∀ j : S32x8.Idx, x3 j = ((RB (j 0).val (j 1).val : ℝ) : EReal))
    (t k : Fin 2048) (a : Fin 8) (h : k.val ≤ t.val) :
    val_main_v58 (F := Ideal) x3 (ix3 t k a) = ((RB (bkt (t.val - k.val)) a.val : ℝ) : EReal) := by
  have hn : t.val - k.val < 2048 := by omega
  have hw : val_main_v57 (F := Ideal) (ix3 t k ⟨0, Nat.one_pos⟩) = BitVec.ofNat 32 (bkt (t.val - k.val)) := by
    rw [val_main_v57_apply]
    exact bucket_word (ix2 t k) h
  have hb := bkt_lt ⟨t.val - k.val, hn⟩
  have e : min (val_main_v57 (F := Ideal) (ix3 t k ⟨0, Nat.one_pos⟩)).toInt.toNat 31 = bkt (t.val - k.val) := by
    rw [hw]; exact nat_row ⟨_, hb⟩
  rw [val_main_v58, gather_row, hRB]
  exact congrArg (fun z : ℝ => (z : EReal)) (congrArg₂ RB e rfl)

/-- the bias of a query and a key not after it -/
theorem bias_eq (RB : ℕ → ℕ → ℝ) (hRB : ∀ j : S32x8.Idx, x3 j = ((RB (j 0).val (j 1).val : ℝ) : EReal))
    (i : S4x8x2x2048x2048.Idx) (h : (i 4).val ≤ (i 3).val) :
    val_main_v63 (F := Ideal) x3 i = ((RB (bkt ((i 3).val - (i 4).val)) (i 1).val : ℝ) : EReal) := by
  rw [val_main_v63_apply, val_main_v62_apply, val_main_v59_apply]
  have e : idx_main_v59 (idx_main_v62 (idx_main_v63 i)) = ix3 (i 3) (i 4) (i 1) := by
    funext a
    match a with | ⟨0, _⟩ => rfl | ⟨1, _⟩ => rfl | ⟨2, _⟩ => rfl
  rw [e]
  exact row_eq x3 RB hRB (i 3) (i 4) (i 1) h

/-- the product of a query and a key -/
theorem qk_eq (Z : ℕ → ℕ → ℝ) (hZ : ∀ j : S8192x4096.Idx, x0 j = ((Z (j 0).val (j 1).val : ℝ) : EReal))
    (i : S4x8x2x2048x2048.Idx) :
    val_main_v24 (F := Ideal) x0 i = ((qk Z (i 0).val (i 1).val (i 2).val (i 3).val (i 4).val : ℝ) : EReal) := by
  have h0 : (i 0).val < 4 := (i 0).isLt
  have h1 : (i 1).val < 8 := (i 1).isLt
  have h2 : (i 2).val < 2 := (i 2).isLt
  have h3 : (i 3).val < 2048 := (i 3).isLt
  have h4 : (i 4).val < 2048 := (i 4).isLt
  rw [val_main_v24_apply, qk, Cert.Online.coe_sum]
  refine Finset.sum_congr rfl fun c _ => ?_
  have hc := c.isLt
  rw [val_main_v2_apply, val_main_v1_apply, val_main_v0_apply, val_main_v4_apply, val_main_v3_apply, val_main_v0_apply,
    hZ, hZ, ← EReal.coe_mul]
  refine congrArg _ (congrArg₂ (· * ·) (congrArg₂ Z ?_ ?_) (congrArg₂ Z ?_ ?_))
  all_goals
    simp only [idx_main_v0, idx_main_v1, idx_main_v2, idx_main_v3, idx_main_v4, lidx_main_v24, ridx_main_v24]
    omega

/-- a masked score -/
theorem score_eq (Z RB : ℕ → ℕ → ℝ) (hZ : ∀ j : S8192x4096.Idx, x0 j = ((Z (j 0).val (j 1).val : ℝ) : EReal))
    (hRB : ∀ j : S32x8.Idx, x3 j = ((RB (j 0).val (j 1).val : ℝ) : EReal)) (i : S4x8x2x2048x2048.Idx) :
    val_main_v65 (F := Ideal) x0 x3 i
      = if (i 4).val ≤ (i 3).val then ((sc Z RB (i 0).val (i 1).val (i 2).val (i 3).val (i 4).val : ℝ) : EReal) else ⊥ := by
  rw [val_main_v65_apply, val_main_call1_v1_apply, mask_eq]
  by_cases h : (i 4).val ≤ (i 3).val
  · rw [if_pos h, if_pos (by exact h), val_main_v64_apply, bias_eq x3 RB hRB i h, val_main_v26_apply, qk_eq x0 Z hZ,
      val_main_v25_apply, val_main_cst_2_apply]
    show ((_ : ℝ) : EReal) * Ideal.ofBits .f32 0x3E000000#32 + _ = _
    rw [eighth, ← EReal.coe_mul, ← EReal.coe_add]; rfl
  · rw [if_neg h, if_neg (by exact h), val_main_call1_v2_apply, val_main_call1_v0_apply, val_main_cst_13_apply]
    exact neg_inf

/-- a row's maximum -/
theorem max_eq (b : Fin 4) (h : Fin 8) (mm : Fin 2) (t : Fin 2048) :
    val_main_v68 (F := Ideal) x0 x3 (ix4 b h mm t)
      = max ⊥ (Finset.univ.fold max ⊥ fun j : Fin 2048 => val_main_v65 (F := Ideal) x0 x3 (ix5 b h mm t j)) := by
  rw [val_main_v68_apply, val_main_v67_apply, val_main_cst_15_apply, val_main_v66]
  generalize val_main_v65 (F := Ideal) x0 x3 = y
  rw [Host.reduce_eq_fold_single FloatOps.maximumf _ _ reducesTo_S4x8x2x2048x2048_S4x8x2x2048_d4 reduces4 h_S_, val_main_cst_14_apply]
  show max (Ideal.ofBits .f32 0xFF800000#32) (Finset.univ.fold max (Ideal.ofBits .f32 0xFF800000#32) _) = _
  rw [neg_inf]
  refine congrArg (max ⊥) (congrArg (Finset.univ.fold max ⊥) (funext fun j => congrArg y (funext fun a => ?_)))
  match a with | ⟨0, _⟩ => rfl | ⟨1, _⟩ => rfl | ⟨2, _⟩ => rfl | ⟨3, _⟩ => rfl | ⟨4, _⟩ => rfl

/-- an exponential -/
theorem exp_eq (b : Fin 4) (h : Fin 8) (mm : Fin 2) (t j : Fin 2048) :
    val_main_v72 (F := Ideal) x0 x3 (ix5 b h mm t j)
      = Ideal.exp (val_main_v65 (F := Ideal) x0 x3 (ix5 b h mm t j) - val_main_v68 (F := Ideal) x0 x3 (ix4 b h mm t)) := by
  rw [val_main_v72_apply, val_main_v71_apply, val_main_v70_apply, val_main_v69_apply]
  generalize val_main_v65 (F := Ideal) x0 x3 = y
  generalize val_main_v68 (F := Ideal) x0 x3 = z
  refine congrArg (fun q => Ideal.exp (y (ix5 b h mm t j) - z q)) (funext fun a => ?_)
  match a with | ⟨0, _⟩ => rfl | ⟨1, _⟩ => rfl | ⟨2, _⟩ => rfl | ⟨3, _⟩ => rfl

/-- a row's denominator -/
theorem denom_eq (b : Fin 4) (h : Fin 8) (mm : Fin 2) (t k : Fin 2048) :
    val_main_v75 (F := Ideal) x0 x3 (ix5 b h mm t k)
      = 0 + ∑ j : Fin 2048, val_main_v72 (F := Ideal) x0 x3 (ix5 b h mm t j) := by
  rw [val_main_v75_apply, val_main_v74_apply, val_main_v73_apply, val_main_cst_16_apply]
  generalize val_main_v72 (F := Ideal) x0 x3 = y
  refine congrArg₂ (· + ·) Ideal.ofBits_zero_f32 (Finset.sum_congr rfl fun j _ => congrArg y (funext fun a => ?_))
  match a with | ⟨0, _⟩ => rfl | ⟨1, _⟩ => rfl | ⟨2, _⟩ => rfl | ⟨3, _⟩ => rfl | ⟨4, _⟩ => rfl

/-- a softmax weight -/
theorem weight_eq (Z RB : ℕ → ℕ → ℝ) (hZ : ∀ j : S8192x4096.Idx, x0 j = ((Z (j 0).val (j 1).val : ℝ) : EReal))
    (hRB : ∀ j : S32x8.Idx, x3 j = ((RB (j 0).val (j 1).val : ℝ) : EReal)) (b : Fin 4) (h : Fin 8) (mm : Fin 2) (t k : Fin 2048) :
    val_main_v76 (F := Ideal) x0 x3 (ix5 b h mm t k)
      = ((ew Z RB b.val h.val mm.val t.val k.val / den Z RB b.val h.val mm.val t.val : ℝ) : EReal) := by
  have hx : ∀ j : Fin 2048, val_main_v65 (F := Ideal) x0 x3 (ix5 b h mm t j)
      = if j.val ≤ t.val then ((sc Z RB b.val h.val mm.val t.val j.val : ℝ) : EReal) else ⊥ :=
    fun j => score_eq x0 x3 Z RB hZ hRB (ix5 b h mm t j)
  have hM := max_eq x0 x3 b h mm t
  rw [val_main_v76_apply, denom_eq]
  simp only [exp_eq]
  generalize val_main_v65 (F := Ideal) x0 x3 = y at hx hM ⊢
  generalize val_main_v68 (F := Ideal) x0 x3 (ix4 b h mm t) = M at hM ⊢
  exact softmax_row (fun j => sc Z RB b.val h.val mm.val t.val j.val) (fun j => ew Z RB b.val h.val mm.val t.val j.val)
    (fun j => y (ix5 b h mm t j)) t hx (fun j => rfl) M hM k

/-- the sum of a vector's elements over its index type -/
theorem sum_ix1 {n : ℕ} (f : (⟨1, ![n]⟩ : Shape).Idx → EReal) : ∑ i, f i = ∑ c : Fin n, f (ix1 c) := by
  refine (Fintype.sum_bijective (fun c : Fin n => (ix1 c : (⟨1, ![n]⟩ : Shape).Idx)) ⟨fun a b h => ?_, fun i => ⟨i 0, (eq_ix1 i).symm⟩⟩ _ _ (fun _ => rfl)).symm
  exact congrFun h 0

theorem lam_eq (i : S_.Idx) : val_main_v22 (F := Ideal) x1 i = lamOf x1 := by
  rw [val_main_v22_apply, val_main_v21_apply, val_main_v13_apply, val_main_v20_apply, val_main_v12_apply, val_main_v19_apply,
    val_main_cst_apply, val_main_cst_0_apply, val_main_cst_1_apply, sum_ix1, sum_ix1]
  have h1 : ∀ c : Fin 64, val_main_v11 (F := Ideal) x1 (ix1 c) = x1 (ix2 ⟨0, by decide⟩ c) * x1 (ix2 ⟨1, by decide⟩ c) := by
    intro c
    rw [val_main_v11_apply, val_main_v8_apply, val_main_v7_apply, val_main_v10_apply, val_main_v9_apply]
    refine congrArg₂ (· * ·) (congrArg x1 (funext fun a => Fin.ext ?_)) (congrArg x1 (funext fun a => Fin.ext ?_))
    all_goals
      have := c.isLt
      match a with
      | ⟨0, _⟩ => first | rfl | (show _ = _; simp [idx_main_v7, idx_main_v8, idx_main_v9, idx_main_v10])
      | ⟨1, _⟩ => first | rfl | (show _ = _; simp [idx_main_v7, idx_main_v8, idx_main_v9, idx_main_v10]; try omega)
  have h2 : ∀ c : Fin 64, val_main_v18 (F := Ideal) x1 (ix1 c) = x1 (ix2 ⟨2, by decide⟩ c) * x1 (ix2 ⟨3, by decide⟩ c) := by
    intro c
    rw [val_main_v18_apply, val_main_v15_apply, val_main_v14_apply, val_main_v17_apply, val_main_v16_apply]
    refine congrArg₂ (· * ·) (congrArg x1 (funext fun a => Fin.ext ?_)) (congrArg x1 (funext fun a => Fin.ext ?_))
    all_goals
      have := c.isLt
      match a with
      | ⟨0, _⟩ => first | rfl | (show _ = _; simp [idx_main_v14, idx_main_v15, idx_main_v16, idx_main_v17])
      | ⟨1, _⟩ => first | rfl | (show _ = _; simp [idx_main_v14, idx_main_v15, idx_main_v16, idx_main_v17]; try omega)
  simp only [h1, h2]
  show Ideal.exp (Ideal.ofBits .f32 0x00000000#32 + _) - Ideal.exp (Ideal.ofBits .f32 0x00000000#32 + _) + _ = _
  rw [Ideal.ofBits_zero_f32, zero_add, zero_add]; rfl

/-- the two maps' difference applied to the values -/
theorem out_eq (Z RB : ℕ → ℕ → ℝ) (hZ : ∀ j : S8192x4096.Idx, x0 j = ((Z (j 0).val (j 1).val : ℝ) : EReal))
    (hRB : ∀ j : S32x8.Idx, x3 j = ((RB (j 0).val (j 1).val : ℝ) : EReal)) (hlam : ∃ r : ℝ, lamOf x1 = (r : EReal))
    (b : Fin 4) (t : Fin 2048) (h : Fin 8) (d : Fin 128) :
    val_main_v85 (F := Ideal) x0 x1 x3 (ix4 b t h d) = out Z RB (lamOf x1) b.val h.val t.val d.val := by
  obtain ⟨lam, hl⟩ := hlam
  have hb := b.isLt
  have ht := t.isLt
  have hh := h.isLt
  have hd := d.isLt
  have e : ∀ k : Fin 2048, val_main_v6 (F := Ideal) x0 (lidx_main_v84 (idx_main_v85 (ix4 b t h d)) k)
        * val_main_v83 (F := Ideal) x0 x1 x3 (ridx_main_v84 (idx_main_v85 (ix4 b t h d)) k)
      = ((Z (b.val * 2048 + k.val) (2048 + h.val * 128 + d.val) : ℝ) : EReal)
        * (((ew Z RB b.val h.val 0 t.val k.val / den Z RB b.val h.val 0 t.val : ℝ) : EReal)
          - (lam : EReal) * ((ew Z RB b.val h.val 1 t.val k.val / den Z RB b.val h.val 1 t.val : ℝ) : EReal)) := by
    intro k
    have hk := k.isLt
    refine congrArg₂ (· * ·) ?_ ?_
    · rw [val_main_v6_apply, val_main_v5_apply, val_main_v0_apply, hZ]
      refine congrArg _ (congrArg₂ Z ?_ ?_)
      all_goals
        simp only [idx_main_v0, idx_main_v5, idx_main_v6, lidx_main_v84, idx_main_v85, ix4]
        omega
    · rw [val_main_v83_apply, val_main_v82_apply, val_main_v81_apply, lam_eq, hl, val_main_v78_apply, val_main_v77_apply,
        val_main_v80_apply, val_main_v79_apply]
      have e1 : idx_main_v77 (idx_main_v78 (ridx_main_v84 (idx_main_v85 (ix4 b t h d)) k)) = ix5 b h ⟨0, by decide⟩ t k := by
        funext a; refine Fin.ext ?_
        match a with
        | ⟨0, _⟩ => simp only [idx_main_v77, idx_main_v78, ridx_main_v84, idx_main_v85, ix4, ix5]; omega
        | ⟨1, _⟩ => simp only [idx_main_v77, idx_main_v78, ridx_main_v84, idx_main_v85, ix4, ix5]; omega
        | ⟨2, _⟩ => simp [idx_main_v77, idx_main_v78, ridx_main_v84, idx_main_v85]
        | ⟨3, _⟩ => simp only [idx_main_v77, idx_main_v78, ridx_main_v84, idx_main_v85, ix4, ix5]; omega
        | ⟨4, _⟩ => simp only [idx_main_v77, idx_main_v78, ridx_main_v84, idx_main_v85, ix4, ix5]; omega
      have e2 : idx_main_v79 (idx_main_v80 (ridx_main_v84 (idx_main_v85 (ix4 b t h d)) k)) = ix5 b h ⟨1, by decide⟩ t k := by
        funext a; refine Fin.ext ?_
        match a with
        | ⟨0, _⟩ => simp only [idx_main_v79, idx_main_v80, ridx_main_v84, idx_main_v85, ix4, ix5]; omega
        | ⟨1, _⟩ => simp only [idx_main_v79, idx_main_v80, ridx_main_v84, idx_main_v85, ix4, ix5]; omega
        | ⟨2, _⟩ => simp [idx_main_v79, idx_main_v80, ridx_main_v84, idx_main_v85]
        | ⟨3, _⟩ => simp only [idx_main_v79, idx_main_v80, ridx_main_v84, idx_main_v85, ix4, ix5]; omega
        | ⟨4, _⟩ => simp only [idx_main_v79, idx_main_v80, ridx_main_v84, idx_main_v85, ix4, ix5]; omega
      rw [e1, e2, weight_eq x0 x3 Z RB hZ hRB, weight_eq x0 x3 Z RB hZ hRB]
      rfl
  rw [val_main_v85_apply, val_main_v84_apply, Finset.sum_congr rfl fun k _ => e k, diff_sum, out, hl, num, num,
    Finset.sum_div, Finset.sum_div]
  simp only [div_mul_eq_mul_div]

/-- the norm of the difference -/
theorem norm_eq (Z RB : ℕ → ℕ → ℝ) (hZ : ∀ j : S8192x4096.Idx, x0 j = ((Z (j 0).val (j 1).val : ℝ) : EReal))
    (hRB : ∀ j : S32x8.Idx, x3 j = ((RB (j 0).val (j 1).val : ℝ) : EReal)) (hlam : ∃ r : ℝ, lamOf x1 = (r : EReal))
    (g : ℕ → EReal) (hg : ∀ d : Fin 128, g d.val = x2 (ix1 d))
    (b : Fin 4) (t : Fin 2048) (h : Fin 8) (d : Fin 128) :
    val_main_v100 (F := Ideal) x0 x1 x2 x3 (ix4 b t h d) = res Z RB (lamOf x1) g b.val h.val t.val d.val := by
  have hs : val_main_v94 (F := Ideal) x0 x1 x3 (ix4 b t h d) = Ideal.rsqrt (Ideal.div (∑ d' : Fin 128,
      out Z RB (lamOf x1) b.val h.val t.val d'.val * out Z RB (lamOf x1) b.val h.val t.val d'.val)
        (Ideal.ofBits .f32 0x43000000#32) + Ideal.ofBits .f32 0x358637BD#32) := by
    rw [val_main_v94_apply, val_main_v93_apply, val_main_v92_apply, val_main_v91_apply, val_main_cst_19_apply, val_main_v90_apply,
      val_main_v89_apply, val_main_cst_18_apply, val_main_v88_apply, val_main_v87_apply, val_main_cst_17_apply]
    have e : ∀ k : Fin 128, val_main_v86 (F := Ideal) x0 x1 x3 (idx_main_v87 (idx_main_v88 (idx_main_v94 (ix4 b t h d))) k)
        = out Z RB (lamOf x1) b.val h.val t.val k.val * out Z RB (lamOf x1) b.val h.val t.val k.val := by
      intro k
      rw [show idx_main_v87 (idx_main_v88 (idx_main_v94 (ix4 b t h d))) k = ix4 b t h k from funext fun a =>
        match a with | ⟨0, _⟩ => rfl | ⟨1, _⟩ => rfl | ⟨2, _⟩ => rfl | ⟨3, _⟩ => rfl, val_main_v86_apply,
        out_eq x0 x1 x3 Z RB hZ hRB hlam]
      rfl
    rw [Finset.sum_congr rfl fun k _ => e k]
    show Ideal.rsqrt (Ideal.div (Ideal.ofBits .f32 0x00000000#32 + _) _ + _) = _
    rw [Ideal.ofBits_zero_f32, zero_add]; rfl
  rw [val_main_v100_apply, val_main_v99_apply, val_main_cst_20_apply, val_main_v98_apply, val_main_v97_apply, val_main_v96_apply,
    val_main_v95_apply, hs, out_eq x0 x1 x3 Z RB hZ hRB hlam, res, hg]
  refine congrArg₂ (· * ·) (congrArg₂ (· * ·) rfl (congrArg x2 (funext fun a => ?_))) rfl
  match a with | ⟨0, _⟩ => rfl

/-- the reference's result -/
theorem result_eq (Z RB : ℕ → ℕ → ℝ) (hZ : ∀ j : S8192x4096.Idx, x0 j = ((Z (j 0).val (j 1).val : ℝ) : EReal))
    (hRB : ∀ j : S32x8.Idx, x3 j = ((RB (j 0).val (j 1).val : ℝ) : EReal)) (hlam : ∃ r : ℝ, lamOf x1 = (r : EReal))
    (g : ℕ → EReal) (hg : ∀ d : Fin 128, g d.val = x2 (ix1 d))
    (i : S8192x1024.Idx) :
    val_main_v102 (F := Ideal) x0 x1 x2 x3 i
      = res Z RB (lamOf x1) g ((i 0).val / 2048) ((i 1).val / 128) ((i 0).val % 2048) ((i 1).val % 128) := by
  have h0 : (i 0).val < 8192 := (i 0).isLt
  have h1 : (i 1).val < 1024 := (i 1).isLt
  have ei : idx_main_v101 i = ix4 ⟨(i 0).val / 2048, by omega⟩ ⟨(i 0).val % 2048, by omega⟩ ⟨(i 1).val / 128, by omega⟩ ⟨(i 1).val % 128, by omega⟩ := by
    funext a; refine Fin.ext ?_
    match a with
    | ⟨0, _⟩ => simp only [idx_main_v101, ix4, ix5]; omega
    | ⟨1, _⟩ => simp only [idx_main_v101, ix4, ix5]; omega
    | ⟨2, _⟩ => simp only [idx_main_v101, ix4, ix5]; omega
    | ⟨3, _⟩ => simp only [idx_main_v101, ix4, ix5]; omega
  rw [val_main_v102_apply, val_main_v101_apply, ei]
  exact norm_eq x0 x1 x2 x3 Z RB hZ hRB hlam g hg _ _ _ _

end Cert.RefSide
-- ==== Proof.Equal.lean ====
/- The value claim: kernel and reference end with the same array. -/
module

public import proofs.«01_k».proof.Proof.Value
public import proofs.«01_k».proof.Proof.KernelRun
public import proofs.«01_k».proof.Proof.Finite
public import proofs.«01_k».proof.Proof.RefSide

@[expose] public section

set_option maxRecDepth 16384

noncomputable section

namespace Cert.Equal

open Idealize.ShloMosaic Idealize.SL.Sem
open Cert.Spec
open Cert.ReferenceIdeal.Read (val_main_v102)

attribute [local instance] Cert.KernelIdeal.Gen.facts Cert.ReferenceIdeal.Gen.facts Cert.Pre_finite_inputs.Gen.facts

/-- What both programs end with, from the arguments: row `i 0` is position `i 0 % 2048` of sequence `i 0 / 2048`, column
    `i 1` is feature `i 1 % 128` of head `i 1 / 128`. -/
def out (z : FVec Ideal ⟨2, ![8192, 4096]⟩ .f32) (lam : FVec Ideal ⟨2, ![4, 64]⟩ .f32) (g : FVec Ideal ⟨1, ![128]⟩ .f32)
    (rb : FVec Ideal ⟨2, ![32, 8]⟩ .f32) : FVec Ideal ⟨2, ![8192, 1024]⟩ .bf16 :=
  Cert.Value.target (mat z) (mat rb) lam g

/-- The reference's array. -/
theorem reference (z : FVec Ideal ⟨2, ![8192, 4096]⟩ .f32) (lam : FVec Ideal ⟨2, ![4, 64]⟩ .f32)
    (g : FVec Ideal ⟨1, ![128]⟩ .f32) (rb : FVec Ideal ⟨2, ![32, 8]⟩ .f32)
    (hz : ∀ i, ∃ r : ℝ, z i = (r : EReal)) (hl : ∀ i, ∃ r : ℝ, lam i = (r : EReal)) (hb : ∀ i, ∃ r : ℝ, rb i = (r : EReal)) :
    val_main_v102 (F := Ideal) z lam g rb = out z lam g rb := by
  funext i
  exact Cert.RefSide.result_eq z lam g rb (mat z) (mat rb) (mat_eq z hz) (mat_eq rb hb) (lamOf_real lam hl)
    (Cert.Value.gains g) (Cert.Value.gains_at g) i

theorem value : Cert.algebraic_KernelIdeal_ReferenceIdeal_pre_finite_inputs := by
  intro m g m' g' hpre hag
  refine ⟨fun c => out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run _ _ _).mono (fun r h c => ⟨(h c).1.trans ?_, (h c).2⟩) (Cert.KernelRun.run m g)
    exact Cert.Value.result m g c (mat_eq _ (Cert.Finite.biases m hpre c)) (mat_eq _ (Cert.Finite.queries m hpre c))
  · refine (θ_run _ _ _).mono (fun r h c => ⟨(h c).1.trans ?_, (h c).2⟩) (Cert.ReferenceIdeal.Value.run m' g')
    obtain ⟨e0, e1, e2, e3⟩ := hag c
    refine (Cert.ReferenceIdeal.Read.val_main_v102_eq _).trans ?_
    refine (?_ : _ = val_main_v102 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))).trans ?_
    · rfl
    rw [e0, e1, e2, e3]
    exact reference _ _ _ _ (Cert.Finite.queries m hpre c) (Cert.Finite.gates m hpre c) (Cert.Finite.biases m hpre c)

end Cert.Equal

end
-- ==== Proof.Mlp.lean ====
/- The layer's plain feed-forward formula on a row, and a sum taken up step by step. -/
module

public import Idealize.ShloMosaic.Lib.Pointwise

@[expose] public section

noncomputable section

open Idealize.ShloMosaic

namespace Cert.Mlp

/-- the reciprocal root mean square of a row, with the layer's epsilon -/
def scale (x : Fin 2048 → EReal) : EReal :=
  Ideal.rsqrt (Ideal.div (∑ k, x k * x k) (Ideal.ofBits FTy.f32 1157627904#32) + Ideal.ofBits FTy.f32 897988541#32)

/-- a row normalised by its root mean square and multiplied by a gain -/
def norm (x g : Fin 2048 → EReal) (d : Fin 2048) : EReal := x d * scale x * g d

/-- a hidden unit before it is squared -/
def up (h : Fin 2048 → EReal) (w1 : Fin 2048 → Fin 8192 → EReal) (j : Fin 8192) : EReal :=
  max (∑ k, h k * w1 k j) 0

/-- what a hidden unit adds to a coordinate of the row -/
def term (h : Fin 2048 → EReal) (w1 : Fin 2048 → Fin 8192 → EReal) (w2 : Fin 8192 → Fin 2048 → EReal)
    (d : Fin 2048) (j : Fin 8192) : EReal := up h w1 j * up h w1 j * w2 j d

/-- the row with the feed-forward part added -/
def mid (x g : Fin 2048 → EReal) (w1 : Fin 2048 → Fin 8192 → EReal) (w2 : Fin 8192 → Fin 2048 → EReal)
    (d : Fin 2048) : EReal := x d + ∑ j, term (norm x g) w1 w2 d j

/-- the row with the feed-forward part added, normalised once more -/
def out (x g : Fin 2048 → EReal) (w1 : Fin 2048 → Fin 8192 → EReal) (w2 : Fin 8192 → Fin 2048 → EReal)
    (gf : Fin 2048 → EReal) : Fin 2048 → EReal := norm (mid x g w1 w2) gf

/-- the sum of the first `n` terms -/
def first (f : Fin 8192 → EReal) (n : ℕ) : EReal :=
  ∑ j ∈ Finset.range n, if h : j < 8192 then f ⟨j, h⟩ else 0

theorem first_zero (f : Fin 8192 → EReal) : first f 0 = 0 := by simp [first]

/-- the next `T` terms join the sum -/
theorem first_step (f : Fin 8192 → EReal) (n T : ℕ) (F : Fin T → EReal)
    (hF : ∀ k : Fin T, ∃ h : n + k.val < 8192, F k = f ⟨n + k.val, h⟩) :
    first f (n + T) = first f n + ∑ k, F k := by
  unfold first
  rw [Finset.sum_range_add, Finset.sum_range (n := T)]
  congr 1
  refine Finset.sum_congr rfl fun k _ => ?_
  obtain ⟨h, e⟩ := hF k
  rw [dif_pos h, e]

theorem first_all (f : Fin 8192 → EReal) : first f 8192 = ∑ j, f j := by
  unfold first
  rw [Finset.sum_range]
  exact Finset.sum_congr rfl fun k _ => dif_pos k.isLt

/-- the columns of the second layer's projection in the order the mixers read them: the queries, then the convolution's
columns, then the keys, values and gates, then columns of zeros -/
def columns (w : Fin 5656 → EReal) (j : Fin 5760) : EReal :=
  if h₁ : j.val < 1024 then w ⟨j.val, by omega⟩
  else if h₂ : j.val < 4096 then w ⟨j.val + 1560, by omega⟩
  else if h₃ : j.val < 5656 then w ⟨j.val - 3072, by omega⟩
  else 0

/-- a column of the product is the product with the column -/
theorem columns_sum {n : ℕ} (h : Fin n → EReal) (w : Fin n → Fin 5656 → EReal) (j : Fin 5760) :
    columns (fun j => ∑ k, h k * w k j) j = ∑ k, h k * columns (w k) j := by
  unfold columns
  split
  · rfl
  · split
    · rfl
    · split
      · rfl
      · simp only [mul_zero, Finset.sum_const_zero]

end Cert.Mlp
-- ==== Proof.Mlp2.lean ====
/- The sample's feed-forward call: what its result array holds, from the arguments. -/
module

public import proofs.«01_k».proof.Proof.Gen.Kernel2Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel2Ideal Cert.Kernel2Ideal.Gen Cert.Kernel2Ideal.Facts₀
namespace Cert.Mlp2

attribute [local instance] Cert.Kernel2Ideal.Gen.facts

/-- each window's block at a grid point: sixteen steps over one block of rows -/
theorem idx_val : ∀ t : Fin cfg0.N, win0_0.index t = ![0, 0]
    ∧ win0_1.index t = ![0, 0]
    ∧ win0_2.index t = ![3, 0, t.val % 16]
    ∧ win0_3.index t = ![3, t.val % 16, 0]
    ∧ win0_4.index t = ![0, 0]
    ∧ win0_5.index t = ![0, 0]
    ∧ win0_6.index t = ![0, t.val % 16]
    ∧ win0_7.index t = ![t.val % 16, 0] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 3 k)
/-- the last layer's first weights -/
def W1 (c : Dev nD) (k : Fin 2048) (j : Fin 8192) : EReal := m ((c.tc : Thread nD τ).loc main_arg2) (ix3 3 k j)
/-- the last layer's second weights -/
def W2 (c : Dev nD) (j : Fin 8192) (d : Fin 2048) : EReal := m ((c.tc : Thread nD τ).loc main_arg3) (ix3 3 j d)
/-- the gains of the final norm -/
def GF (c : Dev nD) (k : Fin 2048) : EReal := m ((c.tc : Thread nD τ).loc main_arg4) (ix1 k)

/-- the prepared arrays of the call are the last layer's parts of the arguments -/
theorem V1 (c : Dev nD) (i : S1x2048.Idx) : V m c main_v2 i = G m c (i 1) := by
  entry_read
  pointwise
  rfl
theorem V4 (c : Dev nD) (i : S1x2048.Idx) : V m c main_v3 i = GF m c (i 1) := by
  entry_read
  pointwise
  rfl

/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v2 (ix2 0 k) := by
  obtain ⟨e0, e1, -⟩ := idx_val t
  blk_ext [iblk, e1]

theorem blk2 (c : Dev nD) (t : Fin cfg0.N) (k : Fin 2048) (j : Fin 512) (h : 512 * (t.val % 16) + j.val < 8192) :
    (iblk m c 2 t : Vec Ideal S1x2048x512 .f32) (ix3 0 k j) = W1 m c k ⟨512 * (t.val % 16) + j.val, h⟩ := by
  obtain ⟨e0, e1, e2, -⟩ := idx_val t
  unfold W1
  blk_ext [iblk, V, e2]

theorem blk3 (c : Dev nD) (t : Fin cfg0.N) (k : Fin 2048) (j : Fin 512) (h : 512 * (t.val % 16) + j.val < 8192) :
    (iblk m c 3 t : Vec Ideal S1x512x2048 .f32) (ix3 0 j k) = W2 m c ⟨512 * (t.val % 16) + j.val, h⟩ k := by
  obtain ⟨e0, e1, e2, e3, -⟩ := idx_val t
  unfold W2
  blk_ext [iblk, V, e3]

theorem blk4 (c : Dev nD) (t : Fin cfg0.N) (k : Fin 2048) :
    (iblk m c 4 t : Vec Ideal S1x2048 .f32) (ix2 0 k) = V m c main_v3 (ix2 0 k) := by
  obtain ⟨e0, e1, e2, e3, e4, -⟩ := idx_val t
  blk_ext [iblk, e4]

/-- the normalised row block -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- the rounded copies of the weights are the weights -/
theorem pay2 (w1 : Vec Ideal S1x2048x512 .f32) (j : S2048x512.Idx) :
    k0_pay2 (F := Ideal) w1 j = w1 (ix3 0 (j 0) (j 1)) := by
  pointwise [k0_pay2]

theorem pay3 (w2 : Vec Ideal S1x512x2048 .f32) (j : S512x2048.Idx) :
    k0_pay3 (F := Ideal) w2 j = w2 (ix3 0 (j 0) (j 1)) := by
  pointwise [k0_pay3]

/-- one step of hidden units -/
theorem pay4 (w1 : Vec Ideal S1x2048x512 .f32) (w2 : Vec Ideal S1x512x2048 .f32) (h : Vec Ideal S64x2048 .bf16)
    (o : Vec Ideal S64x2048 .f32) (j : S64x2048.Idx) :
    k0_pay4 (F := Ideal) w1 w2 h o j = o j + ∑ u,
        max (∑ k, h (ix2 (j 0) k) * w1 (ix3 0 k u)) 0 * max (∑ k, h (ix2 (j 0) k) * w1 (ix3 0 k u)) 0 * w2 (ix3 0 u (j 1)) := by
  pointwise [k0_pay4, k0_pay2, k0_pay3]

/-- the final norm -/
theorem pay5 (x : Vec Ideal S64x2048 .f32) (g : Vec Ideal S1x2048 .f32) (j : S64x2048.Idx) :
    k0_pay5 (F := Ideal) x g j = Mlp.norm (fun k => x (ix2 (j 0) k)) (fun k => g (ix2 0 k)) (j 1) := by
  pointwise [k0_pay5]
  unfold Mlp.norm Mlp.scale
  congr 2
  exact congrArg x (by idx_ext)

/-- the normalised row -/
def H (c : Dev nD) (R : Fin 64) : Fin 2048 → EReal := Mlp.norm (X m c R) (G m c)

/-- the row with the hidden units before `n` added -/
def upto (c : Dev nD) (R : Fin 64) (n : ℕ) (d : Fin 2048) : EReal :=
  X m c R d + Mlp.first (Mlp.term (H m c R) (W1 m c) (W2 m c) d) n

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- one step adds the next 512 hidden units -/
theorem step (c : Dev nD) (t : Fin cfg0.N) (h : Vec Ideal S64x2048 .bf16) (o : Vec Ideal S64x2048 .f32)
    (hh : ∀ r k, h (ix2 r k) = H m c r k)
    (ho : ∀ r k, o (ix2 r k) = upto m c r (512 * (t.val % 16)) k) (r : Fin 64) (d : Fin 2048) :
    k0_pay4 (F := Ideal) (iblk m c 2 t) (iblk m c 3 t) h o (ix2 r d) = upto m c r (512 * (t.val % 16) + 512) d := by
  refine (pay4 _ _ _ _ _).trans ?_
  unfold upto
  rw [Mlp.first_step _ _ 512 _ fun u => ⟨by have := u.isLt; omega, rfl⟩, ← add_assoc]
  refine congrArg₂ (· + ·) (ho r d) (Finset.sum_congr rfl fun u _ => ?_)
  have hu : 512 * (t.val % 16) + u.val < 8192 := by have := u.isLt; omega
  have hs : (∑ k, h (ix2 r k) * (iblk m c 2 t : Vec Ideal S1x2048x512 .f32) (ix3 0 k u)) =
      ∑ k, H m c r k * W1 m c k ⟨512 * (t.val % 16) + u.val, hu⟩ :=
    Finset.sum_congr rfl fun k _ => congrArg₂ (· * ·) (hh r k) (blk2 m c t k u hu)
  unfold Mlp.term Mlp.up
  exact congrArg₂ (fun a b => max a 0 * max a 0 * b) hs (blk3 m c t d u hu)

/-- What the staging buffer of the rows and the scratch hold after each step. -/
theorem after (c : Dev nD) : ∀ (n : ℕ) (hn : n < cfg0.N) (r : Fin 64) (d : Fin 2048),
    (outsAt0 m c n hn).2.2.2 (ix2 r d) = H m c r d
    ∧ (n % 16 ≠ 15 → (outsAt0 m c n hn).1 (ix2 r d) = upto m c r (512 * (n % 16) + 512) d)
    ∧ (n % 16 = 15 → (outsAt0 m c n hn).1 (ix2 r d) = Mlp.norm (upto m c r 8192) (GF m c) d) := by
  intro n
  induction n using Nat.strong_induction_on with
  | _ n ih =>
  intro hn r d
  by_cases h0 : n % 16 = 0
  · have h1 : ¬ n % 16 = 15 := by omega
    have e := outsAt0_A m c ⟨n, hn⟩ h0 h1
    revert e; frame_out; intro e
    have e' : outsAt0 m c n hn = _ := e
    rw [e']
    refine ⟨held m c ⟨n, hn⟩ r d, fun _ => ?_, fun h => absurd h h1⟩
    refine step m c ⟨n, hn⟩ _ _ (fun r k => held m c ⟨n, hn⟩ r k) (fun r k => ?_) r d
    refine (blk0 m c ⟨n, hn⟩ r k).trans ?_
    show _ = upto m c r (512 * (n % 16)) k
    unfold upto
    rw [h0, Nat.mul_zero, Mlp.first_zero, add_zero]
  · have hp : n - 1 < cfg0.N := by omega
    have hm : 512 * ((n - 1) % 16) + 512 = 512 * (n % 16) := by omega
    have hh : ∀ r k, (outsAt0 m c (n - 1) hp).2.2.2 (ix2 r k) = H m c r k := fun r k =>
      (ih (n - 1) (by omega) hp r k).1
    have ho : ∀ r k, (outsAt0 m c (n - 1) hp).1 (ix2 r k) = upto m c r (512 * (n % 16)) k := fun r k =>
      ((ih (n - 1) (by omega) hp r k).2.1 (by omega)).trans (by rw [hm])
    have hs := step m c ⟨n, hn⟩ _ _ hh ho
    by_cases h1 : n % 16 = 15
    · have e := outsAt0_C m c ⟨n, hn⟩ h0 h1
      revert e; frame_out; intro e
      rw [read_unread_whole] at e
      have e' : outsAt0 m c n hn = _ := e
      rw [e']
      refine ⟨hh r d, fun h => absurd h1 h, fun _ => ?_⟩
      refine (pay5 _ _ _).trans ?_
      refine congrArg₂ (fun f g => Mlp.norm f g d) (funext fun k => ?_) (funext fun k => (blk4 m c _ k).trans (V4 m c _))
      refine (hs r k).trans ?_
      show upto m c r (512 * (n % 16) + 512) k = _
      rw [h1]
    · have e := outsAt0_B m c ⟨n, hn⟩ h0 h1
      revert e; frame_out; intro e
      rw [read_unread_whole] at e
      have e' : outsAt0 m c n hn = _ := e
      rw [e']
      exact ⟨hh r d, fun _ => hs r d, fun h => absurd h h1⟩

/-- What the staging buffers of the weights' copies hold after each step. -/
theorem copies (c : Dev nD) (t : Fin cfg0.N) :
    (outsAt0 m c t.val t.isLt).2.1 = k0_pay2 (F := Ideal) (iblk m c 2 t)
    ∧ (outsAt0 m c t.val t.isLt).2.2.1 = k0_pay3 (F := Ideal) (iblk m c 3 t) := by
  by_cases h0 : t.val % 16 = 0
  · have h1 : ¬ t.val % 16 = 15 := by omega
    have e := outsAt0_A m c t h0 h1
    revert e; frame_out; intro e
    rw [e]; exact ⟨rfl, rfl⟩
  · by_cases h1 : t.val % 16 = 15
    · have e := outsAt0_C m c t h0 h1
      revert e; frame_out; intro e
      rw [e]; exact ⟨rfl, rfl⟩
    · have e := outsAt0_B m c t h0 h1
      revert e; frame_out; intro e
      rw [e]; exact ⟨rfl, rfl⟩

/-- The rows. -/
def target (c : Dev nD) (i : S64x2048.Idx) : EReal :=
  Mlp.out (X m c (i 0)) (G m c) (W1 m c) (W2 m c) (GF m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5, -⟩ := idx_val t
  have h15 : t.val % 16 = 15 := (flush0_5 t).mp hf
  blk_simp [e5]
  rw [after0_5]
  have hy : y = ix2 (y 0) (y 1) := by idx_ext
  refine ((congrArg _ hy).trans ((after m c t.val t.isLt (y 0) (y 1)).2.2 h15)).trans ?_
  unfold target Mlp.out
  have E0 : (win0_5.blk t).view.emb y 0 = y 0 := Fin.ext (by blk_simp [e5])
  have E1 : (win0_5.blk t).view.emb y 1 = y 1 := Fin.ext (by blk_simp [e5])
  rw [E0, E1]
  refine congrFun (congrArg (fun f => Mlp.norm f (GF m c)) (funext fun d => ?_)) _
  unfold upto Mlp.mid H
  rw [Mlp.first_all]

/-- The copies of the weights. -/
theorem final6 (c : Dev nD) : (dats m 0 c).arrAt 6 (cfgs 0).N = fun i : S2048x8192.Idx => W1 m c (i 0) (i 1) := by
  refine (dats m 0 c).arrAt_eq_of_covers 6 (fun i : S2048x8192.Idx => W1 m c (i 0) (i 1)) (by decide +kernel) fun t hf y => ?_
  obtain ⟨e0, e1, e2, e3, e4, e5, e6, e7⟩ := idx_val t
  blk_simp [e6]
  rw [after0_6, (copies m c t).1]
  have hu : 512 * (t.val % 16) + (y 1).val < 8192 := by
    have : (y 1).val < 512 := (y 1).isLt
    omega
  refine (pay2 _ _).trans ((blk2 m c t (y 0) (y 1) hu).trans ?_)
  have E0 : (win0_6.blk t).view.emb y 0 = y 0 := Fin.ext (by blk_simp [e6])
  have E1 : (win0_6.blk t).view.emb y 1 = ⟨512 * (t.val % 16) + (y 1).val, hu⟩ := Fin.ext (by
    blk_simp [e6]
    show _ = 512 * (t.val % 16) + (y 1).val
    omega)
  rw [E0, E1]
  rfl

theorem final7 (c : Dev nD) : (dats m 0 c).arrAt 7 (cfgs 0).N = fun i : S8192x2048.Idx => W2 m c (i 0) (i 1) := by
  refine (dats m 0 c).arrAt_eq_of_covers 7 (fun i : S8192x2048.Idx => W2 m c (i 0) (i 1)) (by decide +kernel) fun t hf y => ?_
  obtain ⟨e0, e1, e2, e3, e4, e5, e6, e7⟩ := idx_val t
  blk_simp [e7]
  rw [after0_7, (copies m c t).2]
  have hu : 512 * (t.val % 16) + (y 0).val < 8192 := by
    have : (y 0).val < 512 := (y 0).isLt
    omega
  refine (pay3 _ _).trans ((blk3 m c t (y 1) (y 0) hu).trans ?_)
  have E0 : (win0_7.blk t).view.emb y 0 = ⟨512 * (t.val % 16) + (y 0).val, hu⟩ := Fin.ext (by
    blk_simp [e7]
    show _ = 512 * (t.val % 16) + (y 0).val
    omega)
  have E1 : (win0_7.blk t).view.emb y 1 = y 1 := Fin.ext (by blk_simp [e7])
  rw [E0, E1]
  rfl

end Cert.Mlp2

end
-- ==== Proof.Equal2.lean ====
/- The sample's feed-forward call and its reference end with the same arrays. -/
module

public import proofs.«01_k».proof.Defs
public import proofs.«01_k».proof.Proof.Ref2
public import proofs.«01_k».proof.Proof.Mlp2

@[expose] public section

set_option maxRecDepth 16384

noncomputable section

open Idealize.ShloMosaic Idealize.SL.Sem
open Cert.Reference2Ideal Cert.Reference2Ideal.Facts₀ Cert.Reference2Ideal.Read

namespace Cert.Equal2

attribute [local instance] Cert.Kernel2Ideal.Gen.facts Cert.Reference2Ideal.Gen.facts

variable (x : FVec Ideal ⟨2, ![64, 2048]⟩ .f32) (g : FVec Ideal ⟨2, ![4, 2048]⟩ .f32)
  (w1 : FVec Ideal ⟨3, ![4, 2048, 8192]⟩ .f32) (w2 : FVec Ideal ⟨3, ![4, 8192, 2048]⟩ .f32) (gf : FVec Ideal ⟨1, ![2048]⟩ .f32)

/-- What both programs end with, from the arguments. -/
def out : FVec Ideal ⟨2, ![64, 2048]⟩ .f32 := fun i =>
  Mlp.out (fun k => x (ix2 (i 0) k)) (fun k => g (ix2 3 k)) (fun k j => w1 (ix3 3 k j)) (fun j d => w2 (ix3 3 j d))
    (fun k => gf (ix1 k)) (i 1)

/-- the normalised rows -/
theorem normed (i : S64x2048.Idx) : val_main_v14 (F := Ideal) x g i =
    Mlp.norm (fun k => x (ix2 (i 0) k)) (fun k => g (ix2 3 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S64x8192.Idx) : val_main_v22 (F := Ideal) x g w1 i =
    Mlp.up (Mlp.norm (fun k => x (ix2 (i 0) k)) (fun k => g (ix2 3 k))) (fun k j => w1 (ix3 3 k j)) (i 1) *
    Mlp.up (Mlp.norm (fun k => x (ix2 (i 0) k)) (fun k => g (ix2 3 k))) (fun k j => w1 (ix3 3 k j)) (i 1) := by
  unfold Mlp.up
  pointwise [val_main_v22, val_main_v21, val_main_v20, val_main_v19, val_main_v16, val_main_v15, val_main_cst_2]
  simp only [normed]
  rfl

/-- the rows with the feed-forward part added -/
theorem added (i : S64x2048.Idx) : val_main_v24 (F := Ideal) x g w1 w2 i =
    Mlp.mid (fun k => x (ix2 (i 0) k)) (fun k => g (ix2 3 k)) (fun k j => w1 (ix3 3 k j)) (fun j d => w2 (ix3 3 j d)) (i 1) := by
  unfold Mlp.mid Mlp.term
  pointwise [val_main_v24, val_main_v23, val_main_v18, val_main_v17]
  simp only [hidden]
  rfl

theorem reference : val_main_v37 (F := Ideal) x g w1 w2 gf = out x g w1 w2 gf := by
  funext i
  unfold out Mlp.out Mlp.norm Mlp.scale
  pointwise [val_main_v37, val_main_v36, val_main_v35, val_main_v34, val_main_v33, val_main_v32, val_main_v31, val_main_v30,
    val_main_v29, val_main_v28, val_main_v27, val_main_v26, val_main_v25, val_main_cst_3, val_main_cst_4, val_main_cst_5]
  simp only [added]
  rfl

/-- the copies of the weights -/
theorem copy1 : val_main_v40 (F := Ideal) w1 = fun i => w1 (ix3 3 (i 0) (i 1)) := by
  funext i
  pointwise [val_main_v40, val_main_v39, val_main_v38]

theorem copy2 : val_main_v43 (F := Ideal) w2 = fun i => w2 (ix3 3 (i 0) (i 1)) := by
  funext i
  pointwise [val_main_v43, val_main_v42, val_main_v41]

theorem value : Cert.algebraic_Kernel2Ideal_Reference2Ideal := by
  intro m g m' g' hpre hag
  refine ⟨fun c => Cert.Mlp2.target m c, fun c => fun i : Cert.Kernel2Ideal.S2048x8192.Idx => Cert.Mlp2.W1 m c (i 0) (i 1),
    fun c => fun i : Cert.Kernel2Ideal.S8192x2048.Idx => Cert.Mlp2.W2 m c (i 0) (i 1), ?_, ?_⟩
  · run_from Cert.Kernel2Ideal.Gen.run_main m g
    · exact Cert.Mlp2.final m c
    · exact Cert.Mlp2.final6 m c
    · exact Cert.Mlp2.final7 m c
  · refine (θ_run _ _ _).mono (fun r h c => ⟨(h c).1.trans ?_, (h c).2.1.trans ?_, (h c).2.2.1.trans ?_, (h c).2.2.2⟩)
      (Cert.Reference2Ideal.Value.run m' g')
    · obtain ⟨e0, e1, e2, e3, e4⟩ := hag c
      refine (Cert.Reference2Ideal.Read.val_main_v37_eq m' c).trans ?_
      rw [e0, e1, e2, e3, e4]
      exact reference _ _ _ _ _
    · obtain ⟨e0, e1, e2, e3, e4⟩ := hag c
      refine (Cert.Reference2Ideal.Read.val_main_v40_eq _).trans ?_
      rw [e2]
      exact copy1 _
    · obtain ⟨e0, e1, e2, e3, e4⟩ := hag c
      refine (Cert.Reference2Ideal.Read.val_main_v43_eq _).trans ?_
      rw [e3]
      exact copy2 _

end Cert.Equal2

end
-- ==== Proof.Mlp3.lean ====
/- The prompt's feed-forward call: what its result array holds, from the arguments. -/
module

public import proofs.«01_k».proof.Proof.Gen.Kernel3Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel3Ideal Cert.Kernel3Ideal.Gen Cert.Kernel3Ideal.Facts₀
namespace Cert.Mlp3

attribute [local instance] Cert.Kernel3Ideal.Gen.facts

/-- each window's block at a grid point: eight steps to a block of rows -/
theorem idx_val : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 3 k)
/-- the last layer's first weights -/
def W1 (c : Dev nD) (k : Fin 2048) (j : Fin 8192) : EReal := m ((c.tc : Thread nD τ).loc main_arg2) (ix3 3 k j)
/-- the last layer's second weights -/
def W2 (c : Dev nD) (j : Fin 8192) (d : Fin 2048) : EReal := m ((c.tc : Thread nD τ).loc main_arg3) (ix3 3 j d)
/-- the gains of the final norm -/
def GF (c : Dev nD) (k : Fin 2048) : EReal := m ((c.tc : Thread nD τ).loc main_arg4) (ix1 k)

/-- the prepared arrays of the call are the last layer's parts of the arguments -/
theorem V1 (c : Dev nD) (i : S1x2048.Idx) : V m c main_v8 i = G m c (i 1) := by
  entry_read
  pointwise
  rfl
theorem V2 (c : Dev nD) (i : S2048x8192.Idx) : V m c main_v2 i = W1 m c (i 0) (i 1) := by
  entry_read
  pointwise
  rfl
theorem V3 (c : Dev nD) (i : S8192x2048.Idx) : V m c main_v5 i = W2 m c (i 0) (i 1) := by
  entry_read
  pointwise
  rfl
theorem V4 (c : Dev nD) (i : S1x2048.Idx) : V m c main_v9 i = GF m c (i 1) := by
  entry_read
  pointwise
  rfl

/-- the blocks a grid point is given, at coordinates -/
theorem blk0 (c : Dev nD) (t : Fin cfg0.N) (r : Fin 512) (k : Fin 2048) (h : 512 * (t.val / 8) + r.val < 8192) :
    (iblk m c 0 t : Vec Ideal S512x2048 .f32) (ix2 r k) = X m c ⟨512 * (t.val / 8) + r.val, h⟩ k := by
  obtain ⟨e0, -⟩ := idx_val t
  unfold X
  blk_ext [iblk, V, e0]

theorem blk1 (c : Dev nD) (t : Fin cfg0.N) (k : Fin 2048)  :
    (iblk m c 1 t : Vec Ideal S1x2048 .f32) (ix2 0 k) = V m c main_v8 (ix2 0 k) := by
  obtain ⟨e0, e1, -⟩ := idx_val t
  blk_ext [iblk, e1]

theorem blk2 (c : Dev nD) (t : Fin cfg0.N) (k : Fin 2048) (j : Fin 1024) (h : 1024 * (t.val % 8) + j.val < 8192) :
    (iblk m c 2 t : Vec Ideal S2048x1024 .bf16) (ix2 k j) = V m c main_v2 (ix2 k ⟨1024 * (t.val % 8) + j.val, h⟩) := by
  obtain ⟨e0, e1, e2, -⟩ := idx_val t
  blk_ext [iblk, e2]

theorem blk3 (c : Dev nD) (t : Fin cfg0.N) (k : Fin 2048) (j : Fin 1024) (h : 1024 * (t.val % 8) + j.val < 8192) :
    (iblk m c 3 t : Vec Ideal S1024x2048 .bf16) (ix2 j k) = V m c main_v5 (ix2 ⟨1024 * (t.val % 8) + j.val, h⟩ k) := by
  obtain ⟨e0, e1, e2, e3, -⟩ := idx_val t
  blk_ext [iblk, e3]
theorem blk4 (c : Dev nD) (t : Fin cfg0.N) (k : Fin 2048)  :
    (iblk m c 4 t : Vec Ideal S1x2048 .f32) (ix2 0 k) = V m c main_v9 (ix2 0 k) := by
  obtain ⟨e0, e1, e2, e3, e4, -⟩ := idx_val t
  blk_ext [iblk, e4]

/-- the normalised row block -/
theorem pay1 (x : Vec Ideal S512x2048 .f32) (g : Vec Ideal S1x2048 .f32) (j : S512x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step of hidden units -/
theorem pay2 (w1 : Vec Ideal S2048x1024 .bf16) (w2 : Vec Ideal S1024x2048 .bf16) (h : Vec Ideal S512x2048 .bf16)
    (o : Vec Ideal S512x2048 .f32) (j : S512x2048.Idx) :
    k0_pay2 (F := Ideal) w1 w2 h o j = o j + ∑ u,
        max (∑ k, h (ix2 (j 0) k) * w1 (ix2 k u)) 0 * max (∑ k, h (ix2 (j 0) k) * w1 (ix2 k u)) 0 * w2 (ix2 u (j 1)) := by
  pointwise [k0_pay2]

/-- the final norm -/
theorem pay3 (x : Vec Ideal S512x2048 .f32) (g : Vec Ideal S1x2048 .f32) (j : S512x2048.Idx) :
    k0_pay3 (F := Ideal) x g j = Mlp.norm (fun k => x (ix2 (j 0) k)) (fun k => g (ix2 0 k)) (j 1) := by
  pointwise [k0_pay3]
  unfold Mlp.norm Mlp.scale
  congr 2
  exact congrArg x (by idx_ext)

/-- the row of the array a block's row is -/
def row (n : ℕ) (hn : n < cfg0.N) (r : Fin 512) : Fin 8192 :=
  ⟨512 * (n / 8) + r.val, by have : n < 128 := lt_of_lt_of_eq hn N_0; omega⟩

/-- the normalised row -/
def H (c : Dev nD) (R : Fin 8192) : Fin 2048 → EReal := Mlp.norm (X m c R) (G m c)

/-- the row with the hidden units before `n` added -/
def upto (c : Dev nD) (R : Fin 8192) (n : ℕ) (d : Fin 2048) : EReal :=
  X m c R d + Mlp.first (Mlp.term (H m c R) (W1 m c) (W2 m c) d) n

theorem held (c : Dev nD) (t : Fin cfg0.N) (r : Fin 512) (d : Fin 2048) :
    k0_pay1 (F := Ideal) (iblk m c 0 t) (iblk m c 1 t) (ix2 r d) = H m c (row t.val t.isLt r) d := by
  have hR : 512 * (t.val / 8) + r.val < 8192 := (row t.val t.isLt r).isLt
  refine (pay1 _ _ _).trans ?_
  unfold H
  refine congrArg₂ (fun f g => Mlp.norm f g d) (funext fun k => blk0 m c t r k hR) (funext fun k => ?_)
  exact (blk1 m c t k).trans (V1 m c _)

/-- one step adds the next 1024 hidden units -/
theorem step (c : Dev nD) (t : Fin cfg0.N) (h : Vec Ideal S512x2048 .bf16) (o : Vec Ideal S512x2048 .f32)
    (hh : ∀ r k, h (ix2 r k) = H m c (row t.val t.isLt r) k)
    (ho : ∀ r k, o (ix2 r k) = upto m c (row t.val t.isLt r) (1024 * (t.val % 8)) k) (r : Fin 512) (d : Fin 2048) :
    k0_pay2 (F := Ideal) (iblk m c 2 t) (iblk m c 3 t) h o (ix2 r d) =
      upto m c (row t.val t.isLt r) (1024 * (t.val % 8) + 1024) d := by
  refine (pay2 _ _ _ _ _).trans ?_
  unfold upto
  rw [Mlp.first_step _ _ 1024 _ fun u => ⟨by have := u.isLt; omega, rfl⟩, ← add_assoc]
  refine congrArg₂ (· + ·) (ho r d) (Finset.sum_congr rfl fun u _ => ?_)
  have hu : 1024 * (t.val % 8) + u.val < 8192 := by have := u.isLt; omega
  have hs : (∑ k, h (ix2 r k) * (iblk m c 2 t : Vec Ideal S2048x1024 .bf16) (ix2 k u)) =
      ∑ k, H m c (row t.val t.isLt r) k * W1 m c k ⟨1024 * (t.val % 8) + u.val, hu⟩ :=
    Finset.sum_congr rfl fun k _ => congrArg₂ (· * ·) (hh r k) ((blk2 m c t k u hu).trans (V2 m c _))
  unfold Mlp.term Mlp.up
  exact congrArg₂ (fun a b => max a 0 * max a 0 * b) hs ((blk3 m c t d u hu).trans (V3 m c _))

/-- What the staging buffer of the result and the scratch hold after each step. -/
theorem after (c : Dev nD) : ∀ (n : ℕ) (hn : n < cfg0.N) (r : Fin 512) (d : Fin 2048),
    (outsAt0 m c n hn).2 (ix2 r d) = H m c (row n hn r) d
    ∧ (n % 8 ≠ 7 → (outsAt0 m c n hn).1 (ix2 r d) = upto m c (row n hn r) (1024 * (n % 8) + 1024) d)
    ∧ (n % 8 = 7 → (outsAt0 m c n hn).1 (ix2 r d) = Mlp.norm (upto m c (row n hn r) 8192) (GF m c) d) := by
  intro n
  induction n using Nat.strong_induction_on with
  | _ n ih =>
  intro hn r d
  by_cases h0 : n % 8 = 0
  · have h1 : ¬ n % 8 = 7 := by omega
    have e := outsAt0_A m c ⟨n, hn⟩ h0 h1
    revert e; frame_out; intro e
    have e' : outsAt0 m c n hn = _ := e
    rw [e']
    refine ⟨held m c ⟨n, hn⟩ r d, fun _ => ?_, fun h => absurd h h1⟩
    refine step m c ⟨n, hn⟩ _ _ (fun r k => held m c ⟨n, hn⟩ r k) (fun r k => ?_) r d
    refine (blk0 m c ⟨n, hn⟩ r k (row n hn r).isLt).trans ?_
    show _ = upto m c (row n hn r) (1024 * (n % 8)) k
    unfold upto
    rw [h0, Nat.mul_zero, Mlp.first_zero, add_zero]
    rfl
  · have hp : n - 1 < cfg0.N := by omega
    have hrow : ∀ r, row (n - 1) hp r = row n hn r := fun r => Fin.ext (by
      show 512 * ((n - 1) / 8) + r.val = 512 * (n / 8) + r.val; omega)
    have hm : 1024 * ((n - 1) % 8) + 1024 = 1024 * (n % 8) := by omega
    have hh : ∀ r k, (outsAt0 m c (n - 1) hp).2 (ix2 r k) = H m c (row n hn r) k := fun r k =>
      ((ih (n - 1) (by omega) hp r k).1).trans (by rw [hrow])
    have ho : ∀ r k, (outsAt0 m c (n - 1) hp).1 (ix2 r k) = upto m c (row n hn r) (1024 * (n % 8)) k := fun r k =>
      ((ih (n - 1) (by omega) hp r k).2.1 (by omega)).trans (by rw [hrow, hm])
    have hs := step m c ⟨n, hn⟩ _ _ hh ho
    by_cases h1 : n % 8 = 7
    · have e := outsAt0_C m c ⟨n, hn⟩ h0 h1
      revert e; frame_out; intro e
      rw [read_unread_whole] at e
      have e' : outsAt0 m c n hn = _ := e
      rw [e']
      refine ⟨hh r d, fun h => absurd h1 h, fun _ => ?_⟩
      refine (pay3 _ _ _).trans ?_
      refine congrArg₂ (fun f g => Mlp.norm f g d) (funext fun k => ?_) (funext fun k => (blk4 m c _ k).trans (V4 m c _))
      refine (hs r k).trans ?_
      show upto m c (row n hn r) (1024 * (n % 8) + 1024) k = _
      rw [h1]
    · have e := outsAt0_B m c ⟨n, hn⟩ h0 h1
      revert e; frame_out; intro e
      rw [read_unread_whole] at e
      have e' : outsAt0 m c n hn = _ := e
      rw [e']
      refine ⟨hh r d, fun _ => ?_, fun h => absurd h h1⟩
      exact hs r d

/-- The whole result. -/
def target (c : Dev nD) (i : S8192x2048.Idx) : EReal :=
  Mlp.out (X m c (i 0)) (G m c) (W1 m c) (W2 m c) (GF m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5⟩ := idx_val t
  have h7 : t.val % 8 = 7 := (flush0_5 t).mp hf
  blk_simp [e5]
  rw [after0_5]
  have hy : y = ix2 (y 0) (y 1) := by idx_ext
  refine ((congrArg _ hy).trans ((after m c t.val t.isLt (y 0) (y 1)).2.2 h7)).trans ?_
  unfold target Mlp.out
  have E0 : (win0_5.blk t).view.emb y 0 = row t.val t.isLt (y 0) := Fin.ext (by
    blk_simp [e5]
    show _ = 512 * (t.val / 8) + (y 0).val
    omega)
  have E1 : (win0_5.blk t).view.emb y 1 = y 1 := Fin.ext (by blk_simp [e5])
  rw [E0, E1]
  refine congrFun (congrArg (fun f => Mlp.norm f (GF m c)) (funext fun d => ?_)) _
  unfold upto Mlp.mid H
  rw [Mlp.first_all]

end Cert.Mlp3

end
-- ==== Proof.Equal3.lean ====
/- The prompt's feed-forward call and its reference end with the same array. -/
module

public import proofs.«01_k».proof.Defs
public import proofs.«01_k».proof.Proof.Ref3
public import proofs.«01_k».proof.Proof.Mlp3

@[expose] public section

set_option maxRecDepth 16384

noncomputable section

open Idealize.ShloMosaic Idealize.SL.Sem
open Cert.Reference3Ideal Cert.Reference3Ideal.Facts₀ Cert.Reference3Ideal.Read

namespace Cert.Equal3

attribute [local instance] Cert.Kernel3Ideal.Gen.facts Cert.Reference3Ideal.Gen.facts

variable (x : FVec Ideal ⟨2, ![8192, 2048]⟩ .f32) (g : FVec Ideal ⟨2, ![4, 2048]⟩ .f32)
  (w1 : FVec Ideal ⟨3, ![4, 2048, 8192]⟩ .f32) (w2 : FVec Ideal ⟨3, ![4, 8192, 2048]⟩ .f32) (gf : FVec Ideal ⟨1, ![2048]⟩ .f32)

/-- What both programs end with, from the arguments. -/
def out : FVec Ideal ⟨2, ![8192, 2048]⟩ .f32 := fun i =>
  Mlp.out (fun k => x (ix2 (i 0) k)) (fun k => g (ix2 3 k)) (fun k j => w1 (ix3 3 k j)) (fun j d => w2 (ix3 3 j d))
    (fun k => gf (ix1 k)) (i 1)

/-- the normalised rows -/
theorem normed (i : S8192x2048.Idx) : val_main_v14 (F := Ideal) x g i =
    Mlp.norm (fun k => x (ix2 (i 0) k)) (fun k => g (ix2 3 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S8192x8192.Idx) : val_main_v22 (F := Ideal) x g w1 i =
    Mlp.up (Mlp.norm (fun k => x (ix2 (i 0) k)) (fun k => g (ix2 3 k))) (fun k j => w1 (ix3 3 k j)) (i 1) *
    Mlp.up (Mlp.norm (fun k => x (ix2 (i 0) k)) (fun k => g (ix2 3 k))) (fun k j => w1 (ix3 3 k j)) (i 1) := by
  unfold Mlp.up
  pointwise [val_main_v22, val_main_v21, val_main_v20, val_main_v19, val_main_v16, val_main_v15, val_main_cst_2]
  simp only [normed]
  rfl

/-- the rows with the feed-forward part added -/
theorem added (i : S8192x2048.Idx) : val_main_v24 (F := Ideal) x g w1 w2 i =
    Mlp.mid (fun k => x (ix2 (i 0) k)) (fun k => g (ix2 3 k)) (fun k j => w1 (ix3 3 k j)) (fun j d => w2 (ix3 3 j d)) (i 1) := by
  unfold Mlp.mid Mlp.term
  pointwise [val_main_v24, val_main_v23, val_main_v18, val_main_v17]
  simp only [hidden]
  rfl

theorem reference : val_main_v37 (F := Ideal) x g w1 w2 gf = out x g w1 w2 gf := by
  funext i
  unfold out Mlp.out Mlp.norm Mlp.scale
  pointwise [val_main_v37, val_main_v36, val_main_v35, val_main_v34, val_main_v33, val_main_v32, val_main_v31, val_main_v30,
    val_main_v29, val_main_v28, val_main_v27, val_main_v26, val_main_v25, val_main_cst_3, val_main_cst_4, val_main_cst_5]
  simp only [added]
  rfl

theorem value : Cert.algebraic_Kernel3Ideal_Reference3Ideal := by
  intro m g m' g' hpre hag
  refine ⟨fun c => Cert.Mlp3.target m c, ?_, ?_⟩
  · run_from Cert.Kernel3Ideal.Gen.run_main m g
    exact Cert.Mlp3.final m c
  · refine (θ_run _ _ _).mono (fun r h c => ⟨(h c).1.trans ?_, (h c).2⟩) (Cert.Reference3Ideal.Value.run m' g')
    obtain ⟨e0, e1, e2, e3, e4⟩ := hag c
    refine (Cert.Reference3Ideal.Read.val_main_v37_eq m' c).trans ?_
    rw [e0, e1, e2, e3, e4]
    exact reference _ _ _ _ _

end Cert.Equal3

end
-- ==== Proof.Mlp4.lean ====
/- The sample's feed-forward call of a layer before the last: what its result array holds, from the arguments. -/
module

public import proofs.«01_k».proof.Proof.Gen.Kernel4Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel4Ideal Cert.Kernel4Ideal.Gen Cert.Kernel4Ideal.Facts₀
namespace Cert.Mlp4

attribute [local instance] Cert.Kernel4Ideal.Gen.facts

/-- each window's block at a grid point: sixteen steps over one block of rows -/
theorem idx_val : ∀ t : Fin cfg0.N, win0_0.index t = ![0, 0]
    ∧ win0_1.index t = ![0, 0]
    ∧ win0_2.index t = ![0, 0, t.val % 16]
    ∧ win0_3.index t = ![0, t.val % 16, 0]
    ∧ win0_4.index t = ![0, 0]
    ∧ win0_5.index t = ![0, 0]
    ∧ win0_6.index t = ![0, t.val % 16]
    ∧ win0_7.index t = ![t.val % 16, 0] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 0 k)
/-- the first layer's first weights -/
def W1 (c : Dev nD) (k : Fin 2048) (j : Fin 8192) : EReal := m ((c.tc : Thread nD τ).loc main_arg2) (ix3 0 k j)
/-- the first layer's second weights -/
def W2 (c : Dev nD) (j : Fin 8192) (d : Fin 2048) : EReal := m ((c.tc : Thread nD τ).loc main_arg3) (ix3 0 j d)
/-- the prepared arrays of the call are the first layer's parts of the arguments -/
theorem V1 (c : Dev nD) (i : S1x2048.Idx) : V m c main_v2 i = G m c (i 1) := by
  entry_read
  pointwise
  rfl
/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v2 (ix2 0 k) := by
  obtain ⟨e0, e1, -⟩ := idx_val t
  blk_ext [iblk, e1]

theorem blk2 (c : Dev nD) (t : Fin cfg0.N) (k : Fin 2048) (j : Fin 512) (h : 512 * (t.val % 16) + j.val < 8192) :
    (iblk m c 2 t : Vec Ideal S1x2048x512 .f32) (ix3 0 k j) = W1 m c k ⟨512 * (t.val % 16) + j.val, h⟩ := by
  obtain ⟨e0, e1, e2, -⟩ := idx_val t
  unfold W1
  blk_ext [iblk, V, e2]

theorem blk3 (c : Dev nD) (t : Fin cfg0.N) (k : Fin 2048) (j : Fin 512) (h : 512 * (t.val % 16) + j.val < 8192) :
    (iblk m c 3 t : Vec Ideal S1x512x2048 .f32) (ix3 0 j k) = W2 m c ⟨512 * (t.val % 16) + j.val, h⟩ k := by
  obtain ⟨e0, e1, e2, e3, -⟩ := idx_val t
  unfold W2
  blk_ext [iblk, V, e3]

/-- the normalised row block -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- the rounded copies of the weights are the weights -/
theorem pay2 (w1 : Vec Ideal S1x2048x512 .f32) (j : S2048x512.Idx) :
    k0_pay2 (F := Ideal) w1 j = w1 (ix3 0 (j 0) (j 1)) := by
  pointwise [k0_pay2]

theorem pay3 (w2 : Vec Ideal S1x512x2048 .f32) (j : S512x2048.Idx) :
    k0_pay3 (F := Ideal) w2 j = w2 (ix3 0 (j 0) (j 1)) := by
  pointwise [k0_pay3]

/-- one step of hidden units -/
theorem pay4 (w1 : Vec Ideal S1x2048x512 .f32) (w2 : Vec Ideal S1x512x2048 .f32) (h : Vec Ideal S64x2048 .bf16)
    (o : Vec Ideal S64x2048 .f32) (j : S64x2048.Idx) :
    k0_pay4 (F := Ideal) w1 w2 h o j = o j + ∑ u,
        max (∑ k, h (ix2 (j 0) k) * w1 (ix3 0 k u)) 0 * max (∑ k, h (ix2 (j 0) k) * w1 (ix3 0 k u)) 0 * w2 (ix3 0 u (j 1)) := by
  pointwise [k0_pay4, k0_pay2, k0_pay3]

/-- the normalised row -/
def H (c : Dev nD) (R : Fin 64) : Fin 2048 → EReal := Mlp.norm (X m c R) (G m c)

/-- the row with the hidden units before `n` added -/
def upto (c : Dev nD) (R : Fin 64) (n : ℕ) (d : Fin 2048) : EReal :=
  X m c R d + Mlp.first (Mlp.term (H m c R) (W1 m c) (W2 m c) d) n

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- one step adds the next 512 hidden units -/
theorem step (c : Dev nD) (t : Fin cfg0.N) (h : Vec Ideal S64x2048 .bf16) (o : Vec Ideal S64x2048 .f32)
    (hh : ∀ r k, h (ix2 r k) = H m c r k)
    (ho : ∀ r k, o (ix2 r k) = upto m c r (512 * (t.val % 16)) k) (r : Fin 64) (d : Fin 2048) :
    k0_pay4 (F := Ideal) (iblk m c 2 t) (iblk m c 3 t) h o (ix2 r d) = upto m c r (512 * (t.val % 16) + 512) d := by
  refine (pay4 _ _ _ _ _).trans ?_
  unfold upto
  rw [Mlp.first_step _ _ 512 _ fun u => ⟨by have := u.isLt; omega, rfl⟩, ← add_assoc]
  refine congrArg₂ (· + ·) (ho r d) (Finset.sum_congr rfl fun u _ => ?_)
  have hu : 512 * (t.val % 16) + u.val < 8192 := by have := u.isLt; omega
  have hs : (∑ k, h (ix2 r k) * (iblk m c 2 t : Vec Ideal S1x2048x512 .f32) (ix3 0 k u)) =
      ∑ k, H m c r k * W1 m c k ⟨512 * (t.val % 16) + u.val, hu⟩ :=
    Finset.sum_congr rfl fun k _ => congrArg₂ (· * ·) (hh r k) (blk2 m c t k u hu)
  unfold Mlp.term Mlp.up
  exact congrArg₂ (fun a b => max a 0 * max a 0 * b) hs (blk3 m c t d u hu)

/-- What the staging buffer of the rows and the scratch hold after each step. -/
theorem after (c : Dev nD) : ∀ (n : ℕ) (hn : n < cfg0.N) (r : Fin 64) (d : Fin 2048),
    (outsAt0 m c n hn).2.2.2 (ix2 r d) = H m c r d
    ∧ (outsAt0 m c n hn).1 (ix2 r d) = upto m c r (512 * (n % 16) + 512) d := by
  intro n
  induction n using Nat.strong_induction_on with
  | _ n ih =>
  intro hn r d
  by_cases h0 : n % 16 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k).trans ?_
    show _ = upto m c r (512 * (n % 16)) k
    unfold upto
    rw [h0, Nat.mul_zero, Mlp.first_zero, add_zero]
  · have hp : n - 1 < cfg0.N := by omega
    have hm : 512 * ((n - 1) % 16) + 512 = 512 * (n % 16) := by omega
    have hh : ∀ r k, (outsAt0 m c (n - 1) hp).2.2.2 (ix2 r k) = H m c r k := fun r k =>
      (ih (n - 1) (by omega) hp r k).1
    have ho : ∀ r k, (outsAt0 m c (n - 1) hp).1 (ix2 r k) = upto m c r (512 * (n % 16)) k := fun r k =>
      ((ih (n - 1) (by omega) hp r k).2).trans (by rw [hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- What the staging buffers of the weights' copies hold after each step. -/
theorem copies (c : Dev nD) (t : Fin cfg0.N) :
    (outsAt0 m c t.val t.isLt).2.1 = k0_pay2 (F := Ideal) (iblk m c 2 t)
    ∧ (outsAt0 m c t.val t.isLt).2.2.1 = k0_pay3 (F := Ideal) (iblk m c 3 t) := by
  by_cases h0 : t.val % 16 = 0
  · have e := outsAt0_A m c t h0
    revert e; frame_out; intro e
    rw [e]; exact ⟨rfl, rfl⟩
  · have e := outsAt0_B m c t h0
    revert e; frame_out; intro e
    rw [e]; exact ⟨rfl, rfl⟩

/-- The rows. -/
def target (c : Dev nD) (i : S64x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5, -⟩ := idx_val t
  have h15 : t.val % 16 = 15 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = y 0 := Fin.ext (by blk_simp [e5])
  have E1 : (win0_5.blk t).view.emb y 1 = y 1 := Fin.ext (by blk_simp [e5])
  rw [E0, E1]
  unfold upto Mlp.mid H
  rw [h15, ← Mlp.first_all]

/-- The copies of the weights. -/
theorem final6 (c : Dev nD) : (dats m 0 c).arrAt 6 (cfgs 0).N = fun i : S2048x8192.Idx => W1 m c (i 0) (i 1) := by
  refine (dats m 0 c).arrAt_eq_of_covers 6 (fun i : S2048x8192.Idx => W1 m c (i 0) (i 1)) (by decide +kernel) fun t hf y => ?_
  obtain ⟨e0, e1, e2, e3, e4, e5, e6, e7⟩ := idx_val t
  blk_simp [e6]
  rw [after0_6, (copies m c t).1]
  have hu : 512 * (t.val % 16) + (y 1).val < 8192 := by
    have : (y 1).val < 512 := (y 1).isLt
    omega
  refine (pay2 _ _).trans ((blk2 m c t (y 0) (y 1) hu).trans ?_)
  have E0 : (win0_6.blk t).view.emb y 0 = y 0 := Fin.ext (by blk_simp [e6])
  have E1 : (win0_6.blk t).view.emb y 1 = ⟨512 * (t.val % 16) + (y 1).val, hu⟩ := Fin.ext (by
    blk_simp [e6]
    show _ = 512 * (t.val % 16) + (y 1).val
    omega)
  rw [E0, E1]
  rfl

theorem final7 (c : Dev nD) : (dats m 0 c).arrAt 7 (cfgs 0).N = fun i : S8192x2048.Idx => W2 m c (i 0) (i 1) := by
  refine (dats m 0 c).arrAt_eq_of_covers 7 (fun i : S8192x2048.Idx => W2 m c (i 0) (i 1)) (by decide +kernel) fun t hf y => ?_
  obtain ⟨e0, e1, e2, e3, e4, e5, e6, e7⟩ := idx_val t
  blk_simp [e7]
  rw [after0_7, (copies m c t).2]
  have hu : 512 * (t.val % 16) + (y 0).val < 8192 := by
    have : (y 0).val < 512 := (y 0).isLt
    omega
  refine (pay3 _ _).trans ((blk3 m c t (y 1) (y 0) hu).trans ?_)
  have E0 : (win0_7.blk t).view.emb y 0 = ⟨512 * (t.val % 16) + (y 0).val, hu⟩ := Fin.ext (by
    blk_simp [e7]
    show _ = 512 * (t.val % 16) + (y 0).val
    omega)
  have E1 : (win0_7.blk t).view.emb y 1 = y 1 := Fin.ext (by blk_simp [e7])
  rw [E0, E1]
  rfl

end Cert.Mlp4

end
-- ==== Proof.Equal4.lean ====
/- The sample's feed-forward call of a layer before the last and its reference end with the same arrays. -/
module

public import proofs.«01_k».proof.Defs
public import proofs.«01_k».proof.Proof.Ref4
public import proofs.«01_k».proof.Proof.Mlp4

@[expose] public section

set_option maxRecDepth 16384

noncomputable section

open Idealize.ShloMosaic Idealize.SL.Sem
open Cert.Reference4Ideal Cert.Reference4Ideal.Facts₀ Cert.Reference4Ideal.Read

namespace Cert.Equal4

attribute [local instance] Cert.Kernel4Ideal.Gen.facts Cert.Reference4Ideal.Gen.facts

variable (x : FVec Ideal ⟨2, ![64, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![64, 2048]⟩ .f32 := fun i =>
  Mlp.mid (fun k => x (ix2 (i 0) k)) (fun k => g (ix2 0 k)) (fun k j => w1 (ix3 0 k j)) (fun j d => w2 (ix3 0 j d)) (i 1)

/-- the normalised rows -/
theorem normed (i : S64x2048.Idx) : val_main_v14 (F := Ideal) x g i =
    Mlp.norm (fun k => x (ix2 (i 0) k)) (fun k => g (ix2 0 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S64x8192.Idx) : val_main_v22 (F := Ideal) x g w1 i =
    Mlp.up (Mlp.norm (fun k => x (ix2 (i 0) k)) (fun k => g (ix2 0 k))) (fun k j => w1 (ix3 0 k j)) (i 1) *
    Mlp.up (Mlp.norm (fun k => x (ix2 (i 0) k)) (fun k => g (ix2 0 k))) (fun k j => w1 (ix3 0 k j)) (i 1) := by
  unfold Mlp.up
  pointwise [val_main_v22, val_main_v21, val_main_v20, val_main_v19, val_main_v16, val_main_v15, val_main_cst_2]
  simp only [normed]
  rfl

/-- the rows with the feed-forward part added -/
theorem added (i : S64x2048.Idx) : val_main_v24 (F := Ideal) x g w1 w2 i =
    Mlp.mid (fun k => x (ix2 (i 0) k)) (fun k => g (ix2 0 k)) (fun k j => w1 (ix3 0 k j)) (fun j d => w2 (ix3 0 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

/-- the copies of the weights -/
theorem copy1 : val_main_v27 (F := Ideal) w1 = fun i => w1 (ix3 0 (i 0) (i 1)) := by
  funext i
  pointwise [val_main_v27, val_main_v26, val_main_v25]

theorem copy2 : val_main_v30 (F := Ideal) w2 = fun i => w2 (ix3 0 (i 0) (i 1)) := by
  funext i
  pointwise [val_main_v30, val_main_v29, val_main_v28]

theorem value : Cert.algebraic_Kernel4Ideal_Reference4Ideal := by
  intro m g m' g' hpre hag
  refine ⟨fun c => Cert.Mlp4.target m c, fun c => fun i : Cert.Kernel4Ideal.S2048x8192.Idx => Cert.Mlp4.W1 m c (i 0) (i 1),
    fun c => fun i : Cert.Kernel4Ideal.S8192x2048.Idx => Cert.Mlp4.W2 m c (i 0) (i 1), ?_, ?_⟩
  · run_from Cert.Kernel4Ideal.Gen.run_main m g
    · exact Cert.Mlp4.final m c
    · exact Cert.Mlp4.final6 m c
    · exact Cert.Mlp4.final7 m c
  · refine (θ_run _ _ _).mono (fun r h c => ⟨(h c).1.trans ?_, (h c).2.1.trans ?_, (h c).2.2.1.trans ?_, (h c).2.2.2⟩)
      (Cert.Reference4Ideal.Value.run m' g')
    · obtain ⟨e0, e1, e2, e3, e4⟩ := hag c
      refine (Cert.Reference4Ideal.Read.val_main_v24_eq _ _ _ _).trans ?_
      rw [e0, e1, e2, e3]
      exact reference _ _ _ _
    · obtain ⟨e0, e1, e2, e3, e4⟩ := hag c
      refine (Cert.Reference4Ideal.Read.val_main_v27_eq _).trans ?_
      rw [e2]
      exact copy1 _
    · obtain ⟨e0, e1, e2, e3, e4⟩ := hag c
      refine (Cert.Reference4Ideal.Read.val_main_v30_eq _).trans ?_
      rw [e3]
      exact copy2 _

end Cert.Equal4

end
-- ==== Proof.Mlp5.lean ====
/- The prompt's feed-forward call of a layer before the last: what its result array holds, from the arguments. -/
module

public import proofs.«01_k».proof.Proof.Gen.Kernel5Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel5Ideal Cert.Kernel5Ideal.Gen Cert.Kernel5Ideal.Facts₀
namespace Cert.Mlp5

attribute [local instance] Cert.Kernel5Ideal.Gen.facts

/-- each window's block at a grid point: eight steps to a block of rows -/
theorem idx_val : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 0 k)
/-- the first layer's first weights -/
def W1 (c : Dev nD) (k : Fin 2048) (j : Fin 8192) : EReal := m ((c.tc : Thread nD τ).loc main_arg2) (ix3 0 k j)
/-- the first layer's second weights -/
def W2 (c : Dev nD) (j : Fin 8192) (d : Fin 2048) : EReal := m ((c.tc : Thread nD τ).loc main_arg3) (ix3 0 j d)
/-- the prepared arrays of the call are the first layer's parts of the arguments -/
theorem V1 (c : Dev nD) (i : S1x2048.Idx) : V m c main_v8 i = G m c (i 1) := by
  entry_read
  pointwise
  rfl
theorem V2 (c : Dev nD) (i : S2048x8192.Idx) : V m c main_v2 i = W1 m c (i 0) (i 1) := by
  entry_read
  pointwise
  rfl
theorem V3 (c : Dev nD) (i : S8192x2048.Idx) : V m c main_v5 i = W2 m c (i 0) (i 1) := by
  entry_read
  pointwise
  rfl
/-- the blocks a grid point is given, at coordinates -/
theorem blk0 (c : Dev nD) (t : Fin cfg0.N) (r : Fin 512) (k : Fin 2048) (h : 512 * (t.val / 8) + r.val < 8192) :
    (iblk m c 0 t : Vec Ideal S512x2048 .f32) (ix2 r k) = X m c ⟨512 * (t.val / 8) + r.val, h⟩ k := by
  obtain ⟨e0, -⟩ := idx_val t
  unfold X
  blk_ext [iblk, V, e0]

theorem blk1 (c : Dev nD) (t : Fin cfg0.N) (k : Fin 2048)  :
    (iblk m c 1 t : Vec Ideal S1x2048 .f32) (ix2 0 k) = V m c main_v8 (ix2 0 k) := by
  obtain ⟨e0, e1, -⟩ := idx_val t
  blk_ext [iblk, e1]

theorem blk2 (c : Dev nD) (t : Fin cfg0.N) (k : Fin 2048) (j : Fin 1024) (h : 1024 * (t.val % 8) + j.val < 8192) :
    (iblk m c 2 t : Vec Ideal S2048x1024 .bf16) (ix2 k j) = V m c main_v2 (ix2 k ⟨1024 * (t.val % 8) + j.val, h⟩) := by
  obtain ⟨e0, e1, e2, -⟩ := idx_val t
  blk_ext [iblk, e2]

theorem blk3 (c : Dev nD) (t : Fin cfg0.N) (k : Fin 2048) (j : Fin 1024) (h : 1024 * (t.val % 8) + j.val < 8192) :
    (iblk m c 3 t : Vec Ideal S1024x2048 .bf16) (ix2 j k) = V m c main_v5 (ix2 ⟨1024 * (t.val % 8) + j.val, h⟩ k) := by
  obtain ⟨e0, e1, e2, e3, -⟩ := idx_val t
  blk_ext [iblk, e3]
/-- the normalised row block -/
theorem pay1 (x : Vec Ideal S512x2048 .f32) (g : Vec Ideal S1x2048 .f32) (j : S512x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step of hidden units -/
theorem pay2 (w1 : Vec Ideal S2048x1024 .bf16) (w2 : Vec Ideal S1024x2048 .bf16) (h : Vec Ideal S512x2048 .bf16)
    (o : Vec Ideal S512x2048 .f32) (j : S512x2048.Idx) :
    k0_pay2 (F := Ideal) w1 w2 h o j = o j + ∑ u,
        max (∑ k, h (ix2 (j 0) k) * w1 (ix2 k u)) 0 * max (∑ k, h (ix2 (j 0) k) * w1 (ix2 k u)) 0 * w2 (ix2 u (j 1)) := by
  pointwise [k0_pay2]

/-- the row of the array a block's row is -/
def row (n : ℕ) (hn : n < cfg0.N) (r : Fin 512) : Fin 8192 :=
  ⟨512 * (n / 8) + r.val, by have : n < 128 := lt_of_lt_of_eq hn N_0; omega⟩

/-- the normalised row -/
def H (c : Dev nD) (R : Fin 8192) : Fin 2048 → EReal := Mlp.norm (X m c R) (G m c)

/-- the row with the hidden units before `n` added -/
def upto (c : Dev nD) (R : Fin 8192) (n : ℕ) (d : Fin 2048) : EReal :=
  X m c R d + Mlp.first (Mlp.term (H m c R) (W1 m c) (W2 m c) d) n

theorem held (c : Dev nD) (t : Fin cfg0.N) (r : Fin 512) (d : Fin 2048) :
    k0_pay1 (F := Ideal) (iblk m c 0 t) (iblk m c 1 t) (ix2 r d) = H m c (row t.val t.isLt r) d := by
  have hR : 512 * (t.val / 8) + r.val < 8192 := (row t.val t.isLt r).isLt
  refine (pay1 _ _ _).trans ?_
  unfold H
  refine congrArg₂ (fun f g => Mlp.norm f g d) (funext fun k => blk0 m c t r k hR) (funext fun k => ?_)
  exact (blk1 m c t k).trans (V1 m c _)

/-- one step adds the next 1024 hidden units -/
theorem step (c : Dev nD) (t : Fin cfg0.N) (h : Vec Ideal S512x2048 .bf16) (o : Vec Ideal S512x2048 .f32)
    (hh : ∀ r k, h (ix2 r k) = H m c (row t.val t.isLt r) k)
    (ho : ∀ r k, o (ix2 r k) = upto m c (row t.val t.isLt r) (1024 * (t.val % 8)) k) (r : Fin 512) (d : Fin 2048) :
    k0_pay2 (F := Ideal) (iblk m c 2 t) (iblk m c 3 t) h o (ix2 r d) =
      upto m c (row t.val t.isLt r) (1024 * (t.val % 8) + 1024) d := by
  refine (pay2 _ _ _ _ _).trans ?_
  unfold upto
  rw [Mlp.first_step _ _ 1024 _ fun u => ⟨by have := u.isLt; omega, rfl⟩, ← add_assoc]
  refine congrArg₂ (· + ·) (ho r d) (Finset.sum_congr rfl fun u _ => ?_)
  have hu : 1024 * (t.val % 8) + u.val < 8192 := by have := u.isLt; omega
  have hs : (∑ k, h (ix2 r k) * (iblk m c 2 t : Vec Ideal S2048x1024 .bf16) (ix2 k u)) =
      ∑ k, H m c (row t.val t.isLt r) k * W1 m c k ⟨1024 * (t.val % 8) + u.val, hu⟩ :=
    Finset.sum_congr rfl fun k _ => congrArg₂ (· * ·) (hh r k) ((blk2 m c t k u hu).trans (V2 m c _))
  unfold Mlp.term Mlp.up
  exact congrArg₂ (fun a b => max a 0 * max a 0 * b) hs ((blk3 m c t d u hu).trans (V3 m c _))

/-- What the staging buffer of the result and the scratch hold after each step. -/
theorem after (c : Dev nD) : ∀ (n : ℕ) (hn : n < cfg0.N) (r : Fin 512) (d : Fin 2048),
    (outsAt0 m c n hn).2 (ix2 r d) = H m c (row n hn r) d
    ∧ (outsAt0 m c n hn).1 (ix2 r d) = upto m c (row n hn r) (1024 * (n % 8) + 1024) d := by
  intro n
  induction n using Nat.strong_induction_on with
  | _ n ih =>
  intro hn r d
  by_cases h0 : n % 8 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k (row n hn r).isLt).trans ?_
    show _ = upto m c (row n hn r) (1024 * (n % 8)) k
    unfold upto
    rw [h0, Nat.mul_zero, Mlp.first_zero, add_zero]
    rfl
  · have hp : n - 1 < cfg0.N := by omega
    have hrow : ∀ r, row (n - 1) hp r = row n hn r := fun r => Fin.ext (by
      show 512 * ((n - 1) / 8) + r.val = 512 * (n / 8) + r.val; omega)
    have hm : 1024 * ((n - 1) % 8) + 1024 = 1024 * (n % 8) := by omega
    have hh : ∀ r k, (outsAt0 m c (n - 1) hp).2 (ix2 r k) = H m c (row n hn r) k := fun r k =>
      ((ih (n - 1) (by omega) hp r k).1).trans (by rw [hrow])
    have ho : ∀ r k, (outsAt0 m c (n - 1) hp).1 (ix2 r k) = upto m c (row n hn r) (1024 * (n % 8)) k := fun r k =>
      ((ih (n - 1) (by omega) hp r k).2).trans (by rw [hrow, hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- The whole result. -/
def target (c : Dev nD) (i : S8192x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5⟩ := idx_val t
  have h7 : t.val % 8 = 7 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = row t.val t.isLt (y 0) := Fin.ext (by
    blk_simp [e5]
    show _ = 512 * (t.val / 8) + (y 0).val
    omega)
  have E1 : (win0_5.blk t).view.emb y 1 = y 1 := Fin.ext (by blk_simp [e5])
  rw [E0, E1]
  unfold upto Mlp.mid H
  rw [h7, ← Mlp.first_all]

end Cert.Mlp5

end
-- ==== Proof.Equal5.lean ====
/- The prompt's feed-forward call of a layer before the last and its reference end with the same array. -/
module

public import proofs.«01_k».proof.Defs
public import proofs.«01_k».proof.Proof.Ref5
public import proofs.«01_k».proof.Proof.Mlp5

@[expose] public section

set_option maxRecDepth 16384

noncomputable section

open Idealize.ShloMosaic Idealize.SL.Sem
open Cert.Reference5Ideal Cert.Reference5Ideal.Facts₀ Cert.Reference5Ideal.Read

namespace Cert.Equal5

attribute [local instance] Cert.Kernel5Ideal.Gen.facts Cert.Reference5Ideal.Gen.facts

variable (x : FVec Ideal ⟨2, ![8192, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![8192, 2048]⟩ .f32 := fun i =>
  Mlp.mid (fun k => x (ix2 (i 0) k)) (fun k => g (ix2 0 k)) (fun k j => w1 (ix3 0 k j)) (fun j d => w2 (ix3 0 j d)) (i 1)

/-- the normalised rows -/
theorem normed (i : S8192x2048.Idx) : val_main_v14 (F := Ideal) x g i =
    Mlp.norm (fun k => x (ix2 (i 0) k)) (fun k => g (ix2 0 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S8192x8192.Idx) : val_main_v22 (F := Ideal) x g w1 i =
    Mlp.up (Mlp.norm (fun k => x (ix2 (i 0) k)) (fun k => g (ix2 0 k))) (fun k j => w1 (ix3 0 k j)) (i 1) *
    Mlp.up (Mlp.norm (fun k => x (ix2 (i 0) k)) (fun k => g (ix2 0 k))) (fun k j => w1 (ix3 0 k j)) (i 1) := by
  unfold Mlp.up
  pointwise [val_main_v22, val_main_v21, val_main_v20, val_main_v19, val_main_v16, val_main_v15, val_main_cst_2]
  simp only [normed]
  rfl

/-- the rows with the feed-forward part added -/
theorem added (i : S8192x2048.Idx) : val_main_v24 (F := Ideal) x g w1 w2 i =
    Mlp.mid (fun k => x (ix2 (i 0) k)) (fun k => g (ix2 0 k)) (fun k j => w1 (ix3 0 k j)) (fun j d => w2 (ix3 0 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

theorem value : Cert.algebraic_Kernel5Ideal_Reference5Ideal := by
  intro m g m' g' hpre hag
  refine ⟨fun c => Cert.Mlp5.target m c, ?_, ?_⟩
  · run_from Cert.Kernel5Ideal.Gen.run_main m g
    exact Cert.Mlp5.final m c
  · refine (θ_run _ _ _).mono (fun r h c => ⟨(h c).1.trans ?_, (h c).2⟩) (Cert.Reference5Ideal.Value.run m' g')
    obtain ⟨e0, e1, e2, e3, e4⟩ := hag c
    refine (Cert.Reference5Ideal.Read.val_main_v24_eq _ _ _ _).trans ?_
    rw [e0, e1, e2, e3]
    exact reference _ _ _ _

end Cert.Equal5

end
-- ==== Proof.In6.lean ====
/- The prompt's projection into the first layer's mixers: what its result array holds, from the arguments. -/
module

public import proofs.«01_k».proof.Proof.Gen.Kernel6Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel6Ideal Cert.Kernel6Ideal.Gen Cert.Kernel6Ideal.Facts₀
namespace Cert.In6

attribute [local instance] Cert.Kernel6Ideal.Gen.facts

/-- each window's block at a grid point: 8 steps to a block of rows -/
theorem idx_val : ∀ t : Fin cfg0.N, win0_0.index t = ![t.val / 8, 0]
    ∧ win0_1.index t = ![0, 0]
    ∧ win0_2.index t = ![0, t.val % 8]
    ∧ win0_3.index t = ![t.val / 8, t.val % 8] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the mixers -/
def G (c : Dev nD) (k : Fin 2048) : EReal := m ((c.tc : Thread nD τ).loc main_arg1) (ix2 0 k)
/-- the weights of the projection -/
def W (c : Dev nD) (k : Fin 2048) (j : Fin 4096) : EReal := m ((c.tc : Thread nD τ).loc main_arg2) (ix3 0 k j)

/-- the prepared gains and weights -/
theorem V1 (c : Dev nD) (i : S1x2048.Idx) : V m c main_v5 i = G m c (i 1) := by
  entry_read
  pointwise
  rfl
theorem V2 (c : Dev nD) (i : S2048x4096.Idx) : V m c main_v4 i = W m c (i 0) (i 1) := by
  entry_read
  pointwise
  rfl

/-- the row of the array a block's row is -/
def row (n : ℕ) (hn : n < cfg0.N) (r : Fin 1024) : Fin 8192 :=
  ⟨1024 * (n / 8) + r.val, by have : n < 64 := lt_of_lt_of_eq hn N_0; omega⟩

/-- the blocks a grid point is given, at coordinates -/
theorem blk0 (c : Dev nD) (t : Fin cfg0.N) (r : Fin 1024) (k : Fin 2048) (h : 1024 * (t.val / 8) + r.val < 8192) :
    (iblk m c 0 t : Vec Ideal S1024x2048 .f32) (ix2 r k) = X m c ⟨1024 * (t.val / 8) + r.val, h⟩ k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v5 (ix2 0 k) := by
  obtain ⟨e0, e1, -⟩ := idx_val t
  blk_ext [iblk, e1]

theorem blk2 (c : Dev nD) (t : Fin cfg0.N) (k : Fin 2048) (j : Fin 512) (h : 512 * (t.val % 8) + j.val < 4096) :
    (iblk m c 2 t : Vec Ideal S2048x512 .bf16) (ix2 k j) = V m c main_v4 (ix2 k ⟨512 * (t.val % 8) + j.val, h⟩) := by
  obtain ⟨e0, e1, e2, -⟩ := idx_val t
  blk_ext [iblk, e2]

/-- the normalised rows -/
theorem pay1 (x : Vec Ideal S1024x2048 .f32) (g : Vec Ideal S1x2048 .f32) (j : S1024x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step's columns -/
theorem pay2 (w : Vec Ideal S2048x512 .bf16) (h : Vec Ideal S1024x2048 .bf16) (j : S1024x512.Idx) :
    k0_pay2 (F := Ideal) w h j = ∑ k, h (ix2 (j 0) k) * w (ix2 k (j 1)) := by
  pointwise [k0_pay2]

/-- the normalised row -/
def H (c : Dev nD) (R : Fin 8192) : Fin 2048 → EReal := Mlp.norm (X m c R) (G m c)

theorem held (c : Dev nD) (t : Fin cfg0.N) (r : Fin 1024) (d : Fin 2048) :
    k0_pay1 (F := Ideal) (iblk m c 0 t) (iblk m c 1 t) (ix2 r d) = H m c (row t.val t.isLt r) d := by
  refine (pay1 _ _ _).trans ?_
  unfold H
  refine congrArg₂ (fun f g => Mlp.norm f g d) (funext fun k => blk0 m c t r k (row t.val t.isLt r).isLt) (funext fun k => ?_)
  exact (blk1 m c t k).trans (V1 m c _)

/-- What the scratch and the staging buffer hold after each step. -/
theorem after (c : Dev nD) : ∀ (n : ℕ) (hn : n < cfg0.N),
    (∀ (r : Fin 1024) (d : Fin 2048), (outsAt0 m c n hn).2 (ix2 r d) = H m c (row n hn r) d)
    ∧ (outsAt0 m c n hn).1 = k0_pay2 (F := Ideal) (iblk m c 2 ⟨n, hn⟩) (outsAt0 m c n hn).2 := by
  intro n
  induction n using Nat.strong_induction_on with
  | _ n ih =>
  intro hn
  by_cases h0 : n % 8 = 0
  · have e := outsAt0_A m c ⟨n, hn⟩ h0
    revert e; frame_out; intro e
    have e' : outsAt0 m c n hn = _ := e
    rw [e']
    exact ⟨fun r d => held m c ⟨n, hn⟩ r d, rfl⟩
  · have hp : n - 1 < cfg0.N := by omega
    have hrow : ∀ r, row (n - 1) hp r = row n hn r := fun r => Fin.ext (by
      show 1024 * ((n - 1) / 8) + r.val = 1024 * (n / 8) + r.val; omega)
    have e := outsAt0_B m c ⟨n, hn⟩ h0
    revert e; frame_out; intro e
    rw [read_unread_whole] at e
    have e' : outsAt0 m c n hn = _ := e
    rw [e']
    exact ⟨fun r d => ((ih (n - 1) (by omega) hp).1 r d).trans (by rw [hrow]), rfl⟩

/-- The projected rows. -/
def target (c : Dev nD) (i : S8192x4096.Idx) : EReal := ∑ k, H m c (i 0) k * W m c k (i 1)

theorem final (c : Dev nD) : (dats m 0 c).arrAt 3 (cfgs 0).N = target m c := by
  refine (dats m 0 c).arrAt_eq_of_covers 3 (target m c) (by decide +kernel) fun t hf y => ?_
  obtain ⟨e0, e1, e2, e3⟩ := idx_val t
  blk_simp [e3]
  rw [after0_3, (after m c t.val t.isLt).2]
  have hu : 512 * (t.val % 8) + (y 1).val < 4096 := by
    have : (y 1).val < 512 := (y 1).isLt
    omega
  have E0 : (win0_3.blk t).view.emb y 0 = row t.val t.isLt (y 0) := Fin.ext (by
    blk_simp [e3]
    show _ = 1024 * (t.val / 8) + (y 0).val
    omega)
  have E1 : (win0_3.blk t).view.emb y 1 = ⟨512 * (t.val % 8) + (y 1).val, hu⟩ := Fin.ext (by
    blk_simp [e3]
    show _ = 512 * (t.val % 8) + (y 1).val
    omega)
  unfold target
  rw [E0, E1]
  refine (pay2 _ _ _).trans (Finset.sum_congr rfl fun k _ => ?_)
  exact congrArg₂ (· * ·) ((after m c t.val t.isLt).1 (y 0) k) ((blk2 m c t k (y 1) hu).trans (V2 m c _))

end Cert.In6

end
-- ==== Proof.Equal6.lean ====
/- The prompt's projection into the first layer's mixers and its reference end with the same arrays. -/
module

public import proofs.«01_k».proof.Defs
public import proofs.«01_k».proof.Proof.Ref6
public import proofs.«01_k».proof.Proof.In6

@[expose] public section

set_option maxRecDepth 16384

noncomputable section

open Idealize.ShloMosaic Idealize.SL.Sem
open Cert.Reference6Ideal Cert.Reference6Ideal.Facts₀ Cert.Reference6Ideal.Read

namespace Cert.Equal6

attribute [local instance] Cert.Kernel6Ideal.Gen.facts Cert.Reference6Ideal.Gen.facts

variable (x : FVec Ideal ⟨2, ![8192, 2048]⟩ .f32) (g : FVec Ideal ⟨2, ![4, 2048]⟩ .f32)
  (w : FVec Ideal ⟨3, ![2, 2048, 4096]⟩ .f32)

/-- the normalised rows -/
theorem normed (i : S8192x2048.Idx) : val_main_v14 (F := Ideal) x g i =
    Mlp.norm (fun k => x (ix2 (i 0) k)) (fun k => g (ix2 0 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the projected rows -/
theorem reference (i : S8192x4096.Idx) : val_main_v17 (F := Ideal) x g w i =
    ∑ k, Mlp.norm (fun k => x (ix2 (i 0) k)) (fun k => g (ix2 0 k)) k * w (ix3 0 k (i 1)) := by
  pointwise [val_main_v17, val_main_v16, val_main_v15]
  simp only [normed]
  rfl

theorem value : Cert.algebraic_Kernel6Ideal_Reference6Ideal := by
  intro m g m' g' hpre hag
  refine ⟨fun c => Cert.In6.target m c, ?_, ?_⟩
  · run_from Cert.Kernel6Ideal.Gen.run_main m g
    exact Cert.In6.final m c
  · refine (θ_run _ _ _).mono (fun r h c => ⟨(h c).1.trans ?_, (h c).2⟩) (Cert.Reference6Ideal.Value.run m' g')
    obtain ⟨e0, e1, e2⟩ := hag c
    refine (Cert.Reference6Ideal.Read.val_main_v17_eq _ _ _).trans ?_
    rw [e0, e1, e2]
    exact funext (reference _ _ _)

end Cert.Equal6

end
-- ==== Proof.In7.lean ====
/- The sample's projection into the first layer's mixers: what its result arrays hold, from the arguments. -/
module

public import proofs.«01_k».proof.Proof.Gen.Kernel7Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel7Ideal Cert.Kernel7Ideal.Gen Cert.Kernel7Ideal.Facts₀
namespace Cert.In7

attribute [local instance] Cert.Kernel7Ideal.Gen.facts

/-- each window's block at a grid point: eight steps over one block of rows -/
theorem idx_val : ∀ t : Fin cfg0.N, win0_0.index t = ![0, 0]
    ∧ win0_1.index t = ![0, 0]
    ∧ win0_2.index t = ![0, 0, t.val]
    ∧ win0_3.index t = ![0, t.val]
    ∧ win0_4.index t = ![0, t.val] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the mixers -/
def G (c : Dev nD) (k : Fin 2048) : EReal := m ((c.tc : Thread nD τ).loc main_arg1) (ix2 0 k)
/-- the weights of the projection -/
def W (c : Dev nD) (k : Fin 2048) (j : Fin 4096) : EReal := m ((c.tc : Thread nD τ).loc main_arg2) (ix3 0 k j)

/-- the prepared gains -/
theorem V1 (c : Dev nD) (i : S1x2048.Idx) : V m c main_v2 i = G m c (i 1) := by
  entry_read
  pointwise
  rfl

/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v2 (ix2 0 k) := by
  obtain ⟨e0, e1, -⟩ := idx_val t
  blk_ext [iblk, e1]

theorem blk2 (c : Dev nD) (t : Fin cfg0.N) (k : Fin 2048) (j : Fin 512) (h : 512 * t.val + j.val < 4096) :
    (iblk m c 2 t : Vec Ideal S1x2048x512 .f32) (ix3 0 k j) = W m c k ⟨512 * t.val + j.val, h⟩ := by
  obtain ⟨e0, e1, e2, -⟩ := idx_val t
  unfold W
  blk_ext [iblk, V, e2]

/-- the normalised rows -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- the rounded copy of the weights is the weights -/
theorem pay2 (w : Vec Ideal S1x2048x512 .f32) (j : S2048x512.Idx) :
    k0_pay2 (F := Ideal) w j = w (ix3 0 (j 0) (j 1)) := by
  pointwise [k0_pay2]

/-- one step's columns -/
theorem pay3 (w : Vec Ideal S1x2048x512 .f32) (h : Vec Ideal S64x2048 .bf16) (j : S64x512.Idx) :
    k0_pay3 (F := Ideal) w h j = ∑ k, h (ix2 (j 0) k) * w (ix3 0 k (j 1)) := by
  pointwise [k0_pay3, k0_pay2]

/-- the normalised row -/
def H (c : Dev nD) (R : Fin 64) : Fin 2048 → EReal := Mlp.norm (X m c R) (G m c)

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- What the scratch and the staging buffers hold after each step. -/
theorem after (c : Dev nD) : ∀ (n : ℕ) (hn : n < cfg0.N),
    (∀ (r : Fin 64) (d : Fin 2048), (outsAt0 m c n hn).2.2 (ix2 r d) = H m c r d)
    ∧ (outsAt0 m c n hn).1 = k0_pay3 (F := Ideal) (iblk m c 2 ⟨n, hn⟩) (outsAt0 m c n hn).2.2
    ∧ (outsAt0 m c n hn).2.1 = k0_pay2 (F := Ideal) (iblk m c 2 ⟨n, hn⟩) := by
  intro n
  induction n using Nat.strong_induction_on with
  | _ n ih =>
  intro hn
  by_cases h0 : n % 8 = 0
  · have e := outsAt0_A m c ⟨n, hn⟩ h0
    revert e; frame_out; intro e
    have e' : outsAt0 m c n hn = _ := e
    rw [e']
    exact ⟨fun r d => held m c ⟨n, hn⟩ r d, rfl, rfl⟩
  · have hp : n - 1 < cfg0.N := by omega
    have e := outsAt0_B m c ⟨n, hn⟩ h0
    revert e; frame_out; intro e
    rw [read_unread_whole] at e
    have e' : outsAt0 m c n hn = _ := e
    rw [e']
    exact ⟨(ih (n - 1) (by omega) hp).1, rfl, rfl⟩

/-- The projected rows. -/
def target (c : Dev nD) (i : S64x4096.Idx) : EReal := ∑ k, H m c (i 0) k * W m c k (i 1)

theorem final (c : Dev nD) : (dats m 0 c).arrAt 3 (cfgs 0).N = target m c := by
  refine (dats m 0 c).arrAt_eq_of_covers 3 (target m c) (by decide +kernel) fun t hf y => ?_
  obtain ⟨e0, e1, e2, e3, e4⟩ := idx_val t
  blk_simp [e3]
  rw [after0_3, (after m c t.val t.isLt).2.1]
  have hu : 512 * t.val + (y 1).val < 4096 := by
    have : (y 1).val < 512 := (y 1).isLt
    have : t.val < 8 := lt_of_lt_of_eq t.isLt N_0
    omega
  have E0 : (win0_3.blk t).view.emb y 0 = y 0 := Fin.ext (by blk_simp [e3])
  have E1 : (win0_3.blk t).view.emb y 1 = ⟨512 * t.val + (y 1).val, hu⟩ := Fin.ext (by
    blk_simp [e3]
    show _ = 512 * t.val + (y 1).val
    omega)
  unfold target
  rw [E0, E1]
  refine (pay3 _ _ _).trans (Finset.sum_congr rfl fun k _ => ?_)
  exact congrArg₂ (· * ·) ((after m c t.val t.isLt).1 (y 0) k) (blk2 m c t k (y 1) hu)

/-- The copy of the weights. -/
theorem final4 (c : Dev nD) : (dats m 0 c).arrAt 4 (cfgs 0).N = fun i : S2048x4096.Idx => W m c (i 0) (i 1) := by
  refine (dats m 0 c).arrAt_eq_of_covers 4 (fun i : S2048x4096.Idx => W m c (i 0) (i 1)) (by decide +kernel) fun t hf y => ?_
  obtain ⟨e0, e1, e2, e3, e4⟩ := idx_val t
  blk_simp [e4]
  rw [after0_4, (after m c t.val t.isLt).2.2]
  have hu : 512 * t.val + (y 1).val < 4096 := by
    have : (y 1).val < 512 := (y 1).isLt
    have : t.val < 8 := lt_of_lt_of_eq t.isLt N_0
    omega
  refine (pay2 _ _).trans ((blk2 m c t (y 0) (y 1) hu).trans ?_)
  have E0 : (win0_4.blk t).view.emb y 0 = y 0 := Fin.ext (by blk_simp [e4])
  have E1 : (win0_4.blk t).view.emb y 1 = ⟨512 * t.val + (y 1).val, hu⟩ := Fin.ext (by
    blk_simp [e4]
    show _ = 512 * t.val + (y 1).val
    omega)
  rw [E0, E1]
  rfl

end Cert.In7

end
-- ==== Proof.Equal7.lean ====
/- The sample's projection into the first layer's mixers and its reference end with the same arrays. -/
module

public import proofs.«01_k».proof.Defs
public import proofs.«01_k».proof.Proof.Ref7
public import proofs.«01_k».proof.Proof.In7

@[expose] public section

set_option maxRecDepth 16384

noncomputable section

open Idealize.ShloMosaic Idealize.SL.Sem
open Cert.Reference7Ideal Cert.Reference7Ideal.Facts₀ Cert.Reference7Ideal.Read

namespace Cert.Equal7

attribute [local instance] Cert.Kernel7Ideal.Gen.facts Cert.Reference7Ideal.Gen.facts

variable (x : FVec Ideal ⟨2, ![64, 2048]⟩ .f32) (g : FVec Ideal ⟨2, ![4, 2048]⟩ .f32)
  (w : FVec Ideal ⟨3, ![2, 2048, 4096]⟩ .f32)

/-- the normalised rows -/
theorem normed (i : S64x2048.Idx) : val_main_v14 (F := Ideal) x g i =
    Mlp.norm (fun k => x (ix2 (i 0) k)) (fun k => g (ix2 0 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the projected rows -/
theorem reference (i : S64x4096.Idx) : val_main_v17 (F := Ideal) x g w i =
    ∑ k, Mlp.norm (fun k => x (ix2 (i 0) k)) (fun k => g (ix2 0 k)) k * w (ix3 0 k (i 1)) := by
  pointwise [val_main_v17, val_main_v16, val_main_v15]
  simp only [normed]
  rfl

/-- the copy of the weights -/
theorem copy : val_main_v20 (F := Ideal) w = fun i => w (ix3 0 (i 0) (i 1)) := by
  funext i
  pointwise [val_main_v20, val_main_v19, val_main_v18]

theorem value : Cert.algebraic_Kernel7Ideal_Reference7Ideal := by
  intro m g m' g' hpre hag
  refine ⟨fun c => Cert.In7.target m c, fun c => fun i : Cert.Kernel7Ideal.S2048x4096.Idx => Cert.In7.W m c (i 0) (i 1), ?_, ?_⟩
  · run_from Cert.Kernel7Ideal.Gen.run_main m g
    · exact Cert.In7.final m c
    · exact Cert.In7.final4 m c
  · refine (θ_run _ _ _).mono (fun r h c => ⟨(h c).1.trans ?_, (h c).2.1.trans ?_, (h c).2.2⟩) (Cert.Reference7Ideal.Value.run m' g')
    · obtain ⟨e0, e1, e2⟩ := hag c
      refine (Cert.Reference7Ideal.Read.val_main_v17_eq _ _ _).trans ?_
      rw [e0, e1, e2]
      exact funext (reference _ _ _)
    · obtain ⟨e0, e1, e2⟩ := hag c
      refine (Cert.Reference7Ideal.Read.val_main_v20_eq _).trans ?_
      rw [e2]
      exact copy _

end Cert.Equal7

end
-- ==== Proof.Columns.lean ====
/- The second layer's projected columns, laid out from their parts. -/
module

public import proofs.«01_k».proof.Proof.Mlp
public import Idealize.ShloMosaic.Lib.Pipeline.ValueKit

@[expose] public section

set_option maxRecDepth 16384

noncomputable section

open Idealize.ShloMosaic Idealize.SL.Sem
namespace Cert.Columns

/-- nine parts side by side: the queries, the three of the convolution, the three of keys and values, the gates, zeros -/
theorem laid {n : ℕ} (w : Fin n → Fin 5656 → EReal)
    (p0 p1 p2 p3 : (⟨2, ![n, 1024]⟩ : Shape).Idx → EReal) (p4 p5 p6 : (⟨2, ![n, 512]⟩ : Shape).Idx → EReal)
    (p7 : (⟨2, ![n, 24]⟩ : Shape).Idx → EReal) (p8 : (⟨2, ![n, 104]⟩ : Shape).Idx → EReal)
    (h : Shape.Concatenates [⟨2, ![n, 1024]⟩, ⟨2, ![n, 1024]⟩, ⟨2, ![n, 1024]⟩, ⟨2, ![n, 1024]⟩, ⟨2, ![n, 512]⟩,
      ⟨2, ![n, 512]⟩, ⟨2, ![n, 512]⟩, ⟨2, ![n, 24]⟩, ⟨2, ![n, 104]⟩] ⟨2, ![n, 5760]⟩ 1)
    (e0 : ∀ r (j : Fin 1024), p0 (ix2 r j) = w r ⟨j.val, by omega⟩)
    (e1 : ∀ r (j : Fin 1024), p1 (ix2 r j) = w r ⟨j.val + 2584, by omega⟩)
    (e2 : ∀ r (j : Fin 1024), p2 (ix2 r j) = w r ⟨j.val + 3608, by omega⟩)
    (e3 : ∀ r (j : Fin 1024), p3 (ix2 r j) = w r ⟨j.val + 4632, by omega⟩)
    (e4 : ∀ r (j : Fin 512), p4 (ix2 r j) = w r ⟨j.val + 1024, by omega⟩)
    (e5 : ∀ r (j : Fin 512), p5 (ix2 r j) = w r ⟨j.val + 1536, by omega⟩)
    (e6 : ∀ r (j : Fin 512), p6 (ix2 r j) = w r ⟨j.val + 2048, by omega⟩)
    (e7 : ∀ r (j : Fin 24), p7 (ix2 r j) = w r ⟨j.val + 2560, by omega⟩)
    (e8 : ∀ r (j : Fin 104), p8 (ix2 r j) = 0) (i : (⟨2, ![n, 5760]⟩ : Shape).Idx) :
    concatenate (⟨2, ![n, 5760]⟩ : Shape) 1 [⟨⟨2, ![n, 1024]⟩, p0⟩, ⟨⟨2, ![n, 1024]⟩, p1⟩, ⟨⟨2, ![n, 1024]⟩, p2⟩,
      ⟨⟨2, ![n, 1024]⟩, p3⟩, ⟨⟨2, ![n, 512]⟩, p4⟩, ⟨⟨2, ![n, 512]⟩, p5⟩, ⟨⟨2, ![n, 512]⟩, p6⟩, ⟨⟨2, ![n, 24]⟩, p7⟩,
      ⟨⟨2, ![n, 104]⟩, p8⟩] h i = Mlp.columns (w (i 0)) (i 1) := by
  have hi : (i 1).val < 5760 := (i 1).isLt
  let xs : List ((s : Shape) × (s.Idx → EReal)) := [⟨⟨2, ![n, 1024]⟩, p0⟩, ⟨⟨2, ![n, 1024]⟩, p1⟩,
    ⟨⟨2, ![n, 1024]⟩, p2⟩, ⟨⟨2, ![n, 1024]⟩, p3⟩, ⟨⟨2, ![n, 512]⟩, p4⟩, ⟨⟨2, ![n, 512]⟩, p5⟩, ⟨⟨2, ![n, 512]⟩, p6⟩,
    ⟨⟨2, ![n, 24]⟩, p7⟩, ⟨⟨2, ![n, 104]⟩, p8⟩]
  have hxs : Shape.Concatenates (xs.map (·.1)) ⟨2, ![n, 5760]⟩ 1 := h
  -- one part: its place in the row, and which of the columns that is
  have part : ∀ (k pre q : ℕ) (p : (⟨2, ![n, q]⟩ : Shape).Idx → EReal) (hk : k < xs.length)
      (hx : xs[k] = ⟨⟨2, ![n, q]⟩, p⟩)
      (hpre : (((xs.take k).map (·.1)).map fun s => if h : s.rank = 2 then s.size ((1 : Fin 2).cast h.symm) else 0).sum = pre)
      (hl : pre ≤ (i 1).val) (hu : (i 1).val - pre < q),
      concatenate (⟨2, ![n, 5760]⟩ : Shape) 1 xs hxs i = p (ix2 (i 0) ⟨(i 1).val - pre, hu⟩) := by
    intro k pre q p hk hx hpre hl hu
    refine concatenate_apply_piece 1 xs hxs i k hk _ p hx rfl pre hpre _ (fun b hb => ?_) ?_
    · match b with
      | ⟨0, _⟩ => rfl
      | ⟨1, _⟩ => exact absurd rfl hb
    · show pre + ((i 1).val - pre) = (i 1).val
      omega
  have hlen : xs.length = 9 := rfl
  unfold Mlp.columns
  by_cases h0 : (i 1).val < 1024
  · rw [dif_pos h0]
    exact (part 0 0 1024 p0 (by omega) rfl rfl (by omega) (by omega)).trans ((e0 _ _).trans
      (congrArg (w (i 0)) (Fin.ext (by dsimp only; omega))))
  rw [dif_neg h0]
  by_cases h1 : (i 1).val < 2048
  · rw [dif_pos (by omega)]
    exact (part 1 1024 1024 p1 (by omega) rfl rfl (by omega) (by omega)).trans ((e1 _ _).trans
      (congrArg (w (i 0)) (Fin.ext (by dsimp only; omega))))
  by_cases h2 : (i 1).val < 3072
  · rw [dif_pos (by omega)]
    exact (part 2 2048 1024 p2 (by omega) rfl rfl (by omega) (by omega)).trans ((e2 _ _).trans
      (congrArg (w (i 0)) (Fin.ext (by dsimp only; omega))))
  by_cases h3 : (i 1).val < 4096
  · rw [dif_pos (by omega)]
    exact (part 3 3072 1024 p3 (by omega) rfl rfl (by omega) (by omega)).trans ((e3 _ _).trans
      (congrArg (w (i 0)) (Fin.ext (by dsimp only; omega))))
  rw [dif_neg h3]
  by_cases h4 : (i 1).val < 4608
  · rw [dif_pos (by omega)]
    exact (part 4 4096 512 p4 (by omega) rfl rfl (by omega) (by omega)).trans ((e4 _ _).trans
      (congrArg (w (i 0)) (Fin.ext (by dsimp only; omega))))
  by_cases h5 : (i 1).val < 5120
  · rw [dif_pos (by omega)]
    exact (part 5 4608 512 p5 (by omega) rfl rfl (by omega) (by omega)).trans ((e5 _ _).trans
      (congrArg (w (i 0)) (Fin.ext (by dsimp only; omega))))
  by_cases h6 : (i 1).val < 5632
  · rw [dif_pos (by omega)]
    exact (part 6 5120 512 p6 (by omega) rfl rfl (by omega) (by omega)).trans ((e6 _ _).trans
      (congrArg (w (i 0)) (Fin.ext (by dsimp only; omega))))
  by_cases h7 : (i 1).val < 5656
  · rw [dif_pos h7]
    exact (part 7 5632 24 p7 (by omega) rfl rfl (by omega) (by omega)).trans ((e7 _ _).trans
      (congrArg (w (i 0)) (Fin.ext (by dsimp only; omega))))
  rw [dif_neg h7]
  exact (part 8 5656 104 p8 (by omega) rfl rfl (by omega) (by omega)).trans (e8 _ _)

end Cert.Columns

end
-- ==== Proof.In8.lean ====
/- The prompt's projection into the second layer's mixers: what its result array holds, from the arguments. -/
module

public import proofs.«01_k».proof.Proof.Gen.Kernel8Ideal.Frame
public import proofs.«01_k».proof.Proof.Columns
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.SL.Sem
open Cert.Kernel8Ideal Cert.Kernel8Ideal.Gen Cert.Kernel8Ideal.Facts₀
namespace Cert.In8

attribute [local instance] Cert.Kernel8Ideal.Gen.facts

/-- each window's block at a grid point: 5 steps to a block of rows -/
theorem idx_val : ∀ t : Fin cfg0.N, win0_0.index t = ![t.val / 5, 0]
    ∧ win0_1.index t = ![0, 0]
    ∧ win0_2.index t = ![0, t.val % 5]
    ∧ win0_3.index t = ![t.val / 5, t.val % 5] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the mixers -/
def G (c : Dev nD) (k : Fin 2048) : EReal := m ((c.tc : Thread nD τ).loc main_arg1) (ix2 1 k)
/-- the weights of the projection -/
def W (c : Dev nD) (k : Fin 2048) (j : Fin 5656) : EReal := m ((c.tc : Thread nD τ).loc main_arg2) (ix3 0 k j)
/-- the weights in the columns' order: queries, convolution, keys and values, gates, nothing -/
def WO (c : Dev nD) (k : Fin 2048) (j : Fin 5760) : EReal := Mlp.columns (W m c k) j

/-- the prepared gains and weights -/
theorem V1 (c : Dev nD) (i : S1x2048.Idx) : V m c main_v15 i = G m c (i 1) := by
  entry_read
  pointwise
  rfl
theorem V2 (c : Dev nD) (i : S2048x5760.Idx) : V m c main_v14 i = WO m c (i 0) (i 1) := by
  after_reads_simp
  refine Columns.laid (W m c) _ _ _ _ _ _ _ _ _ _ ?_ ?_ ?_ ?_ ?_ ?_ ?_ ?_ ?_ i
  all_goals
    intro r j
    pointwise
    after_reads_simp
    pointwise
    first | done | rfl | exact congrArg (W m c r) (Fin.ext (Nat.add_comm _ _))

/-- the row of the array a block's row is -/
def row (n : ℕ) (hn : n < cfg0.N) (r : Fin 512) : Fin 8192 :=
  ⟨512 * (n / 5) + r.val, by have : n < 80 := lt_of_lt_of_eq hn N_0; omega⟩

/-- the blocks a grid point is given, at coordinates -/
theorem blk0 (c : Dev nD) (t : Fin cfg0.N) (r : Fin 512) (k : Fin 2048) (h : 512 * (t.val / 5) + r.val < 8192) :
    (iblk m c 0 t : Vec Ideal S512x2048 .f32) (ix2 r k) = X m c ⟨512 * (t.val / 5) + r.val, h⟩ k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v15 (ix2 0 k) := by
  obtain ⟨e0, e1, -⟩ := idx_val t
  blk_ext [iblk, e1]

theorem blk2 (c : Dev nD) (t : Fin cfg0.N) (k : Fin 2048) (j : Fin 1152) (h : 1152 * (t.val % 5) + j.val < 5760) :
    (iblk m c 2 t : Vec Ideal S2048x1152 .bf16) (ix2 k j) = V m c main_v14 (ix2 k ⟨1152 * (t.val % 5) + j.val, h⟩) := by
  obtain ⟨e0, e1, e2, -⟩ := idx_val t
  blk_ext [iblk, e2]

/-- the normalised rows -/
theorem pay1 (x : Vec Ideal S512x2048 .f32) (g : Vec Ideal S1x2048 .f32) (j : S512x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step's columns -/
theorem pay2 (w : Vec Ideal S2048x1152 .bf16) (h : Vec Ideal S512x2048 .bf16) (j : S512x1152.Idx) :
    k0_pay2 (F := Ideal) w h j = ∑ k, h (ix2 (j 0) k) * w (ix2 k (j 1)) := by
  pointwise [k0_pay2]

/-- the normalised row -/
def H (c : Dev nD) (R : Fin 8192) : Fin 2048 → EReal := Mlp.norm (X m c R) (G m c)

theorem held (c : Dev nD) (t : Fin cfg0.N) (r : Fin 512) (d : Fin 2048) :
    k0_pay1 (F := Ideal) (iblk m c 0 t) (iblk m c 1 t) (ix2 r d) = H m c (row t.val t.isLt r) d := by
  refine (pay1 _ _ _).trans ?_
  unfold H
  refine congrArg₂ (fun f g => Mlp.norm f g d) (funext fun k => blk0 m c t r k (row t.val t.isLt r).isLt) (funext fun k => ?_)
  exact (blk1 m c t k).trans (V1 m c _)

/-- What the scratch and the staging buffer hold after each step. -/
theorem after (c : Dev nD) : ∀ (n : ℕ) (hn : n < cfg0.N),
    (∀ (r : Fin 512) (d : Fin 2048), (outsAt0 m c n hn).2 (ix2 r d) = H m c (row n hn r) d)
    ∧ (outsAt0 m c n hn).1 = k0_pay2 (F := Ideal) (iblk m c 2 ⟨n, hn⟩) (outsAt0 m c n hn).2 := by
  intro n
  induction n using Nat.strong_induction_on with
  | _ n ih =>
  intro hn
  by_cases h0 : n % 5 = 0
  · have e := outsAt0_A m c ⟨n, hn⟩ h0
    revert e; frame_out; intro e
    have e' : outsAt0 m c n hn = _ := e
    rw [e']
    exact ⟨fun r d => held m c ⟨n, hn⟩ r d, rfl⟩
  · have hp : n - 1 < cfg0.N := by omega
    have hrow : ∀ r, row (n - 1) hp r = row n hn r := fun r => Fin.ext (by
      show 512 * ((n - 1) / 5) + r.val = 512 * (n / 5) + r.val; omega)
    have e := outsAt0_B m c ⟨n, hn⟩ h0
    revert e; frame_out; intro e
    rw [read_unread_whole] at e
    have e' : outsAt0 m c n hn = _ := e
    rw [e']
    exact ⟨fun r d => ((ih (n - 1) (by omega) hp).1 r d).trans (by rw [hrow]), rfl⟩

/-- The projected rows. -/
def target (c : Dev nD) (i : S8192x5760.Idx) : EReal := ∑ k, H m c (i 0) k * WO m c k (i 1)

theorem final (c : Dev nD) : (dats m 0 c).arrAt 3 (cfgs 0).N = target m c := by
  refine (dats m 0 c).arrAt_eq_of_covers 3 (target m c) (by decide +kernel) fun t hf y => ?_
  obtain ⟨e0, e1, e2, e3⟩ := idx_val t
  blk_simp [e3]
  rw [after0_3, (after m c t.val t.isLt).2]
  have hu : 1152 * (t.val % 5) + (y 1).val < 5760 := by
    have : (y 1).val < 1152 := (y 1).isLt
    omega
  have E0 : (win0_3.blk t).view.emb y 0 = row t.val t.isLt (y 0) := Fin.ext (by
    blk_simp [e3]
    show _ = 512 * (t.val / 5) + (y 0).val
    omega)
  have E1 : (win0_3.blk t).view.emb y 1 = ⟨1152 * (t.val % 5) + (y 1).val, hu⟩ := Fin.ext (by
    blk_simp [e3]
    show _ = 1152 * (t.val % 5) + (y 1).val
    omega)
  unfold target
  rw [E0, E1]
  refine (pay2 _ _ _).trans (Finset.sum_congr rfl fun k _ => ?_)
  exact congrArg₂ (· * ·) ((after m c t.val t.isLt).1 (y 0) k) ((blk2 m c t k (y 1) hu).trans (V2 m c _))

end Cert.In8

end
-- ==== Proof.Equal8.lean ====
/- The prompt's projection into the second layer's mixers and its reference end with the same array. -/
module

public import proofs.«01_k».proof.Defs
public import proofs.«01_k».proof.Proof.Ref8
public import proofs.«01_k».proof.Proof.In8

@[expose] public section

set_option maxRecDepth 16384

noncomputable section

open Idealize.ShloMosaic Idealize.SL.Sem
open Cert.Reference8Ideal Cert.Reference8Ideal.Facts₀ Cert.Reference8Ideal.Read

namespace Cert.Equal8

attribute [local instance] Cert.Kernel8Ideal.Gen.facts Cert.Reference8Ideal.Gen.facts

variable (x : FVec Ideal ⟨2, ![8192, 2048]⟩ .f32) (g : FVec Ideal ⟨2, ![4, 2048]⟩ .f32)
  (w : FVec Ideal ⟨3, ![2, 2048, 5656]⟩ .f32)

/-- the normalised rows -/
theorem normed (i : S8192x2048.Idx) : val_main_v14 (F := Ideal) x g i =
    Mlp.norm (fun k => x (ix2 (i 0) k)) (fun k => g (ix2 1 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the projected rows -/
theorem rows (i : S8192x5656.Idx) : val_main_v17 (F := Ideal) x g w i =
    ∑ k, Mlp.norm (fun k => x (ix2 (i 0) k)) (fun k => g (ix2 1 k)) k * w (ix3 0 k (i 1)) := by
  pointwise [val_main_v17, val_main_v16, val_main_v15]
  simp only [normed]
  rfl

/-- the projected rows in the columns' order -/
theorem reference (i : S8192x5760.Idx) : val_main_v27 (F := Ideal) x g w i =
    ∑ k, Mlp.norm (fun k => x (ix2 (i 0) k)) (fun k => g (ix2 1 k)) k * Mlp.columns (fun j => w (ix3 0 k j)) (i 1) := by
  refine Eq.trans ?_ (Mlp.columns_sum (Mlp.norm (fun k => x (ix2 (i 0) k)) (fun k => g (ix2 1 k)))
    (fun k j => w (ix3 0 k j)) (i 1))
  unfold val_main_v27
  refine Columns.laid (fun r j => ∑ k, Mlp.norm (fun k => x (ix2 r k)) (fun k => g (ix2 1 k)) k * w (ix3 0 k j))
    _ _ _ _ _ _ _ _ _ _ ?_ ?_ ?_ ?_ ?_ ?_ ?_ ?_ ?_ i
  all_goals
    intro r j
    pointwise [val_main_v26, val_main_v25, val_main_v24, val_main_v23, val_main_v22, val_main_v21, val_main_v20,
      val_main_v19, val_main_v18, val_main_cst_2]
    try simp only [rows]
    first
    | done
    | rfl
    | exact congrArg (fun q => ∑ k, Mlp.norm (fun k => x (ix2 r k)) (fun k => g (ix2 1 k)) k * w (ix3 0 k q)) (Fin.ext (Nat.add_comm _ _))

theorem value : Cert.algebraic_Kernel8Ideal_Reference8Ideal := by
  intro m g m' g' hpre hag
  refine ⟨fun c => Cert.In8.target m c, ?_, ?_⟩
  · run_from Cert.Kernel8Ideal.Gen.run_main m g
    exact Cert.In8.final m c
  · refine (θ_run _ _ _).mono (fun r h c => ⟨(h c).1.trans ?_, (h c).2⟩) (Cert.Reference8Ideal.Value.run m' g')
    obtain ⟨e0, e1, e2⟩ := hag c
    refine (Cert.Reference8Ideal.Read.val_main_v27_eq m' c).trans ?_
    rw [e0, e1, e2]
    exact funext (reference _ _ _)

end Cert.Equal8

end
-- ==== Proof.In9.lean ====
/- The sample's projection into the second layer's mixers: what its result array holds, from the arguments. -/
module

public import proofs.«01_k».proof.Proof.Gen.Kernel9Ideal.Frame
public import proofs.«01_k».proof.Proof.Columns
public import Idealize.ShloMosaic.Lib.Pipeline.ValueKit
public import Idealize.ShloMosaic.Lib.Pipeline.ReadBack
public import Idealize.ShloMosaic.Lib.StableHlo.RunRead

@[expose] public section

set_option maxRecDepth 16384

noncomputable section

open Idealize.ShloMosaic Idealize.SL.Sem
open Cert.Kernel9Ideal Cert.Kernel9Ideal.Gen Cert.Kernel9Ideal.Facts₀
namespace Cert.In9

attribute [local instance] Cert.Kernel9Ideal.Gen.facts

/-- each window's block at a grid point: five steps over one block of rows -/
theorem idx_val : ∀ t : Fin cfg0.N, win0_0.index t = ![0, 0]
    ∧ win0_1.index t = ![0, 0]
    ∧ win0_2.index t = ![0, t.val]
    ∧ win0_3.index t = ![0, t.val] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the mixers -/
def G (c : Dev nD) (k : Fin 2048) : EReal := m ((c.tc : Thread nD τ).loc main_arg1) (ix2 1 k)
/-- the weights of the projection -/
def W (c : Dev nD) (k : Fin 2048) (j : Fin 5656) : EReal := m ((c.tc : Thread nD τ).loc main_arg2) (ix3 0 k j)
/-- the weights in the columns' order: queries, convolution, keys and values, gates, nothing -/
def WO (c : Dev nD) (k : Fin 2048) (j : Fin 5760) : EReal := Mlp.columns (W m c k) j

/-- the prepared gains and weights -/
theorem V1 (c : Dev nD) (i : S1x2048.Idx) : V m c main_v15 i = G m c (i 1) := by
  entry_read
  pointwise
  rfl
theorem V2 (c : Dev nD) (i : S2048x5760.Idx) : V m c main_v14 i = WO m c (i 0) (i 1) := by
  after_reads_simp
  refine Columns.laid (W m c) _ _ _ _ _ _ _ _ _ _ ?_ ?_ ?_ ?_ ?_ ?_ ?_ ?_ ?_ i
  all_goals
    intro r j
    pointwise
    after_reads_simp
    pointwise
    first | done | rfl | exact congrArg (W m c r) (Fin.ext (Nat.add_comm _ _))

/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v15 (ix2 0 k) := by
  obtain ⟨e0, e1, -⟩ := idx_val t
  blk_ext [iblk, e1]

theorem blk2 (c : Dev nD) (t : Fin cfg0.N) (k : Fin 2048) (j : Fin 1152) (h : 1152 * t.val + j.val < 5760) :
    (iblk m c 2 t : Vec Ideal S2048x1152 .bf16) (ix2 k j) = V m c main_v14 (ix2 k ⟨1152 * t.val + j.val, h⟩) := by
  obtain ⟨e0, e1, e2, -⟩ := idx_val t
  blk_ext [iblk, e2]

/-- the normalised rows -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step's columns -/
theorem pay2 (w : Vec Ideal S2048x1152 .bf16) (h : Vec Ideal S64x2048 .bf16) (j : S64x1152.Idx) :
    k0_pay2 (F := Ideal) w h j = ∑ k, h (ix2 (j 0) k) * w (ix2 k (j 1)) := by
  pointwise [k0_pay2]

/-- the normalised row -/
def H (c : Dev nD) (R : Fin 64) : Fin 2048 → EReal := Mlp.norm (X m c R) (G m c)

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- What the scratch and the staging buffer hold after each step. -/
theorem after (c : Dev nD) : ∀ (n : ℕ) (hn : n < cfg0.N),
    (∀ (r : Fin 64) (d : Fin 2048), (outsAt0 m c n hn).2 (ix2 r d) = H m c r d)
    ∧ (outsAt0 m c n hn).1 = k0_pay2 (F := Ideal) (iblk m c 2 ⟨n, hn⟩) (outsAt0 m c n hn).2 := by
  intro n
  induction n using Nat.strong_induction_on with
  | _ n ih =>
  intro hn
  by_cases h0 : n % 5 = 0
  · have e := outsAt0_A m c ⟨n, hn⟩ h0
    revert e; frame_out; intro e
    have e' : outsAt0 m c n hn = _ := e
    rw [e']
    exact ⟨fun r d => held m c ⟨n, hn⟩ r d, rfl⟩
  · have hp : n - 1 < cfg0.N := by omega
    have e := outsAt0_B m c ⟨n, hn⟩ h0
    revert e; frame_out; intro e
    rw [read_unread_whole] at e
    have e' : outsAt0 m c n hn = _ := e
    rw [e']
    exact ⟨(ih (n - 1) (by omega) hp).1, rfl⟩

/-- The projected rows. -/
def target (c : Dev nD) (i : S64x5760.Idx) : EReal := ∑ k, H m c (i 0) k * WO m c k (i 1)

theorem final (c : Dev nD) : (dats m 0 c).arrAt 3 (cfgs 0).N = target m c := by
  refine (dats m 0 c).arrAt_eq_of_covers 3 (target m c) (by decide +kernel) fun t hf y => ?_
  obtain ⟨e0, e1, e2, e3⟩ := idx_val t
  blk_simp [e3]
  rw [after0_3, (after m c t.val t.isLt).2]
  have hu : 1152 * t.val + (y 1).val < 5760 := by
    have : (y 1).val < 1152 := (y 1).isLt
    have : t.val < 5 := lt_of_lt_of_eq t.isLt N_0
    omega
  have E0 : (win0_3.blk t).view.emb y 0 = y 0 := Fin.ext (by blk_simp [e3])
  have E1 : (win0_3.blk t).view.emb y 1 = ⟨1152 * t.val + (y 1).val, hu⟩ := Fin.ext (by
    blk_simp [e3]
    show _ = 1152 * t.val + (y 1).val
    omega)
  unfold target
  rw [E0, E1]
  refine (pay2 _ _ _).trans (Finset.sum_congr rfl fun k _ => ?_)
  exact congrArg₂ (· * ·) ((after m c t.val t.isLt).1 (y 0) k) ((blk2 m c t k (y 1) hu).trans (V2 m c _))

end Cert.In9

end
-- ==== Proof.Equal9.lean ====
/- The sample's projection into the second layer's mixers and its reference end with the same array. -/
module

public import proofs.«01_k».proof.Defs
public import proofs.«01_k».proof.Proof.Ref9
public import proofs.«01_k».proof.Proof.In9

@[expose] public section

set_option maxRecDepth 16384

noncomputable section

open Idealize.ShloMosaic Idealize.SL.Sem
open Cert.Reference9Ideal Cert.Reference9Ideal.Facts₀ Cert.Reference9Ideal.Read

namespace Cert.Equal9

attribute [local instance] Cert.Kernel9Ideal.Gen.facts Cert.Reference9Ideal.Gen.facts

variable (x : FVec Ideal ⟨2, ![64, 2048]⟩ .f32) (g : FVec Ideal ⟨2, ![4, 2048]⟩ .f32)
  (w : FVec Ideal ⟨3, ![2, 2048, 5656]⟩ .f32)

/-- the normalised rows -/
theorem normed (i : S64x2048.Idx) : val_main_v14 (F := Ideal) x g i =
    Mlp.norm (fun k => x (ix2 (i 0) k)) (fun k => g (ix2 1 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the projected rows -/
theorem rows (i : S64x5656.Idx) : val_main_v17 (F := Ideal) x g w i =
    ∑ k, Mlp.norm (fun k => x (ix2 (i 0) k)) (fun k => g (ix2 1 k)) k * w (ix3 0 k (i 1)) := by
  pointwise [val_main_v17, val_main_v16, val_main_v15]
  simp only [normed]
  rfl

/-- the projected rows in the columns' order -/
theorem reference (i : S64x5760.Idx) : val_main_v27 (F := Ideal) x g w i =
    ∑ k, Mlp.norm (fun k => x (ix2 (i 0) k)) (fun k => g (ix2 1 k)) k * Mlp.columns (fun j => w (ix3 0 k j)) (i 1) := by
  refine Eq.trans ?_ (Mlp.columns_sum (Mlp.norm (fun k => x (ix2 (i 0) k)) (fun k => g (ix2 1 k)))
    (fun k j => w (ix3 0 k j)) (i 1))
  unfold val_main_v27
  refine Columns.laid (fun r j => ∑ k, Mlp.norm (fun k => x (ix2 r k)) (fun k => g (ix2 1 k)) k * w (ix3 0 k j))
    _ _ _ _ _ _ _ _ _ _ ?_ ?_ ?_ ?_ ?_ ?_ ?_ ?_ ?_ i
  all_goals
    intro r j
    pointwise [val_main_v26, val_main_v25, val_main_v24, val_main_v23, val_main_v22, val_main_v21, val_main_v20,
      val_main_v19, val_main_v18, val_main_cst_2]
    try simp only [rows]
    first
    | done
    | rfl
    | exact congrArg (fun q => ∑ k, Mlp.norm (fun k => x (ix2 r k)) (fun k => g (ix2 1 k)) k * w (ix3 0 k q)) (Fin.ext (Nat.add_comm _ _))

theorem value : Cert.algebraic_Kernel9Ideal_Reference9Ideal := by
  intro m g m' g' hpre hag
  refine ⟨fun c => Cert.In9.target m c, ?_, ?_⟩
  · run_from Cert.Kernel9Ideal.Gen.run_main m g
    exact Cert.In9.final m c
  · refine (θ_run _ _ _).mono (fun r h c => ⟨(h c).1.trans ?_, (h c).2⟩) (Cert.Reference9Ideal.Value.run m' g')
    obtain ⟨e0, e1, e2⟩ := hag c
    refine (Cert.Reference9Ideal.Read.val_main_v27_eq m' c).trans ?_
    rw [e0, e1, e2]
    exact funext (reference _ _ _)

end Cert.Equal9

end
-- ==== Proof.Out10.lean ====
/- The prompt's output projection: what its result array holds, from the arguments. -/
module

public import proofs.«01_k».proof.Proof.Gen.Kernel10Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel10Ideal Cert.Kernel10Ideal.Gen Cert.Kernel10Ideal.Facts₀
namespace Cert.Out10

attribute [local instance] Cert.Kernel10Ideal.Gen.facts

/-- each window's block at a grid point: two steps to a block of rows -/
theorem idx_val : ∀ t : Fin cfg0.N, win0_0.index t = ![t.val / 2, t.val % 2]
    ∧ win0_1.index t = ![t.val / 2, 0]
    ∧ win0_2.index t = ![t.val / 2, 0]
    ∧ win0_3.index t = ![0, t.val % 2]
    ∧ win0_4.index t = ![1, t.val % 2]
    ∧ win0_5.index t = ![t.val / 2, t.val % 2] :=
  (by decide +kernel : ∀ t : Fin grid0.N, _)

variable (m : (ℓ : Loc nD τ sig) → Buf (Elt Ideal) ℓ)

/-- the residual rows -/
def X (c : Dev nD) (R : Fin 8192) (d : Fin 2048) : EReal := m ((c.tc : Thread nD τ).loc main_arg0) (ix2 R d)
/-- the attention's rows -/
def A (c : Dev nD) (R : Fin 8192) (k : Fin 1024) : EReal := m ((c.tc : Thread nD τ).loc main_arg1) (ix2 R k)
/-- the pooling's rows -/
def B (c : Dev nD) (R : Fin 8192) (k : Fin 1024) : EReal := m ((c.tc : Thread nD τ).loc main_arg2) (ix2 R k)
/-- the weights of the projection -/
def W (c : Dev nD) (k : Fin 2048) (d : Fin 2048) : EReal := m ((c.tc : Thread nD τ).loc main_arg3) (ix3 0 k d)

/-- the prepared weights -/
theorem V3 (c : Dev nD) (i : S2048x2048.Idx) : V m c main_v2 i = W m c (i 0) (i 1) := by
  entry_read
  pointwise
  rfl

/-- the blocks a grid point is given, at coordinates -/
theorem blk0 (c : Dev nD) (t : Fin cfg0.N) (r : Fin 1024) (d : Fin 1024) (h : 1024 * (t.val / 2) + r.val < 8192)
    (h' : 1024 * (t.val % 2) + d.val < 2048) :
    (iblk m c 0 t : Vec Ideal S1024x1024 .f32) (ix2 r d) =
      X m c ⟨1024 * (t.val / 2) + r.val, h⟩ ⟨1024 * (t.val % 2) + d.val, h'⟩ := by
  obtain ⟨e0, -⟩ := idx_val t
  unfold X
  blk_ext [iblk, V, e0]

theorem blk1 (c : Dev nD) (t : Fin cfg0.N) (r : Fin 1024) (k : Fin 1024) (h : 1024 * (t.val / 2) + r.val < 8192) :
    (iblk m c 1 t : Vec Ideal S1024x1024 .bf16) (ix2 r k) = A m c ⟨1024 * (t.val / 2) + r.val, h⟩ k := by
  obtain ⟨e0, e1, -⟩ := idx_val t
  unfold A
  blk_ext [iblk, V, e1]

theorem blk2 (c : Dev nD) (t : Fin cfg0.N) (r : Fin 1024) (k : Fin 1024) (h : 1024 * (t.val / 2) + r.val < 8192) :
    (iblk m c 2 t : Vec Ideal S1024x1024 .bf16) (ix2 r k) = B m c ⟨1024 * (t.val / 2) + r.val, h⟩ k := by
  obtain ⟨e0, e1, e2, -⟩ := idx_val t
  unfold B
  blk_ext [iblk, V, e2]

theorem blk3 (c : Dev nD) (t : Fin cfg0.N) (k d : Fin 1024) (h' : 1024 * (t.val % 2) + d.val < 2048) :
    (iblk m c 3 t : Vec Ideal S1024x1024 .bf16) (ix2 k d) =
      V m c main_v2 (ix2 ⟨k.val, by omega⟩ ⟨1024 * (t.val % 2) + d.val, h'⟩) := by
  obtain ⟨e0, e1, e2, e3, -⟩ := idx_val t
  blk_ext [iblk, e3]

theorem blk4 (c : Dev nD) (t : Fin cfg0.N) (k d : Fin 1024) (h' : 1024 * (t.val % 2) + d.val < 2048) :
    (iblk m c 4 t : Vec Ideal S1024x1024 .bf16) (ix2 k d) =
      V m c main_v2 (ix2 ⟨1024 + k.val, by omega⟩ ⟨1024 * (t.val % 2) + d.val, h'⟩) := by
  obtain ⟨e0, e1, e2, e3, e4, -⟩ := idx_val t
  blk_ext [iblk, e4]

/-- one step's block -/
theorem pay1 (wa wb a b : Vec Ideal S1024x1024 .bf16) (x : Vec Ideal S1024x1024 .f32) (j : S1024x1024.Idx) :
    k0_pay1 (F := Ideal) wa wb a b x j =
      x j + (∑ k, a (ix2 (j 0) k) * wa (ix2 k (j 1)) + ∑ k, b (ix2 (j 0) k) * wb (ix2 k (j 1))) := by
  pointwise [k0_pay1]

/-- The whole result. -/
def target (c : Dev nD) (i : S8192x2048.Idx) : EReal :=
  X m c (i 0) (i 1) + (∑ k : Fin 1024, A m c (i 0) k * W m c ⟨k.val, by omega⟩ (i 1) +
    ∑ k : Fin 1024, B m c (i 0) k * W m c ⟨1024 + k.val, by omega⟩ (i 1))

theorem final (c : Dev nD) : (dats m 0 c).arrAt 5 (cfgs 0).N = target m c := by
  refine (dats m 0 c).arrAt_eq_of_covers 5 (target m c) (by decide +kernel) fun t hf y => ?_
  obtain ⟨e0, e1, e2, e3, e4, e5⟩ := idx_val t
  blk_simp [e5]
  rw [after0_5]
  frame_out
  have ht : t.val < 16 := lt_of_lt_of_eq t.isLt N_0
  have h : 1024 * (t.val / 2) + (y 0).val < 8192 := by
    have : (y 0).val < 1024 := (y 0).isLt
    omega
  have h' : 1024 * (t.val % 2) + (y 1).val < 2048 := by
    have : (y 1).val < 1024 := (y 1).isLt
    omega
  have E0 : (win0_5.blk t).view.emb y 0 = ⟨1024 * (t.val / 2) + (y 0).val, h⟩ := Fin.ext (by
    blk_simp [e5]
    show _ = 1024 * (t.val / 2) + (y 0).val
    omega)
  have E1 : (win0_5.blk t).view.emb y 1 = ⟨1024 * (t.val % 2) + (y 1).val, h'⟩ := Fin.ext (by
    blk_simp [e5]
    show _ = 1024 * (t.val % 2) + (y 1).val
    omega)
  have hy : y = ix2 (y 0) (y 1) := by idx_ext
  unfold target
  rw [E0, E1]
  refine (pay1 _ _ _ _ _ _).trans (congrArg₂ (· + ·) ((congrArg _ hy).trans (blk0 m c t (y 0) (y 1) h h'))
    (congrArg₂ (· + ·) (Finset.sum_congr rfl fun k _ => ?_) (Finset.sum_congr rfl fun k _ => ?_)))
  · exact congrArg₂ (· * ·) (blk1 m c t (y 0) k h) ((blk3 m c t k (y 1) h').trans (V3 m c _))
  · exact congrArg₂ (· * ·) (blk2 m c t (y 0) k h) ((blk4 m c t k (y 1) h').trans (V3 m c _))

end Cert.Out10

end
-- ==== Proof.Equal10.lean ====
/- The prompt's output projection and its reference end with the same array. -/
module

public import proofs.«01_k».proof.Defs
public import proofs.«01_k».proof.Proof.Ref10
public import proofs.«01_k».proof.Proof.Out10

@[expose] public section

set_option maxRecDepth 16384

noncomputable section

open Idealize.ShloMosaic Idealize.SL.Sem
open Cert.Reference10Ideal Cert.Reference10Ideal.Facts₀ Cert.Reference10Ideal.Read

namespace Cert.Equal10

attribute [local instance] Cert.Kernel10Ideal.Gen.facts Cert.Reference10Ideal.Gen.facts

variable (x : FVec Ideal ⟨2, ![8192, 2048]⟩ .f32) (a b : FVec Ideal ⟨2, ![8192, 1024]⟩ .bf16)
  (w : FVec Ideal ⟨3, ![2, 2048, 2048]⟩ .f32)

/-- a contraction over both halves is the sum of the contractions over each -/
theorem halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- the rows of both mixers side by side -/
theorem sides (i : S8192x2048.Idx) : val_main_v2 (F := Ideal) a b i =
    if h : (i 1).val < 1024 then a (ix2 (i 0) ⟨(i 1).val, h⟩)
    else b (ix2 (i 0) ⟨(i 1).val - 1024, by have : (i 1).val < 2048 := (i 1).isLt; omega⟩) := by
  pointwise [val_main_v2, val_main_v1, val_main_v0]

/-- the reference's rows, the product in two halves -/
theorem reference (i : S8192x2048.Idx) : val_main_v6 (F := Ideal) x a b w i =
    x i + (∑ k : Fin 1024, a (ix2 (i 0) k) * w (ix3 0 ⟨k.val, by omega⟩ (i 1)) +
      ∑ k : Fin 1024, b (ix2 (i 0) k) * w (ix3 0 ⟨1024 + k.val, by omega⟩ (i 1))) := by
  pointwise [val_main_v6, val_main_v5, val_main_v4, val_main_v3]
  simp only [sides]
  rw [halves]
  refine congrArg _ (congrArg₂ (· + ·) (Finset.sum_congr rfl fun k _ => ?_) (Finset.sum_congr rfl fun k _ => ?_))
  · refine congrArg₂ (· * ·) ?_ rfl
    exact dif_pos (show k.val < 1024 from k.isLt)
  · refine congrArg₂ (· * ·) ?_ rfl
    refine (dif_neg (show ¬ 1024 + k.val < 1024 by omega)).trans (congrArg (fun j => b (ix2 (i 0) j)) (Fin.ext ?_))
    show 1024 + k.val - 1024 = k.val
    omega

theorem value : Cert.algebraic_Kernel10Ideal_Reference10Ideal := by
  intro m g m' g' hpre hag
  refine ⟨fun c => Cert.Out10.target m c, ?_, ?_⟩
  · run_from Cert.Kernel10Ideal.Gen.run_main m g
    exact Cert.Out10.final m c
  · refine (θ_run _ _ _).mono (fun r h c => ⟨(h c).1.trans ?_, (h c).2⟩) (Cert.Reference10Ideal.Value.run m' g')
    obtain ⟨e0, e1, e2, e3⟩ := hag c
    refine (Cert.Reference10Ideal.Read.val_main_v6_eq _ _ _ _).trans ?_
    rw [e0, e1, e2, e3]
    funext i
    have hi : i = ix2 (i 0) (i 1) := by idx_ext
    refine (reference _ _ _ _ i).trans (congrArg (· + _) (congrArg _ hi))

end Cert.Equal10

end
-- ==== Proof.Out11.lean ====
/- The sample's output projection: what its result arrays hold, from the arguments. -/
module

public import proofs.«01_k».proof.Proof.Gen.Kernel11Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel11Ideal Cert.Kernel11Ideal.Gen Cert.Kernel11Ideal.Facts₀
namespace Cert.Out11

attribute [local instance] Cert.Kernel11Ideal.Gen.facts

/-- each window's block at a grid point: two steps over one block of rows -/
theorem idx_val : ∀ t : Fin cfg0.N, win0_0.index t = ![0, t.val]
    ∧ win0_1.index t = ![0, 0]
    ∧ win0_2.index t = ![0, 0]
    ∧ win0_3.index t = ![0, 0, t.val]
    ∧ win0_4.index t = ![0, 1, t.val]
    ∧ win0_5.index t = ![0, t.val]
    ∧ win0_6.index t = ![0, t.val] :=
  (by decide +kernel : ∀ t : Fin grid0.N, _)

variable (m : (ℓ : Loc nD τ sig) → Buf (Elt Ideal) ℓ)

/-- the residual rows -/
def X (c : Dev nD) (R : Fin 64) (d : Fin 2048) : EReal := m ((c.tc : Thread nD τ).loc main_arg0) (ix2 R d)
/-- the attention's rows -/
def A (c : Dev nD) (R : Fin 64) (k : Fin 1024) : EReal := m ((c.tc : Thread nD τ).loc main_arg1) (ix2 R k)
/-- the pooling's rows -/
def B (c : Dev nD) (R : Fin 64) (k : Fin 1024) : EReal := m ((c.tc : Thread nD τ).loc main_arg2) (ix2 R k)
/-- the weights of the projection -/
def W (c : Dev nD) (k : Fin 2048) (d : Fin 2048) : EReal := m ((c.tc : Thread nD τ).loc main_arg3) (ix3 0 k d)

/-- the blocks a grid point is given, at coordinates -/
theorem blk0 (c : Dev nD) (t : Fin cfg0.N) (r : Fin 64) (d : Fin 1024) (h' : 1024 * t.val + d.val < 2048) :
    (iblk m c 0 t : Vec Ideal S64x1024 .f32) (ix2 r d) = X m c r ⟨1024 * t.val + d.val, h'⟩ := by
  obtain ⟨e0, -⟩ := idx_val t
  unfold X
  blk_ext [iblk, V, e0]

theorem blk1 (c : Dev nD) (t : Fin cfg0.N) (r : Fin 64) (k : Fin 1024) :
    (iblk m c 1 t : Vec Ideal S64x1024 .bf16) (ix2 r k) = A m c r k := by
  obtain ⟨e0, e1, -⟩ := idx_val t
  unfold A
  blk_ext [iblk, V, e1]

theorem blk2 (c : Dev nD) (t : Fin cfg0.N) (r : Fin 64) (k : Fin 1024) :
    (iblk m c 2 t : Vec Ideal S64x1024 .bf16) (ix2 r k) = B m c r k := by
  obtain ⟨e0, e1, e2, -⟩ := idx_val t
  unfold B
  blk_ext [iblk, V, e2]

theorem blk3 (c : Dev nD) (t : Fin cfg0.N) (k d : Fin 1024) (h' : 1024 * t.val + d.val < 2048) :
    (iblk m c 3 t : Vec Ideal S1x1024x1024 .f32) (ix3 0 k d) = W m c ⟨k.val, by omega⟩ ⟨1024 * t.val + d.val, h'⟩ := by
  obtain ⟨e0, e1, e2, e3, -⟩ := idx_val t
  unfold W
  blk_ext [iblk, V, e3]

theorem blk4 (c : Dev nD) (t : Fin cfg0.N) (k d : Fin 1024) (h' : 1024 * t.val + d.val < 2048) :
    (iblk m c 4 t : Vec Ideal S1x1024x1024 .f32) (ix3 0 k d) =
      W m c ⟨1024 + k.val, by omega⟩ ⟨1024 * t.val + d.val, h'⟩ := by
  obtain ⟨e0, e1, e2, e3, e4, -⟩ := idx_val t
  unfold W
  blk_ext [iblk, V, e4]

/-- one step's block -/
theorem pay3 (wa wb : Vec Ideal S1x1024x1024 .f32) (a b : Vec Ideal S64x1024 .bf16) (x : Vec Ideal S64x1024 .f32) (j : S64x1024.Idx) :
    k0_pay3 (F := Ideal) wa wb a b x j =
      x j + (∑ k, a (ix2 (j 0) k) * wa (ix3 0 k (j 1)) + ∑ k, b (ix2 (j 0) k) * wb (ix3 0 k (j 1))) := by
  pointwise [k0_pay3, k0_pay2, k0_pay1]

/-- The rows. -/
def target (c : Dev nD) (i : S64x2048.Idx) : EReal :=
  X m c (i 0) (i 1) + (∑ k : Fin 1024, A m c (i 0) k * W m c ⟨k.val, by omega⟩ (i 1) +
    ∑ k : Fin 1024, B m c (i 0) k * W m c ⟨1024 + k.val, by omega⟩ (i 1))

theorem final (c : Dev nD) : (dats m 0 c).arrAt 5 (cfgs 0).N = target m c := by
  refine (dats m 0 c).arrAt_eq_of_covers 5 (target m c) (by decide +kernel) fun t hf y => ?_
  obtain ⟨e0, e1, e2, e3, e4, e5, e6⟩ := idx_val t
  blk_simp [e5]
  rw [after0_5]
  frame_out
  have ht : t.val < 2 := lt_of_lt_of_eq t.isLt N_0
  have h' : 1024 * t.val + (y 1).val < 2048 := by
    have : (y 1).val < 1024 := (y 1).isLt
    omega
  have E0 : (win0_5.blk t).view.emb y 0 = y 0 := Fin.ext (by blk_simp [e5])
  have E1 : (win0_5.blk t).view.emb y 1 = ⟨1024 * t.val + (y 1).val, h'⟩ := Fin.ext (by
    blk_simp [e5]
    show _ = 1024 * t.val + (y 1).val
    omega)
  have hy : y = ix2 (y 0) (y 1) := by idx_ext
  unfold target
  rw [E0, E1]
  refine (pay3 _ _ _ _ _ _).trans (congrArg₂ (· + ·) ((congrArg _ hy).trans (blk0 m c t (y 0) (y 1) h'))
    (congrArg₂ (· + ·) (Finset.sum_congr rfl fun k _ => ?_) (Finset.sum_congr rfl fun k _ => ?_)))
  · exact congrArg₂ (· * ·) (blk1 m c t (y 0) k) (blk3 m c t k (y 1) h')
  · exact congrArg₂ (· * ·) (blk2 m c t (y 0) k) (blk4 m c t k (y 1) h')

/-- The copy of the weights: the two halves of its rows are stored one by one. -/
theorem copied (c : Dev nD) (t : Fin cfg0.N) (y) :
    out0_6 (iblk m c 0 t) (iblk m c 1 t) (iblk m c 2 t) (iblk m c 3 t) (iblk m c 4 t) y
      = (fun i : S2048x2048.Idx => W m c (i 0) (i 1)) (((cfg0.win 6).blk t).view.emb y) := by
  unfold W
  canon_tiles x h
  all_goals (open_payloads; pointwise; blk_point [iblk, V, idx_val t])

theorem final6 (c : Dev nD) : (dats m 0 c).arrAt 6 (cfgs 0).N = fun i : S2048x2048.Idx => W m c (i 0) (i 1) := by
  refine (dats m 0 c).arrAt_eq_of_covers 6 _ (by decide +kernel) fun t hf y => ?_
  blk_simp
  rw [after0_6]
  exact copied m c t y

end Cert.Out11

end
-- ==== Proof.Equal11.lean ====
/- The sample's output projection and its reference end with the same arrays. -/
module

public import proofs.«01_k».proof.Defs
public import proofs.«01_k».proof.Proof.Ref11
public import proofs.«01_k».proof.Proof.Out11

@[expose] public section

set_option maxRecDepth 16384

noncomputable section

open Idealize.ShloMosaic Idealize.SL.Sem
open Cert.Reference11Ideal Cert.Reference11Ideal.Facts₀ Cert.Reference11Ideal.Read

namespace Cert.Equal11

attribute [local instance] Cert.Kernel11Ideal.Gen.facts Cert.Reference11Ideal.Gen.facts

variable (x : FVec Ideal ⟨2, ![64, 2048]⟩ .f32) (a b : FVec Ideal ⟨2, ![64, 1024]⟩ .bf16)
  (w : FVec Ideal ⟨3, ![2, 2048, 2048]⟩ .f32)

/-- a contraction over both halves is the sum of the contractions over each -/
theorem halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-- the rows of both mixers side by side -/
theorem sides (i : S64x2048.Idx) : val_main_v2 (F := Ideal) a b i =
    if h : (i 1).val < 1024 then a (ix2 (i 0) ⟨(i 1).val, h⟩)
    else b (ix2 (i 0) ⟨(i 1).val - 1024, by have : (i 1).val < 2048 := (i 1).isLt; omega⟩) := by
  pointwise [val_main_v2, val_main_v1, val_main_v0]

/-- the reference's rows, the product in two halves -/
theorem reference (i : S64x2048.Idx) : val_main_v6 (F := Ideal) x a b w i =
    x i + (∑ k : Fin 1024, a (ix2 (i 0) k) * w (ix3 0 ⟨k.val, by omega⟩ (i 1)) +
      ∑ k : Fin 1024, b (ix2 (i 0) k) * w (ix3 0 ⟨1024 + k.val, by omega⟩ (i 1))) := by
  pointwise [val_main_v6, val_main_v5, val_main_v4, val_main_v3]
  simp only [sides]
  rw [halves]
  refine congrArg _ (congrArg₂ (· + ·) (Finset.sum_congr rfl fun k _ => ?_) (Finset.sum_congr rfl fun k _ => ?_))
  · refine congrArg₂ (· * ·) ?_ rfl
    exact dif_pos (show k.val < 1024 from k.isLt)
  · refine congrArg₂ (· * ·) ?_ rfl
    refine (dif_neg (show ¬ 1024 + k.val < 1024 by omega)).trans (congrArg (fun j => b (ix2 (i 0) j)) (Fin.ext ?_))
    show 1024 + k.val - 1024 = k.val
    omega

/-- the copy of the weights -/
theorem copy : val_main_v9 (F := Ideal) w = fun i => w (ix3 0 (i 0) (i 1)) := by
  funext i
  pointwise [val_main_v9, val_main_v8, val_main_v7]

theorem value : Cert.algebraic_Kernel11Ideal_Reference11Ideal := by
  intro m g m' g' hpre hag
  refine ⟨fun c => Cert.Out11.target m c, fun c => fun i : Cert.Kernel11Ideal.S2048x2048.Idx => Cert.Out11.W m c (i 0) (i 1), ?_, ?_⟩
  · run_from Cert.Kernel11Ideal.Gen.run_main m g
    · exact Cert.Out11.final m c
    · exact Cert.Out11.final6 m c
  · refine (θ_run _ _ _).mono (fun r h c => ⟨(h c).1.trans ?_, (h c).2.1.trans ?_, (h c).2.2⟩) (Cert.Reference11Ideal.Value.run m' g')
    · obtain ⟨e0, e1, e2, e3⟩ := hag c
      refine (Cert.Reference11Ideal.Read.val_main_v6_eq _ _ _ _).trans ?_
      rw [e0, e1, e2, e3]
      funext i
      have hi : i = ix2 (i 0) (i 1) := by idx_ext
      refine (reference _ _ _ _ i).trans (congrArg (· + _) (congrArg _ hi))
    · obtain ⟨e0, e1, e2, e3⟩ := hag c
      refine (Cert.Reference11Ideal.Read.val_main_v9_eq _).trans ?_
      rw [e3]
      exact copy _

end Cert.Equal11

end
-- ==== Proof.Mlp12.lean ====
/- The sample's feed-forward call of the second layer: what its result array holds, from the arguments. -/
module

public import proofs.«01_k».proof.Proof.Gen.Kernel12Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel12Ideal Cert.Kernel12Ideal.Gen Cert.Kernel12Ideal.Facts₀
namespace Cert.Mlp12

attribute [local instance] Cert.Kernel12Ideal.Gen.facts

/-- each window's block at a grid point: sixteen steps over one block of rows -/
theorem idx_val : ∀ t : Fin cfg0.N, win0_0.index t = ![0, 0]
    ∧ win0_1.index t = ![0, 0]
    ∧ win0_2.index t = ![1, 0, t.val % 16]
    ∧ win0_3.index t = ![1, t.val % 16, 0]
    ∧ win0_4.index t = ![0, 0]
    ∧ win0_5.index t = ![0, 0]
    ∧ win0_6.index t = ![0, t.val % 16]
    ∧ win0_7.index t = ![t.val % 16, 0] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 1 k)
/-- the second layer's first weights -/
def W1 (c : Dev nD) (k : Fin 2048) (j : Fin 8192) : EReal := m ((c.tc : Thread nD τ).loc main_arg2) (ix3 1 k j)
/-- the second layer's second weights -/
def W2 (c : Dev nD) (j : Fin 8192) (d : Fin 2048) : EReal := m ((c.tc : Thread nD τ).loc main_arg3) (ix3 1 j d)
/-- the prepared arrays of the call are the second layer's parts of the arguments -/
theorem V1 (c : Dev nD) (i : S1x2048.Idx) : V m c main_v2 i = G m c (i 1) := by
  entry_read
  pointwise
  rfl
/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v2 (ix2 0 k) := by
  obtain ⟨e0, e1, -⟩ := idx_val t
  blk_ext [iblk, e1]

theorem blk2 (c : Dev nD) (t : Fin cfg0.N) (k : Fin 2048) (j : Fin 512) (h : 512 * (t.val % 16) + j.val < 8192) :
    (iblk m c 2 t : Vec Ideal S1x2048x512 .f32) (ix3 0 k j) = W1 m c k ⟨512 * (t.val % 16) + j.val, h⟩ := by
  obtain ⟨e0, e1, e2, -⟩ := idx_val t
  unfold W1
  blk_ext [iblk, V, e2]

theorem blk3 (c : Dev nD) (t : Fin cfg0.N) (k : Fin 2048) (j : Fin 512) (h : 512 * (t.val % 16) + j.val < 8192) :
    (iblk m c 3 t : Vec Ideal S1x512x2048 .f32) (ix3 0 j k) = W2 m c ⟨512 * (t.val % 16) + j.val, h⟩ k := by
  obtain ⟨e0, e1, e2, e3, -⟩ := idx_val t
  unfold W2
  blk_ext [iblk, V, e3]

/-- the normalised row block -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- the rounded copies of the weights are the weights -/
theorem pay2 (w1 : Vec Ideal S1x2048x512 .f32) (j : S2048x512.Idx) :
    k0_pay2 (F := Ideal) w1 j = w1 (ix3 0 (j 0) (j 1)) := by
  pointwise [k0_pay2]

theorem pay3 (w2 : Vec Ideal S1x512x2048 .f32) (j : S512x2048.Idx) :
    k0_pay3 (F := Ideal) w2 j = w2 (ix3 0 (j 0) (j 1)) := by
  pointwise [k0_pay3]

/-- one step of hidden units -/
theorem pay4 (w1 : Vec Ideal S1x2048x512 .f32) (w2 : Vec Ideal S1x512x2048 .f32) (h : Vec Ideal S64x2048 .bf16)
    (o : Vec Ideal S64x2048 .f32) (j : S64x2048.Idx) :
    k0_pay4 (F := Ideal) w1 w2 h o j = o j + ∑ u,
        max (∑ k, h (ix2 (j 0) k) * w1 (ix3 0 k u)) 0 * max (∑ k, h (ix2 (j 0) k) * w1 (ix3 0 k u)) 0 * w2 (ix3 0 u (j 1)) := by
  pointwise [k0_pay4, k0_pay2, k0_pay3]

/-- the normalised row -/
def H (c : Dev nD) (R : Fin 64) : Fin 2048 → EReal := Mlp.norm (X m c R) (G m c)

/-- the row with the hidden units before `n` added -/
def upto (c : Dev nD) (R : Fin 64) (n : ℕ) (d : Fin 2048) : EReal :=
  X m c R d + Mlp.first (Mlp.term (H m c R) (W1 m c) (W2 m c) d) n

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- one step adds the next 512 hidden units -/
theorem step (c : Dev nD) (t : Fin cfg0.N) (h : Vec Ideal S64x2048 .bf16) (o : Vec Ideal S64x2048 .f32)
    (hh : ∀ r k, h (ix2 r k) = H m c r k)
    (ho : ∀ r k, o (ix2 r k) = upto m c r (512 * (t.val % 16)) k) (r : Fin 64) (d : Fin 2048) :
    k0_pay4 (F := Ideal) (iblk m c 2 t) (iblk m c 3 t) h o (ix2 r d) = upto m c r (512 * (t.val % 16) + 512) d := by
  refine (pay4 _ _ _ _ _).trans ?_
  unfold upto
  rw [Mlp.first_step _ _ 512 _ fun u => ⟨by have := u.isLt; omega, rfl⟩, ← add_assoc]
  refine congrArg₂ (· + ·) (ho r d) (Finset.sum_congr rfl fun u _ => ?_)
  have hu : 512 * (t.val % 16) + u.val < 8192 := by have := u.isLt; omega
  have hs : (∑ k, h (ix2 r k) * (iblk m c 2 t : Vec Ideal S1x2048x512 .f32) (ix3 0 k u)) =
      ∑ k, H m c r k * W1 m c k ⟨512 * (t.val % 16) + u.val, hu⟩ :=
    Finset.sum_congr rfl fun k _ => congrArg₂ (· * ·) (hh r k) (blk2 m c t k u hu)
  unfold Mlp.term Mlp.up
  exact congrArg₂ (fun a b => max a 0 * max a 0 * b) hs (blk3 m c t d u hu)

/-- What the staging buffer of the rows and the scratch hold after each step. -/
theorem after (c : Dev nD) : ∀ (n : ℕ) (hn : n < cfg0.N) (r : Fin 64) (d : Fin 2048),
    (outsAt0 m c n hn).2.2.2 (ix2 r d) = H m c r d
    ∧ (outsAt0 m c n hn).1 (ix2 r d) = upto m c r (512 * (n % 16) + 512) d := by
  intro n
  induction n using Nat.strong_induction_on with
  | _ n ih =>
  intro hn r d
  by_cases h0 : n % 16 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k).trans ?_
    show _ = upto m c r (512 * (n % 16)) k
    unfold upto
    rw [h0, Nat.mul_zero, Mlp.first_zero, add_zero]
  · have hp : n - 1 < cfg0.N := by omega
    have hm : 512 * ((n - 1) % 16) + 512 = 512 * (n % 16) := by omega
    have hh : ∀ r k, (outsAt0 m c (n - 1) hp).2.2.2 (ix2 r k) = H m c r k := fun r k =>
      (ih (n - 1) (by omega) hp r k).1
    have ho : ∀ r k, (outsAt0 m c (n - 1) hp).1 (ix2 r k) = upto m c r (512 * (n % 16)) k := fun r k =>
      ((ih (n - 1) (by omega) hp r k).2).trans (by rw [hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- What the staging buffers of the weights' copies hold after each step. -/
theorem copies (c : Dev nD) (t : Fin cfg0.N) :
    (outsAt0 m c t.val t.isLt).2.1 = k0_pay2 (F := Ideal) (iblk m c 2 t)
    ∧ (outsAt0 m c t.val t.isLt).2.2.1 = k0_pay3 (F := Ideal) (iblk m c 3 t) := by
  by_cases h0 : t.val % 16 = 0
  · have e := outsAt0_A m c t h0
    revert e; frame_out; intro e
    rw [e]; exact ⟨rfl, rfl⟩
  · have e := outsAt0_B m c t h0
    revert e; frame_out; intro e
    rw [e]; exact ⟨rfl, rfl⟩

/-- The rows. -/
def target (c : Dev nD) (i : S64x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5, -⟩ := idx_val t
  have h15 : t.val % 16 = 15 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = y 0 := Fin.ext (by blk_simp [e5])
  have E1 : (win0_5.blk t).view.emb y 1 = y 1 := Fin.ext (by blk_simp [e5])
  rw [E0, E1]
  unfold upto Mlp.mid H
  rw [h15, ← Mlp.first_all]

/-- The copies of the weights. -/
theorem final6 (c : Dev nD) : (dats m 0 c).arrAt 6 (cfgs 0).N = fun i : S2048x8192.Idx => W1 m c (i 0) (i 1) := by
  refine (dats m 0 c).arrAt_eq_of_covers 6 (fun i : S2048x8192.Idx => W1 m c (i 0) (i 1)) (by decide +kernel) fun t hf y => ?_
  obtain ⟨e0, e1, e2, e3, e4, e5, e6, e7⟩ := idx_val t
  blk_simp [e6]
  rw [after0_6, (copies m c t).1]
  have hu : 512 * (t.val % 16) + (y 1).val < 8192 := by
    have : (y 1).val < 512 := (y 1).isLt
    omega
  refine (pay2 _ _).trans ((blk2 m c t (y 0) (y 1) hu).trans ?_)
  have E0 : (win0_6.blk t).view.emb y 0 = y 0 := Fin.ext (by blk_simp [e6])
  have E1 : (win0_6.blk t).view.emb y 1 = ⟨512 * (t.val % 16) + (y 1).val, hu⟩ := Fin.ext (by
    blk_simp [e6]
    show _ = 512 * (t.val % 16) + (y 1).val
    omega)
  rw [E0, E1]
  rfl

theorem final7 (c : Dev nD) : (dats m 0 c).arrAt 7 (cfgs 0).N = fun i : S8192x2048.Idx => W2 m c (i 0) (i 1) := by
  refine (dats m 0 c).arrAt_eq_of_covers 7 (fun i : S8192x2048.Idx => W2 m c (i 0) (i 1)) (by decide +kernel) fun t hf y => ?_
  obtain ⟨e0, e1, e2, e3, e4, e5, e6, e7⟩ := idx_val t
  blk_simp [e7]
  rw [after0_7, (copies m c t).2]
  have hu : 512 * (t.val % 16) + (y 0).val < 8192 := by
    have : (y 0).val < 512 := (y 0).isLt
    omega
  refine (pay3 _ _).trans ((blk3 m c t (y 1) (y 0) hu).trans ?_)
  have E0 : (win0_7.blk t).view.emb y 0 = ⟨512 * (t.val % 16) + (y 0).val, hu⟩ := Fin.ext (by
    blk_simp [e7]
    show _ = 512 * (t.val % 16) + (y 0).val
    omega)
  have E1 : (win0_7.blk t).view.emb y 1 = y 1 := Fin.ext (by blk_simp [e7])
  rw [E0, E1]
  rfl

end Cert.Mlp12

end
-- ==== Proof.Equal12.lean ====
/- The sample's feed-forward call of the second layer and its reference end with the same arrays. -/
module

public import proofs.«01_k».proof.Defs
public import proofs.«01_k».proof.Proof.Ref12
public import proofs.«01_k».proof.Proof.Mlp12

@[expose] public section

set_option maxRecDepth 16384

noncomputable section

open Idealize.ShloMosaic Idealize.SL.Sem
open Cert.Reference12Ideal Cert.Reference12Ideal.Facts₀ Cert.Reference12Ideal.Read

namespace Cert.Equal12

attribute [local instance] Cert.Kernel12Ideal.Gen.facts Cert.Reference12Ideal.Gen.facts

variable (x : FVec Ideal ⟨2, ![64, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![64, 2048]⟩ .f32 := fun i =>
  Mlp.mid (fun k => x (ix2 (i 0) k)) (fun k => g (ix2 1 k)) (fun k j => w1 (ix3 1 k j)) (fun j d => w2 (ix3 1 j d)) (i 1)

/-- the normalised rows -/
theorem normed (i : S64x2048.Idx) : val_main_v14 (F := Ideal) x g i =
    Mlp.norm (fun k => x (ix2 (i 0) k)) (fun k => g (ix2 1 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S64x8192.Idx) : val_main_v22 (F := Ideal) x g w1 i =
    Mlp.up (Mlp.norm (fun k => x (ix2 (i 0) k)) (fun k => g (ix2 1 k))) (fun k j => w1 (ix3 1 k j)) (i 1) *
    Mlp.up (Mlp.norm (fun k => x (ix2 (i 0) k)) (fun k => g (ix2 1 k))) (fun k j => w1 (ix3 1 k j)) (i 1) := by
  unfold Mlp.up
  pointwise [val_main_v22, val_main_v21, val_main_v20, val_main_v19, val_main_v16, val_main_v15, val_main_cst_2]
  simp only [normed]
  rfl

/-- the rows with the feed-forward part added -/
theorem added (i : S64x2048.Idx) : val_main_v24 (F := Ideal) x g w1 w2 i =
    Mlp.mid (fun k => x (ix2 (i 0) k)) (fun k => g (ix2 1 k)) (fun k j => w1 (ix3 1 k j)) (fun j d => w2 (ix3 1 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

/-- the copies of the weights -/
theorem copy1 : val_main_v27 (F := Ideal) w1 = fun i => w1 (ix3 1 (i 0) (i 1)) := by
  funext i
  pointwise [val_main_v27, val_main_v26, val_main_v25]

theorem copy2 : val_main_v30 (F := Ideal) w2 = fun i => w2 (ix3 1 (i 0) (i 1)) := by
  funext i
  pointwise [val_main_v30, val_main_v29, val_main_v28]

theorem value : Cert.algebraic_Kernel12Ideal_Reference12Ideal := by
  intro m g m' g' hpre hag
  refine ⟨fun c => Cert.Mlp12.target m c, fun c => fun i : Cert.Kernel12Ideal.S2048x8192.Idx => Cert.Mlp12.W1 m c (i 0) (i 1),
    fun c => fun i : Cert.Kernel12Ideal.S8192x2048.Idx => Cert.Mlp12.W2 m c (i 0) (i 1), ?_, ?_⟩
  · run_from Cert.Kernel12Ideal.Gen.run_main m g
    · exact Cert.Mlp12.final m c
    · exact Cert.Mlp12.final6 m c
    · exact Cert.Mlp12.final7 m c
  · refine (θ_run _ _ _).mono (fun r h c => ⟨(h c).1.trans ?_, (h c).2.1.trans ?_, (h c).2.2.1.trans ?_, (h c).2.2.2⟩)
      (Cert.Reference12Ideal.Value.run m' g')
    · obtain ⟨e0, e1, e2, e3, e4⟩ := hag c
      refine (Cert.Reference12Ideal.Read.val_main_v24_eq _ _ _ _).trans ?_
      rw [e0, e1, e2, e3]
      exact reference _ _ _ _
    · obtain ⟨e0, e1, e2, e3, e4⟩ := hag c
      refine (Cert.Reference12Ideal.Read.val_main_v27_eq _).trans ?_
      rw [e2]
      exact copy1 _
    · obtain ⟨e0, e1, e2, e3, e4⟩ := hag c
      refine (Cert.Reference12Ideal.Read.val_main_v30_eq _).trans ?_
      rw [e3]
      exact copy2 _

end Cert.Equal12

end
-- ==== Proof.Mlp13.lean ====
/- The prompt's feed-forward call of the second layer: what its result array holds, from the arguments. -/
module

public import proofs.«01_k».proof.Proof.Gen.Kernel13Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel13Ideal Cert.Kernel13Ideal.Gen Cert.Kernel13Ideal.Facts₀
namespace Cert.Mlp13

attribute [local instance] Cert.Kernel13Ideal.Gen.facts

/-- each window's block at a grid point: eight steps to a block of rows -/
theorem idx_val : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 1 k)
/-- the second layer's first weights -/
def W1 (c : Dev nD) (k : Fin 2048) (j : Fin 8192) : EReal := m ((c.tc : Thread nD τ).loc main_arg2) (ix3 1 k j)
/-- the second layer's second weights -/
def W2 (c : Dev nD) (j : Fin 8192) (d : Fin 2048) : EReal := m ((c.tc : Thread nD τ).loc main_arg3) (ix3 1 j d)
/-- the prepared arrays of the call are the second layer's parts of the arguments -/
theorem V1 (c : Dev nD) (i : S1x2048.Idx) : V m c main_v8 i = G m c (i 1) := by
  entry_read
  pointwise
  rfl
theorem V2 (c : Dev nD) (i : S2048x8192.Idx) : V m c main_v2 i = W1 m c (i 0) (i 1) := by
  entry_read
  pointwise
  rfl
theorem V3 (c : Dev nD) (i : S8192x2048.Idx) : V m c main_v5 i = W2 m c (i 0) (i 1) := by
  entry_read
  pointwise
  rfl
/-- the blocks a grid point is given, at coordinates -/
theorem blk0 (c : Dev nD) (t : Fin cfg0.N) (r : Fin 512) (k : Fin 2048) (h : 512 * (t.val / 8) + r.val < 8192) :
    (iblk m c 0 t : Vec Ideal S512x2048 .f32) (ix2 r k) = X m c ⟨512 * (t.val / 8) + r.val, h⟩ k := by
  obtain ⟨e0, -⟩ := idx_val t
  unfold X
  blk_ext [iblk, V, e0]

theorem blk1 (c : Dev nD) (t : Fin cfg0.N) (k : Fin 2048)  :
    (iblk m c 1 t : Vec Ideal S1x2048 .f32) (ix2 0 k) = V m c main_v8 (ix2 0 k) := by
  obtain ⟨e0, e1, -⟩ := idx_val t
  blk_ext [iblk, e1]

theorem blk2 (c : Dev nD) (t : Fin cfg0.N) (k : Fin 2048) (j : Fin 1024) (h : 1024 * (t.val % 8) + j.val < 8192) :
    (iblk m c 2 t : Vec Ideal S2048x1024 .bf16) (ix2 k j) = V m c main_v2 (ix2 k ⟨1024 * (t.val % 8) + j.val, h⟩) := by
  obtain ⟨e0, e1, e2, -⟩ := idx_val t
  blk_ext [iblk, e2]

theorem blk3 (c : Dev nD) (t : Fin cfg0.N) (k : Fin 2048) (j : Fin 1024) (h : 1024 * (t.val % 8) + j.val < 8192) :
    (iblk m c 3 t : Vec Ideal S1024x2048 .bf16) (ix2 j k) = V m c main_v5 (ix2 ⟨1024 * (t.val % 8) + j.val, h⟩ k) := by
  obtain ⟨e0, e1, e2, e3, -⟩ := idx_val t
  blk_ext [iblk, e3]
/-- the normalised row block -/
theorem pay1 (x : Vec Ideal S512x2048 .f32) (g : Vec Ideal S1x2048 .f32) (j : S512x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step of hidden units -/
theorem pay2 (w1 : Vec Ideal S2048x1024 .bf16) (w2 : Vec Ideal S1024x2048 .bf16) (h : Vec Ideal S512x2048 .bf16)
    (o : Vec Ideal S512x2048 .f32) (j : S512x2048.Idx) :
    k0_pay2 (F := Ideal) w1 w2 h o j = o j + ∑ u,
        max (∑ k, h (ix2 (j 0) k) * w1 (ix2 k u)) 0 * max (∑ k, h (ix2 (j 0) k) * w1 (ix2 k u)) 0 * w2 (ix2 u (j 1)) := by
  pointwise [k0_pay2]

/-- the row of the array a block's row is -/
def row (n : ℕ) (hn : n < cfg0.N) (r : Fin 512) : Fin 8192 :=
  ⟨512 * (n / 8) + r.val, by have : n < 128 := lt_of_lt_of_eq hn N_0; omega⟩

/-- the normalised row -/
def H (c : Dev nD) (R : Fin 8192) : Fin 2048 → EReal := Mlp.norm (X m c R) (G m c)

/-- the row with the hidden units before `n` added -/
def upto (c : Dev nD) (R : Fin 8192) (n : ℕ) (d : Fin 2048) : EReal :=
  X m c R d + Mlp.first (Mlp.term (H m c R) (W1 m c) (W2 m c) d) n

theorem held (c : Dev nD) (t : Fin cfg0.N) (r : Fin 512) (d : Fin 2048) :
    k0_pay1 (F := Ideal) (iblk m c 0 t) (iblk m c 1 t) (ix2 r d) = H m c (row t.val t.isLt r) d := by
  have hR : 512 * (t.val / 8) + r.val < 8192 := (row t.val t.isLt r).isLt
  refine (pay1 _ _ _).trans ?_
  unfold H
  refine congrArg₂ (fun f g => Mlp.norm f g d) (funext fun k => blk0 m c t r k hR) (funext fun k => ?_)
  exact (blk1 m c t k).trans (V1 m c _)

/-- one step adds the next 1024 hidden units -/
theorem step (c : Dev nD) (t : Fin cfg0.N) (h : Vec Ideal S512x2048 .bf16) (o : Vec Ideal S512x2048 .f32)
    (hh : ∀ r k, h (ix2 r k) = H m c (row t.val t.isLt r) k)
    (ho : ∀ r k, o (ix2 r k) = upto m c (row t.val t.isLt r) (1024 * (t.val % 8)) k) (r : Fin 512) (d : Fin 2048) :
    k0_pay2 (F := Ideal) (iblk m c 2 t) (iblk m c 3 t) h o (ix2 r d) =
      upto m c (row t.val t.isLt r) (1024 * (t.val % 8) + 1024) d := by
  refine (pay2 _ _ _ _ _).trans ?_
  unfold upto
  rw [Mlp.first_step _ _ 1024 _ fun u => ⟨by have := u.isLt; omega, rfl⟩, ← add_assoc]
  refine congrArg₂ (· + ·) (ho r d) (Finset.sum_congr rfl fun u _ => ?_)
  have hu : 1024 * (t.val % 8) + u.val < 8192 := by have := u.isLt; omega
  have hs : (∑ k, h (ix2 r k) * (iblk m c 2 t : Vec Ideal S2048x1024 .bf16) (ix2 k u)) =
      ∑ k, H m c (row t.val t.isLt r) k * W1 m c k ⟨1024 * (t.val % 8) + u.val, hu⟩ :=
    Finset.sum_congr rfl fun k _ => congrArg₂ (· * ·) (hh r k) ((blk2 m c t k u hu).trans (V2 m c _))
  unfold Mlp.term Mlp.up
  exact congrArg₂ (fun a b => max a 0 * max a 0 * b) hs ((blk3 m c t d u hu).trans (V3 m c _))

/-- What the staging buffer of the result and the scratch hold after each step. -/
theorem after (c : Dev nD) : ∀ (n : ℕ) (hn : n < cfg0.N) (r : Fin 512) (d : Fin 2048),
    (outsAt0 m c n hn).2 (ix2 r d) = H m c (row n hn r) d
    ∧ (outsAt0 m c n hn).1 (ix2 r d) = upto m c (row n hn r) (1024 * (n % 8) + 1024) d := by
  intro n
  induction n using Nat.strong_induction_on with
  | _ n ih =>
  intro hn r d
  by_cases h0 : n % 8 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k (row n hn r).isLt).trans ?_
    show _ = upto m c (row n hn r) (1024 * (n % 8)) k
    unfold upto
    rw [h0, Nat.mul_zero, Mlp.first_zero, add_zero]
    rfl
  · have hp : n - 1 < cfg0.N := by omega
    have hrow : ∀ r, row (n - 1) hp r = row n hn r := fun r => Fin.ext (by
      show 512 * ((n - 1) / 8) + r.val = 512 * (n / 8) + r.val; omega)
    have hm : 1024 * ((n - 1) % 8) + 1024 = 1024 * (n % 8) := by omega
    have hh : ∀ r k, (outsAt0 m c (n - 1) hp).2 (ix2 r k) = H m c (row n hn r) k := fun r k =>
      ((ih (n - 1) (by omega) hp r k).1).trans (by rw [hrow])
    have ho : ∀ r k, (outsAt0 m c (n - 1) hp).1 (ix2 r k) = upto m c (row n hn r) (1024 * (n % 8)) k := fun r k =>
      ((ih (n - 1) (by omega) hp r k).2).trans (by rw [hrow, hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- The whole result. -/
def target (c : Dev nD) (i : S8192x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5⟩ := idx_val t
  have h7 : t.val % 8 = 7 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = row t.val t.isLt (y 0) := Fin.ext (by
    blk_simp [e5]
    show _ = 512 * (t.val / 8) + (y 0).val
    omega)
  have E1 : (win0_5.blk t).view.emb y 1 = y 1 := Fin.ext (by blk_simp [e5])
  rw [E0, E1]
  unfold upto Mlp.mid H
  rw [h7, ← Mlp.first_all]

end Cert.Mlp13

end
-- ==== Proof.Equal13.lean ====
/- The prompt's feed-forward call of the second layer and its reference end with the same array. -/
module

public import proofs.«01_k».proof.Defs
public import proofs.«01_k».proof.Proof.Ref13
public import proofs.«01_k».proof.Proof.Mlp13

@[expose] public section

set_option maxRecDepth 16384

noncomputable section

open Idealize.ShloMosaic Idealize.SL.Sem
open Cert.Reference13Ideal Cert.Reference13Ideal.Facts₀ Cert.Reference13Ideal.Read

namespace Cert.Equal13

attribute [local instance] Cert.Kernel13Ideal.Gen.facts Cert.Reference13Ideal.Gen.facts

variable (x : FVec Ideal ⟨2, ![8192, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![8192, 2048]⟩ .f32 := fun i =>
  Mlp.mid (fun k => x (ix2 (i 0) k)) (fun k => g (ix2 1 k)) (fun k j => w1 (ix3 1 k j)) (fun j d => w2 (ix3 1 j d)) (i 1)

/-- the normalised rows -/
theorem normed (i : S8192x2048.Idx) : val_main_v14 (F := Ideal) x g i =
    Mlp.norm (fun k => x (ix2 (i 0) k)) (fun k => g (ix2 1 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S8192x8192.Idx) : val_main_v22 (F := Ideal) x g w1 i =
    Mlp.up (Mlp.norm (fun k => x (ix2 (i 0) k)) (fun k => g (ix2 1 k))) (fun k j => w1 (ix3 1 k j)) (i 1) *
    Mlp.up (Mlp.norm (fun k => x (ix2 (i 0) k)) (fun k => g (ix2 1 k))) (fun k j => w1 (ix3 1 k j)) (i 1) := by
  unfold Mlp.up
  pointwise [val_main_v22, val_main_v21, val_main_v20, val_main_v19, val_main_v16, val_main_v15, val_main_cst_2]
  simp only [normed]
  rfl

/-- the rows with the feed-forward part added -/
theorem added (i : S8192x2048.Idx) : val_main_v24 (F := Ideal) x g w1 w2 i =
    Mlp.mid (fun k => x (ix2 (i 0) k)) (fun k => g (ix2 1 k)) (fun k j => w1 (ix3 1 k j)) (fun j d => w2 (ix3 1 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

theorem value : Cert.algebraic_Kernel13Ideal_Reference13Ideal := by
  intro m g m' g' hpre hag
  refine ⟨fun c => Cert.Mlp13.target m c, ?_, ?_⟩
  · run_from Cert.Kernel13Ideal.Gen.run_main m g
    exact Cert.Mlp13.final m c
  · refine (θ_run _ _ _).mono (fun r h c => ⟨(h c).1.trans ?_, (h c).2⟩) (Cert.Reference13Ideal.Value.run m' g')
    obtain ⟨e0, e1, e2, e3, e4⟩ := hag c
    refine (Cert.Reference13Ideal.Read.val_main_v24_eq _ _ _ _).trans ?_
    rw [e0, e1, e2, e3]
    exact reference _ _ _ _

end Cert.Equal13

end
-- ==== Proof.Mlp14.lean ====
/- The sample's feed-forward call of the third layer: what its result array holds, from the arguments. -/
module

public import proofs.«01_k».proof.Proof.Gen.Kernel14Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel14Ideal Cert.Kernel14Ideal.Gen Cert.Kernel14Ideal.Facts₀
namespace Cert.Mlp14

attribute [local instance] Cert.Kernel14Ideal.Gen.facts

/-- each window's block at a grid point: sixteen steps over one block of rows -/
theorem idx_val : ∀ t : Fin cfg0.N, win0_0.index t = ![0, 0]
    ∧ win0_1.index t = ![0, 0]
    ∧ win0_2.index t = ![2, 0, t.val % 16]
    ∧ win0_3.index t = ![2, t.val % 16, 0]
    ∧ win0_4.index t = ![0, 0]
    ∧ win0_5.index t = ![0, 0]
    ∧ win0_6.index t = ![0, t.val % 16]
    ∧ win0_7.index t = ![t.val % 16, 0] :=
  (by decide +kernel : ∀ t : Fin grid0.N, _)

variable (m : (ℓ : Loc nD τ sig) → Buf (Elt Ideal) ℓ)

/-- the residual rows -/
def X (c : Dev nD) (R : Fin 64) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 2 k)
/-- the third layer's first weights -/
def W1 (c : Dev nD) (k : Fin 2048) (j : Fin 8192) : EReal := m ((c.tc : Thread nD τ).loc main_arg2) (ix3 2 k j)
/-- the third layer's second weights -/
def W2 (c : Dev nD) (j : Fin 8192) (d : Fin 2048) : EReal := m ((c.tc : Thread nD τ).loc main_arg3) (ix3 2 j d)
/-- the prepared arrays of the call are the third layer's parts of the arguments -/
theorem V1 (c : Dev nD) (i : S1x2048.Idx) : V m c main_v2 i = G m c (i 1) := by
  entry_read
  pointwise
  rfl
/-- the blocks a grid point is given, at coordinates -/
theorem blk0 (c : Dev nD) (t : Fin cfg0.N) (r : Fin 64) (k : Fin 2048) :
    (iblk m c 0 t : Vec Ideal S64x2048 .f32) (ix2 r k) = X m c r k := by
  obtain ⟨e0, -⟩ := idx_val t
  unfold X
  blk_ext [iblk, V, e0]

theorem blk1 (c : Dev nD) (t : Fin cfg0.N) (k : Fin 2048) :
    (iblk m c 1 t : Vec Ideal S1x2048 .f32) (ix2 0 k) = V m c main_v2 (ix2 0 k) := by
  obtain ⟨e0, e1, -⟩ := idx_val t
  blk_ext [iblk, e1]

theorem blk2 (c : Dev nD) (t : Fin cfg0.N) (k : Fin 2048) (j : Fin 512) (h : 512 * (t.val % 16) + j.val < 8192) :
    (iblk m c 2 t : Vec Ideal S1x2048x512 .f32) (ix3 0 k j) = W1 m c k ⟨512 * (t.val % 16) + j.val, h⟩ := by
  obtain ⟨e0, e1, e2, -⟩ := idx_val t
  unfold W1
  blk_ext [iblk, V, e2]

theorem blk3 (c : Dev nD) (t : Fin cfg0.N) (k : Fin 2048) (j : Fin 512) (h : 512 * (t.val % 16) + j.val < 8192) :
    (iblk m c 3 t : Vec Ideal S1x512x2048 .f32) (ix3 0 j k) = W2 m c ⟨512 * (t.val % 16) + j.val, h⟩ k := by
  obtain ⟨e0, e1, e2, e3, -⟩ := idx_val t
  unfold W2
  blk_ext [iblk, V, e3]

/-- the normalised row block -/
theorem pay1 (x : Vec Ideal S64x2048 .f32) (g : Vec Ideal S1x2048 .f32) (j : S64x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- the rounded copies of the weights are the weights -/
theorem pay2 (w1 : Vec Ideal S1x2048x512 .f32) (j : S2048x512.Idx) :
    k0_pay2 (F := Ideal) w1 j = w1 (ix3 0 (j 0) (j 1)) := by
  pointwise [k0_pay2]

theorem pay3 (w2 : Vec Ideal S1x512x2048 .f32) (j : S512x2048.Idx) :
    k0_pay3 (F := Ideal) w2 j = w2 (ix3 0 (j 0) (j 1)) := by
  pointwise [k0_pay3]

/-- one step of hidden units -/
theorem pay4 (w1 : Vec Ideal S1x2048x512 .f32) (w2 : Vec Ideal S1x512x2048 .f32) (h : Vec Ideal S64x2048 .bf16)
    (o : Vec Ideal S64x2048 .f32) (j : S64x2048.Idx) :
    k0_pay4 (F := Ideal) w1 w2 h o j = o j + ∑ u,
        max (∑ k, h (ix2 (j 0) k) * w1 (ix3 0 k u)) 0 * max (∑ k, h (ix2 (j 0) k) * w1 (ix3 0 k u)) 0 * w2 (ix3 0 u (j 1)) := by
  pointwise [k0_pay4, k0_pay2, k0_pay3]

/-- the normalised row -/
def H (c : Dev nD) (R : Fin 64) : Fin 2048 → EReal := Mlp.norm (X m c R) (G m c)

/-- the row with the hidden units before `n` added -/
def upto (c : Dev nD) (R : Fin 64) (n : ℕ) (d : Fin 2048) : EReal :=
  X m c R d + Mlp.first (Mlp.term (H m c R) (W1 m c) (W2 m c) d) n

theorem held (c : Dev nD) (t : Fin cfg0.N) (r : Fin 64) (d : Fin 2048) :
    k0_pay1 (F := Ideal) (iblk m c 0 t) (iblk m c 1 t) (ix2 r d) = H m c r d := by
  refine (pay1 _ _ _).trans ?_
  unfold H
  refine congrArg₂ (fun f g => Mlp.norm f g d) (funext fun k => blk0 m c t r k) (funext fun k => ?_)
  exact (blk1 m c t k).trans (V1 m c _)

/-- one step adds the next 512 hidden units -/
theorem step (c : Dev nD) (t : Fin cfg0.N) (h : Vec Ideal S64x2048 .bf16) (o : Vec Ideal S64x2048 .f32)
    (hh : ∀ r k, h (ix2 r k) = H m c r k)
    (ho : ∀ r k, o (ix2 r k) = upto m c r (512 * (t.val % 16)) k) (r : Fin 64) (d : Fin 2048) :
    k0_pay4 (F := Ideal) (iblk m c 2 t) (iblk m c 3 t) h o (ix2 r d) = upto m c r (512 * (t.val % 16) + 512) d := by
  refine (pay4 _ _ _ _ _).trans ?_
  unfold upto
  rw [Mlp.first_step _ _ 512 _ fun u => ⟨by have := u.isLt; omega, rfl⟩, ← add_assoc]
  refine congrArg₂ (· + ·) (ho r d) (Finset.sum_congr rfl fun u _ => ?_)
  have hu : 512 * (t.val % 16) + u.val < 8192 := by have := u.isLt; omega
  have hs : (∑ k, h (ix2 r k) * (iblk m c 2 t : Vec Ideal S1x2048x512 .f32) (ix3 0 k u)) =
      ∑ k, H m c r k * W1 m c k ⟨512 * (t.val % 16) + u.val, hu⟩ :=
    Finset.sum_congr rfl fun k _ => congrArg₂ (· * ·) (hh r k) (blk2 m c t k u hu)
  unfold Mlp.term Mlp.up
  exact congrArg₂ (fun a b => max a 0 * max a 0 * b) hs (blk3 m c t d u hu)

/-- What the staging buffer of the rows and the scratch hold after each step. -/
theorem after (c : Dev nD) : ∀ (n : ℕ) (hn : n < cfg0.N) (r : Fin 64) (d : Fin 2048),
    (outsAt0 m c n hn).2.2.2 (ix2 r d) = H m c r d
    ∧ (outsAt0 m c n hn).1 (ix2 r d) = upto m c r (512 * (n % 16) + 512) d := by
  intro n
  induction n using Nat.strong_induction_on with
  | _ n ih =>
  intro hn r d
  by_cases h0 : n % 16 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k).trans ?_
    show _ = upto m c r (512 * (n % 16)) k
    unfold upto
    rw [h0, Nat.mul_zero, Mlp.first_zero, add_zero]
  · have hp : n - 1 < cfg0.N := by omega
    have hm : 512 * ((n - 1) % 16) + 512 = 512 * (n % 16) := by omega
    have hh : ∀ r k, (outsAt0 m c (n - 1) hp).2.2.2 (ix2 r k) = H m c r k := fun r k =>
      (ih (n - 1) (by omega) hp r k).1
    have ho : ∀ r k, (outsAt0 m c (n - 1) hp).1 (ix2 r k) = upto m c r (512 * (n % 16)) k := fun r k =>
      ((ih (n - 1) (by omega) hp r k).2).trans (by rw [hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- What the staging buffers of the weights' copies hold after each step. -/
theorem copies (c : Dev nD) (t : Fin cfg0.N) :
    (outsAt0 m c t.val t.isLt).2.1 = k0_pay2 (F := Ideal) (iblk m c 2 t)
    ∧ (outsAt0 m c t.val t.isLt).2.2.1 = k0_pay3 (F := Ideal) (iblk m c 3 t) := by
  by_cases h0 : t.val % 16 = 0
  · have e := outsAt0_A m c t h0
    revert e; frame_out; intro e
    rw [e]; exact ⟨rfl, rfl⟩
  · have e := outsAt0_B m c t h0
    revert e; frame_out; intro e
    rw [e]; exact ⟨rfl, rfl⟩

/-- The rows. -/
def target (c : Dev nD) (i : S64x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5, -⟩ := idx_val t
  have h15 : t.val % 16 = 15 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = y 0 := Fin.ext (by blk_simp [e5])
  have E1 : (win0_5.blk t).view.emb y 1 = y 1 := Fin.ext (by blk_simp [e5])
  rw [E0, E1]
  unfold upto Mlp.mid H
  rw [h15, ← Mlp.first_all]

/-- The copies of the weights. -/
theorem final6 (c : Dev nD) : (dats m 0 c).arrAt 6 (cfgs 0).N = fun i : S2048x8192.Idx => W1 m c (i 0) (i 1) := by
  refine (dats m 0 c).arrAt_eq_of_covers 6 (fun i : S2048x8192.Idx => W1 m c (i 0) (i 1)) (by decide +kernel) fun t hf y => ?_
  obtain ⟨e0, e1, e2, e3, e4, e5, e6, e7⟩ := idx_val t
  blk_simp [e6]
  rw [after0_6, (copies m c t).1]
  have hu : 512 * (t.val % 16) + (y 1).val < 8192 := by
    have : (y 1).val < 512 := (y 1).isLt
    omega
  refine (pay2 _ _).trans ((blk2 m c t (y 0) (y 1) hu).trans ?_)
  have E0 : (win0_6.blk t).view.emb y 0 = y 0 := Fin.ext (by blk_simp [e6])
  have E1 : (win0_6.blk t).view.emb y 1 = ⟨512 * (t.val % 16) + (y 1).val, hu⟩ := Fin.ext (by
    blk_simp [e6]
    show _ = 512 * (t.val % 16) + (y 1).val
    omega)
  rw [E0, E1]
  rfl

theorem final7 (c : Dev nD) : (dats m 0 c).arrAt 7 (cfgs 0).N = fun i : S8192x2048.Idx => W2 m c (i 0) (i 1) := by
  refine (dats m 0 c).arrAt_eq_of_covers 7 (fun i : S8192x2048.Idx => W2 m c (i 0) (i 1)) (by decide +kernel) fun t hf y => ?_
  obtain ⟨e0, e1, e2, e3, e4, e5, e6, e7⟩ := idx_val t
  blk_simp [e7]
  rw [after0_7, (copies m c t).2]
  have hu : 512 * (t.val % 16) + (y 0).val < 8192 := by
    have : (y 0).val < 512 := (y 0).isLt
    omega
  refine (pay3 _ _).trans ((blk3 m c t (y 1) (y 0) hu).trans ?_)
  have E0 : (win0_7.blk t).view.emb y 0 = ⟨512 * (t.val % 16) + (y 0).val, hu⟩ := Fin.ext (by
    blk_simp [e7]
    show _ = 512 * (t.val % 16) + (y 0).val
    omega)
  have E1 : (win0_7.blk t).view.emb y 1 = y 1 := Fin.ext (by blk_simp [e7])
  rw [E0, E1]
  rfl

end Cert.Mlp14

end
-- ==== Proof.Equal14.lean ====
/- The sample's feed-forward call of the third layer and its reference end with the same arrays. -/
module

public import proofs.«01_k».proof.Defs
public import proofs.«01_k».proof.Proof.Ref14
public import proofs.«01_k».proof.Proof.Mlp14

@[expose] public section

set_option maxRecDepth 16384

noncomputable section

open Idealize.ShloMosaic Idealize.SL.Sem
open Cert.Reference14Ideal Cert.Reference14Ideal.Facts₀ Cert.Reference14Ideal.Read

namespace Cert.Equal14

attribute [local instance] Cert.Kernel14Ideal.Gen.facts Cert.Reference14Ideal.Gen.facts

variable (x : FVec Ideal ⟨2, ![64, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![64, 2048]⟩ .f32 := fun i =>
  Mlp.mid (fun k => x (ix2 (i 0) k)) (fun k => g (ix2 2 k)) (fun k j => w1 (ix3 2 k j)) (fun j d => w2 (ix3 2 j d)) (i 1)

/-- the normalised rows -/
theorem normed (i : S64x2048.Idx) : val_main_v14 (F := Ideal) x g i =
    Mlp.norm (fun k => x (ix2 (i 0) k)) (fun k => g (ix2 2 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S64x8192.Idx) : val_main_v22 (F := Ideal) x g w1 i =
    Mlp.up (Mlp.norm (fun k => x (ix2 (i 0) k)) (fun k => g (ix2 2 k))) (fun k j => w1 (ix3 2 k j)) (i 1) *
    Mlp.up (Mlp.norm (fun k => x (ix2 (i 0) k)) (fun k => g (ix2 2 k))) (fun k j => w1 (ix3 2 k j)) (i 1) := by
  unfold Mlp.up
  pointwise [val_main_v22, val_main_v21, val_main_v20, val_main_v19, val_main_v16, val_main_v15, val_main_cst_2]
  simp only [normed]
  rfl

/-- the rows with the feed-forward part added -/
theorem added (i : S64x2048.Idx) : val_main_v24 (F := Ideal) x g w1 w2 i =
    Mlp.mid (fun k => x (ix2 (i 0) k)) (fun k => g (ix2 2 k)) (fun k j => w1 (ix3 2 k j)) (fun j d => w2 (ix3 2 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

/-- the copies of the weights -/
theorem copy1 : val_main_v27 (F := Ideal) w1 = fun i => w1 (ix3 2 (i 0) (i 1)) := by
  funext i
  pointwise [val_main_v27, val_main_v26, val_main_v25]

theorem copy2 : val_main_v30 (F := Ideal) w2 = fun i => w2 (ix3 2 (i 0) (i 1)) := by
  funext i
  pointwise [val_main_v30, val_main_v29, val_main_v28]

theorem value : Cert.algebraic_Kernel14Ideal_Reference14Ideal := by
  intro m g m' g' hpre hag
  refine ⟨fun c => Cert.Mlp14.target m c, fun c => fun i : Cert.Kernel14Ideal.S2048x8192.Idx => Cert.Mlp14.W1 m c (i 0) (i 1),
    fun c => fun i : Cert.Kernel14Ideal.S8192x2048.Idx => Cert.Mlp14.W2 m c (i 0) (i 1), ?_, ?_⟩
  · run_from Cert.Kernel14Ideal.Gen.run_main m g
    · exact Cert.Mlp14.final m c
    · exact Cert.Mlp14.final6 m c
    · exact Cert.Mlp14.final7 m c
  · refine (θ_run _ _ _).mono (fun r h c => ⟨(h c).1.trans ?_, (h c).2.1.trans ?_, (h c).2.2.1.trans ?_, (h c).2.2.2⟩)
      (Cert.Reference14Ideal.Value.run m' g')
    · obtain ⟨e0, e1, e2, e3, e4⟩ := hag c
      refine (Cert.Reference14Ideal.Read.val_main_v24_eq _ _ _ _).trans ?_
      rw [e0, e1, e2, e3]
      exact reference _ _ _ _
    · obtain ⟨e0, e1, e2, e3, e4⟩ := hag c
      refine (Cert.Reference14Ideal.Read.val_main_v27_eq _).trans ?_
      rw [e2]
      exact copy1 _
    · obtain ⟨e0, e1, e2, e3, e4⟩ := hag c
      refine (Cert.Reference14Ideal.Read.val_main_v30_eq _).trans ?_
      rw [e3]
      exact copy2 _

end Cert.Equal14

end
-- ==== Proof.Mlp15.lean ====
/- The prompt's feed-forward call of the third layer: what its result array holds, from the arguments. -/
module

public import proofs.«01_k».proof.Proof.Gen.Kernel15Ideal.Frame
public import proofs.«01_k».proof.Proof.Mlp
public import Idealize.ShloMosaic.Lib.Pipeline.ValueKit
public import Idealize.ShloMosaic.Lib.Pipeline.ReadBack

@[expose] public section

set_option maxRecDepth 16384

noncomputable section

open Idealize.ShloMosaic Idealize.SL.Sem
open Cert.Kernel15Ideal Cert.Kernel15Ideal.Gen Cert.Kernel15Ideal.Facts₀
namespace Cert.Mlp15

attribute [local instance] Cert.Kernel15Ideal.Gen.facts

/-- each window's block at a grid point: eight steps to a block of rows -/
theorem idx_val : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] :=
  (by decide +kernel : ∀ t : Fin grid0.N, _)

variable (m : (ℓ : Loc nD τ sig) → Buf (Elt Ideal) ℓ)

/-- the residual rows -/
def X (c : Dev nD) (R : Fin 8192) (k : Fin 2048) : EReal := m ((c.tc : Thread nD τ).loc main_arg0) (ix2 R k)
/-- the gains of the norm before the feed-forward part -/
def G (c : Dev nD) (k : Fin 2048) : EReal := m ((c.tc : Thread nD τ).loc main_arg1) (ix2 2 k)
/-- the third layer's first weights -/
def W1 (c : Dev nD) (k : Fin 2048) (j : Fin 8192) : EReal := m ((c.tc : Thread nD τ).loc main_arg2) (ix3 2 k j)
/-- the third layer's second weights -/
def W2 (c : Dev nD) (j : Fin 8192) (d : Fin 2048) : EReal := m ((c.tc : Thread nD τ).loc main_arg3) (ix3 2 j d)
/-- the prepared arrays of the call are the third layer's parts of the arguments -/
theorem V1 (c : Dev nD) (i : S1x2048.Idx) : V m c main_v8 i = G m c (i 1) := by
  entry_read
  pointwise
  rfl
theorem V2 (c : Dev nD) (i : S2048x8192.Idx) : V m c main_v2 i = W1 m c (i 0) (i 1) := by
  entry_read
  pointwise
  rfl
theorem V3 (c : Dev nD) (i : S8192x2048.Idx) : V m c main_v5 i = W2 m c (i 0) (i 1) := by
  entry_read
  pointwise
  rfl
/-- the blocks a grid point is given, at coordinates -/
theorem blk0 (c : Dev nD) (t : Fin cfg0.N) (r : Fin 512) (k : Fin 2048) (h : 512 * (t.val / 8) + r.val < 8192) :
    (iblk m c 0 t : Vec Ideal S512x2048 .f32) (ix2 r k) = X m c ⟨512 * (t.val / 8) + r.val, h⟩ k := by
  obtain ⟨e0, -⟩ := idx_val t
  unfold X
  blk_ext [iblk, V, e0]

theorem blk1 (c : Dev nD) (t : Fin cfg0.N) (k : Fin 2048)  :
    (iblk m c 1 t : Vec Ideal S1x2048 .f32) (ix2 0 k) = V m c main_v8 (ix2 0 k) := by
  obtain ⟨e0, e1, -⟩ := idx_val t
  blk_ext [iblk, e1]

theorem blk2 (c : Dev nD) (t : Fin cfg0.N) (k : Fin 2048) (j : Fin 1024) (h : 1024 * (t.val % 8) + j.val < 8192) :
    (iblk m c 2 t : Vec Ideal S2048x1024 .bf16) (ix2 k j) = V m c main_v2 (ix2 k ⟨1024 * (t.val % 8) + j.val, h⟩) := by
  obtain ⟨e0, e1, e2, -⟩ := idx_val t
  blk_ext [iblk, e2]

theorem blk3 (c : Dev nD) (t : Fin cfg0.N) (k : Fin 2048) (j : Fin 1024) (h : 1024 * (t.val % 8) + j.val < 8192) :
    (iblk m c 3 t : Vec Ideal S1024x2048 .bf16) (ix2 j k) = V m c main_v5 (ix2 ⟨1024 * (t.val % 8) + j.val, h⟩ k) := by
  obtain ⟨e0, e1, e2, e3, -⟩ := idx_val t
  blk_ext [iblk, e3]
/-- the normalised row block -/
theorem pay1 (x : Vec Ideal S512x2048 .f32) (g : Vec Ideal S1x2048 .f32) (j : S512x2048.Idx) :
    k0_pay1 (F := Ideal) x g j = Mlp.norm (fun k => x (ix2 (j 0) k)) (fun k => g (ix2 0 k)) (j 1) := by
  pointwise [k0_pay1]
  unfold Mlp.norm Mlp.scale
  congr 2
  exact congrArg x (by idx_ext)

/-- one step of hidden units -/
theorem pay2 (w1 : Vec Ideal S2048x1024 .bf16) (w2 : Vec Ideal S1024x2048 .bf16) (h : Vec Ideal S512x2048 .bf16)
    (o : Vec Ideal S512x2048 .f32) (j : S512x2048.Idx) :
    k0_pay2 (F := Ideal) w1 w2 h o j = o j + ∑ u,
        max (∑ k, h (ix2 (j 0) k) * w1 (ix2 k u)) 0 * max (∑ k, h (ix2 (j 0) k) * w1 (ix2 k u)) 0 * w2 (ix2 u (j 1)) := by
  pointwise [k0_pay2]

/-- the row of the array a block's row is -/
def row (n : ℕ) (hn : n < cfg0.N) (r : Fin 512) : Fin 8192 :=
  ⟨512 * (n / 8) + r.val, by have : n < 128 := lt_of_lt_of_eq hn N_0; omega⟩

/-- the normalised row -/
def H (c : Dev nD) (R : Fin 8192) : Fin 2048 → EReal := Mlp.norm (X m c R) (G m c)

/-- the row with the hidden units before `n` added -/
def upto (c : Dev nD) (R : Fin 8192) (n : ℕ) (d : Fin 2048) : EReal :=
  X m c R d + Mlp.first (Mlp.term (H m c R) (W1 m c) (W2 m c) d) n

theorem held (c : Dev nD) (t : Fin cfg0.N) (r : Fin 512) (d : Fin 2048) :
    k0_pay1 (F := Ideal) (iblk m c 0 t) (iblk m c 1 t) (ix2 r d) = H m c (row t.val t.isLt r) d := by
  have hR : 512 * (t.val / 8) + r.val < 8192 := (row t.val t.isLt r).isLt
  refine (pay1 _ _ _).trans ?_
  unfold H
  refine congrArg₂ (fun f g => Mlp.norm f g d) (funext fun k => blk0 m c t r k hR) (funext fun k => ?_)
  exact (blk1 m c t k).trans (V1 m c _)

/-- one step adds the next 1024 hidden units -/
theorem step (c : Dev nD) (t : Fin cfg0.N) (h : Vec Ideal S512x2048 .bf16) (o : Vec Ideal S512x2048 .f32)
    (hh : ∀ r k, h (ix2 r k) = H m c (row t.val t.isLt r) k)
    (ho : ∀ r k, o (ix2 r k) = upto m c (row t.val t.isLt r) (1024 * (t.val % 8)) k) (r : Fin 512) (d : Fin 2048) :
    k0_pay2 (F := Ideal) (iblk m c 2 t) (iblk m c 3 t) h o (ix2 r d) =
      upto m c (row t.val t.isLt r) (1024 * (t.val % 8) + 1024) d := by
  refine (pay2 _ _ _ _ _).trans ?_
  unfold upto
  rw [Mlp.first_step _ _ 1024 _ fun u => ⟨by have := u.isLt; omega, rfl⟩, ← add_assoc]
  refine congrArg₂ (· + ·) (ho r d) (Finset.sum_congr rfl fun u _ => ?_)
  have hu : 1024 * (t.val % 8) + u.val < 8192 := by have := u.isLt; omega
  have hs : (∑ k, h (ix2 r k) * (iblk m c 2 t : Vec Ideal S2048x1024 .bf16) (ix2 k u)) =
      ∑ k, H m c (row t.val t.isLt r) k * W1 m c k ⟨1024 * (t.val % 8) + u.val, hu⟩ :=
    Finset.sum_congr rfl fun k _ => congrArg₂ (· * ·) (hh r k) ((blk2 m c t k u hu).trans (V2 m c _))
  unfold Mlp.term Mlp.up
  exact congrArg₂ (fun a b => max a 0 * max a 0 * b) hs ((blk3 m c t d u hu).trans (V3 m c _))

/-- What the staging buffer of the result and the scratch hold after each step. -/
theorem after (c : Dev nD) : ∀ (n : ℕ) (hn : n < cfg0.N) (r : Fin 512) (d : Fin 2048),
    (outsAt0 m c n hn).2 (ix2 r d) = H m c (row n hn r) d
    ∧ (outsAt0 m c n hn).1 (ix2 r d) = upto m c (row n hn r) (1024 * (n % 8) + 1024) d := by
  intro n
  induction n using Nat.strong_induction_on with
  | _ n ih =>
  intro hn r d
  by_cases h0 : n % 8 = 0
  · have e := outsAt0_A m c ⟨n, hn⟩ h0
    revert e; frame_out; intro e
    have e' : outsAt0 m c n hn = _ := e
    rw [e']
    refine ⟨held m c ⟨n, hn⟩ r d, ?_⟩
    refine step m c ⟨n, hn⟩ _ _ (fun r k => held m c ⟨n, hn⟩ r k) (fun r k => ?_) r d
    refine (blk0 m c ⟨n, hn⟩ r k (row n hn r).isLt).trans ?_
    show _ = upto m c (row n hn r) (1024 * (n % 8)) k
    unfold upto
    rw [h0, Nat.mul_zero, Mlp.first_zero, add_zero]
    rfl
  · have hp : n - 1 < cfg0.N := by omega
    have hrow : ∀ r, row (n - 1) hp r = row n hn r := fun r => Fin.ext (by
      show 512 * ((n - 1) / 8) + r.val = 512 * (n / 8) + r.val; omega)
    have hm : 1024 * ((n - 1) % 8) + 1024 = 1024 * (n % 8) := by omega
    have hh : ∀ r k, (outsAt0 m c (n - 1) hp).2 (ix2 r k) = H m c (row n hn r) k := fun r k =>
      ((ih (n - 1) (by omega) hp r k).1).trans (by rw [hrow])
    have ho : ∀ r k, (outsAt0 m c (n - 1) hp).1 (ix2 r k) = upto m c (row n hn r) (1024 * (n % 8)) k := fun r k =>
      ((ih (n - 1) (by omega) hp r k).2).trans (by rw [hrow, hm])
    have hs := step m c ⟨n, hn⟩ _ _ hh ho
    have e := outsAt0_B m c ⟨n, hn⟩ h0
    revert e; frame_out; intro e
    rw [read_unread_whole] at e
    have e' : outsAt0 m c n hn = _ := e
    rw [e']
    exact ⟨hh r d, hs r d⟩

/-- The whole result. -/
def target (c : Dev nD) (i : S8192x2048.Idx) : EReal :=
  Mlp.mid (X m c (i 0)) (G m c) (W1 m c) (W2 m c) (i 1)

theorem final (c : Dev nD) : (dats m 0 c).arrAt 5 (cfgs 0).N = target m c := by
  refine (dats m 0 c).arrAt_eq_of_covers 5 (target m c) (by decide +kernel) fun t hf y => ?_
  obtain ⟨e0, e1, e2, e3, e4, e5⟩ := idx_val t
  have h7 : t.val % 8 = 7 := (flush0_5 t).mp hf
  blk_simp [e5]
  rw [after0_5]
  have hy : y = ix2 (y 0) (y 1) := by idx_ext
  refine ((congrArg _ hy).trans ((after m c t.val t.isLt (y 0) (y 1)).2)).trans ?_
  unfold target
  have E0 : (win0_5.blk t).view.emb y 0 = row t.val t.isLt (y 0) := Fin.ext (by
    blk_simp [e5]
    show _ = 512 * (t.val / 8) + (y 0).val
    omega)
  have E1 : (win0_5.blk t).view.emb y 1 = y 1 := Fin.ext (by blk_simp [e5])
  rw [E0, E1]
  unfold upto Mlp.mid H
  rw [h7, ← Mlp.first_all]

end Cert.Mlp15

end
-- ==== Proof.Equal15.lean ====
/- The prompt's feed-forward call of the third layer and its reference end with the same array. -/
module

public import proofs.«01_k».proof.Defs
public import proofs.«01_k».proof.Proof.Ref15
public import proofs.«01_k».proof.Proof.Mlp15

@[expose] public section

set_option maxRecDepth 16384

noncomputable section

open Idealize.ShloMosaic Idealize.SL.Sem
open Cert.Reference15Ideal Cert.Reference15Ideal.Facts₀ Cert.Reference15Ideal.Read

namespace Cert.Equal15

attribute [local instance] Cert.Kernel15Ideal.Gen.facts Cert.Reference15Ideal.Gen.facts

variable (x : FVec Ideal ⟨2, ![8192, 2048]⟩ .f32) (g : FVec Ideal ⟨2, ![4, 2048]⟩ .f32)
  (w1 : FVec Ideal ⟨3, ![4, 2048, 8192]⟩ .f32) (w2 : FVec Ideal ⟨3, ![4, 8192, 2048]⟩ .f32)

/-- What both programs end with, from the arguments. -/
def out : FVec Ideal ⟨2, ![8192, 2048]⟩ .f32 := fun i =>
  Mlp.mid (fun k => x (ix2 (i 0) k)) (fun k => g (ix2 2 k)) (fun k j => w1 (ix3 2 k j)) (fun j d => w2 (ix3 2 j d)) (i 1)

/-- the normalised rows -/
theorem normed (i : S8192x2048.Idx) : val_main_v14 (F := Ideal) x g i =
    Mlp.norm (fun k => x (ix2 (i 0) k)) (fun k => g (ix2 2 k)) (i 1) := by
  unfold Mlp.norm Mlp.scale
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]

/-- the hidden units -/
theorem hidden (i : S8192x8192.Idx) : val_main_v22 (F := Ideal) x g w1 i =
    Mlp.up (Mlp.norm (fun k => x (ix2 (i 0) k)) (fun k => g (ix2 2 k))) (fun k j => w1 (ix3 2 k j)) (i 1) *
    Mlp.up (Mlp.norm (fun k => x (ix2 (i 0) k)) (fun k => g (ix2 2 k))) (fun k j => w1 (ix3 2 k j)) (i 1) := by
  unfold Mlp.up
  pointwise [val_main_v22, val_main_v21, val_main_v20, val_main_v19, val_main_v16, val_main_v15, val_main_cst_2]
  simp only [normed]
  rfl

/-- the rows with the feed-forward part added -/
theorem added (i : S8192x2048.Idx) : val_main_v24 (F := Ideal) x g w1 w2 i =
    Mlp.mid (fun k => x (ix2 (i 0) k)) (fun k => g (ix2 2 k)) (fun k j => w1 (ix3 2 k j)) (fun j d => w2 (ix3 2 j d)) (i 1) := by
  unfold Mlp.mid Mlp.term
  pointwise [val_main_v24, val_main_v23, val_main_v18, val_main_v17]
  simp only [hidden]
  rfl

theorem reference : val_main_v24 (F := Ideal) x g w1 w2 = out x g w1 w2 := funext (added x g w1 w2)

theorem value : Cert.algebraic_Kernel15Ideal_Reference15Ideal := by
  intro m g m' g' hpre hag
  refine ⟨fun c => Cert.Mlp15.target m c, ?_, ?_⟩
  · run_from Cert.Kernel15Ideal.Gen.run_main m g
    exact Cert.Mlp15.final m c
  · refine (θ_run _ _ _).mono (fun r h c => ⟨(h c).1.trans ?_, (h c).2⟩) (Cert.Reference15Ideal.Value.run m' g')
    obtain ⟨e0, e1, e2, e3, e4⟩ := hag c
    refine (Cert.Reference15Ideal.Read.val_main_v24_eq _ _ _ _).trans ?_
    rw [e0, e1, e2, e3]
    exact reference _ _ _ _

end Cert.Equal15

end
-- ==== Proof.lean ====
/- The frames of the kernels, of their idealizations and of the references, the named constants, and the values. -/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Kernel6Ideal.Frame
public import proofs.«01_k».proof.Proof.Gen.Kernel7Ideal.Frame
public import proofs.«01_k».proof.Proof.Gen.Kernel8Ideal.Frame
public import proofs.«01_k».proof.Proof.Gen.Kernel9Ideal.Frame
public import proofs.«01_k».proof.Proof.Gen.Kernel10Ideal.Frame
public import proofs.«01_k».proof.Proof.Gen.Kernel11Ideal.Frame
public import proofs.«01_k».proof.Proof.Gen.Kernel12Ideal.Frame
public import proofs.«01_k».proof.Proof.Gen.Kernel13Ideal.Frame
public import proofs.«01_k».proof.Proof.Gen.Kernel14Ideal.Frame
public import proofs.«01_k».proof.Proof.Gen.Kernel15Ideal.Frame
public import proofs.«01_k».proof.Proof.Ref2
public import proofs.«01_k».proof.Proof.Ref3
public import proofs.«01_k».proof.Proof.Ref4
public import proofs.«01_k».proof.Proof.Ref5
public import proofs.«01_k».proof.Proof.Ref6
public import proofs.«01_k».proof.Proof.Ref7
public import proofs.«01_k».proof.Proof.Ref8
public import proofs.«01_k».proof.Proof.Ref9
public import proofs.«01_k».proof.Proof.Ref10
public import proofs.«01_k».proof.Proof.Ref11
public import proofs.«01_k».proof.Proof.Ref12
public import proofs.«01_k».proof.Proof.Ref13
public import proofs.«01_k».proof.Proof.Ref14
public import proofs.«01_k».proof.Proof.Ref15
public import proofs.«01_k».proof.Proof.Equal
public import proofs.«01_k».proof.Proof.Equal2
public import proofs.«01_k».proof.Proof.Equal3
public import proofs.«01_k».proof.Proof.Equal4
public import proofs.«01_k».proof.Proof.Equal5
public import proofs.«01_k».proof.Proof.Equal6
public import proofs.«01_k».proof.Proof.Equal7
public import proofs.«01_k».proof.Proof.Equal8
public import proofs.«01_k».proof.Proof.Equal9
public import proofs.«01_k».proof.Proof.Equal10
public import proofs.«01_k».proof.Proof.Equal11
public import proofs.«01_k».proof.Proof.Equal12
public import proofs.«01_k».proof.Proof.Equal13
public import proofs.«01_k».proof.Proof.Equal14
public import proofs.«01_k».proof.Proof.Equal15

@[expose] public section

open Idealize.ShloMosaic Idealize.SL.Sem

namespace Cert.Proof

attribute [local instance] Cert.Kernel.Gen.facts Cert.KernelIdeal.Gen.facts Cert.ReferenceIdeal.Gen.facts Cert.Kernel2.Gen.facts
  Cert.Kernel2Ideal.Gen.facts Cert.Reference2Ideal.Gen.facts Cert.Kernel3.Gen.facts Cert.Kernel3Ideal.Gen.facts
  Cert.Reference3Ideal.Gen.facts Cert.Kernel4.Gen.facts Cert.Kernel4Ideal.Gen.facts
  Cert.Reference4Ideal.Gen.facts Cert.Kernel5.Gen.facts Cert.Kernel5Ideal.Gen.facts
  Cert.Reference5Ideal.Gen.facts Cert.Kernel6.Gen.facts Cert.Kernel6Ideal.Gen.facts
  Cert.Reference6Ideal.Gen.facts Cert.Kernel7.Gen.facts Cert.Kernel7Ideal.Gen.facts
  Cert.Reference7Ideal.Gen.facts Cert.Kernel8.Gen.facts Cert.Kernel8Ideal.Gen.facts
  Cert.Reference8Ideal.Gen.facts Cert.Kernel9.Gen.facts Cert.Kernel9Ideal.Gen.facts
  Cert.Reference9Ideal.Gen.facts Cert.Kernel10.Gen.facts Cert.Kernel10Ideal.Gen.facts
  Cert.Reference10Ideal.Gen.facts Cert.Kernel11.Gen.facts Cert.Kernel11Ideal.Gen.facts
  Cert.Reference11Ideal.Gen.facts Cert.Kernel12.Gen.facts Cert.Kernel12Ideal.Gen.facts
  Cert.Reference12Ideal.Gen.facts Cert.Kernel13.Gen.facts Cert.Kernel13Ideal.Gen.facts
  Cert.Reference13Ideal.Gen.facts Cert.Kernel14.Gen.facts Cert.Kernel14Ideal.Gen.facts
  Cert.Reference14Ideal.Gen.facts Cert.Kernel15.Gen.facts Cert.Kernel15Ideal.Gen.facts
  Cert.Reference15Ideal.Gen.facts Cert.Pre_finite_inputs.Gen.facts

/-- The attention's reference's frame: host operations only, on a machine without semaphores. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- The last sample MLP's reference's frame: host operations only, on a machine without semaphores. -/
theorem reference2_frame : Cert.quiescent_Reference2Ideal := fun m g _ =>
  (θ_run _ _ _).mono (fun r h => ⟨fun c => (h c).2.2.2, sem_eq_zero_of_no_sems rfl r.2⟩) (Cert.Reference2Ideal.Value.run m g)

/-- The last prompt MLP's reference's frame: host operations only, on a machine without semaphores. -/
theorem reference3_frame : Cert.quiescent_Reference3Ideal := fun m g _ =>
  (θ_run _ _ _).mono (fun r h => ⟨fun c => (h c).2, sem_eq_zero_of_no_sems rfl r.2⟩) (Cert.Reference3Ideal.Value.run m g)

/-- The early sample MLP's reference's frame: host operations only, on a machine without semaphores. -/
theorem reference4_frame : Cert.quiescent_Reference4Ideal := fun m g _ =>
  (θ_run _ _ _).mono (fun r h => ⟨fun c => (h c).2.2.2, sem_eq_zero_of_no_sems rfl r.2⟩) (Cert.Reference4Ideal.Value.run m g)

/-- The early prompt MLP's reference's frame: host operations only, on a machine without semaphores. -/
theorem reference5_frame : Cert.quiescent_Reference5Ideal := fun m g _ =>
  (θ_run _ _ _).mono (fun r h => ⟨fun c => (h c).2, sem_eq_zero_of_no_sems rfl r.2⟩) (Cert.Reference5Ideal.Value.run m g)

/-- The prompt's even projection's reference's frame: host operations only, on a machine without semaphores. -/
theorem reference6_frame : Cert.quiescent_Reference6Ideal := fun m g _ =>
  (θ_run _ _ _).mono (fun r h => ⟨fun c => (h c).2, sem_eq_zero_of_no_sems rfl r.2⟩) (Cert.Reference6Ideal.Value.run m g)

/-- The sample's even projection's reference's frame: host operations only, on a machine without semaphores. -/
theorem reference7_frame : Cert.quiescent_Reference7Ideal := fun m g _ =>
  (θ_run _ _ _).mono (fun r h => ⟨fun c => (h c).2.2, sem_eq_zero_of_no_sems rfl r.2⟩) (Cert.Reference7Ideal.Value.run m g)

/-- The prompt's odd projection's reference's frame: host operations only, on a machine without semaphores. -/
theorem reference8_frame : Cert.quiescent_Reference8Ideal := fun m g _ =>
  (θ_run _ _ _).mono (fun r h => ⟨fun c => (h c).2, sem_eq_zero_of_no_sems rfl r.2⟩) (Cert.Reference8Ideal.Value.run m g)

/-- The sample's odd projection's reference's frame: host operations only, on a machine without semaphores. -/
theorem reference9_frame : Cert.quiescent_Reference9Ideal := fun m g _ =>
  (θ_run _ _ _).mono (fun r h => ⟨fun c => (h c).2, sem_eq_zero_of_no_sems rfl r.2⟩) (Cert.Reference9Ideal.Value.run m g)

/-- The prompt's output projection's reference's frame: host operations only, on a machine without semaphores. -/
theorem reference10_frame : Cert.quiescent_Reference10Ideal := fun m g _ =>
  (θ_run _ _ _).mono (fun r h => ⟨fun c => (h c).2, sem_eq_zero_of_no_sems rfl r.2⟩) (Cert.Reference10Ideal.Value.run m g)

/-- The sample's output projection's reference's frame: host operations only, on a machine without semaphores. -/
theorem reference11_frame : Cert.quiescent_Reference11Ideal := fun m g _ =>
  (θ_run _ _ _).mono (fun r h => ⟨fun c => (h c).2.2, sem_eq_zero_of_no_sems rfl r.2⟩) (Cert.Reference11Ideal.Value.run m g)

/-- The second sample MLP's reference's frame: host operations only, on a machine without semaphores. -/
theorem reference12_frame : Cert.quiescent_Reference12Ideal := fun m g _ =>
  (θ_run _ _ _).mono (fun r h => ⟨fun c => (h c).2.2.2, sem_eq_zero_of_no_sems rfl r.2⟩) (Cert.Reference12Ideal.Value.run m g)

/-- The second prompt MLP's reference's frame: host operations only, on a machine without semaphores. -/
theorem reference13_frame : Cert.quiescent_Reference13Ideal := fun m g _ =>
  (θ_run _ _ _).mono (fun r h => ⟨fun c => (h c).2, sem_eq_zero_of_no_sems rfl r.2⟩) (Cert.Reference13Ideal.Value.run m g)

/-- The third sample MLP's reference's frame: host operations only, on a machine without semaphores. -/
theorem reference14_frame : Cert.quiescent_Reference14Ideal := fun m g _ =>
  (θ_run _ _ _).mono (fun r h => ⟨fun c => (h c).2.2.2, sem_eq_zero_of_no_sems rfl r.2⟩) (Cert.Reference14Ideal.Value.run m g)

/-- The third prompt MLP's reference's frame: host operations only, on a machine without semaphores. -/
theorem reference15_frame : Cert.quiescent_Reference15Ideal := fun m g _ =>
  (θ_run _ _ _).mono (fun r h => ⟨fun c => (h c).2, sem_eq_zero_of_no_sems rfl r.2⟩) (Cert.Reference15Ideal.Value.run m g)

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Cert.Kernel9.Gen.facts,
    Cert.Kernel9Ideal.Gen.facts, Cert.Reference9Ideal.Gen.facts, Cert.Kernel10.Gen.facts,
    Cert.Kernel10Ideal.Gen.facts, Cert.Reference10Ideal.Gen.facts, Cert.Kernel11.Gen.facts,
    Cert.Kernel11Ideal.Gen.facts, Cert.Reference11Ideal.Gen.facts, Cert.Kernel12.Gen.facts,
    Cert.Kernel12Ideal.Gen.facts, Cert.Reference12Ideal.Gen.facts, Cert.Kernel13.Gen.facts,
    Cert.Kernel13Ideal.Gen.facts, Cert.Reference13Ideal.Gen.facts, Cert.Kernel14.Gen.facts,
    Cert.Kernel14Ideal.Gen.facts, Cert.Reference14Ideal.Gen.facts, Cert.Kernel15.Gen.facts,
    Cert.Kernel15Ideal.Gen.facts, Cert.Reference15Ideal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    fun m ρ _ => Cert.Kernel4.Gen.frame m ρ, fun m ρ _ => Cert.Kernel4Ideal.Gen.frame m ρ, reference4_frame,
    fun m ρ _ => Cert.Kernel5.Gen.frame m ρ, fun m ρ _ => Cert.Kernel5Ideal.Gen.frame m ρ, reference5_frame,
    fun m ρ _ => Cert.Kernel6.Gen.frame m ρ, fun m ρ _ => Cert.Kernel6Ideal.Gen.frame m ρ, reference6_frame,
    fun m ρ _ => Cert.Kernel7.Gen.frame m ρ, fun m ρ _ => Cert.Kernel7Ideal.Gen.frame m ρ, reference7_frame,
    fun m ρ _ => Cert.Kernel8.Gen.frame m ρ, fun m ρ _ => Cert.Kernel8Ideal.Gen.frame m ρ, reference8_frame,
    fun m ρ _ => Cert.Kernel9.Gen.frame m ρ, fun m ρ _ => Cert.Kernel9Ideal.Gen.frame m ρ, reference9_frame,
    fun m ρ _ => Cert.Kernel10.Gen.frame m ρ, fun m ρ _ => Cert.Kernel10Ideal.Gen.frame m ρ, reference10_frame,
    fun m ρ _ => Cert.Kernel11.Gen.frame m ρ, fun m ρ _ => Cert.Kernel11Ideal.Gen.frame m ρ, reference11_frame,
    fun m ρ _ => Cert.Kernel12.Gen.frame m ρ, fun m ρ _ => Cert.Kernel12Ideal.Gen.frame m ρ, reference12_frame,
    fun m ρ _ => Cert.Kernel13.Gen.frame m ρ, fun m ρ _ => Cert.Kernel13Ideal.Gen.frame m ρ, reference13_frame,
    fun m ρ _ => Cert.Kernel14.Gen.frame m ρ, fun m ρ _ => Cert.Kernel14Ideal.Gen.frame m ρ, reference14_frame,
    fun m ρ _ => Cert.Kernel15.Gen.frame m ρ, fun m ρ _ => Cert.Kernel15Ideal.Gen.frame m ρ, reference15_frame,
    ⟨IdealRules.named_const.statement Cert.KernelIdeal.κ "log2e" .f32 0x3FB8AA3B#32 (((Real.log 2)⁻¹ : ℝ) : EReal) rfl,
      IdealRules.named_const.statement Cert.KernelIdeal.κ "mask" .f32 0xF149F2CA#32 ⊥ rfl,
      IdealRules.named_const.statement Cert.KernelIdeal.κ "scale_log2e" .f32 0x3E38AA3B#32
        (((1 / 8) * (Real.log 2)⁻¹ : ℝ) : EReal) rfl⟩, Cert.Equal.value,
    trivial, Cert.Equal2.value,
    trivial, Cert.Equal3.value,
    trivial, Cert.Equal4.value,
    trivial, Cert.Equal5.value,
    trivial, Cert.Equal6.value,
    trivial, Cert.Equal7.value,
    trivial, Cert.Equal8.value,
    trivial, Cert.Equal9.value,
    trivial, Cert.Equal10.value,
    trivial, Cert.Equal11.value,
    trivial, Cert.Equal12.value,
    trivial, Cert.Equal13.value,
    trivial, Cert.Equal14.value,
    trivial, Cert.Equal15.value⟩

end Cert.Proof
